-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_KernelIdeal2 (m : (ℓ : Loc Cert.KernelIdeal2.nD Cert.KernelIdeal2.τ Cert.KernelIdeal2.sig) → Buf (Elt Ideal) ℓ) : Prop :=
  True

def Pre_ReferenceIdeal2 (m : (ℓ : Loc Cert.ReferenceIdeal2.nD Cert.ReferenceIdeal2.τ Cert.ReferenceIdeal2.sig) → Buf (Elt Ideal) ℓ) : Prop :=
  True

def Pre_Kernel3 (m : (ℓ : Loc Cert.Kernel3.nD Cert.Kernel3.τ Cert.Kernel3.sig) → Buf (Elt Bits) ℓ) : Prop :=
  True

def Pre_KernelIdeal3 (m : (ℓ : Loc Cert.KernelIdeal3.nD Cert.KernelIdeal3.τ Cert.KernelIdeal3.sig) → Buf (Elt Ideal) ℓ) : Prop :=
  True

def Pre_ReferenceIdeal3 (m : (ℓ : Loc Cert.ReferenceIdeal3.nD Cert.ReferenceIdeal3.τ Cert.ReferenceIdeal3.sig) → Buf (Elt Ideal) ℓ) : Prop :=
  True

def Pre_Kernel4 (m : (ℓ : Loc Cert.Kernel4.nD Cert.Kernel4.τ Cert.Kernel4.sig) → Buf (Elt Bits) ℓ) : Prop :=
  True

def Pre_KernelIdeal4 (m : (ℓ : Loc Cert.KernelIdeal4.nD Cert.KernelIdeal4.τ Cert.KernelIdeal4.sig) → Buf (Elt Ideal) ℓ) : Prop :=
  True

def Pre_ReferenceIdeal4 (m : (ℓ : Loc Cert.ReferenceIdeal4.nD Cert.ReferenceIdeal4.τ Cert.ReferenceIdeal4.sig) → Buf (Elt Ideal) ℓ) : Prop :=
  True

def Pre_Kernel6 [hPre_planned : Cert.Pre_planned.Facts] (m : (ℓ : Loc Cert.Kernel6.nD Cert.Kernel6.τ Cert.Kernel6.sig) → Buf (Elt Bits) ℓ) : Prop :=
  ∀ c : Dev Cert.Kernel6.nD,
    (Cert.Pre_planned.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).1 = (fun _ => 1#1)
    ∧ (Cert.Pre_planned.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.1 = (fun _ => 1#1)
    ∧ (Cert.Pre_planned.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2 = (fun _ => 1#1)

def Pre_KernelIdeal6 [hPre_planned : Cert.Pre_planned.Facts] (m : (ℓ : Loc Cert.KernelIdeal6.nD Cert.KernelIdeal6.τ Cert.KernelIdeal6.sig) → Buf (Elt Ideal) ℓ) : Prop :=
  ∀ c : Dev Cert.KernelIdeal6.nD,
    (Cert.Pre_planned.fn (F := Ideal) (m ((c.tc : Thread Cert.KernelIdeal6.nD Cert.KernelIdeal6.τ).loc Cert.KernelIdeal6.main_arg0)) (m ((c.tc : Thread Cert.KernelIdeal6.nD Cert.KernelIdeal6.τ).loc Cert.KernelIdeal6.main_arg1)) (m ((c.tc : Thread Cert.KernelIdeal6.nD Cert.KernelIdeal6.τ).loc Cert.KernelIdeal6.main_arg2)) (m ((c.tc : Thread Cert.KernelIdeal6.nD Cert.KernelIdeal6.τ).loc Cert.KernelIdeal6.main_arg3)) (m ((c.tc : Thread Cert.KernelIdeal6.nD Cert.KernelIdeal6.τ).loc Cert.KernelIdeal6.main_arg4)) (m ((c.tc : Thread Cert.KernelIdeal6.nD Cert.KernelIdeal6.τ).loc Cert.KernelIdeal6.main_arg5)) (m ((c.tc : Thread Cert.KernelIdeal6.nD Cert.KernelIdeal6.τ).loc Cert.KernelIdeal6.main_arg6)) (m ((c.tc : Thread Cert.KernelIdeal6.nD Cert.KernelIdeal6.τ).loc Cert.KernelIdeal6.main_arg7)) (m ((c.tc : Thread Cert.KernelIdeal6.nD Cert.KernelIdeal6.τ).loc Cert.KernelIdeal6.main_arg8))).1 = (fun _ => 1#1)
    ∧ (Cert.Pre_planned.fn (F := Ideal) (m ((c.tc : Thread Cert.KernelIdeal6.nD Cert.KernelIdeal6.τ).loc Cert.KernelIdeal6.main_arg0)) (m ((c.tc : Thread Cert.KernelIdeal6.nD Cert.KernelIdeal6.τ).loc Cert.KernelIdeal6.main_arg1)) (m ((c.tc : Thread Cert.KernelIdeal6.nD Cert.KernelIdeal6.τ).loc Cert.KernelIdeal6.main_arg2)) (m ((c.tc : Thread Cert.KernelIdeal6.nD Cert.KernelIdeal6.τ).loc Cert.KernelIdeal6.main_arg3)) (m ((c.tc : Thread Cert.KernelIdeal6.nD Cert.KernelIdeal6.τ).loc Cert.KernelIdeal6.main_arg4)) (m ((c.tc : Thread Cert.KernelIdeal6.nD Cert.KernelIdeal6.τ).loc Cert.KernelIdeal6.main_arg5)) (m ((c.tc : Thread Cert.KernelIdeal6.nD Cert.KernelIdeal6.τ).loc Cert.KernelIdeal6.main_arg6)) (m ((c.tc : Thread Cert.KernelIdeal6.nD Cert.KernelIdeal6.τ).loc Cert.KernelIdeal6.main_arg7)) (m ((c.tc : Thread Cert.KernelIdeal6.nD Cert.KernelIdeal6.τ).loc Cert.KernelIdeal6.main_arg8))).2.1 = (fun _ => 1#1)
    ∧ (Cert.Pre_planned.fn (F := Ideal) (m ((c.tc : Thread Cert.KernelIdeal6.nD Cert.KernelIdeal6.τ).loc Cert.KernelIdeal6.main_arg0)) (m ((c.tc : Thread Cert.KernelIdeal6.nD Cert.KernelIdeal6.τ).loc Cert.KernelIdeal6.main_arg1)) (m ((c.tc : Thread Cert.KernelIdeal6.nD Cert.KernelIdeal6.τ).loc Cert.KernelIdeal6.main_arg2)) (m ((c.tc : Thread Cert.KernelIdeal6.nD Cert.KernelIdeal6.τ).loc Cert.KernelIdeal6.main_arg3)) (m ((c.tc : Thread Cert.KernelIdeal6.nD Cert.KernelIdeal6.τ).loc Cert.KernelIdeal6.main_arg4)) (m ((c.tc : Thread Cert.KernelIdeal6.nD Cert.KernelIdeal6.τ).loc Cert.KernelIdeal6.main_arg5)) (m ((c.tc : Thread Cert.KernelIdeal6.nD Cert.KernelIdeal6.τ).loc Cert.KernelIdeal6.main_arg6)) (m ((c.tc : Thread Cert.KernelIdeal6.nD Cert.KernelIdeal6.τ).loc Cert.KernelIdeal6.main_arg7)) (m ((c.tc : Thread Cert.KernelIdeal6.nD Cert.KernelIdeal6.τ).loc Cert.KernelIdeal6.main_arg8))).2.2 = (fun _ => 1#1)

def Pre_ReferenceIdeal6 [hPre_planned : Cert.Pre_planned.Facts] (m : (ℓ : Loc Cert.ReferenceIdeal6.nD Cert.ReferenceIdeal6.τ Cert.ReferenceIdeal6.sig) → Buf (Elt Ideal) ℓ) : Prop :=
  ∀ c : Dev Cert.ReferenceIdeal6.nD,
    (Cert.Pre_planned.fn (F := Ideal) (m ((c.tc : Thread Cert.ReferenceIdeal6.nD Cert.ReferenceIdeal6.τ).loc Cert.ReferenceIdeal6.main_arg0)) (m ((c.tc : Thread Cert.ReferenceIdeal6.nD Cert.ReferenceIdeal6.τ).loc Cert.ReferenceIdeal6.main_arg1)) (m ((c.tc : Thread Cert.ReferenceIdeal6.nD Cert.ReferenceIdeal6.τ).loc Cert.ReferenceIdeal6.main_arg2)) (m ((c.tc : Thread Cert.ReferenceIdeal6.nD Cert.ReferenceIdeal6.τ).loc Cert.ReferenceIdeal6.main_arg3)) (m ((c.tc : Thread Cert.ReferenceIdeal6.nD Cert.ReferenceIdeal6.τ).loc Cert.ReferenceIdeal6.main_arg4)) (m ((c.tc : Thread Cert.ReferenceIdeal6.nD Cert.ReferenceIdeal6.τ).loc Cert.ReferenceIdeal6.main_arg5)) (m ((c.tc : Thread Cert.ReferenceIdeal6.nD Cert.ReferenceIdeal6.τ).loc Cert.ReferenceIdeal6.main_arg6)) (m ((c.tc : Thread Cert.ReferenceIdeal6.nD Cert.ReferenceIdeal6.τ).loc Cert.ReferenceIdeal6.main_arg7)) (m ((c.tc : Thread Cert.ReferenceIdeal6.nD Cert.ReferenceIdeal6.τ).loc Cert.ReferenceIdeal6.main_arg8))).1 = (fun _ => 1#1)
    ∧ (Cert.Pre_planned.fn (F := Ideal) (m ((c.tc : Thread Cert.ReferenceIdeal6.nD Cert.ReferenceIdeal6.τ).loc Cert.ReferenceIdeal6.main_arg0)) (m ((c.tc : Thread Cert.ReferenceIdeal6.nD Cert.ReferenceIdeal6.τ).loc Cert.ReferenceIdeal6.main_arg1)) (m ((c.tc : Thread Cert.ReferenceIdeal6.nD Cert.ReferenceIdeal6.τ).loc Cert.ReferenceIdeal6.main_arg2)) (m ((c.tc : Thread Cert.ReferenceIdeal6.nD Cert.ReferenceIdeal6.τ).loc Cert.ReferenceIdeal6.main_arg3)) (m ((c.tc : Thread Cert.ReferenceIdeal6.nD Cert.ReferenceIdeal6.τ).loc Cert.ReferenceIdeal6.main_arg4)) (m ((c.tc : Thread Cert.ReferenceIdeal6.nD Cert.ReferenceIdeal6.τ).loc Cert.ReferenceIdeal6.main_arg5)) (m ((c.tc : Thread Cert.ReferenceIdeal6.nD Cert.ReferenceIdeal6.τ).loc Cert.ReferenceIdeal6.main_arg6)) (m ((c.tc : Thread Cert.ReferenceIdeal6.nD Cert.ReferenceIdeal6.τ).loc Cert.ReferenceIdeal6.main_arg7)) (m ((c.tc : Thread Cert.ReferenceIdeal6.nD Cert.ReferenceIdeal6.τ).loc Cert.ReferenceIdeal6.main_arg8))).2.1 = (fun _ => 1#1)
    ∧ (Cert.Pre_planned.fn (F := Ideal) (m ((c.tc : Thread Cert.ReferenceIdeal6.nD Cert.ReferenceIdeal6.τ).loc Cert.ReferenceIdeal6.main_arg0)) (m ((c.tc : Thread Cert.ReferenceIdeal6.nD Cert.ReferenceIdeal6.τ).loc Cert.ReferenceIdeal6.main_arg1)) (m ((c.tc : Thread Cert.ReferenceIdeal6.nD Cert.ReferenceIdeal6.τ).loc Cert.ReferenceIdeal6.main_arg2)) (m ((c.tc : Thread Cert.ReferenceIdeal6.nD Cert.ReferenceIdeal6.τ).loc Cert.ReferenceIdeal6.main_arg3)) (m ((c.tc : Thread Cert.ReferenceIdeal6.nD Cert.ReferenceIdeal6.τ).loc Cert.ReferenceIdeal6.main_arg4)) (m ((c.tc : Thread Cert.ReferenceIdeal6.nD Cert.ReferenceIdeal6.τ).loc Cert.ReferenceIdeal6.main_arg5)) (m ((c.tc : Thread Cert.ReferenceIdeal6.nD Cert.ReferenceIdeal6.τ).loc Cert.ReferenceIdeal6.main_arg6)) (m ((c.tc : Thread Cert.ReferenceIdeal6.nD Cert.ReferenceIdeal6.τ).loc Cert.ReferenceIdeal6.main_arg7)) (m ((c.tc : Thread Cert.ReferenceIdeal6.nD Cert.ReferenceIdeal6.τ).loc Cert.ReferenceIdeal6.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_KernelIdeal2 [hKernelIdeal2 : Cert.KernelIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg), Pre_KernelIdeal2 m →
    θ_run (Cert.KernelIdeal2.defs (F := Ideal)) (onTc (τ := Cert.KernelIdeal2.τ) (Cert.KernelIdeal2.main (F := Ideal))) ⟨m, fun _ => 0, g⟩ (fun r => (∀ c : Dev Cert.KernelIdeal2.nD,
      r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
      ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
      ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2)
      ∧ r.2.mem ((c.tc : Thread Cert.KernelIdeal2.nD Cert.KernelIdeal2.τ).loc Cert.KernelIdeal2.main_arg3) = m ((c.tc : Thread Cert.KernelIdeal2.nD Cert.KernelIdeal2.τ).loc Cert.KernelIdeal2.main_arg3)
      ∧ r.2.mem ((c.tc : Thread Cert.KernelIdeal2.nD Cert.KernelIdeal2.τ).loc Cert.KernelIdeal2.main_arg4) = m ((c.tc : Thread Cert.KernelIdeal2.nD Cert.KernelIdeal2.τ).loc Cert.KernelIdeal2.main_arg4)
      ∧ r.2.mem ((c.tc : Thread Cert.KernelIdeal2.nD Cert.KernelIdeal2.τ).loc Cert.KernelIdeal2.main_arg5) = m ((c.tc : Thread Cert.KernelIdeal2.nD Cert.KernelIdeal2.τ).loc Cert.KernelIdeal2.main_arg5)
      ∧ r.2.mem ((c.tc : Thread Cert.KernelIdeal2.nD Cert.KernelIdeal2.τ).loc Cert.KernelIdeal2.main_arg6) = m ((c.tc : Thread Cert.KernelIdeal2.nD Cert.KernelIdeal2.τ).loc Cert.KernelIdeal2.main_arg6)
      ∧ r.2.mem ((c.tc : Thread Cert.KernelIdeal2.nD Cert.KernelIdeal2.τ).loc Cert.KernelIdeal2.main_arg7) = m ((c.tc : Thread Cert.KernelIdeal2.nD Cert.KernelIdeal2.τ).loc Cert.KernelIdeal2.main_arg7)
      ∧ r.2.mem ((c.tc : Thread Cert.KernelIdeal2.nD Cert.KernelIdeal2.τ).loc Cert.KernelIdeal2.main_arg8) = m ((c.tc : Thread Cert.KernelIdeal2.nD Cert.KernelIdeal2.τ).loc Cert.KernelIdeal2.main_arg8)
      ∧ r.2.mem ((c.tc : Thread Cert.KernelIdeal2.nD Cert.KernelIdeal2.τ).loc Cert.KernelIdeal2.main_arg9) = m ((c.tc : Thread Cert.KernelIdeal2.nD Cert.KernelIdeal2.τ).loc Cert.KernelIdeal2.main_arg9))
      ∧ r.2.sem = fun _ => 0)

def quiescent_ReferenceIdeal2 [hReferenceIdeal2 : Cert.ReferenceIdeal2.Facts] : Prop :=
  ∀ (m : (ℓ : Loc Cert.ReferenceIdeal2.nD Cert.ReferenceIdeal2.τ Cert.ReferenceIdeal2.sig) → Buf (Elt Ideal) ℓ) (g : Dev Cert.ReferenceIdeal2.nD → PrngReg), Pre_ReferenceIdeal2 m →
    θ_run (Cert.ReferenceIdeal2.defs (F := Ideal)) (onTc (τ := Cert.ReferenceIdeal2.τ) (Cert.ReferenceIdeal2.main (F := Ideal))) ⟨m, fun _ => 0, g⟩ (fun r => (∀ c : Dev Cert.ReferenceIdeal2.nD,
      r.2.mem ((c.tc : Thread Cert.ReferenceIdeal2.nD Cert.ReferenceIdeal2.τ).loc Cert.ReferenceIdeal2.main_arg0) = m ((c.tc : Thread Cert.ReferenceIdeal2.nD Cert.ReferenceIdeal2.τ).loc Cert.ReferenceIdeal2.main_arg0)
      ∧ r.2.mem ((c.tc : Thread Cert.ReferenceIdeal2.nD Cert.ReferenceIdeal2.τ).loc Cert.ReferenceIdeal2.main_arg1) = m ((c.tc : Thread Cert.ReferenceIdeal2.nD Cert.ReferenceIdeal2.τ).loc Cert.ReferenceIdeal2.main_arg1)
      ∧ r.2.mem ((c.tc : Thread Cert.ReferenceIdeal2.nD Cert.ReferenceIdeal2.τ).loc Cert.ReferenceIdeal2.main_arg2) = m ((c.tc : Thread Cert.ReferenceIdeal2.nD Cert.ReferenceIdeal2.τ).loc Cert.ReferenceIdeal2.main_arg2)
      ∧ r.2.mem ((c.tc : Thread Cert.ReferenceIdeal2.nD Cert.ReferenceIdeal2.τ).loc Cert.ReferenceIdeal2.main_arg3) = m ((c.tc : Thread Cert.ReferenceIdeal2.nD Cert.ReferenceIdeal2.τ).loc Cert.ReferenceIdeal2.main_arg3)
      ∧ r.2.mem ((c.tc : Thread Cert.ReferenceIdeal2.nD Cert.ReferenceIdeal2.τ).loc Cert.ReferenceIdeal2.main_arg4) = m ((c.tc : Thread Cert.ReferenceIdeal2.nD Cert.ReferenceIdeal2.τ).loc Cert.ReferenceIdeal2.main_arg4)
      ∧ r.2.mem ((c.tc : Thread Cert.ReferenceIdeal2.nD Cert.ReferenceIdeal2.τ).loc Cert.ReferenceIdeal2.main_arg5) = m ((c.tc : Thread Cert.ReferenceIdeal2.nD Cert.ReferenceIdeal2.τ).loc Cert.ReferenceIdeal2.main_arg5)
      ∧ r.2.mem ((c.tc : Thread Cert.ReferenceIdeal2.nD Cert.ReferenceIdeal2.τ).loc Cert.ReferenceIdeal2.main_arg6) = m ((c.tc : Thread Cert.ReferenceIdeal2.nD Cert.ReferenceIdeal2.τ).loc Cert.ReferenceIdeal2.main_arg6)
      ∧ r.2.mem ((c.tc : Thread Cert.ReferenceIdeal2.nD Cert.ReferenceIdeal2.τ).loc Cert.ReferenceIdeal2.main_arg7) = m ((c.tc : Thread Cert.ReferenceIdeal2.nD Cert.ReferenceIdeal2.τ).loc Cert.ReferenceIdeal2.main_arg7)
      ∧ r.2.mem ((c.tc : Thread Cert.ReferenceIdeal2.nD Cert.ReferenceIdeal2.τ).loc Cert.ReferenceIdeal2.main_arg8) = m ((c.tc : Thread Cert.ReferenceIdeal2.nD Cert.ReferenceIdeal2.τ).loc Cert.ReferenceIdeal2.main_arg8)
      ∧ r.2.mem ((c.tc : Thread Cert.ReferenceIdeal2.nD Cert.ReferenceIdeal2.τ).loc Cert.ReferenceIdeal2.main_arg9) = m ((c.tc : Thread Cert.ReferenceIdeal2.nD Cert.ReferenceIdeal2.τ).loc Cert.ReferenceIdeal2.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_KernelIdeal3 [hKernelIdeal3 : Cert.KernelIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg), Pre_KernelIdeal3 m →
    θ_run (Cert.KernelIdeal3.defs (F := Ideal)) (onTc (τ := Cert.KernelIdeal3.τ) (Cert.KernelIdeal3.main (F := Ideal))) ⟨m, fun _ => 0, g⟩ (fun r => (∀ c : Dev Cert.KernelIdeal3.nD,
      r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
      ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1))
      ∧ r.2.sem = fun _ => 0)

def quiescent_ReferenceIdeal3 [hReferenceIdeal3 : Cert.ReferenceIdeal3.Facts] : Prop :=
  ∀ (m : (ℓ : Loc Cert.ReferenceIdeal3.nD Cert.ReferenceIdeal3.τ Cert.ReferenceIdeal3.sig) → Buf (Elt Ideal) ℓ) (g : Dev Cert.ReferenceIdeal3.nD → PrngReg), Pre_ReferenceIdeal3 m →
    θ_run (Cert.ReferenceIdeal3.defs (F := Ideal)) (onTc (τ := Cert.ReferenceIdeal3.τ) (Cert.ReferenceIdeal3.main (F := Ideal))) ⟨m, fun _ => 0, g⟩ (fun r => (∀ c : Dev Cert.ReferenceIdeal3.nD,
      r.2.mem ((c.tc : Thread Cert.ReferenceIdeal3.nD Cert.ReferenceIdeal3.τ).loc Cert.ReferenceIdeal3.main_arg0) = m ((c.tc : Thread Cert.ReferenceIdeal3.nD Cert.ReferenceIdeal3.τ).loc Cert.ReferenceIdeal3.main_arg0)
      ∧ r.2.mem ((c.tc : Thread Cert.ReferenceIdeal3.nD Cert.ReferenceIdeal3.τ).loc Cert.ReferenceIdeal3.main_arg1) = m ((c.tc : Thread Cert.ReferenceIdeal3.nD Cert.ReferenceIdeal3.τ).loc Cert.ReferenceIdeal3.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_KernelIdeal4 [hKernelIdeal4 : Cert.KernelIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg), Pre_KernelIdeal4 m →
    θ_run (Cert.KernelIdeal4.defs (F := Ideal)) (onTc (τ := Cert.KernelIdeal4.τ) (Cert.KernelIdeal4.main (F := Ideal))) ⟨m, fun _ => 0, g⟩ (fun r => (∀ c : Dev Cert.KernelIdeal4.nD,
      r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
      ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1)
      ∧ r.2.mem ((c.tc : Thread Cert.KernelIdeal4.nD Cert.KernelIdeal4.τ).loc Cert.KernelIdeal4.main_arg2) = m ((c.tc : Thread Cert.KernelIdeal4.nD Cert.KernelIdeal4.τ).loc Cert.KernelIdeal4.main_arg2))
      ∧ r.2.sem = fun _ => 0)

def quiescent_ReferenceIdeal4 [hReferenceIdeal4 : Cert.ReferenceIdeal4.Facts] : Prop :=
  ∀ (m : (ℓ : Loc Cert.ReferenceIdeal4.nD Cert.ReferenceIdeal4.τ Cert.ReferenceIdeal4.sig) → Buf (Elt Ideal) ℓ) (g : Dev Cert.ReferenceIdeal4.nD → PrngReg), Pre_ReferenceIdeal4 m →
    θ_run (Cert.ReferenceIdeal4.defs (F := Ideal)) (onTc (τ := Cert.ReferenceIdeal4.τ) (Cert.ReferenceIdeal4.main (F := Ideal))) ⟨m, fun _ => 0, g⟩ (fun r => (∀ c : Dev Cert.ReferenceIdeal4.nD,
      r.2.mem ((c.tc : Thread Cert.ReferenceIdeal4.nD Cert.ReferenceIdeal4.τ).loc Cert.ReferenceIdeal4.main_arg0) = m ((c.tc : Thread Cert.ReferenceIdeal4.nD Cert.ReferenceIdeal4.τ).loc Cert.ReferenceIdeal4.main_arg0)
      ∧ r.2.mem ((c.tc : Thread Cert.ReferenceIdeal4.nD Cert.ReferenceIdeal4.τ).loc Cert.ReferenceIdeal4.main_arg1) = m ((c.tc : Thread Cert.ReferenceIdeal4.nD Cert.ReferenceIdeal4.τ).loc Cert.ReferenceIdeal4.main_arg1)
      ∧ r.2.mem ((c.tc : Thread Cert.ReferenceIdeal4.nD Cert.ReferenceIdeal4.τ).loc Cert.ReferenceIdeal4.main_arg2) = m ((c.tc : Thread Cert.ReferenceIdeal4.nD Cert.ReferenceIdeal4.τ).loc Cert.ReferenceIdeal4.main_arg2))
      ∧ r.2.sem = fun _ => 0)

def quiescent_Kernel6 [hKernel6 : Cert.Kernel6.Facts] [hPre_planned : Cert.Pre_planned.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_KernelIdeal6 [hKernelIdeal6 : Cert.KernelIdeal6.Facts] [hPre_planned : Cert.Pre_planned.Facts] : Prop :=
  ∀ (m : (ℓ : Loc Cert.KernelIdeal6.nD Cert.KernelIdeal6.τ Cert.KernelIdeal6.sig) → Buf (Elt Ideal) ℓ) (g : Dev Cert.KernelIdeal6.nD → PrngReg), Pre_KernelIdeal6 m →
    θ_run (Cert.KernelIdeal6.defs (F := Ideal)) (onTc (τ := Cert.KernelIdeal6.τ) (Cert.KernelIdeal6.main (F := Ideal))) ⟨m, fun _ => 0, g⟩ (fun r => (∀ c : Dev Cert.KernelIdeal6.nD,
      r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
      ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
      ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2)
      ∧ r.2.mem ((c.tc : Thread Cert.KernelIdeal6.nD Cert.KernelIdeal6.τ).loc Cert.KernelIdeal6.main_arg3) = m ((c.tc : Thread Cert.KernelIdeal6.nD Cert.KernelIdeal6.τ).loc Cert.KernelIdeal6.main_arg3)
      ∧ r.2.mem ((c.tc : Thread Cert.KernelIdeal6.nD Cert.KernelIdeal6.τ).loc Cert.KernelIdeal6.main_arg4) = m ((c.tc : Thread Cert.KernelIdeal6.nD Cert.KernelIdeal6.τ).loc Cert.KernelIdeal6.main_arg4)
      ∧ r.2.mem ((c.tc : Thread Cert.KernelIdeal6.nD Cert.KernelIdeal6.τ).loc Cert.KernelIdeal6.main_arg5) = m ((c.tc : Thread Cert.KernelIdeal6.nD Cert.KernelIdeal6.τ).loc Cert.KernelIdeal6.main_arg5)
      ∧ r.2.mem ((c.tc : Thread Cert.KernelIdeal6.nD Cert.KernelIdeal6.τ).loc Cert.KernelIdeal6.main_arg6) = m ((c.tc : Thread Cert.KernelIdeal6.nD Cert.KernelIdeal6.τ).loc Cert.KernelIdeal6.main_arg6)
      ∧ r.2.mem ((c.tc : Thread Cert.KernelIdeal6.nD Cert.KernelIdeal6.τ).loc Cert.KernelIdeal6.main_arg7) = m ((c.tc : Thread Cert.KernelIdeal6.nD Cert.KernelIdeal6.τ).loc Cert.KernelIdeal6.main_arg7)
      ∧ r.2.mem ((c.tc : Thread Cert.KernelIdeal6.nD Cert.KernelIdeal6.τ).loc Cert.KernelIdeal6.main_arg8) = m ((c.tc : Thread Cert.KernelIdeal6.nD Cert.KernelIdeal6.τ).loc Cert.KernelIdeal6.main_arg8))
      ∧ r.2.sem = fun _ => 0)

def quiescent_ReferenceIdeal6 [hReferenceIdeal6 : Cert.ReferenceIdeal6.Facts] [hPre_planned : Cert.Pre_planned.Facts] : Prop :=
  ∀ (m : (ℓ : Loc Cert.ReferenceIdeal6.nD Cert.ReferenceIdeal6.τ Cert.ReferenceIdeal6.sig) → Buf (Elt Ideal) ℓ) (g : Dev Cert.ReferenceIdeal6.nD → PrngReg), Pre_ReferenceIdeal6 m →
    θ_run (Cert.ReferenceIdeal6.defs (F := Ideal)) (onTc (τ := Cert.ReferenceIdeal6.τ) (Cert.ReferenceIdeal6.main (F := Ideal))) ⟨m, fun _ => 0, g⟩ (fun r => (∀ c : Dev Cert.ReferenceIdeal6.nD,
      r.2.mem ((c.tc : Thread Cert.ReferenceIdeal6.nD Cert.ReferenceIdeal6.τ).loc Cert.ReferenceIdeal6.main_arg0) = m ((c.tc : Thread Cert.ReferenceIdeal6.nD Cert.ReferenceIdeal6.τ).loc Cert.ReferenceIdeal6.main_arg0)
      ∧ r.2.mem ((c.tc : Thread Cert.ReferenceIdeal6.nD Cert.ReferenceIdeal6.τ).loc Cert.ReferenceIdeal6.main_arg1) = m ((c.tc : Thread Cert.ReferenceIdeal6.nD Cert.ReferenceIdeal6.τ).loc Cert.ReferenceIdeal6.main_arg1)
      ∧ r.2.mem ((c.tc : Thread Cert.ReferenceIdeal6.nD Cert.ReferenceIdeal6.τ).loc Cert.ReferenceIdeal6.main_arg2) = m ((c.tc : Thread Cert.ReferenceIdeal6.nD Cert.ReferenceIdeal6.τ).loc Cert.ReferenceIdeal6.main_arg2)
      ∧ r.2.mem ((c.tc : Thread Cert.ReferenceIdeal6.nD Cert.ReferenceIdeal6.τ).loc Cert.ReferenceIdeal6.main_arg3) = m ((c.tc : Thread Cert.ReferenceIdeal6.nD Cert.ReferenceIdeal6.τ).loc Cert.ReferenceIdeal6.main_arg3)
      ∧ r.2.mem ((c.tc : Thread Cert.ReferenceIdeal6.nD Cert.ReferenceIdeal6.τ).loc Cert.ReferenceIdeal6.main_arg4) = m ((c.tc : Thread Cert.ReferenceIdeal6.nD Cert.ReferenceIdeal6.τ).loc Cert.ReferenceIdeal6.main_arg4)
      ∧ r.2.mem ((c.tc : Thread Cert.ReferenceIdeal6.nD Cert.ReferenceIdeal6.τ).loc Cert.ReferenceIdeal6.main_arg5) = m ((c.tc : Thread Cert.ReferenceIdeal6.nD Cert.ReferenceIdeal6.τ).loc Cert.ReferenceIdeal6.main_arg5)
      ∧ r.2.mem ((c.tc : Thread Cert.ReferenceIdeal6.nD Cert.ReferenceIdeal6.τ).loc Cert.ReferenceIdeal6.main_arg6) = m ((c.tc : Thread Cert.ReferenceIdeal6.nD Cert.ReferenceIdeal6.τ).loc Cert.ReferenceIdeal6.main_arg6)
      ∧ r.2.mem ((c.tc : Thread Cert.ReferenceIdeal6.nD Cert.ReferenceIdeal6.τ).loc Cert.ReferenceIdeal6.main_arg7) = m ((c.tc : Thread Cert.ReferenceIdeal6.nD Cert.ReferenceIdeal6.τ).loc Cert.ReferenceIdeal6.main_arg7)
      ∧ r.2.mem ((c.tc : Thread Cert.ReferenceIdeal6.nD Cert.ReferenceIdeal6.τ).loc Cert.ReferenceIdeal6.main_arg8) = m ((c.tc : Thread Cert.ReferenceIdeal6.nD Cert.ReferenceIdeal6.τ).loc Cert.ReferenceIdeal6.main_arg8))
      ∧ r.2.sem = fun _ => 0)

def preserves_Kernel2_KernelIdeal2 : Prop :=
  True

def algebraic_KernelIdeal2_ReferenceIdeal2 [hKernelIdeal2 : Cert.KernelIdeal2.Facts] [hReferenceIdeal2 : Cert.ReferenceIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg)
    (m' : (ℓ : Loc Cert.ReferenceIdeal2.nD Cert.ReferenceIdeal2.τ Cert.ReferenceIdeal2.sig) → Buf (Elt Ideal) ℓ) (g' : Dev Cert.ReferenceIdeal2.nD → PrngReg), Pre_KernelIdeal2 m →
    (∀ c : Dev Cert.KernelIdeal2.nD,
      m' ((c.tc : Thread Cert.ReferenceIdeal2.nD Cert.ReferenceIdeal2.τ).loc Cert.ReferenceIdeal2.main_arg0) = m ((c.tc : Thread Cert.KernelIdeal2.nD Cert.KernelIdeal2.τ).loc Cert.KernelIdeal2.main_arg0)
      ∧ m' ((c.tc : Thread Cert.ReferenceIdeal2.nD Cert.ReferenceIdeal2.τ).loc Cert.ReferenceIdeal2.main_arg1) = m ((c.tc : Thread Cert.KernelIdeal2.nD Cert.KernelIdeal2.τ).loc Cert.KernelIdeal2.main_arg1)
      ∧ m' ((c.tc : Thread Cert.ReferenceIdeal2.nD Cert.ReferenceIdeal2.τ).loc Cert.ReferenceIdeal2.main_arg2) = m ((c.tc : Thread Cert.KernelIdeal2.nD Cert.KernelIdeal2.τ).loc Cert.KernelIdeal2.main_arg2)
      ∧ m' ((c.tc : Thread Cert.ReferenceIdeal2.nD Cert.ReferenceIdeal2.τ).loc Cert.ReferenceIdeal2.main_arg3) = m ((c.tc : Thread Cert.KernelIdeal2.nD Cert.KernelIdeal2.τ).loc Cert.KernelIdeal2.main_arg3)
      ∧ m' ((c.tc : Thread Cert.ReferenceIdeal2.nD Cert.ReferenceIdeal2.τ).loc Cert.ReferenceIdeal2.main_arg4) = m ((c.tc : Thread Cert.KernelIdeal2.nD Cert.KernelIdeal2.τ).loc Cert.KernelIdeal2.main_arg4)
      ∧ m' ((c.tc : Thread Cert.ReferenceIdeal2.nD Cert.ReferenceIdeal2.τ).loc Cert.ReferenceIdeal2.main_arg5) = m ((c.tc : Thread Cert.KernelIdeal2.nD Cert.KernelIdeal2.τ).loc Cert.KernelIdeal2.main_arg5)
      ∧ m' ((c.tc : Thread Cert.ReferenceIdeal2.nD Cert.ReferenceIdeal2.τ).loc Cert.ReferenceIdeal2.main_arg6) = m ((c.tc : Thread Cert.KernelIdeal2.nD Cert.KernelIdeal2.τ).loc Cert.KernelIdeal2.main_arg6)
      ∧ m' ((c.tc : Thread Cert.ReferenceIdeal2.nD Cert.ReferenceIdeal2.τ).loc Cert.ReferenceIdeal2.main_arg7) = m ((c.tc : Thread Cert.KernelIdeal2.nD Cert.KernelIdeal2.τ).loc Cert.KernelIdeal2.main_arg7)
      ∧ m' ((c.tc : Thread Cert.ReferenceIdeal2.nD Cert.ReferenceIdeal2.τ).loc Cert.ReferenceIdeal2.main_arg8) = m ((c.tc : Thread Cert.KernelIdeal2.nD Cert.KernelIdeal2.τ).loc Cert.KernelIdeal2.main_arg8)
      ∧ m' ((c.tc : Thread Cert.ReferenceIdeal2.nD Cert.ReferenceIdeal2.τ).loc Cert.ReferenceIdeal2.main_arg9) = m ((c.tc : Thread Cert.KernelIdeal2.nD Cert.KernelIdeal2.τ).loc Cert.KernelIdeal2.main_arg9)) →
    ∃ (v0 : (c : Dev Cert.KernelIdeal2.nD) → Buf (Elt Ideal) ((c.tc : Thread Cert.KernelIdeal2.nD Cert.KernelIdeal2.τ).loc Cert.KernelIdeal2.main_v0_0)) (v1 : (c : Dev Cert.KernelIdeal2.nD) → Buf (Elt Ideal) ((c.tc : Thread Cert.KernelIdeal2.nD Cert.KernelIdeal2.τ).loc Cert.KernelIdeal2.main_v0_1)),
      θ_run (Cert.KernelIdeal2.defs (F := Ideal)) (onTc (τ := Cert.KernelIdeal2.τ) (Cert.KernelIdeal2.main (F := Ideal))) ⟨m, fun _ => 0, g⟩ (fun r => ∀ c : Dev Cert.KernelIdeal2.nD,
          r.2.mem ((c.tc : Thread Cert.KernelIdeal2.nD Cert.KernelIdeal2.τ).loc Cert.KernelIdeal2.main_v0_0) = v0 c
          ∧ r.2.mem ((c.tc : Thread Cert.KernelIdeal2.nD Cert.KernelIdeal2.τ).loc Cert.KernelIdeal2.main_v0_1) = v1 c
          ∧ r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
          ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
          ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2)
          ∧ r.2.mem ((c.tc : Thread Cert.KernelIdeal2.nD Cert.KernelIdeal2.τ).loc Cert.KernelIdeal2.main_arg3) = m ((c.tc : Thread Cert.KernelIdeal2.nD Cert.KernelIdeal2.τ).loc Cert.KernelIdeal2.main_arg3)
          ∧ r.2.mem ((c.tc : Thread Cert.KernelIdeal2.nD Cert.KernelIdeal2.τ).loc Cert.KernelIdeal2.main_arg4) = m ((c.tc : Thread Cert.KernelIdeal2.nD Cert.KernelIdeal2.τ).loc Cert.KernelIdeal2.main_arg4)
          ∧ r.2.mem ((c.tc : Thread Cert.KernelIdeal2.nD Cert.KernelIdeal2.τ).loc Cert.KernelIdeal2.main_arg5) = m ((c.tc : Thread Cert.KernelIdeal2.nD Cert.KernelIdeal2.τ).loc Cert.KernelIdeal2.main_arg5)
          ∧ r.2.mem ((c.tc : Thread Cert.KernelIdeal2.nD Cert.KernelIdeal2.τ).loc Cert.KernelIdeal2.main_arg6) = m ((c.tc : Thread Cert.KernelIdeal2.nD Cert.KernelIdeal2.τ).loc Cert.KernelIdeal2.main_arg6)
          ∧ r.2.mem ((c.tc : Thread Cert.KernelIdeal2.nD Cert.KernelIdeal2.τ).loc Cert.KernelIdeal2.main_arg7) = m ((c.tc : Thread Cert.KernelIdeal2.nD Cert.KernelIdeal2.τ).loc Cert.KernelIdeal2.main_arg7)
          ∧ r.2.mem ((c.tc : Thread Cert.KernelIdeal2.nD Cert.KernelIdeal2.τ).loc Cert.KernelIdeal2.main_arg8) = m ((c.tc : Thread Cert.KernelIdeal2.nD Cert.KernelIdeal2.τ).loc Cert.KernelIdeal2.main_arg8)
          ∧ r.2.mem ((c.tc : Thread Cert.KernelIdeal2.nD Cert.KernelIdeal2.τ).loc Cert.KernelIdeal2.main_arg9) = m ((c.tc : Thread Cert.KernelIdeal2.nD Cert.KernelIdeal2.τ).loc Cert.KernelIdeal2.main_arg9))
      ∧ θ_run (Cert.ReferenceIdeal2.defs (F := Ideal)) (onTc (τ := Cert.ReferenceIdeal2.τ) (Cert.ReferenceIdeal2.main (F := Ideal))) ⟨m', fun _ => 0, g'⟩ (fun r => ∀ c : Dev Cert.ReferenceIdeal2.nD,
          r.2.mem ((c.tc : Thread Cert.ReferenceIdeal2.nD Cert.ReferenceIdeal2.τ).loc Cert.ReferenceIdeal2.main_v23) = v0 c
          ∧ r.2.mem ((c.tc : Thread Cert.ReferenceIdeal2.nD Cert.ReferenceIdeal2.τ).loc Cert.ReferenceIdeal2.main_v35) = v1 c
          ∧ r.2.mem ((c.tc : Thread Cert.ReferenceIdeal2.nD Cert.ReferenceIdeal2.τ).loc Cert.ReferenceIdeal2.main_arg0) = m' ((c.tc : Thread Cert.ReferenceIdeal2.nD Cert.ReferenceIdeal2.τ).loc Cert.ReferenceIdeal2.main_arg0)
          ∧ r.2.mem ((c.tc : Thread Cert.ReferenceIdeal2.nD Cert.ReferenceIdeal2.τ).loc Cert.ReferenceIdeal2.main_arg1) = m' ((c.tc : Thread Cert.ReferenceIdeal2.nD Cert.ReferenceIdeal2.τ).loc Cert.ReferenceIdeal2.main_arg1)
          ∧ r.2.mem ((c.tc : Thread Cert.ReferenceIdeal2.nD Cert.ReferenceIdeal2.τ).loc Cert.ReferenceIdeal2.main_arg2) = m' ((c.tc : Thread Cert.ReferenceIdeal2.nD Cert.ReferenceIdeal2.τ).loc Cert.ReferenceIdeal2.main_arg2)
          ∧ r.2.mem ((c.tc : Thread Cert.ReferenceIdeal2.nD Cert.ReferenceIdeal2.τ).loc Cert.ReferenceIdeal2.main_arg3) = m' ((c.tc : Thread Cert.ReferenceIdeal2.nD Cert.ReferenceIdeal2.τ).loc Cert.ReferenceIdeal2.main_arg3)
          ∧ r.2.mem ((c.tc : Thread Cert.ReferenceIdeal2.nD Cert.ReferenceIdeal2.τ).loc Cert.ReferenceIdeal2.main_arg4) = m' ((c.tc : Thread Cert.ReferenceIdeal2.nD Cert.ReferenceIdeal2.τ).loc Cert.ReferenceIdeal2.main_arg4)
          ∧ r.2.mem ((c.tc : Thread Cert.ReferenceIdeal2.nD Cert.ReferenceIdeal2.τ).loc Cert.ReferenceIdeal2.main_arg5) = m' ((c.tc : Thread Cert.ReferenceIdeal2.nD Cert.ReferenceIdeal2.τ).loc Cert.ReferenceIdeal2.main_arg5)
          ∧ r.2.mem ((c.tc : Thread Cert.ReferenceIdeal2.nD Cert.ReferenceIdeal2.τ).loc Cert.ReferenceIdeal2.main_arg6) = m' ((c.tc : Thread Cert.ReferenceIdeal2.nD Cert.ReferenceIdeal2.τ).loc Cert.ReferenceIdeal2.main_arg6)
          ∧ r.2.mem ((c.tc : Thread Cert.ReferenceIdeal2.nD Cert.ReferenceIdeal2.τ).loc Cert.ReferenceIdeal2.main_arg7) = m' ((c.tc : Thread Cert.ReferenceIdeal2.nD Cert.ReferenceIdeal2.τ).loc Cert.ReferenceIdeal2.main_arg7)
          ∧ r.2.mem ((c.tc : Thread Cert.ReferenceIdeal2.nD Cert.ReferenceIdeal2.τ).loc Cert.ReferenceIdeal2.main_arg8) = m' ((c.tc : Thread Cert.ReferenceIdeal2.nD Cert.ReferenceIdeal2.τ).loc Cert.ReferenceIdeal2.main_arg8)
          ∧ r.2.mem ((c.tc : Thread Cert.ReferenceIdeal2.nD Cert.ReferenceIdeal2.τ).loc Cert.ReferenceIdeal2.main_arg9) = m' ((c.tc : Thread Cert.ReferenceIdeal2.nD Cert.ReferenceIdeal2.τ).loc Cert.ReferenceIdeal2.main_arg9))

def preserves_Kernel3_KernelIdeal3 : Prop :=
  True

def algebraic_KernelIdeal3_ReferenceIdeal3 [hKernelIdeal3 : Cert.KernelIdeal3.Facts] [hReferenceIdeal3 : Cert.ReferenceIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg)
    (m' : (ℓ : Loc Cert.ReferenceIdeal3.nD Cert.ReferenceIdeal3.τ Cert.ReferenceIdeal3.sig) → Buf (Elt Ideal) ℓ) (g' : Dev Cert.ReferenceIdeal3.nD → PrngReg), Pre_KernelIdeal3 m →
    (∀ c : Dev Cert.KernelIdeal3.nD,
      m' ((c.tc : Thread Cert.ReferenceIdeal3.nD Cert.ReferenceIdeal3.τ).loc Cert.ReferenceIdeal3.main_arg0) = m ((c.tc : Thread Cert.KernelIdeal3.nD Cert.KernelIdeal3.τ).loc Cert.KernelIdeal3.main_arg0)
      ∧ m' ((c.tc : Thread Cert.ReferenceIdeal3.nD Cert.ReferenceIdeal3.τ).loc Cert.ReferenceIdeal3.main_arg1) = m ((c.tc : Thread Cert.KernelIdeal3.nD Cert.KernelIdeal3.τ).loc Cert.KernelIdeal3.main_arg1)) →
    ∃ (v0 : (c : Dev Cert.KernelIdeal3.nD) → Buf (Elt Ideal) ((c.tc : Thread Cert.KernelIdeal3.nD Cert.KernelIdeal3.τ).loc Cert.KernelIdeal3.main_v0)),
      θ_run (Cert.KernelIdeal3.defs (F := Ideal)) (onTc (τ := Cert.KernelIdeal3.τ) (Cert.KernelIdeal3.main (F := Ideal))) ⟨m, fun _ => 0, g⟩ (fun r => ∀ c : Dev Cert.KernelIdeal3.nD,
          r.2.mem ((c.tc : Thread Cert.KernelIdeal3.nD Cert.KernelIdeal3.τ).loc Cert.KernelIdeal3.main_v0) = v0 c
          ∧ r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
          ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1))
      ∧ θ_run (Cert.ReferenceIdeal3.defs (F := Ideal)) (onTc (τ := Cert.ReferenceIdeal3.τ) (Cert.ReferenceIdeal3.main (F := Ideal))) ⟨m', fun _ => 0, g'⟩ (fun r => ∀ c : Dev Cert.ReferenceIdeal3.nD,
          r.2.mem ((c.tc : Thread Cert.ReferenceIdeal3.nD Cert.ReferenceIdeal3.τ).loc Cert.ReferenceIdeal3.main_v1) = v0 c
          ∧ r.2.mem ((c.tc : Thread Cert.ReferenceIdeal3.nD Cert.ReferenceIdeal3.τ).loc Cert.ReferenceIdeal3.main_arg0) = m' ((c.tc : Thread Cert.ReferenceIdeal3.nD Cert.ReferenceIdeal3.τ).loc Cert.ReferenceIdeal3.main_arg0)
          ∧ r.2.mem ((c.tc : Thread Cert.ReferenceIdeal3.nD Cert.ReferenceIdeal3.τ).loc Cert.ReferenceIdeal3.main_arg1) = m' ((c.tc : Thread Cert.ReferenceIdeal3.nD Cert.ReferenceIdeal3.τ).loc Cert.ReferenceIdeal3.main_arg1))

def preserves_Kernel4_KernelIdeal4 : Prop :=
  True

def algebraic_KernelIdeal4_ReferenceIdeal4 [hKernelIdeal4 : Cert.KernelIdeal4.Facts] [hReferenceIdeal4 : Cert.ReferenceIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg)
    (m' : (ℓ : Loc Cert.ReferenceIdeal4.nD Cert.ReferenceIdeal4.τ Cert.ReferenceIdeal4.sig) → Buf (Elt Ideal) ℓ) (g' : Dev Cert.ReferenceIdeal4.nD → PrngReg), Pre_KernelIdeal4 m →
    (∀ c : Dev Cert.KernelIdeal4.nD,
      m' ((c.tc : Thread Cert.ReferenceIdeal4.nD Cert.ReferenceIdeal4.τ).loc Cert.ReferenceIdeal4.main_arg0) = m ((c.tc : Thread Cert.KernelIdeal4.nD Cert.KernelIdeal4.τ).loc Cert.KernelIdeal4.main_arg0)
      ∧ m' ((c.tc : Thread Cert.ReferenceIdeal4.nD Cert.ReferenceIdeal4.τ).loc Cert.ReferenceIdeal4.main_arg1) = m ((c.tc : Thread Cert.KernelIdeal4.nD Cert.KernelIdeal4.τ).loc Cert.KernelIdeal4.main_arg1)
      ∧ m' ((c.tc : Thread Cert.ReferenceIdeal4.nD Cert.ReferenceIdeal4.τ).loc Cert.ReferenceIdeal4.main_arg2) = m ((c.tc : Thread Cert.KernelIdeal4.nD Cert.KernelIdeal4.τ).loc Cert.KernelIdeal4.main_arg2)) →
    ∃ (v0 : (c : Dev Cert.KernelIdeal4.nD) → Buf (Elt Ideal) ((c.tc : Thread Cert.KernelIdeal4.nD Cert.KernelIdeal4.τ).loc Cert.KernelIdeal4.main_v0)),
      θ_run (Cert.KernelIdeal4.defs (F := Ideal)) (onTc (τ := Cert.KernelIdeal4.τ) (Cert.KernelIdeal4.main (F := Ideal))) ⟨m, fun _ => 0, g⟩ (fun r => ∀ c : Dev Cert.KernelIdeal4.nD,
          r.2.mem ((c.tc : Thread Cert.KernelIdeal4.nD Cert.KernelIdeal4.τ).loc Cert.KernelIdeal4.main_v0) = v0 c
          ∧ r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
          ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1)
          ∧ r.2.mem ((c.tc : Thread Cert.KernelIdeal4.nD Cert.KernelIdeal4.τ).loc Cert.KernelIdeal4.main_arg2) = m ((c.tc : Thread Cert.KernelIdeal4.nD Cert.KernelIdeal4.τ).loc Cert.KernelIdeal4.main_arg2))
      ∧ θ_run (Cert.ReferenceIdeal4.defs (F := Ideal)) (onTc (τ := Cert.ReferenceIdeal4.τ) (Cert.ReferenceIdeal4.main (F := Ideal))) ⟨m', fun _ => 0, g'⟩ (fun r => ∀ c : Dev Cert.ReferenceIdeal4.nD,
          r.2.mem ((c.tc : Thread Cert.ReferenceIdeal4.nD Cert.ReferenceIdeal4.τ).loc Cert.ReferenceIdeal4.main_v15) = v0 c
          ∧ r.2.mem ((c.tc : Thread Cert.ReferenceIdeal4.nD Cert.ReferenceIdeal4.τ).loc Cert.ReferenceIdeal4.main_arg0) = m' ((c.tc : Thread Cert.ReferenceIdeal4.nD Cert.ReferenceIdeal4.τ).loc Cert.ReferenceIdeal4.main_arg0)
          ∧ r.2.mem ((c.tc : Thread Cert.ReferenceIdeal4.nD Cert.ReferenceIdeal4.τ).loc Cert.ReferenceIdeal4.main_arg1) = m' ((c.tc : Thread Cert.ReferenceIdeal4.nD Cert.ReferenceIdeal4.τ).loc Cert.ReferenceIdeal4.main_arg1)
          ∧ r.2.mem ((c.tc : Thread Cert.ReferenceIdeal4.nD Cert.ReferenceIdeal4.τ).loc Cert.ReferenceIdeal4.main_arg2) = m' ((c.tc : Thread Cert.ReferenceIdeal4.nD Cert.ReferenceIdeal4.τ).loc Cert.ReferenceIdeal4.main_arg2))

def preserves_Kernel6_KernelIdeal6 : Prop :=
  True

def algebraic_KernelIdeal6_ReferenceIdeal6 [hKernelIdeal6 : Cert.KernelIdeal6.Facts] [hReferenceIdeal6 : Cert.ReferenceIdeal6.Facts] [hPre_planned : Cert.Pre_planned.Facts] : Prop :=
  ∀ (m : (ℓ : Loc Cert.KernelIdeal6.nD Cert.KernelIdeal6.τ Cert.KernelIdeal6.sig) → Buf (Elt Ideal) ℓ) (g : Dev Cert.KernelIdeal6.nD → PrngReg)
    (m' : (ℓ : Loc Cert.ReferenceIdeal6.nD Cert.ReferenceIdeal6.τ Cert.ReferenceIdeal6.sig) → Buf (Elt Ideal) ℓ) (g' : Dev Cert.ReferenceIdeal6.nD → PrngReg), Pre_KernelIdeal6 m →
    (∀ c : Dev Cert.KernelIdeal6.nD,
      m' ((c.tc : Thread Cert.ReferenceIdeal6.nD Cert.ReferenceIdeal6.τ).loc Cert.ReferenceIdeal6.main_arg0) = m ((c.tc : Thread Cert.KernelIdeal6.nD Cert.KernelIdeal6.τ).loc Cert.KernelIdeal6.main_arg0)
      ∧ m' ((c.tc : Thread Cert.ReferenceIdeal6.nD Cert.ReferenceIdeal6.τ).loc Cert.ReferenceIdeal6.main_arg1) = m ((c.tc : Thread Cert.KernelIdeal6.nD Cert.KernelIdeal6.τ).loc Cert.KernelIdeal6.main_arg1)
      ∧ m' ((c.tc : Thread Cert.ReferenceIdeal6.nD Cert.ReferenceIdeal6.τ).loc Cert.ReferenceIdeal6.main_arg2) = m ((c.tc : Thread Cert.KernelIdeal6.nD Cert.KernelIdeal6.τ).loc Cert.KernelIdeal6.main_arg2)
      ∧ m' ((c.tc : Thread Cert.ReferenceIdeal6.nD Cert.ReferenceIdeal6.τ).loc Cert.ReferenceIdeal6.main_arg3) = m ((c.tc : Thread Cert.KernelIdeal6.nD Cert.KernelIdeal6.τ).loc Cert.KernelIdeal6.main_arg3)
      ∧ m' ((c.tc : Thread Cert.ReferenceIdeal6.nD Cert.ReferenceIdeal6.τ).loc Cert.ReferenceIdeal6.main_arg4) = m ((c.tc : Thread Cert.KernelIdeal6.nD Cert.KernelIdeal6.τ).loc Cert.KernelIdeal6.main_arg4)
      ∧ m' ((c.tc : Thread Cert.ReferenceIdeal6.nD Cert.ReferenceIdeal6.τ).loc Cert.ReferenceIdeal6.main_arg5) = m ((c.tc : Thread Cert.KernelIdeal6.nD Cert.KernelIdeal6.τ).loc Cert.KernelIdeal6.main_arg5)
      ∧ m' ((c.tc : Thread Cert.ReferenceIdeal6.nD Cert.ReferenceIdeal6.τ).loc Cert.ReferenceIdeal6.main_arg6) = m ((c.tc : Thread Cert.KernelIdeal6.nD Cert.KernelIdeal6.τ).loc Cert.KernelIdeal6.main_arg6)
      ∧ m' ((c.tc : Thread Cert.ReferenceIdeal6.nD Cert.ReferenceIdeal6.τ).loc Cert.ReferenceIdeal6.main_arg7) = m ((c.tc : Thread Cert.KernelIdeal6.nD Cert.KernelIdeal6.τ).loc Cert.KernelIdeal6.main_arg7)
      ∧ m' ((c.tc : Thread Cert.ReferenceIdeal6.nD Cert.ReferenceIdeal6.τ).loc Cert.ReferenceIdeal6.main_arg8) = m ((c.tc : Thread Cert.KernelIdeal6.nD Cert.KernelIdeal6.τ).loc Cert.KernelIdeal6.main_arg8)) →
    ∃ (v0 : (c : Dev Cert.KernelIdeal6.nD) → Buf (Elt Ideal) ((c.tc : Thread Cert.KernelIdeal6.nD Cert.KernelIdeal6.τ).loc Cert.KernelIdeal6.main_v0)),
      θ_run (Cert.KernelIdeal6.defs (F := Ideal)) (onTc (τ := Cert.KernelIdeal6.τ) (Cert.KernelIdeal6.main (F := Ideal))) ⟨m, fun _ => 0, g⟩ (fun r => ∀ c : Dev Cert.KernelIdeal6.nD,
          r.2.mem ((c.tc : Thread Cert.KernelIdeal6.nD Cert.KernelIdeal6.τ).loc Cert.KernelIdeal6.main_v0) = v0 c
          ∧ r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
          ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
          ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2)
          ∧ r.2.mem ((c.tc : Thread Cert.KernelIdeal6.nD Cert.KernelIdeal6.τ).loc Cert.KernelIdeal6.main_arg3) = m ((c.tc : Thread Cert.KernelIdeal6.nD Cert.KernelIdeal6.τ).loc Cert.KernelIdeal6.main_arg3)
          ∧ r.2.mem ((c.tc : Thread Cert.KernelIdeal6.nD Cert.KernelIdeal6.τ).loc Cert.KernelIdeal6.main_arg4) = m ((c.tc : Thread Cert.KernelIdeal6.nD Cert.KernelIdeal6.τ).loc Cert.KernelIdeal6.main_arg4)
          ∧ r.2.mem ((c.tc : Thread Cert.KernelIdeal6.nD Cert.KernelIdeal6.τ).loc Cert.KernelIdeal6.main_arg5) = m ((c.tc : Thread Cert.KernelIdeal6.nD Cert.KernelIdeal6.τ).loc Cert.KernelIdeal6.main_arg5)
          ∧ r.2.mem ((c.tc : Thread Cert.KernelIdeal6.nD Cert.KernelIdeal6.τ).loc Cert.KernelIdeal6.main_arg6) = m ((c.tc : Thread Cert.KernelIdeal6.nD Cert.KernelIdeal6.τ).loc Cert.KernelIdeal6.main_arg6)
          ∧ r.2.mem ((c.tc : Thread Cert.KernelIdeal6.nD Cert.KernelIdeal6.τ).loc Cert.KernelIdeal6.main_arg7) = m ((c.tc : Thread Cert.KernelIdeal6.nD Cert.KernelIdeal6.τ).loc Cert.KernelIdeal6.main_arg7)
          ∧ r.2.mem ((c.tc : Thread Cert.KernelIdeal6.nD Cert.KernelIdeal6.τ).loc Cert.KernelIdeal6.main_arg8) = m ((c.tc : Thread Cert.KernelIdeal6.nD Cert.KernelIdeal6.τ).loc Cert.KernelIdeal6.main_arg8))
      ∧ θ_run (Cert.ReferenceIdeal6.defs (F := Ideal)) (onTc (τ := Cert.ReferenceIdeal6.τ) (Cert.ReferenceIdeal6.main (F := Ideal))) ⟨m', fun _ => 0, g'⟩ (fun r => ∀ c : Dev Cert.ReferenceIdeal6.nD,
          r.2.mem ((c.tc : Thread Cert.ReferenceIdeal6.nD Cert.ReferenceIdeal6.τ).loc Cert.ReferenceIdeal6.main_v37) = v0 c
          ∧ r.2.mem ((c.tc : Thread Cert.ReferenceIdeal6.nD Cert.ReferenceIdeal6.τ).loc Cert.ReferenceIdeal6.main_arg0) = m' ((c.tc : Thread Cert.ReferenceIdeal6.nD Cert.ReferenceIdeal6.τ).loc Cert.ReferenceIdeal6.main_arg0)
          ∧ r.2.mem ((c.tc : Thread Cert.ReferenceIdeal6.nD Cert.ReferenceIdeal6.τ).loc Cert.ReferenceIdeal6.main_arg1) = m' ((c.tc : Thread Cert.ReferenceIdeal6.nD Cert.ReferenceIdeal6.τ).loc Cert.ReferenceIdeal6.main_arg1)
          ∧ r.2.mem ((c.tc : Thread Cert.ReferenceIdeal6.nD Cert.ReferenceIdeal6.τ).loc Cert.ReferenceIdeal6.main_arg2) = m' ((c.tc : Thread Cert.ReferenceIdeal6.nD Cert.ReferenceIdeal6.τ).loc Cert.ReferenceIdeal6.main_arg2)
          ∧ r.2.mem ((c.tc : Thread Cert.ReferenceIdeal6.nD Cert.ReferenceIdeal6.τ).loc Cert.ReferenceIdeal6.main_arg3) = m' ((c.tc : Thread Cert.ReferenceIdeal6.nD Cert.ReferenceIdeal6.τ).loc Cert.ReferenceIdeal6.main_arg3)
          ∧ r.2.mem ((c.tc : Thread Cert.ReferenceIdeal6.nD Cert.ReferenceIdeal6.τ).loc Cert.ReferenceIdeal6.main_arg4) = m' ((c.tc : Thread Cert.ReferenceIdeal6.nD Cert.ReferenceIdeal6.τ).loc Cert.ReferenceIdeal6.main_arg4)
          ∧ r.2.mem ((c.tc : Thread Cert.ReferenceIdeal6.nD Cert.ReferenceIdeal6.τ).loc Cert.ReferenceIdeal6.main_arg5) = m' ((c.tc : Thread Cert.ReferenceIdeal6.nD Cert.ReferenceIdeal6.τ).loc Cert.ReferenceIdeal6.main_arg5)
          ∧ r.2.mem ((c.tc : Thread Cert.ReferenceIdeal6.nD Cert.ReferenceIdeal6.τ).loc Cert.ReferenceIdeal6.main_arg6) = m' ((c.tc : Thread Cert.ReferenceIdeal6.nD Cert.ReferenceIdeal6.τ).loc Cert.ReferenceIdeal6.main_arg6)
          ∧ r.2.mem ((c.tc : Thread Cert.ReferenceIdeal6.nD Cert.ReferenceIdeal6.τ).loc Cert.ReferenceIdeal6.main_arg7) = m' ((c.tc : Thread Cert.ReferenceIdeal6.nD Cert.ReferenceIdeal6.τ).loc Cert.ReferenceIdeal6.main_arg7)
          ∧ r.2.mem ((c.tc : Thread Cert.ReferenceIdeal6.nD Cert.ReferenceIdeal6.τ).loc Cert.ReferenceIdeal6.main_arg8) = m' ((c.tc : Thread Cert.ReferenceIdeal6.nD Cert.ReferenceIdeal6.τ).loc Cert.ReferenceIdeal6.main_arg8))

def Claim : Prop :=
  ∃ (hKernel : Cert.Kernel.Facts) (hKernel2 : Cert.Kernel2.Facts) (hKernelIdeal2 : Cert.KernelIdeal2.Facts) (hReferenceIdeal2 : Cert.ReferenceIdeal2.Facts) (hKernel3 : Cert.Kernel3.Facts) (hKernelIdeal3 : Cert.KernelIdeal3.Facts) (hReferenceIdeal3 : Cert.ReferenceIdeal3.Facts) (hKernel4 : Cert.Kernel4.Facts) (hKernelIdeal4 : Cert.KernelIdeal4.Facts) (hReferenceIdeal4 : Cert.ReferenceIdeal4.Facts) (hKernel6 : Cert.Kernel6.Facts) (hKernelIdeal6 : Cert.KernelIdeal6.Facts) (hReferenceIdeal6 : Cert.ReferenceIdeal6.Facts) (hPre_planned : Cert.Pre_planned.Facts),
    quiescent_Kernel (hKernel := hKernel)
    ∧ quiescent_Kernel2 (hKernel2 := hKernel2)
    ∧ quiescent_KernelIdeal2 (hKernelIdeal2 := hKernelIdeal2)
    ∧ quiescent_ReferenceIdeal2 (hReferenceIdeal2 := hReferenceIdeal2)
    ∧ quiescent_Kernel3 (hKernel3 := hKernel3)
    ∧ quiescent_KernelIdeal3 (hKernelIdeal3 := hKernelIdeal3)
    ∧ quiescent_ReferenceIdeal3 (hReferenceIdeal3 := hReferenceIdeal3)
    ∧ quiescent_Kernel4 (hKernel4 := hKernel4)
    ∧ quiescent_KernelIdeal4 (hKernelIdeal4 := hKernelIdeal4)
    ∧ quiescent_ReferenceIdeal4 (hReferenceIdeal4 := hReferenceIdeal4)
    ∧ quiescent_Kernel6 (hKernel6 := hKernel6) (hPre_planned := hPre_planned)
    ∧ quiescent_KernelIdeal6 (hKernelIdeal6 := hKernelIdeal6) (hPre_planned := hPre_planned)
    ∧ quiescent_ReferenceIdeal6 (hReferenceIdeal6 := hReferenceIdeal6) (hPre_planned := hPre_planned)
    ∧ preserves_Kernel2_KernelIdeal2
    ∧ algebraic_KernelIdeal2_ReferenceIdeal2 (hKernelIdeal2 := hKernelIdeal2) (hReferenceIdeal2 := hReferenceIdeal2)
    ∧ preserves_Kernel3_KernelIdeal3
    ∧ algebraic_KernelIdeal3_ReferenceIdeal3 (hKernelIdeal3 := hKernelIdeal3) (hReferenceIdeal3 := hReferenceIdeal3)
    ∧ preserves_Kernel4_KernelIdeal4
    ∧ algebraic_KernelIdeal4_ReferenceIdeal4 (hKernelIdeal4 := hKernelIdeal4) (hReferenceIdeal4 := hReferenceIdeal4)
    ∧ preserves_Kernel6_KernelIdeal6
    ∧ algebraic_KernelIdeal6_ReferenceIdeal6 (hKernelIdeal6 := hKernelIdeal6) (hReferenceIdeal6 := hReferenceIdeal6) (hPre_planned := hPre_planned)
-- ==== Pre_planned.lean ====
abbrev S288 : Shape := ⟨1, ![288]⟩
abbrev S65536x1024 : Shape := ⟨2, ![65536, 1024]⟩
abbrev S32x1024x512 : Shape := ⟨3, ![32, 1024, 512]⟩
abbrev S32x512x1024 : Shape := ⟨3, ![32, 512, 1024]⟩
abbrev S_ : Shape := ⟨0, ![]⟩
abbrev S1 : Shape := ⟨1, ![1]⟩
abbrev S287 : Shape := ⟨1, ![287]⟩

class Facts : Prop where
  bcast_S_S1 : S_.BroadcastsInDim S1 (![] : Fin 0 → Fin S1.rank)
  slices_S288_S287_0 : S288.Slices ![0] S287
  concatenates_S1_S287_S288_d0 : Shape.Concatenates [S1, S287] S288 0
  bcast_S_S288 : S_.BroadcastsInDim S288 (![] : Fin 0 → Fin S288.rank)
  slices_S288_S1_287 : S288.Slices ![287] S1

variable [Facts]

def fn_part1 {F : FTy → Type} [FloatOps F] (main_arg0 : IVec S288 32) (main_arg3 : IVec S288 32) (main_arg4 : IVec S288 32) (main_v2 : IVec S288 32) (main_v16 : IVec S288 1) (main_c_5 : IVec S_ 32) : IVec S288 1 × IVec S288 1 × IVec S1 1 :=
  let main_v17 : IVec S288 32 := broadcastInDim S288 ![] bcast_S_S288 main_c_5
  let main_v18 : IVec S288 1 := cmpi .sle main_arg3 main_v17
  let main_v19 : IVec S288 1 := andi main_v16 main_v18
  let main_v20 : IVec S288 1 := cmpi .eq main_arg0 main_v2
  let main_c_6 : IVec S_ 32 := constantI S_ 32 0#32
  let main_v21 : IVec S288 32 := broadcastInDim S288 ![] bcast_S_S288 main_c_6
  let main_v22 : IVec S288 1 := cmpi .eq main_arg4 main_v21
  let main_v23 : IVec S288 1 := andi main_v20 main_v22
  let main_c_7 : IVec S_ 32 := constantI S_ 32 1#32
  let main_v24 : IVec S288 32 := broadcastInDim S288 ![] bcast_S_S288 main_c_7
  let main_v25 : IVec S288 32 := addi main_v2 main_v24
  let main_v26 : IVec S288 1 := cmpi .eq main_arg0 main_v25
  let main_c_8 : IVec S_ 32 := constantI S_ 32 1#32
  let main_v27 : IVec S288 32 := broadcastInDim S288 ![] bcast_S_S288 main_c_8
  let main_v28 : IVec S288 1 := cmpi .eq main_arg4 main_v27
  let main_v29 : IVec S288 1 := andi main_v26 main_v28
  let main_v30 : IVec S288 1 := ori main_v23 main_v29
  let main_v31 : IVec S1 32 := (extractStridedSlice S1 ![287] · slices_S288_S1_287) main_arg0
  let main_c_9 : IVec S_ 32 := constantI S_ 32 255#32
  let main_v32 : IVec S1 32 := broadcastInDim S1 ![] bcast_S_S1 main_c_9
  let main_v33 : IVec S1 1 := cmpi .eq main_v31 main_v32
  (main_v19, main_v30, main_v33)

def fn {F : FTy → Type} [FloatOps F] (main_arg0 : IVec S288 32) (main_arg1 : IVec S288 32) (main_arg2 : IVec S288 32) (main_arg3 : IVec S288 32) (main_arg4 : IVec S288 32) (main_arg5 : FVec F S65536x1024 .f32) (main_arg6 : FVec F S32x1024x512 .bf16) (main_arg7 : FVec F S32x1024x512 .bf16) (main_arg8 : FVec F S32x512x1024 .bf16) : IVec S288 1 × IVec S288 1 × IVec S1 1 :=
  let main_c : IVec S_ 32 := constantI S_ 32 4294967295#32
  let main_v0 : IVec S1 32 := broadcastInDim S1 ![] bcast_S_S1 main_c
  let main_v1 : IVec S287 32 := (extractStridedSlice S287 ![0] · slices_S288_S287_0) main_arg0
  let main_v2 : IVec S288 32 := (fun a b => concatenate S288 0 [⟨S1, a⟩, ⟨S287, b⟩] concatenates_S1_S287_S288_d0) main_v0 main_v1
  let main_c_0 : IVec S_ 32 := constantI S_ 32 0#32
  let main_v3 : IVec S288 32 := broadcastInDim S288 ![] bcast_S_S288 main_c_0
  let main_v4 : IVec S288 1 := cmpi .sge main_arg0 main_v3
  let main_c_1 : IVec S_ 32 := constantI S_ 32 256#32
  let main_v5 : IVec S288 32 := broadcastInDim S288 ![] bcast_S_S288 main_c_1
  let main_v6 : IVec S288 1 := cmpi .slt main_arg0 main_v5
  let main_v7 : IVec S288 1 := andi main_v4 main_v6
  let main_c_2 : IVec S_ 32 := constantI S_ 32 0#32
  let main_v8 : IVec S288 32 := broadcastInDim S288 ![] bcast_S_S288 main_c_2
  let main_v9 : IVec S288 1 := cmpi .sge main_arg1 main_v8
  let main_v10 : IVec S288 1 := andi main_v7 main_v9
  let main_c_3 : IVec S_ 32 := constantI S_ 32 32#32
  let main_v11 : IVec S288 32 := broadcastInDim S288 ![] bcast_S_S288 main_c_3
  let main_v12 : IVec S288 1 := cmpi .slt main_arg1 main_v11
  let main_v13 : IVec S288 1 := andi main_v10 main_v12
  let main_c_4 : IVec S_ 32 := constantI S_ 32 0#32
  let main_v14 : IVec S288 32 := broadcastInDim S288 ![] bcast_S_S288 main_c_4
  let main_v15 : IVec S288 1 := cmpi .sge main_arg2 main_v14
  let main_v16 : IVec S288 1 := andi main_v13 main_v15
  let main_c_5 : IVec S_ 32 := constantI S_ 32 256#32
  fn_part1 (F := F) main_arg0 main_arg3 main_arg4 main_v2 main_v16 main_c_5
-- ==== Kernel.lean ====
abbrev S512x32768 : Shape := ⟨2, ![512, 32768]⟩
abbrev S8x32768 : Shape := ⟨2, ![8, 32768]⟩
abbrev S32768x64 : Shape := ⟨2, ![32768, 64]⟩
abbrev S544 : Shape := ⟨1, ![544]⟩
abbrev S2x16384x16384 : Shape := ⟨3, ![2, 16384, 16384]⟩
abbrev S512x256 : Shape := ⟨2, ![512, 256]⟩
abbrev S1 : Shape := ⟨1, ![1]⟩
abbrev S8x256 : Shape := ⟨2, ![8, 256]⟩
abbrev S1024x64 : Shape := ⟨2, ![1024, 64]⟩
abbrev S1x16384x256 : Shape := ⟨3, ![1, 16384, 256]⟩
abbrev S16384x256 : Shape := ⟨2, ![16384, 256]⟩
abbrev S256x256 : Shape := ⟨2, ![256, 256]⟩
abbrev S128x256 : Shape := ⟨2, ![128, 256]⟩
abbrev S128x64 : Shape := ⟨2, ![128, 64]⟩
abbrev S64x256 : Shape := ⟨2, ![64, 256]⟩
abbrev S1x256 : Shape := ⟨2, ![1, 256]⟩
abbrev S256 : Shape := ⟨1, ![256]⟩
abbrev S32x256 : Shape := ⟨2, ![32, 256]⟩
abbrev S1024x256 : Shape := ⟨2, ![1024, 256]⟩
abbrev S1x1x256 : Shape := ⟨3, ![1, 1, 256]⟩
abbrev S1x1x1 : Shape := ⟨3, ![1, 1, 1]⟩
abbrev S1x1024x256 : Shape := ⟨3, ![1, 1024, 256]⟩

abbrev nBuf : Space → Nat
  | .hbm => 4
  | .vmem => 11
  | .smem => 2
  | _ => 0

abbrev bufTy : (tb : Table) → Fin (tcTables nBuf tb) → BufTy
  | .hbm, ⟨0, _⟩ => ⟨S512x32768, .bf16⟩
  | .hbm, ⟨1, _⟩ => ⟨S8x32768, .f32⟩
  | .hbm, ⟨2, _⟩ => ⟨S32768x64, .bf16⟩
  | .hbm, ⟨3, _⟩ => ⟨S2x16384x16384, .i8⟩
  | .local _ .vmem, ⟨0, _⟩ => ⟨S512x256, .bf16⟩
  | .local _ .vmem, ⟨1, _⟩ => ⟨S512x256, .bf16⟩
  | .local _ .vmem, ⟨2, _⟩ => ⟨S8x256, .f32⟩
  | .local _ .vmem, ⟨3, _⟩ => ⟨S8x256, .f32⟩
  | .local _ .vmem, ⟨4, _⟩ => ⟨S1024x64, .bf16⟩
  | .local _ .vmem, ⟨5, _⟩ => ⟨S1024x64, .bf16⟩
  | .local _ .vmem, ⟨6, _⟩ => ⟨S1x16384x256, .i8⟩
  | .local _ .vmem, ⟨7, _⟩ => ⟨S1x16384x256, .i8⟩
  | .local _ .vmem, ⟨8, _⟩ => ⟨S16384x256, .i16⟩
  | .local _ .vmem, ⟨9, _⟩ => ⟨S16384x256, .i16⟩
  | .local _ .vmem, ⟨10, _⟩ => ⟨S256x256, .i32⟩
  | .local _ .smem, ⟨0, _⟩ => ⟨S544, .i32⟩
  | .local _ .smem, ⟨1, _⟩ => ⟨S544, .i32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![2, 544], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_mult1 (v3 : BitVec 32) : BitVec 32 :=
  let c1024_i32_47 : BitVec 32 := 1024#32
  let v116 : BitVec 32 := Scalar.muli v3 c1024_i32_47
  let c0_i32_48 : BitVec 32 := 0#32
  let v117 : BitVec 32 := Scalar.addi v116 c0_i32_48
  v117

def k0_off2 (v3 : BitVec 32) (c0_i32_48 : BitVec 32) : Fin 2 → Nat :=
  let c1024_i32_47 : BitVec 32 := 1024#32
  let v116 : BitVec 32 := Scalar.muli v3 c1024_i32_47
  let v117 : BitVec 32 := Scalar.addi v116 c0_i32_48
  let v118 : BitVec 32 := v117
  let v122 : Index := Scalar.indexCast v118
  let c0_49 : Index := 0#32
  ![v122.toNat, 0]
def k0_mult2 (v3 : BitVec 32) : BitVec 32 :=
  let c1024_i32_111 : BitVec 32 := 1024#32
  let v223 : BitVec 32 := Scalar.muli v3 c1024_i32_111
  let c128_i32_112 : BitVec 32 := 128#32
  let v224 : BitVec 32 := Scalar.addi v223 c128_i32_112
  v224
def k0_mult3 (v3 : BitVec 32) : BitVec 32 :=
  let c1024_i32_179 : BitVec 32 := 1024#32
  let v330 : BitVec 32 := Scalar.muli v3 c1024_i32_179
  let c256_i32_180 : BitVec 32 := 256#32
  let v331 : BitVec 32 := Scalar.addi v330 c256_i32_180
  v331
def k0_mult4 (v3 : BitVec 32) : BitVec 32 :=
  let c1024_i32_246 : BitVec 32 := 1024#32
  let v437 : BitVec 32 := Scalar.muli v3 c1024_i32_246
  let c384_i32_247 : BitVec 32 := 384#32
  let v438 : BitVec 32 := Scalar.addi v437 c384_i32_247
  v438
def k0_mult5 (v3 : BitVec 32) : BitVec 32 :=
  let c1024_i32_312 : BitVec 32 := 1024#32
  let v544 : BitVec 32 := Scalar.muli v3 c1024_i32_312
  let c512_i32_313 : BitVec 32 := 512#32
  let v545 : BitVec 32 := Scalar.addi v544 c512_i32_313
  v545
def k0_mult6 (v3 : BitVec 32) : BitVec 32 :=
  let c1024_i32_378 : BitVec 32 := 1024#32
  let v651 : BitVec 32 := Scalar.muli v3 c1024_i32_378
  let c640_i32_379 : BitVec 32 := 640#32
  let v652 : BitVec 32 := Scalar.addi v651 c640_i32_379
  v652
def k0_mult7 (v3 : BitVec 32) : BitVec 32 :=
  let c1024_i32_444 : BitVec 32 := 1024#32
  let v758 : BitVec 32 := Scalar.muli v3 c1024_i32_444
  let c768_i32_445 : BitVec 32 := 768#32
  let v759 : BitVec 32 := Scalar.addi v758 c768_i32_445
  v759
def k0_mult8 (v3 : BitVec 32) : BitVec 32 :=
  let c1024_i32_510 : BitVec 32 := 1024#32
  let v865 : BitVec 32 := Scalar.muli v3 c1024_i32_510
  let c896_i32_511 : BitVec 32 := 896#32
  let v866 : BitVec 32 := Scalar.addi v865 c896_i32_511
  v866
@[reducible] def k0_t1_loop (v1 : BitVec 32) : Scf.Loop 32 :=
  let c0_i32_532 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v909 : BitVec 32 := Scalar.subi v892 c0_i32_532
  let c1_i32_533 : BitVec 32 := 1#32
  let v911 : BitVec 32 := Scalar.divsi v909 c1_i32_533
  let v912 : BitVec 32 := Scalar.muli v911 c1_i32_533
  let v913 : BitVec 32 := Scalar.addi c0_i32_532 v912
  let c1_i32_534 : BitVec 32 := 1#32
  ⟨c0_i32_532, v913, c1_i32_534⟩
def k0_cond2 (v1 : BitVec 32) (v3 : BitVec 32) : BitVec 1 :=
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let v889 : BitVec 1 := Scalar.cmpi .eq v3 v23
  let v890 : BitVec 32 := Scalar.extui v889
  let c0_i32_521 : BitVec 32 := 0#32
  let v891 : BitVec 1 := Scalar.cmpi .ne v890 c0_i32_521
  v891

def k0_mult9 (v1 : BitVec 32) (k0_t1 : Fin (k0_t1_loop v1).trips) : BitVec 32 :=
  let c0_i32_532 : BitVec 32 := 0#32
  let c1_i32_534 : BitVec 32 := 1#32
  let arg11 : BitVec 32 := Scf.iv c0_i32_532 c1_i32_534 k0_t1
  let c1024_i32_583 : BitVec 32 := 1024#32
  let v1001 : BitVec 32 := Scalar.muli arg11 c1024_i32_583
  v1001
def k0_off3 (v1 : BitVec 32) (k0_t1 : Fin (k0_t1_loop v1).trips) : Fin 2 → Nat :=
  let c0_i32_532 : BitVec 32 := 0#32
  let c1_i32_534 : BitVec 32 := 1#32
  let arg11 : BitVec 32 := Scf.iv c0_i32_532 c1_i32_534 k0_t1
  let c1024_i32_583 : BitVec 32 := 1024#32
  let v1001 : BitVec 32 := Scalar.muli arg11 c1024_i32_583
  let v1002 : BitVec 32 := v1001
  let v1003 : Index := Scalar.indexCast v1002
  let c0_584 : Index := 0#32
  ![v1003.toNat, 0]
@[reducible] def k0_t2_loop (v1 : BitVec 32) : Scf.Loop 32 :=
  let c0_i32_532 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v909 : BitVec 32 := Scalar.subi v892 c0_i32_532
  let c1_i32_533 : BitVec 32 := 1#32
  let v911 : BitVec 32 := Scalar.divsi v909 c1_i32_533
  let v912 : BitVec 32 := Scalar.muli v911 c1_i32_533
  let v913 : BitVec 32 := Scalar.addi c0_i32_532 v912
  let v910 : BitVec 32 := Scalar.addi c0_i32_532 v909
  let c1_i32_535 : BitVec 32 := 1#32
  ⟨v913, v910, c1_i32_535⟩
def k0_mult10 (v1 : BitVec 32) (k0_t2 : Fin (k0_t2_loop v1).trips) : BitVec 32 :=
  let c0_i32_532 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v909 : BitVec 32 := Scalar.subi v892 c0_i32_532
  let c1_i32_533 : BitVec 32 := 1#32
  let v911 : BitVec 32 := Scalar.divsi v909 c1_i32_533
  let v912 : BitVec 32 := Scalar.muli v911 c1_i32_533
  let v913 : BitVec 32 := Scalar.addi c0_i32_532 v912
  let c1_i32_535 : BitVec 32 := 1#32
  let arg11 : BitVec 32 := Scf.iv v913 c1_i32_535 k0_t2
  let c1024_i32_583 : BitVec 32 := 1024#32
  let v1001 : BitVec 32 := Scalar.muli arg11 c1024_i32_583
  v1001
def k0_off4 (v1 : BitVec 32) (k0_t2 : Fin (k0_t2_loop v1).trips) : Fin 2 → Nat :=
  let c0_i32_532 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v909 : BitVec 32 := Scalar.subi v892 c0_i32_532
  let c1_i32_533 : BitVec 32 := 1#32
  let v911 : BitVec 32 := Scalar.divsi v909 c1_i32_533
  let v912 : BitVec 32 := Scalar.muli v911 c1_i32_533
  let v913 : BitVec 32 := Scalar.addi c0_i32_532 v912
  let c1_i32_535 : BitVec 32 := 1#32
  let arg11 : BitVec 32 := Scf.iv v913 c1_i32_535 k0_t2
  let c1024_i32_583 : BitVec 32 := 1024#32
  let v1001 : BitVec 32 := Scalar.muli arg11 c1024_i32_583
  let v1002 : BitVec 32 := v1001
  let v1003 : Index := Scalar.indexCast v1002
  let c0_584 : Index := 0#32
  ![v1003.toNat, 0]
@[reducible] def k0_t3_loop (v942 : BitVec 32) : Scf.Loop 32 :=
  let c0_i32_549 : BitVec 32 := 0#32
  let c16_i32_546 : BitVec 32 := 16#32
  let v943 : BitVec 32 := Scalar.minsi v942 c16_i32_546
  let v944 : BitVec 32 := Scalar.subi v943 c0_i32_549
  let c1_i32_550 : BitVec 32 := 1#32
  let v946 : BitVec 32 := Scalar.divsi v944 c1_i32_550
  let v947 : BitVec 32 := Scalar.muli v946 c1_i32_550
  let v948 : BitVec 32 := Scalar.addi c0_i32_549 v947
  let c1_i32_551 : BitVec 32 := 1#32
  ⟨c0_i32_549, v948, c1_i32_551⟩

@[reducible] def k0_t4_loop (v1 : BitVec 32) : Scf.Loop 32 :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let c1_i32_593 : BitVec 32 := 1#32
  ⟨c0_i32_591, v1022, c1_i32_593⟩
def k0_mult11 (v1 : BitVec 32) (k0_t4 : Fin (k0_t4_loop v1).trips) : BitVec 32 :=
  let c0_i32_591 : BitVec 32 := 0#32
  let c1_i32_593 : BitVec 32 := 1#32
  let arg16 : BitVec 32 := Scf.iv c0_i32_591 c1_i32_593 k0_t4
  let c1024_i32_598 : BitVec 32 := 1024#32
  let v1038 : BitVec 32 := Scalar.muli arg16 c1024_i32_598
  v1038
def k0_off5 (v1 : BitVec 32) (k0_t4 : Fin (k0_t4_loop v1).trips) : Fin 2 → Nat :=
  let c0_i32_591 : BitVec 32 := 0#32
  let c1_i32_593 : BitVec 32 := 1#32
  let arg16 : BitVec 32 := Scf.iv c0_i32_591 c1_i32_593 k0_t4
  let c1024_i32_598 : BitVec 32 := 1024#32
  let v1038 : BitVec 32 := Scalar.muli arg16 c1024_i32_598
  let v1039 : BitVec 32 := v1038
  let v1040 : Index := Scalar.indexCast v1039
  let c0_599 : Index := 0#32
  ![v1040.toNat, 0]
@[reducible] def k0_t5_loop (v1 : BitVec 32) : Scf.Loop 32 :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let v1019 : BitVec 32 := Scalar.addi c0_i32_591 v1018
  let c1_i32_594 : BitVec 32 := 1#32
  ⟨v1022, v1019, c1_i32_594⟩
def k0_mult12 (v1 : BitVec 32) (k0_t5 : Fin (k0_t5_loop v1).trips) : BitVec 32 :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let c1_i32_594 : BitVec 32 := 1#32
  let arg16 : BitVec 32 := Scf.iv v1022 c1_i32_594 k0_t5
  let c1024_i32_598 : BitVec 32 := 1024#32
  let v1038 : BitVec 32 := Scalar.muli arg16 c1024_i32_598
  v1038
def k0_off6 (v1 : BitVec 32) (k0_t5 : Fin (k0_t5_loop v1).trips) : Fin 2 → Nat :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let c1_i32_594 : BitVec 32 := 1#32
  let arg16 : BitVec 32 := Scf.iv v1022 c1_i32_594 k0_t5
  let c1024_i32_598 : BitVec 32 := 1024#32
  let v1038 : BitVec 32 := Scalar.muli arg16 c1024_i32_598
  let v1039 : BitVec 32 := v1038
  let v1040 : Index := Scalar.indexCast v1039
  let c0_599 : Index := 0#32
  ![v1040.toNat, 0]
@[reducible] def k0_t6_loop (v942 : BitVec 32) : Scf.Loop 32 :=
  let c0_i32_549 : BitVec 32 := 0#32
  let c16_i32_546 : BitVec 32 := 16#32
  let v943 : BitVec 32 := Scalar.minsi v942 c16_i32_546
  let v944 : BitVec 32 := Scalar.subi v943 c0_i32_549
  let c1_i32_550 : BitVec 32 := 1#32
  let v946 : BitVec 32 := Scalar.divsi v944 c1_i32_550
  let v947 : BitVec 32 := Scalar.muli v946 c1_i32_550
  let v948 : BitVec 32 := Scalar.addi c0_i32_549 v947
  let v945 : BitVec 32 := Scalar.addi c0_i32_549 v944
  let c1_i32_552 : BitVec 32 := 1#32
  ⟨v948, v945, c1_i32_552⟩
@[reducible] def k0_t7_loop (v1 : BitVec 32) : Scf.Loop 32 :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let c1_i32_593 : BitVec 32 := 1#32
  ⟨c0_i32_591, v1022, c1_i32_593⟩
def k0_mult13 (v1 : BitVec 32) (k0_t7 : Fin (k0_t7_loop v1).trips) : BitVec 32 :=
  let c0_i32_591 : BitVec 32 := 0#32
  let c1_i32_593 : BitVec 32 := 1#32
  let arg16 : BitVec 32 := Scf.iv c0_i32_591 c1_i32_593 k0_t7
  let c1024_i32_598 : BitVec 32 := 1024#32
  let v1038 : BitVec 32 := Scalar.muli arg16 c1024_i32_598
  v1038
def k0_off7 (v1 : BitVec 32) (k0_t7 : Fin (k0_t7_loop v1).trips) : Fin 2 → Nat :=
  let c0_i32_591 : BitVec 32 := 0#32
  let c1_i32_593 : BitVec 32 := 1#32
  let arg16 : BitVec 32 := Scf.iv c0_i32_591 c1_i32_593 k0_t7
  let c1024_i32_598 : BitVec 32 := 1024#32
  let v1038 : BitVec 32 := Scalar.muli arg16 c1024_i32_598
  let v1039 : BitVec 32 := v1038
  let v1040 : Index := Scalar.indexCast v1039
  let c0_599 : Index := 0#32
  ![v1040.toNat, 0]
@[reducible] def k0_t8_loop (v1 : BitVec 32) : Scf.Loop 32 :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let v1019 : BitVec 32 := Scalar.addi c0_i32_591 v1018
  let c1_i32_594 : BitVec 32 := 1#32
  ⟨v1022, v1019, c1_i32_594⟩
def k0_mult14 (v1 : BitVec 32) (k0_t8 : Fin (k0_t8_loop v1).trips) : BitVec 32 :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let c1_i32_594 : BitVec 32 := 1#32
  let arg16 : BitVec 32 := Scf.iv v1022 c1_i32_594 k0_t8
  let c1024_i32_598 : BitVec 32 := 1024#32
  let v1038 : BitVec 32 := Scalar.muli arg16 c1024_i32_598
  v1038
def k0_off8 (v1 : BitVec 32) (k0_t8 : Fin (k0_t8_loop v1).trips) : Fin 2 → Nat :=
  let c0_i32_591 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1018 : BitVec 32 := Scalar.subi v892 c0_i32_591
  let c1_i32_592 : BitVec 32 := 1#32
  let v1020 : BitVec 32 := Scalar.divsi v1018 c1_i32_592
  let v1021 : BitVec 32 := Scalar.muli v1020 c1_i32_592
  let v1022 : BitVec 32 := Scalar.addi c0_i32_591 v1021
  let c1_i32_594 : BitVec 32 := 1#32
  let arg16 : BitVec 32 := Scf.iv v1022 c1_i32_594 k0_t8
  let c1024_i32_598 : BitVec 32 := 1024#32
  let v1038 : BitVec 32 := Scalar.muli arg16 c1024_i32_598
  let v1039 : BitVec 32 := v1038
  let v1040 : Index := Scalar.indexCast v1039
  let c0_599 : Index := 0#32
  ![v1040.toNat, 0]

def k0_chk2 (v1 : BitVec 32) (v3 : BitVec 32) (v942 : BitVec 32) : Prop :=
  (∀ (k0_h2 : k0_cond2 v1 v3 = 1#1), (k0_t3_loop v942).OK) ∧
  (∀ k0_t3 : Fin (k0_t3_loop v942).trips, ∀ (k0_h2 : k0_cond2 v1 v3 = 1#1), (k0_t4_loop v1).OK) ∧
  (∀ (k0_t3 : Fin (k0_t3_loop v942).trips) (k0_t4 : Fin (k0_t4_loop v1).trips), ∀ (k0_h2 : k0_cond2 v1 v3 = 1#1), 1024 ∣ (k0_mult11 v1 k0_t4).toNat) ∧
  (∀ (k0_t3 : Fin (k0_t3_loop v942).trips) (k0_t4 : Fin (k0_t4_loop v1).trips), ∀ (k0_h2 : k0_cond2 v1 v3 = 1#1), ∀ a, (k0_off5 v1 k0_t4) a + S1024x256.size a ≤ S16384x256.size a) ∧
  (∀ k0_t3 : Fin (k0_t3_loop v942).trips, ∀ (k0_h2 : k0_cond2 v1 v3 = 1#1), (k0_t5_loop v1).OK) ∧
  (∀ (k0_t3 : Fin (k0_t3_loop v942).trips) (k0_t5 : Fin (k0_t5_loop v1).trips), ∀ (k0_h2 : k0_cond2 v1 v3 = 1#1), 1024 ∣ (k0_mult12 v1 k0_t5).toNat) ∧
  (∀ (k0_t3 : Fin (k0_t3_loop v942).trips) (k0_t5 : Fin (k0_t5_loop v1).trips), ∀ (k0_h2 : k0_cond2 v1 v3 = 1#1), ∀ a, (k0_off6 v1 k0_t5) a + S1024x256.size a ≤ S16384x256.size a) ∧
  (∀ (k0_h2 : k0_cond2 v1 v3 = 1#1), (k0_t6_loop v942).OK) ∧
  (∀ k0_t6 : Fin (k0_t6_loop v942).trips, ∀ (k0_h2 : k0_cond2 v1 v3 = 1#1), (k0_t7_loop v1).OK) ∧
  (∀ (k0_t6 : Fin (k0_t6_loop v942).trips) (k0_t7 : Fin (k0_t7_loop v1).trips), ∀ (k0_h2 : k0_cond2 v1 v3 = 1#1), 1024 ∣ (k0_mult13 v1 k0_t7).toNat) ∧
  (∀ (k0_t6 : Fin (k0_t6_loop v942).trips) (k0_t7 : Fin (k0_t7_loop v1).trips), ∀ (k0_h2 : k0_cond2 v1 v3 = 1#1), ∀ a, (k0_off7 v1 k0_t7) a + S1024x256.size a ≤ S16384x256.size a) ∧
  (∀ k0_t6 : Fin (k0_t6_loop v942).trips, ∀ (k0_h2 : k0_cond2 v1 v3 = 1#1), (k0_t8_loop v1).OK) ∧
  (∀ (k0_t6 : Fin (k0_t6_loop v942).trips) (k0_t8 : Fin (k0_t8_loop v1).trips), ∀ (k0_h2 : k0_cond2 v1 v3 = 1#1), 1024 ∣ (k0_mult14 v1 k0_t8).toNat) ∧
  (∀ (k0_t6 : Fin (k0_t6_loop v942).trips) (k0_t8 : Fin (k0_t8_loop v1).trips), ∀ (k0_h2 : k0_cond2 v1 v3 = 1#1), ∀ a, (k0_off8 v1 k0_t8) a + S1024x256.size a ≤ S16384x256.size a)
theorem k0_t3_ok : ∀ (v1 : BitVec 32) (v3 : BitVec 32) (v942 : BitVec 32) (k0_hw2 : k0_chk2 v1 v3 v942), ∀ (k0_h2 : k0_cond2 v1 v3 = 1#1), (k0_t3_loop v942).OK := fun v1 v3 v942 k0_hw2 k0_h2 => k0_hw2.1 k0_h2
theorem k0_t4_ok : ∀ (v1 : BitVec 32) (v3 : BitVec 32) (v942 : BitVec 32) (k0_hw2 : k0_chk2 v1 v3 v942) (k0_t3 : Fin (k0_t3_loop v942).trips), ∀ (k0_h2 : k0_cond2 v1 v3 = 1#1), (k0_t4_loop v1).OK := fun v1 v3 v942 k0_hw2 k0_t3 k0_h2 => k0_hw2.2.1 k0_t3 k0_h2
theorem k0_mult11_dvd : ∀ (v1 : BitVec 32) (v3 : BitVec 32) (v942 : BitVec 32) (k0_hw2 : k0_chk2 v1 v3 v942) (k0_t3 : Fin (k0_t3_loop v942).trips) (k0_t4 : Fin (k0_t4_loop v1).trips), ∀ (k0_h2 : k0_cond2 v1 v3 = 1#1), 1024 ∣ (k0_mult11 v1 k0_t4).toNat := fun v1 v3 v942 k0_hw2 k0_t3 k0_t4 k0_h2 => k0_hw2.2.2.1 k0_t3 k0_t4 k0_h2
theorem k0_off5_inb : ∀ (v1 : BitVec 32) (v3 : BitVec 32) (v942 : BitVec 32) (k0_hw2 : k0_chk2 v1 v3 v942) (k0_t3 : Fin (k0_t3_loop v942).trips) (k0_t4 : Fin (k0_t4_loop v1).trips), ∀ (k0_h2 : k0_cond2 v1 v3 = 1#1), ∀ a, (k0_off5 v1 k0_t4) a + S1024x256.size a ≤ S16384x256.size a := fun v1 v3 v942 k0_hw2 k0_t3 k0_t4 k0_h2 => k0_hw2.2.2.2.1 k0_t3 k0_t4 k0_h2
theorem k0_t5_ok : ∀ (v1 : BitVec 32) (v3 : BitVec 32) (v942 : BitVec 32) (k0_hw2 : k0_chk2 v1 v3 v942) (k0_t3 : Fin (k0_t3_loop v942).trips), ∀ (k0_h2 : k0_cond2 v1 v3 = 1#1), (k0_t5_loop v1).OK := fun v1 v3 v942 k0_hw2 k0_t3 k0_h2 => k0_hw2.2.2.2.2.1 k0_t3 k0_h2
theorem k0_mult12_dvd : ∀ (v1 : BitVec 32) (v3 : BitVec 32) (v942 : BitVec 32) (k0_hw2 : k0_chk2 v1 v3 v942) (k0_t3 : Fin (k0_t3_loop v942).trips) (k0_t5 : Fin (k0_t5_loop v1).trips), ∀ (k0_h2 : k0_cond2 v1 v3 = 1#1), 1024 ∣ (k0_mult12 v1 k0_t5).toNat := fun v1 v3 v942 k0_hw2 k0_t3 k0_t5 k0_h2 => k0_hw2.2.2.2.2.2.1 k0_t3 k0_t5 k0_h2
theorem k0_off6_inb : ∀ (v1 : BitVec 32) (v3 : BitVec 32) (v942 : BitVec 32) (k0_hw2 : k0_chk2 v1 v3 v942) (k0_t3 : Fin (k0_t3_loop v942).trips) (k0_t5 : Fin (k0_t5_loop v1).trips), ∀ (k0_h2 : k0_cond2 v1 v3 = 1#1), ∀ a, (k0_off6 v1 k0_t5) a + S1024x256.size a ≤ S16384x256.size a := fun v1 v3 v942 k0_hw2 k0_t3 k0_t5 k0_h2 => k0_hw2.2.2.2.2.2.2.1 k0_t3 k0_t5 k0_h2
theorem k0_t6_ok : ∀ (v1 : BitVec 32) (v3 : BitVec 32) (v942 : BitVec 32) (k0_hw2 : k0_chk2 v1 v3 v942), ∀ (k0_h2 : k0_cond2 v1 v3 = 1#1), (k0_t6_loop v942).OK := fun v1 v3 v942 k0_hw2 k0_h2 => k0_hw2.2.2.2.2.2.2.2.1 k0_h2
theorem k0_t7_ok : ∀ (v1 : BitVec 32) (v3 : BitVec 32) (v942 : BitVec 32) (k0_hw2 : k0_chk2 v1 v3 v942) (k0_t6 : Fin (k0_t6_loop v942).trips), ∀ (k0_h2 : k0_cond2 v1 v3 = 1#1), (k0_t7_loop v1).OK := fun v1 v3 v942 k0_hw2 k0_t6 k0_h2 => k0_hw2.2.2.2.2.2.2.2.2.1 k0_t6 k0_h2
theorem k0_mult13_dvd : ∀ (v1 : BitVec 32) (v3 : BitVec 32) (v942 : BitVec 32) (k0_hw2 : k0_chk2 v1 v3 v942) (k0_t6 : Fin (k0_t6_loop v942).trips) (k0_t7 : Fin (k0_t7_loop v1).trips), ∀ (k0_h2 : k0_cond2 v1 v3 = 1#1), 1024 ∣ (k0_mult13 v1 k0_t7).toNat := fun v1 v3 v942 k0_hw2 k0_t6 k0_t7 k0_h2 => k0_hw2.2.2.2.2.2.2.2.2.2.1 k0_t6 k0_t7 k0_h2
theorem k0_off7_inb : ∀ (v1 : BitVec 32) (v3 : BitVec 32) (v942 : BitVec 32) (k0_hw2 : k0_chk2 v1 v3 v942) (k0_t6 : Fin (k0_t6_loop v942).trips) (k0_t7 : Fin (k0_t7_loop v1).trips), ∀ (k0_h2 : k0_cond2 v1 v3 = 1#1), ∀ a, (k0_off7 v1 k0_t7) a + S1024x256.size a ≤ S16384x256.size a := fun v1 v3 v942 k0_hw2 k0_t6 k0_t7 k0_h2 => k0_hw2.2.2.2.2.2.2.2.2.2.2.1 k0_t6 k0_t7 k0_h2
theorem k0_t8_ok : ∀ (v1 : BitVec 32) (v3 : BitVec 32) (v942 : BitVec 32) (k0_hw2 : k0_chk2 v1 v3 v942) (k0_t6 : Fin (k0_t6_loop v942).trips), ∀ (k0_h2 : k0_cond2 v1 v3 = 1#1), (k0_t8_loop v1).OK := fun v1 v3 v942 k0_hw2 k0_t6 k0_h2 => k0_hw2.2.2.2.2.2.2.2.2.2.2.2.1 k0_t6 k0_h2
theorem k0_mult14_dvd : ∀ (v1 : BitVec 32) (v3 : BitVec 32) (v942 : BitVec 32) (k0_hw2 : k0_chk2 v1 v3 v942) (k0_t6 : Fin (k0_t6_loop v942).trips) (k0_t8 : Fin (k0_t8_loop v1).trips), ∀ (k0_h2 : k0_cond2 v1 v3 = 1#1), 1024 ∣ (k0_mult14 v1 k0_t8).toNat := fun v1 v3 v942 k0_hw2 k0_t6 k0_t8 k0_h2 => k0_hw2.2.2.2.2.2.2.2.2.2.2.2.2.1 k0_t6 k0_t8 k0_h2
theorem k0_off8_inb : ∀ (v1 : BitVec 32) (v3 : BitVec 32) (v942 : BitVec 32) (k0_hw2 : k0_chk2 v1 v3 v942) (k0_t6 : Fin (k0_t6_loop v942).trips) (k0_t8 : Fin (k0_t8_loop v1).trips), ∀ (k0_h2 : k0_cond2 v1 v3 = 1#1), ∀ a, (k0_off8 v1 k0_t8) a + S1024x256.size a ≤ S16384x256.size a := fun v1 v3 v942 k0_hw2 k0_t6 k0_t8 k0_h2 => k0_hw2.2.2.2.2.2.2.2.2.2.2.2.2.2 k0_t6 k0_t8 k0_h2

@[reducible] def k0_t9_loop (v1 : BitVec 32) : Scf.Loop 32 :=
  let c0_i32_584 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1001 : BitVec 32 := Scalar.subi v892 c0_i32_584
  let c1_i32_585 : BitVec 32 := 1#32
  let v1003 : BitVec 32 := Scalar.divsi v1001 c1_i32_585
  let v1004 : BitVec 32 := Scalar.muli v1003 c1_i32_585
  let v1005 : BitVec 32 := Scalar.addi c0_i32_584 v1004
  let c1_i32_586 : BitVec 32 := 1#32
  ⟨c0_i32_584, v1005, c1_i32_586⟩
def k0_cond3 (v960 : BitVec 32) : BitVec 1 :=
  let c0_i32_557 : BitVec 32 := 0#32
  let v961 : BitVec 1 := Scalar.cmpi .sgt v960 c0_i32_557
  let v962 : BitVec 32 := Scalar.extui v961
  let c0_i32_560 : BitVec 32 := 0#32
  let v963 : BitVec 1 := Scalar.cmpi .ne v962 c0_i32_560
  v963

def k0_mult15 (v1 : BitVec 32) (k0_t9 : Fin (k0_t9_loop v1).trips) : BitVec 32 :=
  let c0_i32_584 : BitVec 32 := 0#32
  let c1_i32_586 : BitVec 32 := 1#32
  let arg11 : BitVec 32 := Scf.iv c0_i32_584 c1_i32_586 k0_t9
  let c1024_i32_631 : BitVec 32 := 1024#32
  let v1106 : BitVec 32 := Scalar.muli arg11 c1024_i32_631
  v1106
def k0_off9 (v1 : BitVec 32) (k0_t9 : Fin (k0_t9_loop v1).trips) : Fin 2 → Nat :=
  let c0_i32_584 : BitVec 32 := 0#32
  let c1_i32_586 : BitVec 32 := 1#32
  let arg11 : BitVec 32 := Scf.iv c0_i32_584 c1_i32_586 k0_t9
  let c1024_i32_631 : BitVec 32 := 1024#32
  let v1106 : BitVec 32 := Scalar.muli arg11 c1024_i32_631
  let v1107 : BitVec 32 := v1106
  let v1108 : Index := Scalar.indexCast v1107
  let c0_632 : Index := 0#32
  ![v1108.toNat, 0]
def k0_mult16 (v1 : BitVec 32) (k0_t9 : Fin (k0_t9_loop v1).trips) : BitVec 32 :=
  let c0_i32_584 : BitVec 32 := 0#32
  let c1_i32_586 : BitVec 32 := 1#32
  let arg11 : BitVec 32 := Scf.iv c0_i32_584 c1_i32_586 k0_t9
  let c1024_i32_633 : BitVec 32 := 1024#32
  let v1112 : BitVec 32 := Scalar.muli arg11 c1024_i32_633
  v1112
def k0_mult17 (v1 : BitVec 32) (k0_t9 : Fin (k0_t9_loop v1).trips) : BitVec 32 :=
  let c0_i32_584 : BitVec 32 := 0#32
  let c1_i32_586 : BitVec 32 := 1#32
  let arg11 : BitVec 32 := Scf.iv c0_i32_584 c1_i32_586 k0_t9
  let c1024_i32_635 : BitVec 32 := 1024#32
  let v1118 : BitVec 32 := Scalar.muli arg11 c1024_i32_635
  v1118
@[reducible] def k0_t10_loop (v1 : BitVec 32) : Scf.Loop 32 :=
  let c0_i32_584 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1001 : BitVec 32 := Scalar.subi v892 c0_i32_584
  let c1_i32_585 : BitVec 32 := 1#32
  let v1003 : BitVec 32 := Scalar.divsi v1001 c1_i32_585
  let v1004 : BitVec 32 := Scalar.muli v1003 c1_i32_585
  let v1005 : BitVec 32 := Scalar.addi c0_i32_584 v1004
  let v1002 : BitVec 32 := Scalar.addi c0_i32_584 v1001
  let c1_i32_587 : BitVec 32 := 1#32
  ⟨v1005, v1002, c1_i32_587⟩
def k0_mult18 (v1 : BitVec 32) (k0_t10 : Fin (k0_t10_loop v1).trips) : BitVec 32 :=
  let c0_i32_584 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1001 : BitVec 32 := Scalar.subi v892 c0_i32_584
  let c1_i32_585 : BitVec 32 := 1#32
  let v1003 : BitVec 32 := Scalar.divsi v1001 c1_i32_585
  let v1004 : BitVec 32 := Scalar.muli v1003 c1_i32_585
  let v1005 : BitVec 32 := Scalar.addi c0_i32_584 v1004
  let c1_i32_587 : BitVec 32 := 1#32
  let arg11 : BitVec 32 := Scf.iv v1005 c1_i32_587 k0_t10
  let c1024_i32_631 : BitVec 32 := 1024#32
  let v1106 : BitVec 32 := Scalar.muli arg11 c1024_i32_631
  v1106
def k0_off10 (v1 : BitVec 32) (k0_t10 : Fin (k0_t10_loop v1).trips) : Fin 2 → Nat :=
  let c0_i32_584 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1001 : BitVec 32 := Scalar.subi v892 c0_i32_584
  let c1_i32_585 : BitVec 32 := 1#32
  let v1003 : BitVec 32 := Scalar.divsi v1001 c1_i32_585
  let v1004 : BitVec 32 := Scalar.muli v1003 c1_i32_585
  let v1005 : BitVec 32 := Scalar.addi c0_i32_584 v1004
  let c1_i32_587 : BitVec 32 := 1#32
  let arg11 : BitVec 32 := Scf.iv v1005 c1_i32_587 k0_t10
  let c1024_i32_631 : BitVec 32 := 1024#32
  let v1106 : BitVec 32 := Scalar.muli arg11 c1024_i32_631
  let v1107 : BitVec 32 := v1106
  let v1108 : Index := Scalar.indexCast v1107
  let c0_632 : Index := 0#32
  ![v1108.toNat, 0]
def k0_mult19 (v1 : BitVec 32) (k0_t10 : Fin (k0_t10_loop v1).trips) : BitVec 32 :=
  let c0_i32_584 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1001 : BitVec 32 := Scalar.subi v892 c0_i32_584
  let c1_i32_585 : BitVec 32 := 1#32
  let v1003 : BitVec 32 := Scalar.divsi v1001 c1_i32_585
  let v1004 : BitVec 32 := Scalar.muli v1003 c1_i32_585
  let v1005 : BitVec 32 := Scalar.addi c0_i32_584 v1004
  let c1_i32_587 : BitVec 32 := 1#32
  let arg11 : BitVec 32 := Scf.iv v1005 c1_i32_587 k0_t10
  let c1024_i32_633 : BitVec 32 := 1024#32
  let v1112 : BitVec 32 := Scalar.muli arg11 c1024_i32_633
  v1112
def k0_mult20 (v1 : BitVec 32) (k0_t10 : Fin (k0_t10_loop v1).trips) : BitVec 32 :=
  let c0_i32_584 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1001 : BitVec 32 := Scalar.subi v892 c0_i32_584
  let c1_i32_585 : BitVec 32 := 1#32
  let v1003 : BitVec 32 := Scalar.divsi v1001 c1_i32_585
  let v1004 : BitVec 32 := Scalar.muli v1003 c1_i32_585
  let v1005 : BitVec 32 := Scalar.addi c0_i32_584 v1004
  let c1_i32_587 : BitVec 32 := 1#32
  let arg11 : BitVec 32 := Scf.iv v1005 c1_i32_587 k0_t10
  let c1024_i32_635 : BitVec 32 := 1024#32
  let v1118 : BitVec 32 := Scalar.muli arg11 c1024_i32_635
  v1118

def k0_chk3 (v1 : BitVec 32) (v3 : BitVec 32) (v960 : BitVec 32) : Prop :=
  (∀ (k0_h2 : k0_cond2 v1 v3 = 1#1), ∀ (k0_h3 : k0_cond3 v960 = 1#1), (k0_t9_loop v1).OK) ∧
  (∀ k0_t9 : Fin (k0_t9_loop v1).trips, ∀ (k0_h2 : k0_cond2 v1 v3 = 1#1), ∀ (k0_h3 : k0_cond3 v960 = 1#1), 1024 ∣ (k0_mult15 v1 k0_t9).toNat) ∧
  (∀ k0_t9 : Fin (k0_t9_loop v1).trips, ∀ (k0_h2 : k0_cond2 v1 v3 = 1#1), ∀ (k0_h3 : k0_cond3 v960 = 1#1), ∀ a, (k0_off9 v1 k0_t9) a + S1024x256.size a ≤ S16384x256.size a) ∧
  (∀ k0_t9 : Fin (k0_t9_loop v1).trips, ∀ (k0_h2 : k0_cond2 v1 v3 = 1#1), ∀ (k0_h3 : k0_cond3 v960 = 1#1), 1024 ∣ (k0_mult16 v1 k0_t9).toNat) ∧
  (∀ k0_t9 : Fin (k0_t9_loop v1).trips, ∀ (k0_h2 : k0_cond2 v1 v3 = 1#1), ∀ (k0_h3 : k0_cond3 v960 = 1#1), 1024 ∣ (k0_mult17 v1 k0_t9).toNat) ∧
  (∀ k0_t9 : Fin (k0_t9_loop v1).trips, ∀ (k0_h2 : k0_cond2 v1 v3 = 1#1), ∀ (k0_h3 : k0_cond3 v960 = 1#1), ∀ (hinb : ∀ a, (k0_off9 v1 k0_t9) a + S1024x256.size a ≤ S16384x256.size a), (Rect.unit (s := S16384x256) (k0_off9 v1 k0_t9) S1024x256.size hinb).PackedRows (EltTy.packing .i16)) ∧
  (∀ (k0_h2 : k0_cond2 v1 v3 = 1#1), ∀ (k0_h3 : k0_cond3 v960 = 1#1), (k0_t10_loop v1).OK) ∧
  (∀ k0_t10 : Fin (k0_t10_loop v1).trips, ∀ (k0_h2 : k0_cond2 v1 v3 = 1#1), ∀ (k0_h3 : k0_cond3 v960 = 1#1), 1024 ∣ (k0_mult18 v1 k0_t10).toNat) ∧
  (∀ k0_t10 : Fin (k0_t10_loop v1).trips, ∀ (k0_h2 : k0_cond2 v1 v3 = 1#1), ∀ (k0_h3 : k0_cond3 v960 = 1#1), ∀ a, (k0_off10 v1 k0_t10) a + S1024x256.size a ≤ S16384x256.size a) ∧
  (∀ k0_t10 : Fin (k0_t10_loop v1).trips, ∀ (k0_h2 : k0_cond2 v1 v3 = 1#1), ∀ (k0_h3 : k0_cond3 v960 = 1#1), 1024 ∣ (k0_mult19 v1 k0_t10).toNat) ∧
  (∀ k0_t10 : Fin (k0_t10_loop v1).trips, ∀ (k0_h2 : k0_cond2 v1 v3 = 1#1), ∀ (k0_h3 : k0_cond3 v960 = 1#1), 1024 ∣ (k0_mult20 v1 k0_t10).toNat) ∧
  (∀ k0_t10 : Fin (k0_t10_loop v1).trips, ∀ (k0_h2 : k0_cond2 v1 v3 = 1#1), ∀ (k0_h3 : k0_cond3 v960 = 1#1), ∀ (hinb : ∀ a, (k0_off10 v1 k0_t10) a + S1024x256.size a ≤ S16384x256.size a), (Rect.unit (s := S16384x256) (k0_off10 v1 k0_t10) S1024x256.size hinb).PackedRows (EltTy.packing .i16))
theorem k0_t9_ok : ∀ (v1 : BitVec 32) (v3 : BitVec 32) (v960 : BitVec 32) (k0_hw3 : k0_chk3 v1 v3 v960), ∀ (k0_h2 : k0_cond2 v1 v3 = 1#1), ∀ (k0_h3 : k0_cond3 v960 = 1#1), (k0_t9_loop v1).OK := fun v1 v3 v960 k0_hw3 k0_h2 k0_h3 => k0_hw3.1 k0_h2 k0_h3
theorem k0_mult15_dvd : ∀ (v1 : BitVec 32) (v3 : BitVec 32) (v960 : BitVec 32) (k0_hw3 : k0_chk3 v1 v3 v960) (k0_t9 : Fin (k0_t9_loop v1).trips), ∀ (k0_h2 : k0_cond2 v1 v3 = 1#1), ∀ (k0_h3 : k0_cond3 v960 = 1#1), 1024 ∣ (k0_mult15 v1 k0_t9).toNat := fun v1 v3 v960 k0_hw3 k0_t9 k0_h2 k0_h3 => k0_hw3.2.1 k0_t9 k0_h2 k0_h3
theorem k0_off9_inb : ∀ (v1 : BitVec 32) (v3 : BitVec 32) (v960 : BitVec 32) (k0_hw3 : k0_chk3 v1 v3 v960) (k0_t9 : Fin (k0_t9_loop v1).trips), ∀ (k0_h2 : k0_cond2 v1 v3 = 1#1), ∀ (k0_h3 : k0_cond3 v960 = 1#1), ∀ a, (k0_off9 v1 k0_t9) a + S1024x256.size a ≤ S16384x256.size a := fun v1 v3 v960 k0_hw3 k0_t9 k0_h2 k0_h3 => k0_hw3.2.2.1 k0_t9 k0_h2 k0_h3
theorem k0_mult16_dvd : ∀ (v1 : BitVec 32) (v3 : BitVec 32) (v960 : BitVec 32) (k0_hw3 : k0_chk3 v1 v3 v960) (k0_t9 : Fin (k0_t9_loop v1).trips), ∀ (k0_h2 : k0_cond2 v1 v3 = 1#1), ∀ (k0_h3 : k0_cond3 v960 = 1#1), 1024 ∣ (k0_mult16 v1 k0_t9).toNat := fun v1 v3 v960 k0_hw3 k0_t9 k0_h2 k0_h3 => k0_hw3.2.2.2.1 k0_t9 k0_h2 k0_h3
theorem k0_mult17_dvd : ∀ (v1 : BitVec 32) (v3 : BitVec 32) (v960 : BitVec 32) (k0_hw3 : k0_chk3 v1 v3 v960) (k0_t9 : Fin (k0_t9_loop v1).trips), ∀ (k0_h2 : k0_cond2 v1 v3 = 1#1), ∀ (k0_h3 : k0_cond3 v960 = 1#1), 1024 ∣ (k0_mult17 v1 k0_t9).toNat := fun v1 v3 v960 k0_hw3 k0_t9 k0_h2 k0_h3 => k0_hw3.2.2.2.2.1 k0_t9 k0_h2 k0_h3
theorem k0_off9_packedi16 : ∀ (v1 : BitVec 32) (v3 : BitVec 32) (v960 : BitVec 32) (k0_hw3 : k0_chk3 v1 v3 v960) (k0_t9 : Fin (k0_t9_loop v1).trips), ∀ (k0_h2 : k0_cond2 v1 v3 = 1#1), ∀ (k0_h3 : k0_cond3 v960 = 1#1), (Rect.unit (s := S16384x256) (k0_off9 v1 k0_t9) S1024x256.size (k0_off9_inb v1 v3 v960 k0_hw3 k0_t9 k0_h2 k0_h3)).PackedRows (EltTy.packing .i16) := fun v1 v3 v960 k0_hw3 k0_t9 k0_h2 k0_h3 => k0_hw3.2.2.2.2.2.1 k0_t9 k0_h2 k0_h3 (k0_off9_inb v1 v3 v960 k0_hw3 k0_t9 k0_h2 k0_h3)
theorem k0_t10_ok : ∀ (v1 : BitVec 32) (v3 : BitVec 32) (v960 : BitVec 32) (k0_hw3 : k0_chk3 v1 v3 v960), ∀ (k0_h2 : k0_cond2 v1 v3 = 1#1), ∀ (k0_h3 : k0_cond3 v960 = 1#1), (k0_t10_loop v1).OK := fun v1 v3 v960 k0_hw3 k0_h2 k0_h3 => k0_hw3.2.2.2.2.2.2.1 k0_h2 k0_h3
theorem k0_mult18_dvd : ∀ (v1 : BitVec 32) (v3 : BitVec 32) (v960 : BitVec 32) (k0_hw3 : k0_chk3 v1 v3 v960) (k0_t10 : Fin (k0_t10_loop v1).trips), ∀ (k0_h2 : k0_cond2 v1 v3 = 1#1), ∀ (k0_h3 : k0_cond3 v960 = 1#1), 1024 ∣ (k0_mult18 v1 k0_t10).toNat := fun v1 v3 v960 k0_hw3 k0_t10 k0_h2 k0_h3 => k0_hw3.2.2.2.2.2.2.2.1 k0_t10 k0_h2 k0_h3
theorem k0_off10_inb : ∀ (v1 : BitVec 32) (v3 : BitVec 32) (v960 : BitVec 32) (k0_hw3 : k0_chk3 v1 v3 v960) (k0_t10 : Fin (k0_t10_loop v1).trips), ∀ (k0_h2 : k0_cond2 v1 v3 = 1#1), ∀ (k0_h3 : k0_cond3 v960 = 1#1), ∀ a, (k0_off10 v1 k0_t10) a + S1024x256.size a ≤ S16384x256.size a := fun v1 v3 v960 k0_hw3 k0_t10 k0_h2 k0_h3 => k0_hw3.2.2.2.2.2.2.2.2.1 k0_t10 k0_h2 k0_h3
theorem k0_mult19_dvd : ∀ (v1 : BitVec 32) (v3 : BitVec 32) (v960 : BitVec 32) (k0_hw3 : k0_chk3 v1 v3 v960) (k0_t10 : Fin (k0_t10_loop v1).trips), ∀ (k0_h2 : k0_cond2 v1 v3 = 1#1), ∀ (k0_h3 : k0_cond3 v960 = 1#1), 1024 ∣ (k0_mult19 v1 k0_t10).toNat := fun v1 v3 v960 k0_hw3 k0_t10 k0_h2 k0_h3 => k0_hw3.2.2.2.2.2.2.2.2.2.1 k0_t10 k0_h2 k0_h3
theorem k0_mult20_dvd : ∀ (v1 : BitVec 32) (v3 : BitVec 32) (v960 : BitVec 32) (k0_hw3 : k0_chk3 v1 v3 v960) (k0_t10 : Fin (k0_t10_loop v1).trips), ∀ (k0_h2 : k0_cond2 v1 v3 = 1#1), ∀ (k0_h3 : k0_cond3 v960 = 1#1), 1024 ∣ (k0_mult20 v1 k0_t10).toNat := fun v1 v3 v960 k0_hw3 k0_t10 k0_h2 k0_h3 => k0_hw3.2.2.2.2.2.2.2.2.2.2.1 k0_t10 k0_h2 k0_h3
theorem k0_off10_packedi16 : ∀ (v1 : BitVec 32) (v3 : BitVec 32) (v960 : BitVec 32) (k0_hw3 : k0_chk3 v1 v3 v960) (k0_t10 : Fin (k0_t10_loop v1).trips), ∀ (k0_h2 : k0_cond2 v1 v3 = 1#1), ∀ (k0_h3 : k0_cond3 v960 = 1#1), (Rect.unit (s := S16384x256) (k0_off10 v1 k0_t10) S1024x256.size (k0_off10_inb v1 v3 v960 k0_hw3 k0_t10 k0_h2 k0_h3)).PackedRows (EltTy.packing .i16) := fun v1 v3 v960 k0_hw3 k0_t10 k0_h2 k0_h3 => k0_hw3.2.2.2.2.2.2.2.2.2.2.2 k0_t10 k0_h2 k0_h3 (k0_off10_inb v1 v3 v960 k0_hw3 k0_t10 k0_h2 k0_h3)

@[reducible] def k0_t11_loop (v1035 : BitVec 32) : Scf.Loop 32 :=
  let c0_i32_600 : BitVec 32 := 0#32
  let c12_i32 : BitVec 32 := 12#32
  let v1036 : BitVec 32 := Scalar.minsi v1035 c12_i32
  let v1037 : BitVec 32 := Scalar.subi v1036 c0_i32_600
  let c1_i32_601 : BitVec 32 := 1#32
  let v1039 : BitVec 32 := Scalar.divsi v1037 c1_i32_601
  let v1040 : BitVec 32 := Scalar.muli v1039 c1_i32_601
  let v1041 : BitVec 32 := Scalar.addi c0_i32_600 v1040
  let c1_i32_602 : BitVec 32 := 1#32
  ⟨c0_i32_600, v1041, c1_i32_602⟩

@[reducible] def k0_t12_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_640 : BitVec 32 := 1#32
  ⟨c0_i32_638, v1126, c1_i32_640⟩
def k0_mult21 (v1 : BitVec 32) (k0_t12 : Fin (k0_t12_loop v1).trips) : BitVec 32 :=
  let c0_i32_638 : BitVec 32 := 0#32
  let c1_i32_640 : BitVec 32 := 1#32
  let arg16 : BitVec 32 := Scf.iv c0_i32_638 c1_i32_640 k0_t12
  let c1024_i32_643 : BitVec 32 := 1024#32
  let v1140 : BitVec 32 := Scalar.muli arg16 c1024_i32_643
  v1140
def k0_off11 (v1 : BitVec 32) (k0_t12 : Fin (k0_t12_loop v1).trips) : Fin 2 → Nat :=
  let c0_i32_638 : BitVec 32 := 0#32
  let c1_i32_640 : BitVec 32 := 1#32
  let arg16 : BitVec 32 := Scf.iv c0_i32_638 c1_i32_640 k0_t12
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t13_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let v1123 : BitVec 32 := Scalar.addi c0_i32_638 v1122
  let c1_i32_641 : BitVec 32 := 1#32
  ⟨v1126, v1123, c1_i32_641⟩
def k0_mult22 (v1 : BitVec 32) (k0_t13 : Fin (k0_t13_loop v1).trips) : BitVec 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t13
  let c1024_i32_643 : BitVec 32 := 1024#32
  let v1140 : BitVec 32 := Scalar.muli arg16 c1024_i32_643
  v1140
def k0_off12 (v1 : BitVec 32) (k0_t13 : Fin (k0_t13_loop v1).trips) : Fin 2 → Nat :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t13
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t14_loop (v1035 : BitVec 32) : Scf.Loop 32 :=
  let c0_i32_600 : BitVec 32 := 0#32
  let c12_i32 : BitVec 32 := 12#32
  let v1036 : BitVec 32 := Scalar.minsi v1035 c12_i32
  let v1037 : BitVec 32 := Scalar.subi v1036 c0_i32_600
  let c1_i32_601 : BitVec 32 := 1#32
  let v1039 : BitVec 32 := Scalar.divsi v1037 c1_i32_601
  let v1040 : BitVec 32 := Scalar.muli v1039 c1_i32_601
  let v1041 : BitVec 32 := Scalar.addi c0_i32_600 v1040
  let v1038 : BitVec 32 := Scalar.addi c0_i32_600 v1037
  let c1_i32_603 : BitVec 32 := 1#32
  ⟨v1041, v1038, c1_i32_603⟩
@[reducible] def k0_t15_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_640 : BitVec 32 := 1#32
  ⟨c0_i32_638, v1126, c1_i32_640⟩
def k0_mult23 (v1 : BitVec 32) (k0_t15 : Fin (k0_t15_loop v1).trips) : BitVec 32 :=
  let c0_i32_638 : BitVec 32 := 0#32
  let c1_i32_640 : BitVec 32 := 1#32
  let arg16 : BitVec 32 := Scf.iv c0_i32_638 c1_i32_640 k0_t15
  let c1024_i32_643 : BitVec 32 := 1024#32
  let v1140 : BitVec 32 := Scalar.muli arg16 c1024_i32_643
  v1140
def k0_off13 (v1 : BitVec 32) (k0_t15 : Fin (k0_t15_loop v1).trips) : Fin 2 → Nat :=
  let c0_i32_638 : BitVec 32 := 0#32
  let c1_i32_640 : BitVec 32 := 1#32
  let arg16 : BitVec 32 := Scf.iv c0_i32_638 c1_i32_640 k0_t15
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t16_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let v1123 : BitVec 32 := Scalar.addi c0_i32_638 v1122
  let c1_i32_641 : BitVec 32 := 1#32
  ⟨v1126, v1123, c1_i32_641⟩
def k0_mult24 (v1 : BitVec 32) (k0_t16 : Fin (k0_t16_loop v1).trips) : BitVec 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t16
  let c1024_i32_643 : BitVec 32 := 1024#32
  let v1140 : BitVec 32 := Scalar.muli arg16 c1024_i32_643
  v1140
def k0_off14 (v1 : BitVec 32) (k0_t16 : Fin (k0_t16_loop v1).trips) : Fin 2 → Nat :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t16
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]

def k0_chk4 (v1 : BitVec 32) (v3 : BitVec 32) (v960 : BitVec 32) (v1035 : BitVec 32) : Prop :=
  (∀ (k0_h2 : k0_cond2 v1 v3 = 1#1), ∀ (k0_h3 : k0_cond3 v960 = 1#1), (k0_t11_loop v1035).OK) ∧
  (∀ k0_t11 : Fin (k0_t11_loop v1035).trips, ∀ (k0_h2 : k0_cond2 v1 v3 = 1#1), ∀ (k0_h3 : k0_cond3 v960 = 1#1), (k0_t12_loop v1).OK) ∧
  (∀ (k0_t11 : Fin (k0_t11_loop v1035).trips) (k0_t12 : Fin (k0_t12_loop v1).trips), ∀ (k0_h2 : k0_cond2 v1 v3 = 1#1), ∀ (k0_h3 : k0_cond3 v960 = 1#1), 1024 ∣ (k0_mult21 v1 k0_t12).toNat) ∧
  (∀ (k0_t11 : Fin (k0_t11_loop v1035).trips) (k0_t12 : Fin (k0_t12_loop v1).trips), ∀ (k0_h2 : k0_cond2 v1 v3 = 1#1), ∀ (k0_h3 : k0_cond3 v960 = 1#1), ∀ a, (k0_off11 v1 k0_t12) a + S1024x256.size a ≤ S16384x256.size a) ∧
  (∀ k0_t11 : Fin (k0_t11_loop v1035).trips, ∀ (k0_h2 : k0_cond2 v1 v3 = 1#1), ∀ (k0_h3 : k0_cond3 v960 = 1#1), (k0_t13_loop v1).OK) ∧
  (∀ (k0_t11 : Fin (k0_t11_loop v1035).trips) (k0_t13 : Fin (k0_t13_loop v1).trips), ∀ (k0_h2 : k0_cond2 v1 v3 = 1#1), ∀ (k0_h3 : k0_cond3 v960 = 1#1), 1024 ∣ (k0_mult22 v1 k0_t13).toNat) ∧
  (∀ (k0_t11 : Fin (k0_t11_loop v1035).trips) (k0_t13 : Fin (k0_t13_loop v1).trips), ∀ (k0_h2 : k0_cond2 v1 v3 = 1#1), ∀ (k0_h3 : k0_cond3 v960 = 1#1), ∀ a, (k0_off12 v1 k0_t13) a + S1024x256.size a ≤ S16384x256.size a) ∧
  (∀ (k0_h2 : k0_cond2 v1 v3 = 1#1), ∀ (k0_h3 : k0_cond3 v960 = 1#1), (k0_t14_loop v1035).OK) ∧
  (∀ k0_t14 : Fin (k0_t14_loop v1035).trips, ∀ (k0_h2 : k0_cond2 v1 v3 = 1#1), ∀ (k0_h3 : k0_cond3 v960 = 1#1), (k0_t15_loop v1).OK) ∧
  (∀ (k0_t14 : Fin (k0_t14_loop v1035).trips) (k0_t15 : Fin (k0_t15_loop v1).trips), ∀ (k0_h2 : k0_cond2 v1 v3 = 1#1), ∀ (k0_h3 : k0_cond3 v960 = 1#1), 1024 ∣ (k0_mult23 v1 k0_t15).toNat) ∧
  (∀ (k0_t14 : Fin (k0_t14_loop v1035).trips) (k0_t15 : Fin (k0_t15_loop v1).trips), ∀ (k0_h2 : k0_cond2 v1 v3 = 1#1), ∀ (k0_h3 : k0_cond3 v960 = 1#1), ∀ a, (k0_off13 v1 k0_t15) a + S1024x256.size a ≤ S16384x256.size a) ∧
  (∀ k0_t14 : Fin (k0_t14_loop v1035).trips, ∀ (k0_h2 : k0_cond2 v1 v3 = 1#1), ∀ (k0_h3 : k0_cond3 v960 = 1#1), (k0_t16_loop v1).OK) ∧
  (∀ (k0_t14 : Fin (k0_t14_loop v1035).trips) (k0_t16 : Fin (k0_t16_loop v1).trips), ∀ (k0_h2 : k0_cond2 v1 v3 = 1#1), ∀ (k0_h3 : k0_cond3 v960 = 1#1), 1024 ∣ (k0_mult24 v1 k0_t16).toNat) ∧
  (∀ (k0_t14 : Fin (k0_t14_loop v1035).trips) (k0_t16 : Fin (k0_t16_loop v1).trips), ∀ (k0_h2 : k0_cond2 v1 v3 = 1#1), ∀ (k0_h3 : k0_cond3 v960 = 1#1), ∀ a, (k0_off14 v1 k0_t16) a + S1024x256.size a ≤ S16384x256.size a)
theorem k0_t11_ok : ∀ (v1 : BitVec 32) (v3 : BitVec 32) (v960 : BitVec 32) (v1035 : BitVec 32) (k0_hw4 : k0_chk4 v1 v3 v960 v1035), ∀ (k0_h2 : k0_cond2 v1 v3 = 1#1), ∀ (k0_h3 : k0_cond3 v960 = 1#1), (k0_t11_loop v1035).OK := fun v1 v3 v960 v1035 k0_hw4 k0_h2 k0_h3 => k0_hw4.1 k0_h2 k0_h3
theorem k0_t12_ok : ∀ (v1 : BitVec 32) (v3 : BitVec 32) (v960 : BitVec 32) (v1035 : BitVec 32) (k0_hw4 : k0_chk4 v1 v3 v960 v1035) (k0_t11 : Fin (k0_t11_loop v1035).trips), ∀ (k0_h2 : k0_cond2 v1 v3 = 1#1), ∀ (k0_h3 : k0_cond3 v960 = 1#1), (k0_t12_loop v1).OK := fun v1 v3 v960 v1035 k0_hw4 k0_t11 k0_h2 k0_h3 => k0_hw4.2.1 k0_t11 k0_h2 k0_h3
theorem k0_mult21_dvd : ∀ (v1 : BitVec 32) (v3 : BitVec 32) (v960 : BitVec 32) (v1035 : BitVec 32) (k0_hw4 : k0_chk4 v1 v3 v960 v1035) (k0_t11 : Fin (k0_t11_loop v1035).trips) (k0_t12 : Fin (k0_t12_loop v1).trips), ∀ (k0_h2 : k0_cond2 v1 v3 = 1#1), ∀ (k0_h3 : k0_cond3 v960 = 1#1), 1024 ∣ (k0_mult21 v1 k0_t12).toNat := fun v1 v3 v960 v1035 k0_hw4 k0_t11 k0_t12 k0_h2 k0_h3 => k0_hw4.2.2.1 k0_t11 k0_t12 k0_h2 k0_h3
theorem k0_off11_inb : ∀ (v1 : BitVec 32) (v3 : BitVec 32) (v960 : BitVec 32) (v1035 : BitVec 32) (k0_hw4 : k0_chk4 v1 v3 v960 v1035) (k0_t11 : Fin (k0_t11_loop v1035).trips) (k0_t12 : Fin (k0_t12_loop v1).trips), ∀ (k0_h2 : k0_cond2 v1 v3 = 1#1), ∀ (k0_h3 : k0_cond3 v960 = 1#1), ∀ a, (k0_off11 v1 k0_t12) a + S1024x256.size a ≤ S16384x256.size a := fun v1 v3 v960 v1035 k0_hw4 k0_t11 k0_t12 k0_h2 k0_h3 => k0_hw4.2.2.2.1 k0_t11 k0_t12 k0_h2 k0_h3
theorem k0_t13_ok : ∀ (v1 : BitVec 32) (v3 : BitVec 32) (v960 : BitVec 32) (v1035 : BitVec 32) (k0_hw4 : k0_chk4 v1 v3 v960 v1035) (k0_t11 : Fin (k0_t11_loop v1035).trips), ∀ (k0_h2 : k0_cond2 v1 v3 = 1#1), ∀ (k0_h3 : k0_cond3 v960 = 1#1), (k0_t13_loop v1).OK := fun v1 v3 v960 v1035 k0_hw4 k0_t11 k0_h2 k0_h3 => k0_hw4.2.2.2.2.1 k0_t11 k0_h2 k0_h3
theorem k0_mult22_dvd : ∀ (v1 : BitVec 32) (v3 : BitVec 32) (v960 : BitVec 32) (v1035 : BitVec 32) (k0_hw4 : k0_chk4 v1 v3 v960 v1035) (k0_t11 : Fin (k0_t11_loop v1035).trips) (k0_t13 : Fin (k0_t13_loop v1).trips), ∀ (k0_h2 : k0_cond2 v1 v3 = 1#1), ∀ (k0_h3 : k0_cond3 v960 = 1#1), 1024 ∣ (k0_mult22 v1 k0_t13).toNat := fun v1 v3 v960 v1035 k0_hw4 k0_t11 k0_t13 k0_h2 k0_h3 => k0_hw4.2.2.2.2.2.1 k0_t11 k0_t13 k0_h2 k0_h3
theorem k0_off12_inb : ∀ (v1 : BitVec 32) (v3 : BitVec 32) (v960 : BitVec 32) (v1035 : BitVec 32) (k0_hw4 : k0_chk4 v1 v3 v960 v1035) (k0_t11 : Fin (k0_t11_loop v1035).trips) (k0_t13 : Fin (k0_t13_loop v1).trips), ∀ (k0_h2 : k0_cond2 v1 v3 = 1#1), ∀ (k0_h3 : k0_cond3 v960 = 1#1), ∀ a, (k0_off12 v1 k0_t13) a + S1024x256.size a ≤ S16384x256.size a := fun v1 v3 v960 v1035 k0_hw4 k0_t11 k0_t13 k0_h2 k0_h3 => k0_hw4.2.2.2.2.2.2.1 k0_t11 k0_t13 k0_h2 k0_h3
theorem k0_t14_ok : ∀ (v1 : BitVec 32) (v3 : BitVec 32) (v960 : BitVec 32) (v1035 : BitVec 32) (k0_hw4 : k0_chk4 v1 v3 v960 v1035), ∀ (k0_h2 : k0_cond2 v1 v3 = 1#1), ∀ (k0_h3 : k0_cond3 v960 = 1#1), (k0_t14_loop v1035).OK := fun v1 v3 v960 v1035 k0_hw4 k0_h2 k0_h3 => k0_hw4.2.2.2.2.2.2.2.1 k0_h2 k0_h3
theorem k0_t15_ok : ∀ (v1 : BitVec 32) (v3 : BitVec 32) (v960 : BitVec 32) (v1035 : BitVec 32) (k0_hw4 : k0_chk4 v1 v3 v960 v1035) (k0_t14 : Fin (k0_t14_loop v1035).trips), ∀ (k0_h2 : k0_cond2 v1 v3 = 1#1), ∀ (k0_h3 : k0_cond3 v960 = 1#1), (k0_t15_loop v1).OK := fun v1 v3 v960 v1035 k0_hw4 k0_t14 k0_h2 k0_h3 => k0_hw4.2.2.2.2.2.2.2.2.1 k0_t14 k0_h2 k0_h3
theorem k0_mult23_dvd : ∀ (v1 : BitVec 32) (v3 : BitVec 32) (v960 : BitVec 32) (v1035 : BitVec 32) (k0_hw4 : k0_chk4 v1 v3 v960 v1035) (k0_t14 : Fin (k0_t14_loop v1035).trips) (k0_t15 : Fin (k0_t15_loop v1).trips), ∀ (k0_h2 : k0_cond2 v1 v3 = 1#1), ∀ (k0_h3 : k0_cond3 v960 = 1#1), 1024 ∣ (k0_mult23 v1 k0_t15).toNat := fun v1 v3 v960 v1035 k0_hw4 k0_t14 k0_t15 k0_h2 k0_h3 => k0_hw4.2.2.2.2.2.2.2.2.2.1 k0_t14 k0_t15 k0_h2 k0_h3
theorem k0_off13_inb : ∀ (v1 : BitVec 32) (v3 : BitVec 32) (v960 : BitVec 32) (v1035 : BitVec 32) (k0_hw4 : k0_chk4 v1 v3 v960 v1035) (k0_t14 : Fin (k0_t14_loop v1035).trips) (k0_t15 : Fin (k0_t15_loop v1).trips), ∀ (k0_h2 : k0_cond2 v1 v3 = 1#1), ∀ (k0_h3 : k0_cond3 v960 = 1#1), ∀ a, (k0_off13 v1 k0_t15) a + S1024x256.size a ≤ S16384x256.size a := fun v1 v3 v960 v1035 k0_hw4 k0_t14 k0_t15 k0_h2 k0_h3 => k0_hw4.2.2.2.2.2.2.2.2.2.2.1 k0_t14 k0_t15 k0_h2 k0_h3
theorem k0_t16_ok : ∀ (v1 : BitVec 32) (v3 : BitVec 32) (v960 : BitVec 32) (v1035 : BitVec 32) (k0_hw4 : k0_chk4 v1 v3 v960 v1035) (k0_t14 : Fin (k0_t14_loop v1035).trips), ∀ (k0_h2 : k0_cond2 v1 v3 = 1#1), ∀ (k0_h3 : k0_cond3 v960 = 1#1), (k0_t16_loop v1).OK := fun v1 v3 v960 v1035 k0_hw4 k0_t14 k0_h2 k0_h3 => k0_hw4.2.2.2.2.2.2.2.2.2.2.2.1 k0_t14 k0_h2 k0_h3
theorem k0_mult24_dvd : ∀ (v1 : BitVec 32) (v3 : BitVec 32) (v960 : BitVec 32) (v1035 : BitVec 32) (k0_hw4 : k0_chk4 v1 v3 v960 v1035) (k0_t14 : Fin (k0_t14_loop v1035).trips) (k0_t16 : Fin (k0_t16_loop v1).trips), ∀ (k0_h2 : k0_cond2 v1 v3 = 1#1), ∀ (k0_h3 : k0_cond3 v960 = 1#1), 1024 ∣ (k0_mult24 v1 k0_t16).toNat := fun v1 v3 v960 v1035 k0_hw4 k0_t14 k0_t16 k0_h2 k0_h3 => k0_hw4.2.2.2.2.2.2.2.2.2.2.2.2.1 k0_t14 k0_t16 k0_h2 k0_h3
theorem k0_off14_inb : ∀ (v1 : BitVec 32) (v3 : BitVec 32) (v960 : BitVec 32) (v1035 : BitVec 32) (k0_hw4 : k0_chk4 v1 v3 v960 v1035) (k0_t14 : Fin (k0_t14_loop v1035).trips) (k0_t16 : Fin (k0_t16_loop v1).trips), ∀ (k0_h2 : k0_cond2 v1 v3 = 1#1), ∀ (k0_h3 : k0_cond3 v960 = 1#1), ∀ a, (k0_off14 v1 k0_t16) a + S1024x256.size a ≤ S16384x256.size a := fun v1 v3 v960 v1035 k0_hw4 k0_t14 k0_t16 k0_h2 k0_h3 => k0_hw4.2.2.2.2.2.2.2.2.2.2.2.2.2 k0_t14 k0_t16 k0_h2 k0_h3

@[reducible] def k0_t17_loop (v1066 : BitVec 32) : Scf.Loop 32 :=
  let c0_i32_613 : BitVec 32 := 0#32
  let c2_i32 : BitVec 32 := 2#32
  let v1067 : BitVec 32 := Scalar.minsi v1066 c2_i32
  let v1068 : BitVec 32 := Scalar.subi v1067 c0_i32_613
  let c1_i32_614 : BitVec 32 := 1#32
  let v1070 : BitVec 32 := Scalar.divsi v1068 c1_i32_614
  let v1071 : BitVec 32 := Scalar.muli v1070 c1_i32_614
  let v1072 : BitVec 32 := Scalar.addi c0_i32_613 v1071
  let c1_i32_615 : BitVec 32 := 1#32
  ⟨c0_i32_613, v1072, c1_i32_615⟩

@[reducible] def k0_t18_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_640 : BitVec 32 := 1#32
  ⟨c0_i32_638, v1126, c1_i32_640⟩
def k0_mult25 (v1 : BitVec 32) (k0_t18 : Fin (k0_t18_loop v1).trips) : BitVec 32 :=
  let c0_i32_638 : BitVec 32 := 0#32
  let c1_i32_640 : BitVec 32 := 1#32
  let arg16 : BitVec 32 := Scf.iv c0_i32_638 c1_i32_640 k0_t18
  let c1024_i32_643 : BitVec 32 := 1024#32
  let v1140 : BitVec 32 := Scalar.muli arg16 c1024_i32_643
  v1140
def k0_off15 (v1 : BitVec 32) (k0_t18 : Fin (k0_t18_loop v1).trips) : Fin 2 → Nat :=
  let c0_i32_638 : BitVec 32 := 0#32
  let c1_i32_640 : BitVec 32 := 1#32
  let arg16 : BitVec 32 := Scf.iv c0_i32_638 c1_i32_640 k0_t18
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t19_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let v1123 : BitVec 32 := Scalar.addi c0_i32_638 v1122
  let c1_i32_641 : BitVec 32 := 1#32
  ⟨v1126, v1123, c1_i32_641⟩
def k0_mult26 (v1 : BitVec 32) (k0_t19 : Fin (k0_t19_loop v1).trips) : BitVec 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t19
  let c1024_i32_643 : BitVec 32 := 1024#32
  let v1140 : BitVec 32 := Scalar.muli arg16 c1024_i32_643
  v1140
def k0_off16 (v1 : BitVec 32) (k0_t19 : Fin (k0_t19_loop v1).trips) : Fin 2 → Nat :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t19
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t20_loop (v1066 : BitVec 32) : Scf.Loop 32 :=
  let c0_i32_613 : BitVec 32 := 0#32
  let c2_i32 : BitVec 32 := 2#32
  let v1067 : BitVec 32 := Scalar.minsi v1066 c2_i32
  let v1068 : BitVec 32 := Scalar.subi v1067 c0_i32_613
  let c1_i32_614 : BitVec 32 := 1#32
  let v1070 : BitVec 32 := Scalar.divsi v1068 c1_i32_614
  let v1071 : BitVec 32 := Scalar.muli v1070 c1_i32_614
  let v1072 : BitVec 32 := Scalar.addi c0_i32_613 v1071
  let v1069 : BitVec 32 := Scalar.addi c0_i32_613 v1068
  let c1_i32_616 : BitVec 32 := 1#32
  ⟨v1072, v1069, c1_i32_616⟩
@[reducible] def k0_t21_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_640 : BitVec 32 := 1#32
  ⟨c0_i32_638, v1126, c1_i32_640⟩
def k0_mult27 (v1 : BitVec 32) (k0_t21 : Fin (k0_t21_loop v1).trips) : BitVec 32 :=
  let c0_i32_638 : BitVec 32 := 0#32
  let c1_i32_640 : BitVec 32 := 1#32
  let arg16 : BitVec 32 := Scf.iv c0_i32_638 c1_i32_640 k0_t21
  let c1024_i32_643 : BitVec 32 := 1024#32
  let v1140 : BitVec 32 := Scalar.muli arg16 c1024_i32_643
  v1140
def k0_off17 (v1 : BitVec 32) (k0_t21 : Fin (k0_t21_loop v1).trips) : Fin 2 → Nat :=
  let c0_i32_638 : BitVec 32 := 0#32
  let c1_i32_640 : BitVec 32 := 1#32
  let arg16 : BitVec 32 := Scf.iv c0_i32_638 c1_i32_640 k0_t21
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t22_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let v1123 : BitVec 32 := Scalar.addi c0_i32_638 v1122
  let c1_i32_641 : BitVec 32 := 1#32
  ⟨v1126, v1123, c1_i32_641⟩
def k0_mult28 (v1 : BitVec 32) (k0_t22 : Fin (k0_t22_loop v1).trips) : BitVec 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t22
  let c1024_i32_643 : BitVec 32 := 1024#32
  let v1140 : BitVec 32 := Scalar.muli arg16 c1024_i32_643
  v1140
def k0_off18 (v1 : BitVec 32) (k0_t22 : Fin (k0_t22_loop v1).trips) : Fin 2 → Nat :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t22
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]

def k0_chk5 (v1 : BitVec 32) (v3 : BitVec 32) (v960 : BitVec 32) (v1066 : BitVec 32) : Prop :=
  (∀ (k0_h2 : k0_cond2 v1 v3 = 1#1), ∀ (k0_h3 : k0_cond3 v960 = 1#1), (k0_t17_loop v1066).OK) ∧
  (∀ k0_t17 : Fin (k0_t17_loop v1066).trips, ∀ (k0_h2 : k0_cond2 v1 v3 = 1#1), ∀ (k0_h3 : k0_cond3 v960 = 1#1), (k0_t18_loop v1).OK) ∧
  (∀ (k0_t17 : Fin (k0_t17_loop v1066).trips) (k0_t18 : Fin (k0_t18_loop v1).trips), ∀ (k0_h2 : k0_cond2 v1 v3 = 1#1), ∀ (k0_h3 : k0_cond3 v960 = 1#1), 1024 ∣ (k0_mult25 v1 k0_t18).toNat) ∧
  (∀ (k0_t17 : Fin (k0_t17_loop v1066).trips) (k0_t18 : Fin (k0_t18_loop v1).trips), ∀ (k0_h2 : k0_cond2 v1 v3 = 1#1), ∀ (k0_h3 : k0_cond3 v960 = 1#1), ∀ a, (k0_off15 v1 k0_t18) a + S1024x256.size a ≤ S16384x256.size a) ∧
  (∀ k0_t17 : Fin (k0_t17_loop v1066).trips, ∀ (k0_h2 : k0_cond2 v1 v3 = 1#1), ∀ (k0_h3 : k0_cond3 v960 = 1#1), (k0_t19_loop v1).OK) ∧
  (∀ (k0_t17 : Fin (k0_t17_loop v1066).trips) (k0_t19 : Fin (k0_t19_loop v1).trips), ∀ (k0_h2 : k0_cond2 v1 v3 = 1#1), ∀ (k0_h3 : k0_cond3 v960 = 1#1), 1024 ∣ (k0_mult26 v1 k0_t19).toNat) ∧
  (∀ (k0_t17 : Fin (k0_t17_loop v1066).trips) (k0_t19 : Fin (k0_t19_loop v1).trips), ∀ (k0_h2 : k0_cond2 v1 v3 = 1#1), ∀ (k0_h3 : k0_cond3 v960 = 1#1), ∀ a, (k0_off16 v1 k0_t19) a + S1024x256.size a ≤ S16384x256.size a) ∧
  (∀ (k0_h2 : k0_cond2 v1 v3 = 1#1), ∀ (k0_h3 : k0_cond3 v960 = 1#1), (k0_t20_loop v1066).OK) ∧
  (∀ k0_t20 : Fin (k0_t20_loop v1066).trips, ∀ (k0_h2 : k0_cond2 v1 v3 = 1#1), ∀ (k0_h3 : k0_cond3 v960 = 1#1), (k0_t21_loop v1).OK) ∧
  (∀ (k0_t20 : Fin (k0_t20_loop v1066).trips) (k0_t21 : Fin (k0_t21_loop v1).trips), ∀ (k0_h2 : k0_cond2 v1 v3 = 1#1), ∀ (k0_h3 : k0_cond3 v960 = 1#1), 1024 ∣ (k0_mult27 v1 k0_t21).toNat) ∧
  (∀ (k0_t20 : Fin (k0_t20_loop v1066).trips) (k0_t21 : Fin (k0_t21_loop v1).trips), ∀ (k0_h2 : k0_cond2 v1 v3 = 1#1), ∀ (k0_h3 : k0_cond3 v960 = 1#1), ∀ a, (k0_off17 v1 k0_t21) a + S1024x256.size a ≤ S16384x256.size a) ∧
  (∀ k0_t20 : Fin (k0_t20_loop v1066).trips, ∀ (k0_h2 : k0_cond2 v1 v3 = 1#1), ∀ (k0_h3 : k0_cond3 v960 = 1#1), (k0_t22_loop v1).OK) ∧
  (∀ (k0_t20 : Fin (k0_t20_loop v1066).trips) (k0_t22 : Fin (k0_t22_loop v1).trips), ∀ (k0_h2 : k0_cond2 v1 v3 = 1#1), ∀ (k0_h3 : k0_cond3 v960 = 1#1), 1024 ∣ (k0_mult28 v1 k0_t22).toNat) ∧
  (∀ (k0_t20 : Fin (k0_t20_loop v1066).trips) (k0_t22 : Fin (k0_t22_loop v1).trips), ∀ (k0_h2 : k0_cond2 v1 v3 = 1#1), ∀ (k0_h3 : k0_cond3 v960 = 1#1), ∀ a, (k0_off18 v1 k0_t22) a + S1024x256.size a ≤ S16384x256.size a)
theorem k0_t17_ok : ∀ (v1 : BitVec 32) (v3 : BitVec 32) (v960 : BitVec 32) (v1066 : BitVec 32) (k0_hw5 : k0_chk5 v1 v3 v960 v1066), ∀ (k0_h2 : k0_cond2 v1 v3 = 1#1), ∀ (k0_h3 : k0_cond3 v960 = 1#1), (k0_t17_loop v1066).OK := fun v1 v3 v960 v1066 k0_hw5 k0_h2 k0_h3 => k0_hw5.1 k0_h2 k0_h3
theorem k0_t18_ok : ∀ (v1 : BitVec 32) (v3 : BitVec 32) (v960 : BitVec 32) (v1066 : BitVec 32) (k0_hw5 : k0_chk5 v1 v3 v960 v1066) (k0_t17 : Fin (k0_t17_loop v1066).trips), ∀ (k0_h2 : k0_cond2 v1 v3 = 1#1), ∀ (k0_h3 : k0_cond3 v960 = 1#1), (k0_t18_loop v1).OK := fun v1 v3 v960 v1066 k0_hw5 k0_t17 k0_h2 k0_h3 => k0_hw5.2.1 k0_t17 k0_h2 k0_h3
theorem k0_mult25_dvd : ∀ (v1 : BitVec 32) (v3 : BitVec 32) (v960 : BitVec 32) (v1066 : BitVec 32) (k0_hw5 : k0_chk5 v1 v3 v960 v1066) (k0_t17 : Fin (k0_t17_loop v1066).trips) (k0_t18 : Fin (k0_t18_loop v1).trips), ∀ (k0_h2 : k0_cond2 v1 v3 = 1#1), ∀ (k0_h3 : k0_cond3 v960 = 1#1), 1024 ∣ (k0_mult25 v1 k0_t18).toNat := fun v1 v3 v960 v1066 k0_hw5 k0_t17 k0_t18 k0_h2 k0_h3 => k0_hw5.2.2.1 k0_t17 k0_t18 k0_h2 k0_h3
theorem k0_off15_inb : ∀ (v1 : BitVec 32) (v3 : BitVec 32) (v960 : BitVec 32) (v1066 : BitVec 32) (k0_hw5 : k0_chk5 v1 v3 v960 v1066) (k0_t17 : Fin (k0_t17_loop v1066).trips) (k0_t18 : Fin (k0_t18_loop v1).trips), ∀ (k0_h2 : k0_cond2 v1 v3 = 1#1), ∀ (k0_h3 : k0_cond3 v960 = 1#1), ∀ a, (k0_off15 v1 k0_t18) a + S1024x256.size a ≤ S16384x256.size a := fun v1 v3 v960 v1066 k0_hw5 k0_t17 k0_t18 k0_h2 k0_h3 => k0_hw5.2.2.2.1 k0_t17 k0_t18 k0_h2 k0_h3
theorem k0_t19_ok : ∀ (v1 : BitVec 32) (v3 : BitVec 32) (v960 : BitVec 32) (v1066 : BitVec 32) (k0_hw5 : k0_chk5 v1 v3 v960 v1066) (k0_t17 : Fin (k0_t17_loop v1066).trips), ∀ (k0_h2 : k0_cond2 v1 v3 = 1#1), ∀ (k0_h3 : k0_cond3 v960 = 1#1), (k0_t19_loop v1).OK := fun v1 v3 v960 v1066 k0_hw5 k0_t17 k0_h2 k0_h3 => k0_hw5.2.2.2.2.1 k0_t17 k0_h2 k0_h3
theorem k0_mult26_dvd : ∀ (v1 : BitVec 32) (v3 : BitVec 32) (v960 : BitVec 32) (v1066 : BitVec 32) (k0_hw5 : k0_chk5 v1 v3 v960 v1066) (k0_t17 : Fin (k0_t17_loop v1066).trips) (k0_t19 : Fin (k0_t19_loop v1).trips), ∀ (k0_h2 : k0_cond2 v1 v3 = 1#1), ∀ (k0_h3 : k0_cond3 v960 = 1#1), 1024 ∣ (k0_mult26 v1 k0_t19).toNat := fun v1 v3 v960 v1066 k0_hw5 k0_t17 k0_t19 k0_h2 k0_h3 => k0_hw5.2.2.2.2.2.1 k0_t17 k0_t19 k0_h2 k0_h3
theorem k0_off16_inb : ∀ (v1 : BitVec 32) (v3 : BitVec 32) (v960 : BitVec 32) (v1066 : BitVec 32) (k0_hw5 : k0_chk5 v1 v3 v960 v1066) (k0_t17 : Fin (k0_t17_loop v1066).trips) (k0_t19 : Fin (k0_t19_loop v1).trips), ∀ (k0_h2 : k0_cond2 v1 v3 = 1#1), ∀ (k0_h3 : k0_cond3 v960 = 1#1), ∀ a, (k0_off16 v1 k0_t19) a + S1024x256.size a ≤ S16384x256.size a := fun v1 v3 v960 v1066 k0_hw5 k0_t17 k0_t19 k0_h2 k0_h3 => k0_hw5.2.2.2.2.2.2.1 k0_t17 k0_t19 k0_h2 k0_h3
theorem k0_t20_ok : ∀ (v1 : BitVec 32) (v3 : BitVec 32) (v960 : BitVec 32) (v1066 : BitVec 32) (k0_hw5 : k0_chk5 v1 v3 v960 v1066), ∀ (k0_h2 : k0_cond2 v1 v3 = 1#1), ∀ (k0_h3 : k0_cond3 v960 = 1#1), (k0_t20_loop v1066).OK := fun v1 v3 v960 v1066 k0_hw5 k0_h2 k0_h3 => k0_hw5.2.2.2.2.2.2.2.1 k0_h2 k0_h3
theorem k0_t21_ok : ∀ (v1 : BitVec 32) (v3 : BitVec 32) (v960 : BitVec 32) (v1066 : BitVec 32) (k0_hw5 : k0_chk5 v1 v3 v960 v1066) (k0_t20 : Fin (k0_t20_loop v1066).trips), ∀ (k0_h2 : k0_cond2 v1 v3 = 1#1), ∀ (k0_h3 : k0_cond3 v960 = 1#1), (k0_t21_loop v1).OK := fun v1 v3 v960 v1066 k0_hw5 k0_t20 k0_h2 k0_h3 => k0_hw5.2.2.2.2.2.2.2.2.1 k0_t20 k0_h2 k0_h3
theorem k0_mult27_dvd : ∀ (v1 : BitVec 32) (v3 : BitVec 32) (v960 : BitVec 32) (v1066 : BitVec 32) (k0_hw5 : k0_chk5 v1 v3 v960 v1066) (k0_t20 : Fin (k0_t20_loop v1066).trips) (k0_t21 : Fin (k0_t21_loop v1).trips), ∀ (k0_h2 : k0_cond2 v1 v3 = 1#1), ∀ (k0_h3 : k0_cond3 v960 = 1#1), 1024 ∣ (k0_mult27 v1 k0_t21).toNat := fun v1 v3 v960 v1066 k0_hw5 k0_t20 k0_t21 k0_h2 k0_h3 => k0_hw5.2.2.2.2.2.2.2.2.2.1 k0_t20 k0_t21 k0_h2 k0_h3
theorem k0_off17_inb : ∀ (v1 : BitVec 32) (v3 : BitVec 32) (v960 : BitVec 32) (v1066 : BitVec 32) (k0_hw5 : k0_chk5 v1 v3 v960 v1066) (k0_t20 : Fin (k0_t20_loop v1066).trips) (k0_t21 : Fin (k0_t21_loop v1).trips), ∀ (k0_h2 : k0_cond2 v1 v3 = 1#1), ∀ (k0_h3 : k0_cond3 v960 = 1#1), ∀ a, (k0_off17 v1 k0_t21) a + S1024x256.size a ≤ S16384x256.size a := fun v1 v3 v960 v1066 k0_hw5 k0_t20 k0_t21 k0_h2 k0_h3 => k0_hw5.2.2.2.2.2.2.2.2.2.2.1 k0_t20 k0_t21 k0_h2 k0_h3
theorem k0_t22_ok : ∀ (v1 : BitVec 32) (v3 : BitVec 32) (v960 : BitVec 32) (v1066 : BitVec 32) (k0_hw5 : k0_chk5 v1 v3 v960 v1066) (k0_t20 : Fin (k0_t20_loop v1066).trips), ∀ (k0_h2 : k0_cond2 v1 v3 = 1#1), ∀ (k0_h3 : k0_cond3 v960 = 1#1), (k0_t22_loop v1).OK := fun v1 v3 v960 v1066 k0_hw5 k0_t20 k0_h2 k0_h3 => k0_hw5.2.2.2.2.2.2.2.2.2.2.2.1 k0_t20 k0_h2 k0_h3
theorem k0_mult28_dvd : ∀ (v1 : BitVec 32) (v3 : BitVec 32) (v960 : BitVec 32) (v1066 : BitVec 32) (k0_hw5 : k0_chk5 v1 v3 v960 v1066) (k0_t20 : Fin (k0_t20_loop v1066).trips) (k0_t22 : Fin (k0_t22_loop v1).trips), ∀ (k0_h2 : k0_cond2 v1 v3 = 1#1), ∀ (k0_h3 : k0_cond3 v960 = 1#1), 1024 ∣ (k0_mult28 v1 k0_t22).toNat := fun v1 v3 v960 v1066 k0_hw5 k0_t20 k0_t22 k0_h2 k0_h3 => k0_hw5.2.2.2.2.2.2.2.2.2.2.2.2.1 k0_t20 k0_t22 k0_h2 k0_h3
theorem k0_off18_inb : ∀ (v1 : BitVec 32) (v3 : BitVec 32) (v960 : BitVec 32) (v1066 : BitVec 32) (k0_hw5 : k0_chk5 v1 v3 v960 v1066) (k0_t20 : Fin (k0_t20_loop v1066).trips) (k0_t22 : Fin (k0_t22_loop v1).trips), ∀ (k0_h2 : k0_cond2 v1 v3 = 1#1), ∀ (k0_h3 : k0_cond3 v960 = 1#1), ∀ a, (k0_off18 v1 k0_t22) a + S1024x256.size a ≤ S16384x256.size a := fun v1 v3 v960 v1066 k0_hw5 k0_t20 k0_t22 k0_h2 k0_h3 => k0_hw5.2.2.2.2.2.2.2.2.2.2.2.2.2 k0_t20 k0_t22 k0_h2 k0_h3

@[reducible] def k0_t23_loop (v1097 : BitVec 32) : Scf.Loop 32 :=
  let c0_i32_627 : BitVec 32 := 0#32
  let c2_i32_626 : BitVec 32 := 2#32
  let v1098 : BitVec 32 := Scalar.minsi v1097 c2_i32_626
  let v1099 : BitVec 32 := Scalar.subi v1098 c0_i32_627
  let c1_i32_628 : BitVec 32 := 1#32
  let v1101 : BitVec 32 := Scalar.divsi v1099 c1_i32_628
  let v1102 : BitVec 32 := Scalar.muli v1101 c1_i32_628
  let v1103 : BitVec 32 := Scalar.addi c0_i32_627 v1102
  let c1_i32_629 : BitVec 32 := 1#32
  ⟨c0_i32_627, v1103, c1_i32_629⟩

@[reducible] def k0_t24_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_640 : BitVec 32 := 1#32
  ⟨c0_i32_638, v1126, c1_i32_640⟩
def k0_mult29 (v1 : BitVec 32) (k0_t24 : Fin (k0_t24_loop v1).trips) : BitVec 32 :=
  let c0_i32_638 : BitVec 32 := 0#32
  let c1_i32_640 : BitVec 32 := 1#32
  let arg16 : BitVec 32 := Scf.iv c0_i32_638 c1_i32_640 k0_t24
  let c1024_i32_643 : BitVec 32 := 1024#32
  let v1140 : BitVec 32 := Scalar.muli arg16 c1024_i32_643
  v1140
def k0_off19 (v1 : BitVec 32) (k0_t24 : Fin (k0_t24_loop v1).trips) : Fin 2 → Nat :=
  let c0_i32_638 : BitVec 32 := 0#32
  let c1_i32_640 : BitVec 32 := 1#32
  let arg16 : BitVec 32 := Scf.iv c0_i32_638 c1_i32_640 k0_t24
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t25_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let v1123 : BitVec 32 := Scalar.addi c0_i32_638 v1122
  let c1_i32_641 : BitVec 32 := 1#32
  ⟨v1126, v1123, c1_i32_641⟩
def k0_mult30 (v1 : BitVec 32) (k0_t25 : Fin (k0_t25_loop v1).trips) : BitVec 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t25
  let c1024_i32_643 : BitVec 32 := 1024#32
  let v1140 : BitVec 32 := Scalar.muli arg16 c1024_i32_643
  v1140
def k0_off20 (v1 : BitVec 32) (k0_t25 : Fin (k0_t25_loop v1).trips) : Fin 2 → Nat :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t25
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t26_loop (v1097 : BitVec 32) : Scf.Loop 32 :=
  let c0_i32_627 : BitVec 32 := 0#32
  let c2_i32_626 : BitVec 32 := 2#32
  let v1098 : BitVec 32 := Scalar.minsi v1097 c2_i32_626
  let v1099 : BitVec 32 := Scalar.subi v1098 c0_i32_627
  let c1_i32_628 : BitVec 32 := 1#32
  let v1101 : BitVec 32 := Scalar.divsi v1099 c1_i32_628
  let v1102 : BitVec 32 := Scalar.muli v1101 c1_i32_628
  let v1103 : BitVec 32 := Scalar.addi c0_i32_627 v1102
  let v1100 : BitVec 32 := Scalar.addi c0_i32_627 v1099
  let c1_i32_630 : BitVec 32 := 1#32
  ⟨v1103, v1100, c1_i32_630⟩
@[reducible] def k0_t27_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_640 : BitVec 32 := 1#32
  ⟨c0_i32_638, v1126, c1_i32_640⟩
def k0_mult31 (v1 : BitVec 32) (k0_t27 : Fin (k0_t27_loop v1).trips) : BitVec 32 :=
  let c0_i32_638 : BitVec 32 := 0#32
  let c1_i32_640 : BitVec 32 := 1#32
  let arg16 : BitVec 32 := Scf.iv c0_i32_638 c1_i32_640 k0_t27
  let c1024_i32_643 : BitVec 32 := 1024#32
  let v1140 : BitVec 32 := Scalar.muli arg16 c1024_i32_643
  v1140
def k0_off21 (v1 : BitVec 32) (k0_t27 : Fin (k0_t27_loop v1).trips) : Fin 2 → Nat :=
  let c0_i32_638 : BitVec 32 := 0#32
  let c1_i32_640 : BitVec 32 := 1#32
  let arg16 : BitVec 32 := Scf.iv c0_i32_638 c1_i32_640 k0_t27
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]
@[reducible] def k0_t28_loop (v1 : BitVec 32) : Scf.Loop 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let v1123 : BitVec 32 := Scalar.addi c0_i32_638 v1122
  let c1_i32_641 : BitVec 32 := 1#32
  ⟨v1126, v1123, c1_i32_641⟩
def k0_mult32 (v1 : BitVec 32) (k0_t28 : Fin (k0_t28_loop v1).trips) : BitVec 32 :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t28
  let c1024_i32_643 : BitVec 32 := 1024#32
  let v1140 : BitVec 32 := Scalar.muli arg16 c1024_i32_643
  v1140
def k0_off22 (v1 : BitVec 32) (k0_t28 : Fin (k0_t28_loop v1).trips) : Fin 2 → Nat :=
  let c0_i32_638 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1122 : BitVec 32 := Scalar.subi v892 c0_i32_638
  let c1_i32_639 : BitVec 32 := 1#32
  let v1124 : BitVec 32 := Scalar.divsi v1122 c1_i32_639
  let v1125 : BitVec 32 := Scalar.muli v1124 c1_i32_639
  let v1126 : BitVec 32 := Scalar.addi c0_i32_638 v1125
  let c1_i32_641 : BitVec 32 := 1#32
  let arg16 : BitVec 32 := Scf.iv v1126 c1_i32_641 k0_t28
  let c1024_i32_643 : BitVec 32 := 1024#32
  let v1140 : BitVec 32 := Scalar.muli arg16 c1024_i32_643
  let v1141 : BitVec 32 := v1140
  let v1142 : Index := Scalar.indexCast v1141
  let c0_644 : Index := 0#32
  ![v1142.toNat, 0]

def k0_chk6 (v1 : BitVec 32) (v3 : BitVec 32) (v960 : BitVec 32) (v1097 : BitVec 32) : Prop :=
  (∀ (k0_h2 : k0_cond2 v1 v3 = 1#1), ∀ (k0_h3 : k0_cond3 v960 = 1#1), (k0_t23_loop v1097).OK) ∧
  (∀ k0_t23 : Fin (k0_t23_loop v1097).trips, ∀ (k0_h2 : k0_cond2 v1 v3 = 1#1), ∀ (k0_h3 : k0_cond3 v960 = 1#1), (k0_t24_loop v1).OK) ∧
  (∀ (k0_t23 : Fin (k0_t23_loop v1097).trips) (k0_t24 : Fin (k0_t24_loop v1).trips), ∀ (k0_h2 : k0_cond2 v1 v3 = 1#1), ∀ (k0_h3 : k0_cond3 v960 = 1#1), 1024 ∣ (k0_mult29 v1 k0_t24).toNat) ∧
  (∀ (k0_t23 : Fin (k0_t23_loop v1097).trips) (k0_t24 : Fin (k0_t24_loop v1).trips), ∀ (k0_h2 : k0_cond2 v1 v3 = 1#1), ∀ (k0_h3 : k0_cond3 v960 = 1#1), ∀ a, (k0_off19 v1 k0_t24) a + S1024x256.size a ≤ S16384x256.size a) ∧
  (∀ k0_t23 : Fin (k0_t23_loop v1097).trips, ∀ (k0_h2 : k0_cond2 v1 v3 = 1#1), ∀ (k0_h3 : k0_cond3 v960 = 1#1), (k0_t25_loop v1).OK) ∧
  (∀ (k0_t23 : Fin (k0_t23_loop v1097).trips) (k0_t25 : Fin (k0_t25_loop v1).trips), ∀ (k0_h2 : k0_cond2 v1 v3 = 1#1), ∀ (k0_h3 : k0_cond3 v960 = 1#1), 1024 ∣ (k0_mult30 v1 k0_t25).toNat) ∧
  (∀ (k0_t23 : Fin (k0_t23_loop v1097).trips) (k0_t25 : Fin (k0_t25_loop v1).trips), ∀ (k0_h2 : k0_cond2 v1 v3 = 1#1), ∀ (k0_h3 : k0_cond3 v960 = 1#1), ∀ a, (k0_off20 v1 k0_t25) a + S1024x256.size a ≤ S16384x256.size a) ∧
  (∀ (k0_h2 : k0_cond2 v1 v3 = 1#1), ∀ (k0_h3 : k0_cond3 v960 = 1#1), (k0_t26_loop v1097).OK) ∧
  (∀ k0_t26 : Fin (k0_t26_loop v1097).trips, ∀ (k0_h2 : k0_cond2 v1 v3 = 1#1), ∀ (k0_h3 : k0_cond3 v960 = 1#1), (k0_t27_loop v1).OK) ∧
  (∀ (k0_t26 : Fin (k0_t26_loop v1097).trips) (k0_t27 : Fin (k0_t27_loop v1).trips), ∀ (k0_h2 : k0_cond2 v1 v3 = 1#1), ∀ (k0_h3 : k0_cond3 v960 = 1#1), 1024 ∣ (k0_mult31 v1 k0_t27).toNat) ∧
  (∀ (k0_t26 : Fin (k0_t26_loop v1097).trips) (k0_t27 : Fin (k0_t27_loop v1).trips), ∀ (k0_h2 : k0_cond2 v1 v3 = 1#1), ∀ (k0_h3 : k0_cond3 v960 = 1#1), ∀ a, (k0_off21 v1 k0_t27) a + S1024x256.size a ≤ S16384x256.size a) ∧
  (∀ k0_t26 : Fin (k0_t26_loop v1097).trips, ∀ (k0_h2 : k0_cond2 v1 v3 = 1#1), ∀ (k0_h3 : k0_cond3 v960 = 1#1), (k0_t28_loop v1).OK) ∧
  (∀ (k0_t26 : Fin (k0_t26_loop v1097).trips) (k0_t28 : Fin (k0_t28_loop v1).trips), ∀ (k0_h2 : k0_cond2 v1 v3 = 1#1), ∀ (k0_h3 : k0_cond3 v960 = 1#1), 1024 ∣ (k0_mult32 v1 k0_t28).toNat) ∧
  (∀ (k0_t26 : Fin (k0_t26_loop v1097).trips) (k0_t28 : Fin (k0_t28_loop v1).trips), ∀ (k0_h2 : k0_cond2 v1 v3 = 1#1), ∀ (k0_h3 : k0_cond3 v960 = 1#1), ∀ a, (k0_off22 v1 k0_t28) a + S1024x256.size a ≤ S16384x256.size a)
theorem k0_t23_ok : ∀ (v1 : BitVec 32) (v3 : BitVec 32) (v960 : BitVec 32) (v1097 : BitVec 32) (k0_hw6 : k0_chk6 v1 v3 v960 v1097), ∀ (k0_h2 : k0_cond2 v1 v3 = 1#1), ∀ (k0_h3 : k0_cond3 v960 = 1#1), (k0_t23_loop v1097).OK := fun v1 v3 v960 v1097 k0_hw6 k0_h2 k0_h3 => k0_hw6.1 k0_h2 k0_h3
theorem k0_t24_ok : ∀ (v1 : BitVec 32) (v3 : BitVec 32) (v960 : BitVec 32) (v1097 : BitVec 32) (k0_hw6 : k0_chk6 v1 v3 v960 v1097) (k0_t23 : Fin (k0_t23_loop v1097).trips), ∀ (k0_h2 : k0_cond2 v1 v3 = 1#1), ∀ (k0_h3 : k0_cond3 v960 = 1#1), (k0_t24_loop v1).OK := fun v1 v3 v960 v1097 k0_hw6 k0_t23 k0_h2 k0_h3 => k0_hw6.2.1 k0_t23 k0_h2 k0_h3
theorem k0_mult29_dvd : ∀ (v1 : BitVec 32) (v3 : BitVec 32) (v960 : BitVec 32) (v1097 : BitVec 32) (k0_hw6 : k0_chk6 v1 v3 v960 v1097) (k0_t23 : Fin (k0_t23_loop v1097).trips) (k0_t24 : Fin (k0_t24_loop v1).trips), ∀ (k0_h2 : k0_cond2 v1 v3 = 1#1), ∀ (k0_h3 : k0_cond3 v960 = 1#1), 1024 ∣ (k0_mult29 v1 k0_t24).toNat := fun v1 v3 v960 v1097 k0_hw6 k0_t23 k0_t24 k0_h2 k0_h3 => k0_hw6.2.2.1 k0_t23 k0_t24 k0_h2 k0_h3
theorem k0_off19_inb : ∀ (v1 : BitVec 32) (v3 : BitVec 32) (v960 : BitVec 32) (v1097 : BitVec 32) (k0_hw6 : k0_chk6 v1 v3 v960 v1097) (k0_t23 : Fin (k0_t23_loop v1097).trips) (k0_t24 : Fin (k0_t24_loop v1).trips), ∀ (k0_h2 : k0_cond2 v1 v3 = 1#1), ∀ (k0_h3 : k0_cond3 v960 = 1#1), ∀ a, (k0_off19 v1 k0_t24) a + S1024x256.size a ≤ S16384x256.size a := fun v1 v3 v960 v1097 k0_hw6 k0_t23 k0_t24 k0_h2 k0_h3 => k0_hw6.2.2.2.1 k0_t23 k0_t24 k0_h2 k0_h3
theorem k0_t25_ok : ∀ (v1 : BitVec 32) (v3 : BitVec 32) (v960 : BitVec 32) (v1097 : BitVec 32) (k0_hw6 : k0_chk6 v1 v3 v960 v1097) (k0_t23 : Fin (k0_t23_loop v1097).trips), ∀ (k0_h2 : k0_cond2 v1 v3 = 1#1), ∀ (k0_h3 : k0_cond3 v960 = 1#1), (k0_t25_loop v1).OK := fun v1 v3 v960 v1097 k0_hw6 k0_t23 k0_h2 k0_h3 => k0_hw6.2.2.2.2.1 k0_t23 k0_h2 k0_h3
theorem k0_mult30_dvd : ∀ (v1 : BitVec 32) (v3 : BitVec 32) (v960 : BitVec 32) (v1097 : BitVec 32) (k0_hw6 : k0_chk6 v1 v3 v960 v1097) (k0_t23 : Fin (k0_t23_loop v1097).trips) (k0_t25 : Fin (k0_t25_loop v1).trips), ∀ (k0_h2 : k0_cond2 v1 v3 = 1#1), ∀ (k0_h3 : k0_cond3 v960 = 1#1), 1024 ∣ (k0_mult30 v1 k0_t25).toNat := fun v1 v3 v960 v1097 k0_hw6 k0_t23 k0_t25 k0_h2 k0_h3 => k0_hw6.2.2.2.2.2.1 k0_t23 k0_t25 k0_h2 k0_h3
theorem k0_off20_inb : ∀ (v1 : BitVec 32) (v3 : BitVec 32) (v960 : BitVec 32) (v1097 : BitVec 32) (k0_hw6 : k0_chk6 v1 v3 v960 v1097) (k0_t23 : Fin (k0_t23_loop v1097).trips) (k0_t25 : Fin (k0_t25_loop v1).trips), ∀ (k0_h2 : k0_cond2 v1 v3 = 1#1), ∀ (k0_h3 : k0_cond3 v960 = 1#1), ∀ a, (k0_off20 v1 k0_t25) a + S1024x256.size a ≤ S16384x256.size a := fun v1 v3 v960 v1097 k0_hw6 k0_t23 k0_t25 k0_h2 k0_h3 => k0_hw6.2.2.2.2.2.2.1 k0_t23 k0_t25 k0_h2 k0_h3
theorem k0_t26_ok : ∀ (v1 : BitVec 32) (v3 : BitVec 32) (v960 : BitVec 32) (v1097 : BitVec 32) (k0_hw6 : k0_chk6 v1 v3 v960 v1097), ∀ (k0_h2 : k0_cond2 v1 v3 = 1#1), ∀ (k0_h3 : k0_cond3 v960 = 1#1), (k0_t26_loop v1097).OK := fun v1 v3 v960 v1097 k0_hw6 k0_h2 k0_h3 => k0_hw6.2.2.2.2.2.2.2.1 k0_h2 k0_h3
theorem k0_t27_ok : ∀ (v1 : BitVec 32) (v3 : BitVec 32) (v960 : BitVec 32) (v1097 : BitVec 32) (k0_hw6 : k0_chk6 v1 v3 v960 v1097) (k0_t26 : Fin (k0_t26_loop v1097).trips), ∀ (k0_h2 : k0_cond2 v1 v3 = 1#1), ∀ (k0_h3 : k0_cond3 v960 = 1#1), (k0_t27_loop v1).OK := fun v1 v3 v960 v1097 k0_hw6 k0_t26 k0_h2 k0_h3 => k0_hw6.2.2.2.2.2.2.2.2.1 k0_t26 k0_h2 k0_h3
theorem k0_mult31_dvd : ∀ (v1 : BitVec 32) (v3 : BitVec 32) (v960 : BitVec 32) (v1097 : BitVec 32) (k0_hw6 : k0_chk6 v1 v3 v960 v1097) (k0_t26 : Fin (k0_t26_loop v1097).trips) (k0_t27 : Fin (k0_t27_loop v1).trips), ∀ (k0_h2 : k0_cond2 v1 v3 = 1#1), ∀ (k0_h3 : k0_cond3 v960 = 1#1), 1024 ∣ (k0_mult31 v1 k0_t27).toNat := fun v1 v3 v960 v1097 k0_hw6 k0_t26 k0_t27 k0_h2 k0_h3 => k0_hw6.2.2.2.2.2.2.2.2.2.1 k0_t26 k0_t27 k0_h2 k0_h3
theorem k0_off21_inb : ∀ (v1 : BitVec 32) (v3 : BitVec 32) (v960 : BitVec 32) (v1097 : BitVec 32) (k0_hw6 : k0_chk6 v1 v3 v960 v1097) (k0_t26 : Fin (k0_t26_loop v1097).trips) (k0_t27 : Fin (k0_t27_loop v1).trips), ∀ (k0_h2 : k0_cond2 v1 v3 = 1#1), ∀ (k0_h3 : k0_cond3 v960 = 1#1), ∀ a, (k0_off21 v1 k0_t27) a + S1024x256.size a ≤ S16384x256.size a := fun v1 v3 v960 v1097 k0_hw6 k0_t26 k0_t27 k0_h2 k0_h3 => k0_hw6.2.2.2.2.2.2.2.2.2.2.1 k0_t26 k0_t27 k0_h2 k0_h3
theorem k0_t28_ok : ∀ (v1 : BitVec 32) (v3 : BitVec 32) (v960 : BitVec 32) (v1097 : BitVec 32) (k0_hw6 : k0_chk6 v1 v3 v960 v1097) (k0_t26 : Fin (k0_t26_loop v1097).trips), ∀ (k0_h2 : k0_cond2 v1 v3 = 1#1), ∀ (k0_h3 : k0_cond3 v960 = 1#1), (k0_t28_loop v1).OK := fun v1 v3 v960 v1097 k0_hw6 k0_t26 k0_h2 k0_h3 => k0_hw6.2.2.2.2.2.2.2.2.2.2.2.1 k0_t26 k0_h2 k0_h3
theorem k0_mult32_dvd : ∀ (v1 : BitVec 32) (v3 : BitVec 32) (v960 : BitVec 32) (v1097 : BitVec 32) (k0_hw6 : k0_chk6 v1 v3 v960 v1097) (k0_t26 : Fin (k0_t26_loop v1097).trips) (k0_t28 : Fin (k0_t28_loop v1).trips), ∀ (k0_h2 : k0_cond2 v1 v3 = 1#1), ∀ (k0_h3 : k0_cond3 v960 = 1#1), 1024 ∣ (k0_mult32 v1 k0_t28).toNat := fun v1 v3 v960 v1097 k0_hw6 k0_t26 k0_t28 k0_h2 k0_h3 => k0_hw6.2.2.2.2.2.2.2.2.2.2.2.2.1 k0_t26 k0_t28 k0_h2 k0_h3
theorem k0_off22_inb : ∀ (v1 : BitVec 32) (v3 : BitVec 32) (v960 : BitVec 32) (v1097 : BitVec 32) (k0_hw6 : k0_chk6 v1 v3 v960 v1097) (k0_t26 : Fin (k0_t26_loop v1097).trips) (k0_t28 : Fin (k0_t28_loop v1).trips), ∀ (k0_h2 : k0_cond2 v1 v3 = 1#1), ∀ (k0_h3 : k0_cond3 v960 = 1#1), ∀ a, (k0_off22 v1 k0_t28) a + S1024x256.size a ≤ S16384x256.size a := fun v1 v3 v960 v1097 k0_hw6 k0_t26 k0_t28 k0_h2 k0_h3 => k0_hw6.2.2.2.2.2.2.2.2.2.2.2.2.2 k0_t26 k0_t28 k0_h2 k0_h3

@[reducible] def k0_t29_loop : Scf.Loop 32 :=
  let c0_i32_583 : BitVec 32 := 0#32
  let c15_i32 : BitVec 32 := 15#32
  let v1002 : BitVec 32 := Scalar.addi c0_i32_583 c15_i32
  let c1_i32_584 : BitVec 32 := 1#32
  ⟨c0_i32_583, v1002, c1_i32_584⟩
@[reducible] def k0_t30_loop (v1 : BitVec 32) : Scf.Loop 32 :=
  let c0_i32_587 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1008 : BitVec 32 := Scalar.subi v892 c0_i32_587
  let c1_i32_588 : BitVec 32 := 1#32
  let v1010 : BitVec 32 := Scalar.divsi v1008 c1_i32_588
  let v1011 : BitVec 32 := Scalar.muli v1010 c1_i32_588
  let v1012 : BitVec 32 := Scalar.addi c0_i32_587 v1011
  let c1_i32_589 : BitVec 32 := 1#32
  ⟨c0_i32_587, v1012, c1_i32_589⟩
def k0_cond4 (v986 : BitVec 32) : BitVec 1 :=
  let c0_i32_567 : BitVec 32 := 0#32
  let v987 : BitVec 1 := Scalar.cmpi .sgt v986 c0_i32_567
  let v988 : BitVec 32 := Scalar.extui v987
  let c0_i32_570 : BitVec 32 := 0#32
  let v989 : BitVec 1 := Scalar.cmpi .ne v988 c0_i32_570
  v989

def k0_mult33 (v1 : BitVec 32) (k0_t30 : Fin (k0_t30_loop v1).trips) : BitVec 32 :=
  let c0_i32_587 : BitVec 32 := 0#32
  let c1_i32_589 : BitVec 32 := 1#32
  let arg14 : BitVec 32 := Scf.iv c0_i32_587 c1_i32_589 k0_t30
  let c1024_i32_594 : BitVec 32 := 1024#32
  let v1034 : BitVec 32 := Scalar.muli arg14 c1024_i32_594
  v1034
def k0_off23 (v1 : BitVec 32) (k0_t30 : Fin (k0_t30_loop v1).trips) : Fin 2 → Nat :=
  let c0_i32_587 : BitVec 32 := 0#32
  let c1_i32_589 : BitVec 32 := 1#32
  let arg14 : BitVec 32 := Scf.iv c0_i32_587 c1_i32_589 k0_t30
  let c1024_i32_594 : BitVec 32 := 1024#32
  let v1034 : BitVec 32 := Scalar.muli arg14 c1024_i32_594
  let v1035 : BitVec 32 := v1034
  let v1036 : Index := Scalar.indexCast v1035
  let c0_595 : Index := 0#32
  ![v1036.toNat, 0]
def k0_mult34 (v1 : BitVec 32) (k0_t30 : Fin (k0_t30_loop v1).trips) : BitVec 32 :=
  let c0_i32_587 : BitVec 32 := 0#32
  let c1_i32_589 : BitVec 32 := 1#32
  let arg14 : BitVec 32 := Scf.iv c0_i32_587 c1_i32_589 k0_t30
  let c1024_i32_596 : BitVec 32 := 1024#32
  let v1040 : BitVec 32 := Scalar.muli arg14 c1024_i32_596
  v1040
@[reducible] def k0_t31_loop (v1 : BitVec 32) : Scf.Loop 32 :=
  let c0_i32_587 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1008 : BitVec 32 := Scalar.subi v892 c0_i32_587
  let c1_i32_588 : BitVec 32 := 1#32
  let v1010 : BitVec 32 := Scalar.divsi v1008 c1_i32_588
  let v1011 : BitVec 32 := Scalar.muli v1010 c1_i32_588
  let v1012 : BitVec 32 := Scalar.addi c0_i32_587 v1011
  let v1009 : BitVec 32 := Scalar.addi c0_i32_587 v1008
  let c1_i32_590 : BitVec 32 := 1#32
  ⟨v1012, v1009, c1_i32_590⟩
def k0_mult35 (v1 : BitVec 32) (k0_t31 : Fin (k0_t31_loop v1).trips) : BitVec 32 :=
  let c0_i32_587 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1008 : BitVec 32 := Scalar.subi v892 c0_i32_587
  let c1_i32_588 : BitVec 32 := 1#32
  let v1010 : BitVec 32 := Scalar.divsi v1008 c1_i32_588
  let v1011 : BitVec 32 := Scalar.muli v1010 c1_i32_588
  let v1012 : BitVec 32 := Scalar.addi c0_i32_587 v1011
  let c1_i32_590 : BitVec 32 := 1#32
  let arg14 : BitVec 32 := Scf.iv v1012 c1_i32_590 k0_t31
  let c1024_i32_594 : BitVec 32 := 1024#32
  let v1034 : BitVec 32 := Scalar.muli arg14 c1024_i32_594
  v1034
def k0_off24 (v1 : BitVec 32) (k0_t31 : Fin (k0_t31_loop v1).trips) : Fin 2 → Nat :=
  let c0_i32_587 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1008 : BitVec 32 := Scalar.subi v892 c0_i32_587
  let c1_i32_588 : BitVec 32 := 1#32
  let v1010 : BitVec 32 := Scalar.divsi v1008 c1_i32_588
  let v1011 : BitVec 32 := Scalar.muli v1010 c1_i32_588
  let v1012 : BitVec 32 := Scalar.addi c0_i32_587 v1011
  let c1_i32_590 : BitVec 32 := 1#32
  let arg14 : BitVec 32 := Scf.iv v1012 c1_i32_590 k0_t31
  let c1024_i32_594 : BitVec 32 := 1024#32
  let v1034 : BitVec 32 := Scalar.muli arg14 c1024_i32_594
  let v1035 : BitVec 32 := v1034
  let v1036 : Index := Scalar.indexCast v1035
  let c0_595 : Index := 0#32
  ![v1036.toNat, 0]
def k0_mult36 (v1 : BitVec 32) (k0_t31 : Fin (k0_t31_loop v1).trips) : BitVec 32 :=
  let c0_i32_587 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v1008 : BitVec 32 := Scalar.subi v892 c0_i32_587
  let c1_i32_588 : BitVec 32 := 1#32
  let v1010 : BitVec 32 := Scalar.divsi v1008 c1_i32_588
  let v1011 : BitVec 32 := Scalar.muli v1010 c1_i32_588
  let v1012 : BitVec 32 := Scalar.addi c0_i32_587 v1011
  let c1_i32_590 : BitVec 32 := 1#32
  let arg14 : BitVec 32 := Scf.iv v1012 c1_i32_590 k0_t31
  let c1024_i32_596 : BitVec 32 := 1024#32
  let v1040 : BitVec 32 := Scalar.muli arg14 c1024_i32_596
  v1040

def k0_chk7 (v1 : BitVec 32) (v3 : BitVec 32) (v986 : BitVec 32) : Prop :=
  (∀ (k0_h2 : k0_cond2 v1 v3 = 1#1), ∀ (k0_h4 : k0_cond4 v986 = 1#1), (k0_t30_loop v1).OK) ∧
  (∀ k0_t30 : Fin (k0_t30_loop v1).trips, ∀ (k0_h2 : k0_cond2 v1 v3 = 1#1), ∀ (k0_h4 : k0_cond4 v986 = 1#1), 1024 ∣ (k0_mult33 v1 k0_t30).toNat) ∧
  (∀ k0_t30 : Fin (k0_t30_loop v1).trips, ∀ (k0_h2 : k0_cond2 v1 v3 = 1#1), ∀ (k0_h4 : k0_cond4 v986 = 1#1), ∀ a, (k0_off23 v1 k0_t30) a + S1024x256.size a ≤ S16384x256.size a) ∧
  (∀ k0_t30 : Fin (k0_t30_loop v1).trips, ∀ (k0_h2 : k0_cond2 v1 v3 = 1#1), ∀ (k0_h4 : k0_cond4 v986 = 1#1), 1024 ∣ (k0_mult34 v1 k0_t30).toNat) ∧
  (∀ (k0_h2 : k0_cond2 v1 v3 = 1#1), ∀ (k0_h4 : k0_cond4 v986 = 1#1), (k0_t31_loop v1).OK) ∧
  (∀ k0_t31 : Fin (k0_t31_loop v1).trips, ∀ (k0_h2 : k0_cond2 v1 v3 = 1#1), ∀ (k0_h4 : k0_cond4 v986 = 1#1), 1024 ∣ (k0_mult35 v1 k0_t31).toNat) ∧
  (∀ k0_t31 : Fin (k0_t31_loop v1).trips, ∀ (k0_h2 : k0_cond2 v1 v3 = 1#1), ∀ (k0_h4 : k0_cond4 v986 = 1#1), ∀ a, (k0_off24 v1 k0_t31) a + S1024x256.size a ≤ S16384x256.size a) ∧
  (∀ k0_t31 : Fin (k0_t31_loop v1).trips, ∀ (k0_h2 : k0_cond2 v1 v3 = 1#1), ∀ (k0_h4 : k0_cond4 v986 = 1#1), 1024 ∣ (k0_mult36 v1 k0_t31).toNat)
theorem k0_t30_ok : ∀ (v1 : BitVec 32) (v3 : BitVec 32) (v986 : BitVec 32) (k0_hw7 : k0_chk7 v1 v3 v986), ∀ (k0_h2 : k0_cond2 v1 v3 = 1#1), ∀ (k0_h4 : k0_cond4 v986 = 1#1), (k0_t30_loop v1).OK := fun v1 v3 v986 k0_hw7 k0_h2 k0_h4 => k0_hw7.1 k0_h2 k0_h4
theorem k0_mult33_dvd : ∀ (v1 : BitVec 32) (v3 : BitVec 32) (v986 : BitVec 32) (k0_hw7 : k0_chk7 v1 v3 v986) (k0_t30 : Fin (k0_t30_loop v1).trips), ∀ (k0_h2 : k0_cond2 v1 v3 = 1#1), ∀ (k0_h4 : k0_cond4 v986 = 1#1), 1024 ∣ (k0_mult33 v1 k0_t30).toNat := fun v1 v3 v986 k0_hw7 k0_t30 k0_h2 k0_h4 => k0_hw7.2.1 k0_t30 k0_h2 k0_h4
theorem k0_off23_inb : ∀ (v1 : BitVec 32) (v3 : BitVec 32) (v986 : BitVec 32) (k0_hw7 : k0_chk7 v1 v3 v986) (k0_t30 : Fin (k0_t30_loop v1).trips), ∀ (k0_h2 : k0_cond2 v1 v3 = 1#1), ∀ (k0_h4 : k0_cond4 v986 = 1#1), ∀ a, (k0_off23 v1 k0_t30) a + S1024x256.size a ≤ S16384x256.size a := fun v1 v3 v986 k0_hw7 k0_t30 k0_h2 k0_h4 => k0_hw7.2.2.1 k0_t30 k0_h2 k0_h4
theorem k0_mult34_dvd : ∀ (v1 : BitVec 32) (v3 : BitVec 32) (v986 : BitVec 32) (k0_hw7 : k0_chk7 v1 v3 v986) (k0_t30 : Fin (k0_t30_loop v1).trips), ∀ (k0_h2 : k0_cond2 v1 v3 = 1#1), ∀ (k0_h4 : k0_cond4 v986 = 1#1), 1024 ∣ (k0_mult34 v1 k0_t30).toNat := fun v1 v3 v986 k0_hw7 k0_t30 k0_h2 k0_h4 => k0_hw7.2.2.2.1 k0_t30 k0_h2 k0_h4
theorem k0_t31_ok : ∀ (v1 : BitVec 32) (v3 : BitVec 32) (v986 : BitVec 32) (k0_hw7 : k0_chk7 v1 v3 v986), ∀ (k0_h2 : k0_cond2 v1 v3 = 1#1), ∀ (k0_h4 : k0_cond4 v986 = 1#1), (k0_t31_loop v1).OK := fun v1 v3 v986 k0_hw7 k0_h2 k0_h4 => k0_hw7.2.2.2.2.1 k0_h2 k0_h4
theorem k0_mult35_dvd : ∀ (v1 : BitVec 32) (v3 : BitVec 32) (v986 : BitVec 32) (k0_hw7 : k0_chk7 v1 v3 v986) (k0_t31 : Fin (k0_t31_loop v1).trips), ∀ (k0_h2 : k0_cond2 v1 v3 = 1#1), ∀ (k0_h4 : k0_cond4 v986 = 1#1), 1024 ∣ (k0_mult35 v1 k0_t31).toNat := fun v1 v3 v986 k0_hw7 k0_t31 k0_h2 k0_h4 => k0_hw7.2.2.2.2.2.1 k0_t31 k0_h2 k0_h4
theorem k0_off24_inb : ∀ (v1 : BitVec 32) (v3 : BitVec 32) (v986 : BitVec 32) (k0_hw7 : k0_chk7 v1 v3 v986) (k0_t31 : Fin (k0_t31_loop v1).trips), ∀ (k0_h2 : k0_cond2 v1 v3 = 1#1), ∀ (k0_h4 : k0_cond4 v986 = 1#1), ∀ a, (k0_off24 v1 k0_t31) a + S1024x256.size a ≤ S16384x256.size a := fun v1 v3 v986 k0_hw7 k0_t31 k0_h2 k0_h4 => k0_hw7.2.2.2.2.2.2.1 k0_t31 k0_h2 k0_h4
theorem k0_mult36_dvd : ∀ (v1 : BitVec 32) (v3 : BitVec 32) (v986 : BitVec 32) (k0_hw7 : k0_chk7 v1 v3 v986) (k0_t31 : Fin (k0_t31_loop v1).trips), ∀ (k0_h2 : k0_cond2 v1 v3 = 1#1), ∀ (k0_h4 : k0_cond4 v986 = 1#1), 1024 ∣ (k0_mult36 v1 k0_t31).toNat := fun v1 v3 v986 k0_hw7 k0_t31 k0_h2 k0_h4 => k0_hw7.2.2.2.2.2.2.2 k0_t31 k0_h2 k0_h4

@[reducible] def k0_t32_loop (v1 : BitVec 32) : Scf.Loop 32 :=
  let c0_i32_574 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v991 : BitVec 32 := Scalar.subi v892 c0_i32_574
  let c1_i32_575 : BitVec 32 := 1#32
  let v993 : BitVec 32 := Scalar.divsi v991 c1_i32_575
  let v994 : BitVec 32 := Scalar.muli v993 c1_i32_575
  let v995 : BitVec 32 := Scalar.addi c0_i32_574 v994
  let c1_i32_576 : BitVec 32 := 1#32
  ⟨c0_i32_574, v995, c1_i32_576⟩
def k0_mult37 (v1 : BitVec 32) (k0_t32 : Fin (k0_t32_loop v1).trips) : BitVec 32 :=
  let c0_i32_574 : BitVec 32 := 0#32
  let c1_i32_576 : BitVec 32 := 1#32
  let arg11 : BitVec 32 := Scf.iv c0_i32_574 c1_i32_576 k0_t32
  let c1024_i32_583 : BitVec 32 := 1024#32
  let v1001 : BitVec 32 := Scalar.muli arg11 c1024_i32_583
  v1001
def k0_off25 (v1 : BitVec 32) (k0_t32 : Fin (k0_t32_loop v1).trips) : Fin 2 → Nat :=
  let c0_i32_574 : BitVec 32 := 0#32
  let c1_i32_576 : BitVec 32 := 1#32
  let arg11 : BitVec 32 := Scf.iv c0_i32_574 c1_i32_576 k0_t32
  let c1024_i32_583 : BitVec 32 := 1024#32
  let v1001 : BitVec 32 := Scalar.muli arg11 c1024_i32_583
  let v1002 : BitVec 32 := v1001
  let v1003 : Index := Scalar.indexCast v1002
  let c0_584 : Index := 0#32
  ![v1003.toNat, 0]
def k0_mult38 (v1 : BitVec 32) (k0_t32 : Fin (k0_t32_loop v1).trips) : BitVec 32 :=
  let c0_i32_574 : BitVec 32 := 0#32
  let c1_i32_576 : BitVec 32 := 1#32
  let arg11 : BitVec 32 := Scf.iv c0_i32_574 c1_i32_576 k0_t32
  let c1024_i32_585 : BitVec 32 := 1024#32
  let v1005 : BitVec 32 := Scalar.muli arg11 c1024_i32_585
  v1005
def k0_mult39 (v1 : BitVec 32) (k0_t32 : Fin (k0_t32_loop v1).trips) : BitVec 32 :=
  let c0_i32_574 : BitVec 32 := 0#32
  let c1_i32_576 : BitVec 32 := 1#32
  let arg11 : BitVec 32 := Scf.iv c0_i32_574 c1_i32_576 k0_t32
  let c1024_i32_588 : BitVec 32 := 1024#32
  let v1037 : BitVec 32 := Scalar.muli arg11 c1024_i32_588
  v1037
def k0_off26 (v1 : BitVec 32) (k0_t32 : Fin (k0_t32_loop v1).trips) : Fin 3 → Nat :=
  let c0_589 : Index := 0#32
  let c0_i32_574 : BitVec 32 := 0#32
  let c1_i32_576 : BitVec 32 := 1#32
  let arg11 : BitVec 32 := Scf.iv c0_i32_574 c1_i32_576 k0_t32
  let c1024_i32_588 : BitVec 32 := 1024#32
  let v1037 : BitVec 32 := Scalar.muli arg11 c1024_i32_588
  let v1038 : BitVec 32 := v1037
  let v1039 : Index := Scalar.indexCast v1038
  let c0_590 : Index := 0#32
  ![0, v1039.toNat, 0]
@[reducible] def k0_t33_loop (v1 : BitVec 32) : Scf.Loop 32 :=
  let c0_i32_574 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v991 : BitVec 32 := Scalar.subi v892 c0_i32_574
  let c1_i32_575 : BitVec 32 := 1#32
  let v993 : BitVec 32 := Scalar.divsi v991 c1_i32_575
  let v994 : BitVec 32 := Scalar.muli v993 c1_i32_575
  let v995 : BitVec 32 := Scalar.addi c0_i32_574 v994
  let v992 : BitVec 32 := Scalar.addi c0_i32_574 v991
  let c1_i32_577 : BitVec 32 := 1#32
  ⟨v995, v992, c1_i32_577⟩
def k0_mult40 (v1 : BitVec 32) (k0_t33 : Fin (k0_t33_loop v1).trips) : BitVec 32 :=
  let c0_i32_574 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v991 : BitVec 32 := Scalar.subi v892 c0_i32_574
  let c1_i32_575 : BitVec 32 := 1#32
  let v993 : BitVec 32 := Scalar.divsi v991 c1_i32_575
  let v994 : BitVec 32 := Scalar.muli v993 c1_i32_575
  let v995 : BitVec 32 := Scalar.addi c0_i32_574 v994
  let c1_i32_577 : BitVec 32 := 1#32
  let arg11 : BitVec 32 := Scf.iv v995 c1_i32_577 k0_t33
  let c1024_i32_583 : BitVec 32 := 1024#32
  let v1001 : BitVec 32 := Scalar.muli arg11 c1024_i32_583
  v1001
def k0_off27 (v1 : BitVec 32) (k0_t33 : Fin (k0_t33_loop v1).trips) : Fin 2 → Nat :=
  let c0_i32_574 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v991 : BitVec 32 := Scalar.subi v892 c0_i32_574
  let c1_i32_575 : BitVec 32 := 1#32
  let v993 : BitVec 32 := Scalar.divsi v991 c1_i32_575
  let v994 : BitVec 32 := Scalar.muli v993 c1_i32_575
  let v995 : BitVec 32 := Scalar.addi c0_i32_574 v994
  let c1_i32_577 : BitVec 32 := 1#32
  let arg11 : BitVec 32 := Scf.iv v995 c1_i32_577 k0_t33
  let c1024_i32_583 : BitVec 32 := 1024#32
  let v1001 : BitVec 32 := Scalar.muli arg11 c1024_i32_583
  let v1002 : BitVec 32 := v1001
  let v1003 : Index := Scalar.indexCast v1002
  let c0_584 : Index := 0#32
  ![v1003.toNat, 0]
def k0_mult41 (v1 : BitVec 32) (k0_t33 : Fin (k0_t33_loop v1).trips) : BitVec 32 :=
  let c0_i32_574 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v991 : BitVec 32 := Scalar.subi v892 c0_i32_574
  let c1_i32_575 : BitVec 32 := 1#32
  let v993 : BitVec 32 := Scalar.divsi v991 c1_i32_575
  let v994 : BitVec 32 := Scalar.muli v993 c1_i32_575
  let v995 : BitVec 32 := Scalar.addi c0_i32_574 v994
  let c1_i32_577 : BitVec 32 := 1#32
  let arg11 : BitVec 32 := Scf.iv v995 c1_i32_577 k0_t33
  let c1024_i32_585 : BitVec 32 := 1024#32
  let v1005 : BitVec 32 := Scalar.muli arg11 c1024_i32_585
  v1005
def k0_mult42 (v1 : BitVec 32) (k0_t33 : Fin (k0_t33_loop v1).trips) : BitVec 32 :=
  let c0_i32_574 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v991 : BitVec 32 := Scalar.subi v892 c0_i32_574
  let c1_i32_575 : BitVec 32 := 1#32
  let v993 : BitVec 32 := Scalar.divsi v991 c1_i32_575
  let v994 : BitVec 32 := Scalar.muli v993 c1_i32_575
  let v995 : BitVec 32 := Scalar.addi c0_i32_574 v994
  let c1_i32_577 : BitVec 32 := 1#32
  let arg11 : BitVec 32 := Scf.iv v995 c1_i32_577 k0_t33
  let c1024_i32_588 : BitVec 32 := 1024#32
  let v1037 : BitVec 32 := Scalar.muli arg11 c1024_i32_588
  v1037
def k0_off28 (v1 : BitVec 32) (k0_t33 : Fin (k0_t33_loop v1).trips) : Fin 3 → Nat :=
  let c0_589 : Index := 0#32
  let c0_i32_574 : BitVec 32 := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let v991 : BitVec 32 := Scalar.subi v892 c0_i32_574
  let c1_i32_575 : BitVec 32 := 1#32
  let v993 : BitVec 32 := Scalar.divsi v991 c1_i32_575
  let v994 : BitVec 32 := Scalar.muli v993 c1_i32_575
  let v995 : BitVec 32 := Scalar.addi c0_i32_574 v994
  let c1_i32_577 : BitVec 32 := 1#32
  let arg11 : BitVec 32 := Scf.iv v995 c1_i32_577 k0_t33
  let c1024_i32_588 : BitVec 32 := 1024#32
  let v1037 : BitVec 32 := Scalar.muli arg11 c1024_i32_588
  let v1038 : BitVec 32 := v1037
  let v1039 : Index := Scalar.indexCast v1038
  let c0_590 : Index := 0#32
  ![0, v1039.toNat, 0]
@[reducible] def k0_t34_loop (v1 : BitVec 32) : Scf.Loop 32 :=
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let c16_i32_579 : BitVec 32 := 16#32
  let v996 : BitVec 32 := Scalar.subi c16_i32_579 v892
  let c1_i32_580 : BitVec 32 := 1#32
  let v998 : BitVec 32 := Scalar.divsi v996 c1_i32_580
  let v999 : BitVec 32 := Scalar.muli v998 c1_i32_580
  let v1000 : BitVec 32 := Scalar.addi v892 v999
  let c1_i32_581 : BitVec 32 := 1#32
  ⟨v892, v1000, c1_i32_581⟩
def k0_mult43 (v1 : BitVec 32) (k0_t34 : Fin (k0_t34_loop v1).trips) : BitVec 32 :=
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let c1_i32_581 : BitVec 32 := 1#32
  let arg11 : BitVec 32 := Scf.iv v892 c1_i32_581 k0_t34
  let c1024_i32_583 : BitVec 32 := 1024#32
  let v1002 : BitVec 32 := Scalar.muli arg11 c1024_i32_583
  v1002
def k0_off29 (v1 : BitVec 32) (k0_t34 : Fin (k0_t34_loop v1).trips) : Fin 3 → Nat :=
  let c0_584 : Index := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let c1_i32_581 : BitVec 32 := 1#32
  let arg11 : BitVec 32 := Scf.iv v892 c1_i32_581 k0_t34
  let c1024_i32_583 : BitVec 32 := 1024#32
  let v1002 : BitVec 32 := Scalar.muli arg11 c1024_i32_583
  let v1003 : BitVec 32 := v1002
  let v1004 : Index := Scalar.indexCast v1003
  let c0_585 : Index := 0#32
  ![0, v1004.toNat, 0]
@[reducible] def k0_t35_loop (v1 : BitVec 32) : Scf.Loop 32 :=
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let c16_i32_579 : BitVec 32 := 16#32
  let v996 : BitVec 32 := Scalar.subi c16_i32_579 v892
  let c1_i32_580 : BitVec 32 := 1#32
  let v998 : BitVec 32 := Scalar.divsi v996 c1_i32_580
  let v999 : BitVec 32 := Scalar.muli v998 c1_i32_580
  let v1000 : BitVec 32 := Scalar.addi v892 v999
  let v997 : BitVec 32 := Scalar.addi v892 v996
  let c1_i32_582 : BitVec 32 := 1#32
  ⟨v1000, v997, c1_i32_582⟩
def k0_mult44 (v1 : BitVec 32) (k0_t35 : Fin (k0_t35_loop v1).trips) : BitVec 32 :=
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let c16_i32_579 : BitVec 32 := 16#32
  let v996 : BitVec 32 := Scalar.subi c16_i32_579 v892
  let c1_i32_580 : BitVec 32 := 1#32
  let v998 : BitVec 32 := Scalar.divsi v996 c1_i32_580
  let v999 : BitVec 32 := Scalar.muli v998 c1_i32_580
  let v1000 : BitVec 32 := Scalar.addi v892 v999
  let c1_i32_582 : BitVec 32 := 1#32
  let arg11 : BitVec 32 := Scf.iv v1000 c1_i32_582 k0_t35
  let c1024_i32_583 : BitVec 32 := 1024#32
  let v1002 : BitVec 32 := Scalar.muli arg11 c1024_i32_583
  v1002
def k0_off30 (v1 : BitVec 32) (k0_t35 : Fin (k0_t35_loop v1).trips) : Fin 3 → Nat :=
  let c0_584 : Index := 0#32
  let c1_i32 : BitVec 32 := 1#32
  let v4 : BitVec 32 := Scalar.addi v1 c1_i32
  let c256_i32 : BitVec 32 := 256#32
  let v5 : BitVec 32 := Scalar.muli v4 c256_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c1024_i32 : BitVec 32 := 1024#32
  let c0_i32_2 : BitVec 32 := 0#32
  let v13 : BitVec 1 := Scalar.cmpi .sgt c1024_i32 c0_i32_2
  let v14 : BitVec 32 := Scalar.extui v13
  let c0_i32_3 : BitVec 32 := 0#32
  let v15 : BitVec 1 := Scalar.cmpi .slt c1024_i32 c0_i32_3
  let v16 : BitVec 32 := Scalar.extui v15
  let v17 : BitVec 32 := Scalar.subi v14 v16
  let v18 : BitVec 1 := Scalar.cmpi .ne v12 v17
  let v19 : BitVec 32 := Scalar.remsi v6 c1024_i32
  let c0_i32_4 : BitVec 32 := 0#32
  let v20 : BitVec 1 := Scalar.cmpi .ne v19 c0_i32_4
  let v21 : BitVec 1 := Scalar.andi v18 v20
  let v7 : BitVec 32 := Scalar.divsi v6 c1024_i32
  let c1_i32_5 : BitVec 32 := 1#32
  let v22 : BitVec 32 := Scalar.subi v7 c1_i32_5
  let v23 : BitVec 32 := Scalar.select v21 v22 v7
  let c1_i32_522 : BitVec 32 := 1#32
  let v892 : BitVec 32 := Scalar.addi v23 c1_i32_522
  let c16_i32_579 : BitVec 32 := 16#32
  let v996 : BitVec 32 := Scalar.subi c16_i32_579 v892
  let c1_i32_580 : BitVec 32 := 1#32
  let v998 : BitVec 32 := Scalar.divsi v996 c1_i32_580
  let v999 : BitVec 32 := Scalar.muli v998 c1_i32_580
  let v1000 : BitVec 32 := Scalar.addi v892 v999
  let c1_i32_582 : BitVec 32 := 1#32
  let arg11 : BitVec 32 := Scf.iv v1000 c1_i32_582 k0_t35
  let c1024_i32_583 : BitVec 32 := 1024#32
  let v1002 : BitVec 32 := Scalar.muli arg11 c1024_i32_583
  let v1003 : BitVec 32 := v1002
  let v1004 : Index := Scalar.indexCast v1003
  let c0_585 : Index := 0#32
  ![0, v1004.toNat, 0]

def k0_chk1_0 (v1 : BitVec 32) (v3 : BitVec 32) : Prop :=
  (128 ∣ (k0_mult1 v3).toNat) ∧
  (∀ (r : Fin 8), ∀ a, (k0_off2 v3 (BitVec.ofNat 32 (128 * r.val))) a + S128x256.size a ≤ S16384x256.size a) ∧
  (∀ (r : Fin 8), ∀ (hinb : ∀ a, (k0_off2 v3 (BitVec.ofNat 32 (128 * r.val))) a + S128x256.size a ≤ S16384x256.size a), (Rect.unit (s := S16384x256) (k0_off2 v3 (BitVec.ofNat 32 (128 * r.val))) S128x256.size hinb).PackedRows (EltTy.packing .i16)) ∧
  (128 ∣ (k0_mult2 v3).toNat) ∧
  (128 ∣ (k0_mult3 v3).toNat) ∧
  (128 ∣ (k0_mult4 v3).toNat) ∧
  (128 ∣ (k0_mult5 v3).toNat) ∧
  (128 ∣ (k0_mult6 v3).toNat) ∧
  (128 ∣ (k0_mult7 v3).toNat) ∧
  (128 ∣ (k0_mult8 v3).toNat) ∧
  (∀ (k0_h2 : k0_cond2 v1 v3 = 1#1), (k0_t1_loop v1).OK) ∧
  (∀ k0_t1 : Fin (k0_t1_loop v1).trips, ∀ (k0_h2 : k0_cond2 v1 v3 = 1#1), 1024 ∣ (k0_mult9 v1 k0_t1).toNat) ∧
  (∀ k0_t1 : Fin (k0_t1_loop v1).trips, ∀ (k0_h2 : k0_cond2 v1 v3 = 1#1), ∀ a, (k0_off3 v1 k0_t1) a + S1024x256.size a ≤ S16384x256.size a) ∧
  (∀ (k0_h2 : k0_cond2 v1 v3 = 1#1), (k0_t2_loop v1).OK) ∧
  (∀ k0_t2 : Fin (k0_t2_loop v1).trips, ∀ (k0_h2 : k0_cond2 v1 v3 = 1#1), 1024 ∣ (k0_mult10 v1 k0_t2).toNat) ∧
  (∀ k0_t2 : Fin (k0_t2_loop v1).trips, ∀ (k0_h2 : k0_cond2 v1 v3 = 1#1), ∀ a, (k0_off4 v1 k0_t2) a + S1024x256.size a ≤ S16384x256.size a) ∧
  (∀ (k0_h2 : k0_cond2 v1 v3 = 1#1), (k0_t32_loop v1).OK) ∧
  (∀ k0_t32 : Fin (k0_t32_loop v1).trips, ∀ (k0_h2 : k0_cond2 v1 v3 = 1#1), 1024 ∣ (k0_mult37 v1 k0_t32).toNat) ∧
  (∀ k0_t32 : Fin (k0_t32_loop v1).trips, ∀ (k0_h2 : k0_cond2 v1 v3 = 1#1), ∀ a, (k0_off25 v1 k0_t32) a + S1024x256.size a ≤ S16384x256.size a) ∧
  (∀ k0_t32 : Fin (k0_t32_loop v1).trips, ∀ (k0_h2 : k0_cond2 v1 v3 = 1#1), 1024 ∣ (k0_mult38 v1 k0_t32).toNat) ∧
  (∀ k0_t32 : Fin (k0_t32_loop v1).trips, ∀ (k0_h2 : k0_cond2 v1 v3 = 1#1), 1024 ∣ (k0_mult39 v1 k0_t32).toNat) ∧
  (∀ k0_t32 : Fin (k0_t32_loop v1).trips, ∀ (k0_h2 : k0_cond2 v1 v3 = 1#1), ∀ a, (k0_off26 v1 k0_t32) a + S1x1024x256.size a ≤ S1x16384x256.size a) ∧
  (∀ k0_t32 : Fin (k0_t32_loop v1).trips, ∀ (k0_h2 : k0_cond2 v1 v3 = 1#1), ∀ (hinb : ∀ a, (k0_off26 v1 k0_t32) a + S1x1024x256.size a ≤ S1x16384x256.size a), (Rect.unit (s := S1x16384x256) (k0_off26 v1 k0_t32) S1x1024x256.size hinb).PackedRows (EltTy.packing .i8)) ∧
  (∀ (k0_h2 : k0_cond2 v1 v3 = 1#1), (k0_t33_loop v1).OK) ∧
  (∀ k0_t33 : Fin (k0_t33_loop v1).trips, ∀ (k0_h2 : k0_cond2 v1 v3 = 1#1), 1024 ∣ (k0_mult40 v1 k0_t33).toNat) ∧
  (∀ k0_t33 : Fin (k0_t33_loop v1).trips, ∀ (k0_h2 : k0_cond2 v1 v3 = 1#1), ∀ a, (k0_off27 v1 k0_t33) a + S1024x256.size a ≤ S16384x256.size a) ∧
  (∀ k0_t33 : Fin (k0_t33_loop v1).trips, ∀ (k0_h2 : k0_cond2 v1 v3 = 1#1), 1024 ∣ (k0_mult41 v1 k0_t33).toNat) ∧
  (∀ k0_t33 : Fin (k0_t33_loop v1).trips, ∀ (k0_h2 : k0_cond2 v1 v3 = 1#1), 1024 ∣ (k0_mult42 v1 k0_t33).toNat) ∧
  (∀ k0_t33 : Fin (k0_t33_loop v1).trips, ∀ (k0_h2 : k0_cond2 v1 v3 = 1#1), ∀ a, (k0_off28 v1 k0_t33) a + S1x1024x256.size a ≤ S1x16384x256.size a) ∧
  (∀ k0_t33 : Fin (k0_t33_loop v1).trips, ∀ (k0_h2 : k0_cond2 v1 v3 = 1#1), ∀ (hinb : ∀ a, (k0_off28 v1 k0_t33) a + S1x1024x256.size a ≤ S1x16384x256.size a), (Rect.unit (s := S1x16384x256) (k0_off28 v1 k0_t33) S1x1024x256.size hinb).PackedRows (EltTy.packing .i8)) ∧
  (∀ (k0_h2 : k0_cond2 v1 v3 = 1#1), (k0_t34_loop v1).OK) ∧
  (∀ k0_t34 : Fin (k0_t34_loop v1).trips, ∀ (k0_h2 : k0_cond2 v1 v3 = 1#1), 1024 ∣ (k0_mult43 v1 k0_t34).toNat)
def k0_chk1_1 (v1 : BitVec 32) (v3 : BitVec 32) : Prop :=
  (∀ k0_t34 : Fin (k0_t34_loop v1).trips, ∀ (k0_h2 : k0_cond2 v1 v3 = 1#1), ∀ a, (k0_off29 v1 k0_t34) a + S1x1024x256.size a ≤ S1x16384x256.size a) ∧
  (∀ k0_t34 : Fin (k0_t34_loop v1).trips, ∀ (k0_h2 : k0_cond2 v1 v3 = 1#1), ∀ (hinb : ∀ a, (k0_off29 v1 k0_t34) a + S1x1024x256.size a ≤ S1x16384x256.size a), (Rect.unit (s := S1x16384x256) (k0_off29 v1 k0_t34) S1x1024x256.size hinb).PackedRows (EltTy.packing .i8)) ∧
  (∀ (k0_h2 : k0_cond2 v1 v3 = 1#1), (k0_t35_loop v1).OK) ∧
  (∀ k0_t35 : Fin (k0_t35_loop v1).trips, ∀ (k0_h2 : k0_cond2 v1 v3 = 1#1), 1024 ∣ (k0_mult44 v1 k0_t35).toNat) ∧
  (∀ k0_t35 : Fin (k0_t35_loop v1).trips, ∀ (k0_h2 : k0_cond2 v1 v3 = 1#1), ∀ a, (k0_off30 v1 k0_t35) a + S1x1024x256.size a ≤ S1x16384x256.size a) ∧
  (∀ k0_t35 : Fin (k0_t35_loop v1).trips, ∀ (k0_h2 : k0_cond2 v1 v3 = 1#1), ∀ (hinb : ∀ a, (k0_off30 v1 k0_t35) a + S1x1024x256.size a ≤ S1x16384x256.size a), (Rect.unit (s := S1x16384x256) (k0_off30 v1 k0_t35) S1x1024x256.size hinb).PackedRows (EltTy.packing .i8))
def k0_chk1 (v1 : BitVec 32) (v3 : BitVec 32) : Prop :=
  k0_chk1_0 v1 v3 ∧
  k0_chk1_1 v1 v3
theorem k0_mult1_dvd : ∀ (v1 : BitVec 32) (v3 : BitVec 32) (k0_hw1 : k0_chk1 v1 v3), 128 ∣ (k0_mult1 v3).toNat := fun v1 v3 k0_hw1 => k0_hw1.1.1
theorem k0_off2_inb : ∀ (v1 : BitVec 32) (v3 : BitVec 32) (k0_hw1 : k0_chk1 v1 v3), ∀ (r : Fin 8), ∀ a, (k0_off2 v3 (BitVec.ofNat 32 (128 * r.val))) a + S128x256.size a ≤ S16384x256.size a := fun v1 v3 k0_hw1 r => k0_hw1.1.2.1 r
theorem k0_off2_packedi16 : ∀ (v1 : BitVec 32) (v3 : BitVec 32) (k0_hw1 : k0_chk1 v1 v3), ∀ (r : Fin 8), (Rect.unit (s := S16384x256) (k0_off2 v3 (BitVec.ofNat 32 (128 * r.val))) S128x256.size (k0_off2_inb v1 v3 k0_hw1 r)).PackedRows (EltTy.packing .i16) := fun v1 v3 k0_hw1 r => k0_hw1.1.2.2.1 r (k0_off2_inb v1 v3 k0_hw1 r)
theorem k0_mult2_dvd : ∀ (v1 : BitVec 32) (v3 : BitVec 32) (k0_hw1 : k0_chk1 v1 v3), 128 ∣ (k0_mult2 v3).toNat := fun v1 v3 k0_hw1 => k0_hw1.1.2.2.2.1
theorem k0_mult3_dvd : ∀ (v1 : BitVec 32) (v3 : BitVec 32) (k0_hw1 : k0_chk1 v1 v3), 128 ∣ (k0_mult3 v3).toNat := fun v1 v3 k0_hw1 => k0_hw1.1.2.2.2.2.1
theorem k0_mult4_dvd : ∀ (v1 : BitVec 32) (v3 : BitVec 32) (k0_hw1 : k0_chk1 v1 v3), 128 ∣ (k0_mult4 v3).toNat := fun v1 v3 k0_hw1 => k0_hw1.1.2.2.2.2.2.1
theorem k0_mult5_dvd : ∀ (v1 : BitVec 32) (v3 : BitVec 32) (k0_hw1 : k0_chk1 v1 v3), 128 ∣ (k0_mult5 v3).toNat := fun v1 v3 k0_hw1 => k0_hw1.1.2.2.2.2.2.2.1
theorem k0_mult6_dvd : ∀ (v1 : BitVec 32) (v3 : BitVec 32) (k0_hw1 : k0_chk1 v1 v3), 128 ∣ (k0_mult6 v3).toNat := fun v1 v3 k0_hw1 => k0_hw1.1.2.2.2.2.2.2.2.1
theorem k0_mult7_dvd : ∀ (v1 : BitVec 32) (v3 : BitVec 32) (k0_hw1 : k0_chk1 v1 v3), 128 ∣ (k0_mult7 v3).toNat := fun v1 v3 k0_hw1 => k0_hw1.1.2.2.2.2.2.2.2.2.1
theorem k0_mult8_dvd : ∀ (v1 : BitVec 32) (v3 : BitVec 32) (k0_hw1 : k0_chk1 v1 v3), 128 ∣ (k0_mult8 v3).toNat := fun v1 v3 k0_hw1 => k0_hw1.1.2.2.2.2.2.2.2.2.2.1
theorem k0_t1_ok : ∀ (v1 : BitVec 32) (v3 : BitVec 32) (k0_hw1 : k0_chk1 v1 v3), ∀ (k0_h2 : k0_cond2 v1 v3 = 1#1), (k0_t1_loop v1).OK := fun v1 v3 k0_hw1 k0_h2 => k0_hw1.1.2.2.2.2.2.2.2.2.2.2.1 k0_h2
theorem k0_mult9_dvd : ∀ (v1 : BitVec 32) (v3 : BitVec 32) (k0_hw1 : k0_chk1 v1 v3) (k0_t1 : Fin (k0_t1_loop v1).trips), ∀ (k0_h2 : k0_cond2 v1 v3 = 1#1), 1024 ∣ (k0_mult9 v1 k0_t1).toNat := fun v1 v3 k0_hw1 k0_t1 k0_h2 => k0_hw1.1.2.2.2.2.2.2.2.2.2.2.2.1 k0_t1 k0_h2
theorem k0_off3_inb : ∀ (v1 : BitVec 32) (v3 : BitVec 32) (k0_hw1 : k0_chk1 v1 v3) (k0_t1 : Fin (k0_t1_loop v1).trips), ∀ (k0_h2 : k0_cond2 v1 v3 = 1#1), ∀ a, (k0_off3 v1 k0_t1) a + S1024x256.size a ≤ S16384x256.size a := fun v1 v3 k0_hw1 k0_t1 k0_h2 => k0_hw1.1.2.2.2.2.2.2.2.2.2.2.2.2.1 k0_t1 k0_h2
theorem k0_t2_ok : ∀ (v1 : BitVec 32) (v3 : BitVec 32) (k0_hw1 : k0_chk1 v1 v3), ∀ (k0_h2 : k0_cond2 v1 v3 = 1#1), (k0_t2_loop v1).OK := fun v1 v3 k0_hw1 k0_h2 => k0_hw1.1.2.2.2.2.2.2.2.2.2.2.2.2.2.1 k0_h2
theorem k0_mult10_dvd : ∀ (v1 : BitVec 32) (v3 : BitVec 32) (k0_hw1 : k0_chk1 v1 v3) (k0_t2 : Fin (k0_t2_loop v1).trips), ∀ (k0_h2 : k0_cond2 v1 v3 = 1#1), 1024 ∣ (k0_mult10 v1 k0_t2).toNat := fun v1 v3 k0_hw1 k0_t2 k0_h2 => k0_hw1.1.2.2.2.2.2.2.2.2.2.2.2.2.2.2.1 k0_t2 k0_h2
theorem k0_off4_inb : ∀ (v1 : BitVec 32) (v3 : BitVec 32) (k0_hw1 : k0_chk1 v1 v3) (k0_t2 : Fin (k0_t2_loop v1).trips), ∀ (k0_h2 : k0_cond2 v1 v3 = 1#1), ∀ a, (k0_off4 v1 k0_t2) a + S1024x256.size a ≤ S16384x256.size a := fun v1 v3 k0_hw1 k0_t2 k0_h2 => k0_hw1.1.2.2.2.2.2.2.2.2.2.2.2.2.2.2.2.1 k0_t2 k0_h2
theorem k0_t32_ok : ∀ (v1 : BitVec 32) (v3 : BitVec 32) (k0_hw1 : k0_chk1 v1 v3), ∀ (k0_h2 : k0_cond2 v1 v3 = 1#1), (k0_t32_loop v1).OK := fun v1 v3 k0_hw1 k0_h2 => k0_hw1.1.2.2.2.2.2.2.2.2.2.2.2.2.2.2.2.2.1 k0_h2
theorem k0_mult37_dvd : ∀ (v1 : BitVec 32) (v3 : BitVec 32) (k0_hw1 : k0_chk1 v1 v3) (k0_t32 : Fin (k0_t32_loop v1).trips), ∀ (k0_h2 : k0_cond2 v1 v3 = 1#1), 1024 ∣ (k0_mult37 v1 k0_t32).toNat := fun v1 v3 k0_hw1 k0_t32 k0_h2 => k0_hw1.1.2.2.2.2.2.2.2.2.2.2.2.2.2.2.2.2.2.1 k0_t32 k0_h2
theorem k0_off25_inb : ∀ (v1 : BitVec 32) (v3 : BitVec 32) (k0_hw1 : k0_chk1 v1 v3) (k0_t32 : Fin (k0_t32_loop v1).trips), ∀ (k0_h2 : k0_cond2 v1 v3 = 1#1), ∀ a, (k0_off25 v1 k0_t32) a + S1024x256.size a ≤ S16384x256.size a := fun v1 v3 k0_hw1 k0_t32 k0_h2 => k0_hw1.1.2.2.2.2.2.2.2.2.2.2.2.2.2.2.2.2.2.2.1 k0_t32 k0_h2
theorem k0_mult38_dvd : ∀ (v1 : BitVec 32) (v3 : BitVec 32) (k0_hw1 : k0_chk1 v1 v3) (k0_t32 : Fin (k0_t32_loop v1).trips), ∀ (k0_h2 : k0_cond2 v1 v3 = 1#1), 1024 ∣ (k0_mult38 v1 k0_t32).toNat := fun v1 v3 k0_hw1 k0_t32 k0_h2 => k0_hw1.1.2.2.2.2.2.2.2.2.2.2.2.2.2.2.2.2.2.2.2.1 k0_t32 k0_h2
theorem k0_mult39_dvd : ∀ (v1 : BitVec 32) (v3 : BitVec 32) (k0_hw1 : k0_chk1 v1 v3) (k0_t32 : Fin (k0_t32_loop v1).trips), ∀ (k0_h2 : k0_cond2 v1 v3 = 1#1), 1024 ∣ (k0_mult39 v1 k0_t32).toNat := fun v1 v3 k0_hw1 k0_t32 k0_h2 => k0_hw1.1.2.2.2.2.2.2.2.2.2.2.2.2.2.2.2.2.2.2.2.2.1 k0_t32 k0_h2
theorem k0_off26_inb : ∀ (v1 : BitVec 32) (v3 : BitVec 32) (k0_hw1 : k0_chk1 v1 v3) (k0_t32 : Fin (k0_t32_loop v1).trips), ∀ (k0_h2 : k0_cond2 v1 v3 = 1#1), ∀ a, (k0_off26 v1 k0_t32) a + S1x1024x256.size a ≤ S1x16384x256.size a := fun v1 v3 k0_hw1 k0_t32 k0_h2 => k0_hw1.1.2.2.2.2.2.2.2.2.2.2.2.2.2.2.2.2.2.2.2.2.2.1 k0_t32 k0_h2
theorem k0_off26_packedi8 : ∀ (v1 : BitVec 32) (v3 : BitVec 32) (k0_hw1 : k0_chk1 v1 v3) (k0_t32 : Fin (k0_t32_loop v1).trips), ∀ (k0_h2 : k0_cond2 v1 v3 = 1#1), (Rect.unit (s := S1x16384x256) (k0_off26 v1 k0_t32) S1x1024x256.size (k0_off26_inb v1 v3 k0_hw1 k0_t32 k0_h2)).PackedRows (EltTy.packing .i8) := fun v1 v3 k0_hw1 k0_t32 k0_h2 => k0_hw1.1.2.2.2.2.2.2.2.2.2.2.2.2.2.2.2.2.2.2.2.2.2.2.1 k0_t32 k0_h2 (k0_off26_inb v1 v3 k0_hw1 k0_t32 k0_h2)
theorem k0_t33_ok : ∀ (v1 : BitVec 32) (v3 : BitVec 32) (k0_hw1 : k0_chk1 v1 v3), ∀ (k0_h2 : k0_cond2 v1 v3 = 1#1), (k0_t33_loop v1).OK := fun v1 v3 k0_hw1 k0_h2 => k0_hw1.1.2.2.2.2.2.2.2.2.2.2.2.2.2.2.2.2.2.2.2.2.2.2.2.1 k0_h2
theorem k0_mult40_dvd : ∀ (v1 : BitVec 32) (v3 : BitVec 32) (k0_hw1 : k0_chk1 v1 v3) (k0_t33 : Fin (k0_t33_loop v1).trips), ∀ (k0_h2 : k0_cond2 v1 v3 = 1#1), 1024 ∣ (k0_mult40 v1 k0_t33).toNat := fun v1 v3 k0_hw1 k0_t33 k0_h2 => k0_hw1.1.2.2.2.2.2.2.2.2.2.2.2.2.2.2.2.2.2.2.2.2.2.2.2.2.1 k0_t33 k0_h2
theorem k0_off27_inb : ∀ (v1 : BitVec 32) (v3 : BitVec 32) (k0_hw1 : k0_chk1 v1 v3) (k0_t33 : Fin (k0_t33_loop v1).trips), ∀ (k0_h2 : k0_cond2 v1 v3 = 1#1), ∀ a, (k0_off27 v1 k0_t33) a + S1024x256.size a ≤ S16384x256.size a := fun v1 v3 k0_hw1 k0_t33 k0_h2 => k0_hw1.1.2.2.2.2.2.2.2.2.2.2.2.2.2.2.2.2.2.2.2.2.2.2.2.2.2.1 k0_t33 k0_h2
theorem k0_mult41_dvd : ∀ (v1 : BitVec 32) (v3 : BitVec 32) (k0_hw1 : k0_chk1 v1 v3) (k0_t33 : Fin (k0_t33_loop v1).trips), ∀ (k0_h2 : k0_cond2 v1 v3 = 1#1), 1024 ∣ (k0_mult41 v1 k0_t33).toNat := fun v1 v3 k0_hw1 k0_t33 k0_h2 => k0_hw1.1.2.2.2.2.2.2.2.2.2.2.2.2.2.2.2.2.2.2.2.2.2.2.2.2.2.2.1 k0_t33 k0_h2
theorem k0_mult42_dvd : ∀ (v1 : BitVec 32) (v3 : BitVec 32) (k0_hw1 : k0_chk1 v1 v3) (k0_t33 : Fin (k0_t33_loop v1).trips), ∀ (k0_h2 : k0_cond2 v1 v3 = 1#1), 1024 ∣ (k0_mult42 v1 k0_t33).toNat := fun v1 v3 k0_hw1 k0_t33 k0_h2 => k0_hw1.1.2.2.2.2.2.2.2.2.2.2.2.2.2.2.2.2.2.2.2.2.2.2.2.2.2.2.2.1 k0_t33 k0_h2
theorem k0_off28_inb : ∀ (v1 : BitVec 32) (v3 : BitVec 32) (k0_hw1 : k0_chk1 v1 v3) (k0_t33 : Fin (k0_t33_loop v1).trips), ∀ (k0_h2 : k0_cond2 v1 v3 = 1#1), ∀ a, (k0_off28 v1 k0_t33) a + S1x1024x256.size a ≤ S1x16384x256.size a := fun v1 v3 k0_hw1 k0_t33 k0_h2 => k0_hw1.1.2.2.2.2.2.2.2.2.2.2.2.2.2.2.2.2.2.2.2.2.2.2.2.2.2.2.2.2.1 k0_t33 k0_h2
theorem k0_off28_packedi8 : ∀ (v1 : BitVec 32) (v3 : BitVec 32) (k0_hw1 : k0_chk1 v1 v3) (k0_t33 : Fin (k0_t33_loop v1).trips), ∀ (k0_h2 : k0_cond2 v1 v3 = 1#1), (Rect.unit (s := S1x16384x256) (k0_off28 v1 k0_t33) S1x1024x256.size (k0_off28_inb v1 v3 k0_hw1 k0_t33 k0_h2)).PackedRows (EltTy.packing .i8) := fun v1 v3 k0_hw1 k0_t33 k0_h2 => k0_hw1.1.2.2.2.2.2.2.2.2.2.2.2.2.2.2.2.2.2.2.2.2.2.2.2.2.2.2.2.2.2.1 k0_t33 k0_h2 (k0_off28_inb v1 v3 k0_hw1 k0_t33 k0_h2)
theorem k0_t34_ok : ∀ (v1 : BitVec 32) (v3 : BitVec 32) (k0_hw1 : k0_chk1 v1 v3), ∀ (k0_h2 : k0_cond2 v1 v3 = 1#1), (k0_t34_loop v1).OK := fun v1 v3 k0_hw1 k0_h2 => k0_hw1.1.2.2.2.2.2.2.2.2.2.2.2.2.2.2.2.2.2.2.2.2.2.2.2.2.2.2.2.2.2.2.1 k0_h2
theorem k0_mult43_dvd : ∀ (v1 : BitVec 32) (v3 : BitVec 32) (k0_hw1 : k0_chk1 v1 v3) (k0_t34 : Fin (k0_t34_loop v1).trips), ∀ (k0_h2 : k0_cond2 v1 v3 = 1#1), 1024 ∣ (k0_mult43 v1 k0_t34).toNat := fun v1 v3 k0_hw1 k0_t34 k0_h2 => k0_hw1.1.2.2.2.2.2.2.2.2.2.2.2.2.2.2.2.2.2.2.2.2.2.2.2.2.2.2.2.2.2.2.2 k0_t34 k0_h2
theorem k0_off29_inb : ∀ (v1 : BitVec 32) (v3 : BitVec 32) (k0_hw1 : k0_chk1 v1 v3) (k0_t34 : Fin (k0_t34_loop v1).trips), ∀ (k0_h2 : k0_cond2 v1 v3 = 1#1), ∀ a, (k0_off29 v1 k0_t34) a + S1x1024x256.size a ≤ S1x16384x256.size a := fun v1 v3 k0_hw1 k0_t34 k0_h2 => k0_hw1.2.1 k0_t34 k0_h2
theorem k0_off29_packedi8 : ∀ (v1 : BitVec 32) (v3 : BitVec 32) (k0_hw1 : k0_chk1 v1 v3) (k0_t34 : Fin (k0_t34_loop v1).trips), ∀ (k0_h2 : k0_cond2 v1 v3 = 1#1), (Rect.unit (s := S1x16384x256) (k0_off29 v1 k0_t34) S1x1024x256.size (k0_off29_inb v1 v3 k0_hw1 k0_t34 k0_h2)).PackedRows (EltTy.packing .i8) := fun v1 v3 k0_hw1 k0_t34 k0_h2 => k0_hw1.2.2.1 k0_t34 k0_h2 (k0_off29_inb v1 v3 k0_hw1 k0_t34 k0_h2)
theorem k0_t35_ok : ∀ (v1 : BitVec 32) (v3 : BitVec 32) (k0_hw1 : k0_chk1 v1 v3), ∀ (k0_h2 : k0_cond2 v1 v3 = 1#1), (k0_t35_loop v1).OK := fun v1 v3 k0_hw1 k0_h2 => k0_hw1.2.2.2.1 k0_h2
theorem k0_mult44_dvd : ∀ (v1 : BitVec 32) (v3 : BitVec 32) (k0_hw1 : k0_chk1 v1 v3) (k0_t35 : Fin (k0_t35_loop v1).trips), ∀ (k0_h2 : k0_cond2 v1 v3 = 1#1), 1024 ∣ (k0_mult44 v1 k0_t35).toNat := fun v1 v3 k0_hw1 k0_t35 k0_h2 => k0_hw1.2.2.2.2.1 k0_t35 k0_h2
theorem k0_off30_inb : ∀ (v1 : BitVec 32) (v3 : BitVec 32) (k0_hw1 : k0_chk1 v1 v3) (k0_t35 : Fin (k0_t35_loop v1).trips), ∀ (k0_h2 : k0_cond2 v1 v3 = 1#1), ∀ a, (k0_off30 v1 k0_t35) a + S1x1024x256.size a ≤ S1x16384x256.size a := fun v1 v3 k0_hw1 k0_t35 k0_h2 => k0_hw1.2.2.2.2.2.1 k0_t35 k0_h2
theorem k0_off30_packedi8 : ∀ (v1 : BitVec 32) (v3 : BitVec 32) (k0_hw1 : k0_chk1 v1 v3) (k0_t35 : Fin (k0_t35_loop v1).trips), ∀ (k0_h2 : k0_cond2 v1 v3 = 1#1), (Rect.unit (s := S1x16384x256) (k0_off30 v1 k0_t35) S1x1024x256.size (k0_off30_inb v1 v3 k0_hw1 k0_t35 k0_h2)).PackedRows (EltTy.packing .i8) := fun v1 v3 k0_hw1 k0_t35 k0_h2 => k0_hw1.2.2.2.2.2.2 k0_t35 k0_h2 (k0_off30_inb v1 v3 k0_hw1 k0_t35 k0_h2)

def cc0_transform_0 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S544) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_1 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S544) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_2 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S544) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S544) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16384x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2.lean ====
abbrev S32768x1024 : Shape := ⟨2, ![32768, 1024]⟩
abbrev S32768x5120 : Shape := ⟨2, ![32768, 5120]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x5120, .bf16⟩
  | .hbm, ⟨3, _⟩ => ⟨S32768x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x128, .f32⟩
  | .hbm, ⟨9, _⟩ => ⟨S1x128, .f32⟩
  | .hbm, ⟨10, _⟩ => ⟨S32768x1024, .f32⟩
  | .hbm, ⟨11, _⟩ => ⟨S32768x1024, .f32⟩
  | .hbm, ⟨12, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .f32⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x128, .f32⟩
  | .local _ .vmem, ⟨21, _⟩ => ⟨S512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal2.lean ====
abbrev S32768x1024 : Shape := ⟨2, ![32768, 1024]⟩
abbrev S32768x5120 : Shape := ⟨2, ![32768, 5120]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S_ : Shape := ⟨0, ![]⟩
abbrev S32768 : Shape := ⟨1, ![32768]⟩
abbrev S32768x1 : Shape := ⟨2, ![32768, 1]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x5120, .bf16⟩
  | .hbm, ⟨3, _⟩ => ⟨S32768x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x128, .f32⟩
  | .hbm, ⟨9, _⟩ => ⟨S1x128, .f32⟩
  | .hbm, ⟨10, _⟩ => ⟨S32768x1024, .bf16⟩
  | .hbm, ⟨11, _⟩ => ⟨S32768x1024, .f32⟩
  | .hbm, ⟨12, _⟩ => ⟨S32768x1024, .bf16⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1024x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel3.lean ====
abbrev S32768x1024 : Shape := ⟨2, ![32768, 1024]⟩
abbrev S1024x5120 : Shape := ⟨2, ![1024, 5120]⟩
abbrev S32768x5120 : Shape := ⟨2, ![32768, 5120]⟩
abbrev S1024x1024 : Shape := ⟨2, ![1024, 1024]⟩
abbrev S1024x2560 : Shape := ⟨2, ![1024, 2560]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x5120, .bf16⟩
  | .hbm, ⟨2, _⟩ => ⟨S32768x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .bf16⟩
  | .local _ .vmem, ⟨5, _⟩ => ⟨S1024x2560, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal3.lean ====
abbrev S32768x1024 : Shape := ⟨2, ![32768, 1024]⟩
abbrev S1024x5120 : Shape := ⟨2, ![1024, 5120]⟩
abbrev S32768x5120 : Shape := ⟨2, ![32768, 5120]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x5120, .bf16⟩
  | .hbm, ⟨2, _⟩ => ⟨S32768x5120, .f32⟩
  | .hbm, ⟨3, _⟩ => ⟨S32768x5120, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S32768x1024 : Shape := ⟨2, ![32768, 1024]⟩
abbrev S1024x2048 : Shape := ⟨2, ![1024, 2048]⟩
abbrev S1x2048 : Shape := ⟨2, ![1, 2048]⟩
abbrev S32768x2048 : Shape := ⟨2, ![32768, 2048]⟩
abbrev S1024x1024 : Shape := ⟨2, ![1024, 1024]⟩
abbrev S1x1024 : Shape := ⟨2, ![1, 1024]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .bf16⟩
  | .hbm, ⟨2, _⟩ => ⟨S1x2048, .f32⟩
  | .hbm, ⟨3, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal4.lean ====
abbrev S32768x1024 : Shape := ⟨2, ![32768, 1024]⟩
abbrev S1024x2048 : Shape := ⟨2, ![1024, 2048]⟩
abbrev S1x2048 : Shape := ⟨2, ![1, 2048]⟩
abbrev S32768x2048 : Shape := ⟨2, ![32768, 2048]⟩
abbrev S32768x16x128 : Shape := ⟨3, ![32768, 16, 128]⟩
abbrev S_ : Shape := ⟨0, ![]⟩
abbrev S32768x16 : Shape := ⟨2, ![32768, 16]⟩
abbrev S32768x16x1 : Shape := ⟨3, ![32768, 16, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .bf16⟩
  | .hbm, ⟨2, _⟩ => ⟨S1x2048, .f32⟩
  | .hbm, ⟨3, _⟩ => ⟨S32768x2048, .f32⟩
  | .hbm, ⟨4, _⟩ => ⟨S32768x16x128, .f32⟩
  | .hbm, ⟨5, _⟩ => ⟨S32768x16x128, .f32⟩
  | .hbm, ⟨6, _⟩ => ⟨S_, .f32⟩
  | .hbm, ⟨7, _⟩ => ⟨S32768x16, .f32⟩
  | .hbm, ⟨8, _⟩ => ⟨S32768x16x1, .f32⟩
  | .hbm, ⟨9, _⟩ => ⟨S_, .f32⟩
  | .hbm, ⟨10, _⟩ => ⟨S32768x16x1, .f32⟩
  | .hbm, ⟨11, _⟩ => ⟨S32768x16x1, .f32⟩
  | .hbm, ⟨12, _⟩ => ⟨S_, .f32⟩
  | .hbm, ⟨13, _⟩ => ⟨S32768x16x1, .f32⟩
  | .hbm, ⟨14, _⟩ => ⟨S32768x16x1, .f32⟩
  | .hbm, ⟨15, _⟩ => ⟨S32768x16x1, .f32⟩
  | .hbm, ⟨16, _⟩ => ⟨S32768x16x128, .f32⟩
  | .hbm, ⟨17, _⟩ => ⟨S32768x16x128, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S288 : Shape := ⟨1, ![288]⟩
abbrev S65536x1024 : Shape := ⟨2, ![65536, 1024]⟩
abbrev S32x1024x512 : Shape := ⟨3, ![32, 1024, 512]⟩
abbrev S32x512x1024 : Shape := ⟨3, ![32, 512, 1024]⟩
abbrev S256x1024 : Shape := ⟨2, ![256, 1024]⟩
abbrev S1 : Shape := ⟨1, ![1]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 5
  | _ => 0

abbrev bufTy : (tb : Table) → Fin (tcTables nBuf tb) → BufTy
  | .hbm, ⟨0, _⟩ => ⟨S65536x1024, .f32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | .local _ .smem, ⟨4, _⟩ => ⟨S288, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v5 : BitVec 32) : BitVec 1 :=
  let c1_i32 : BitVec 32 := 1#32
  let v6 : BitVec 1 := Scalar.cmpi .eq v5 c1_i32
  let v7 : BitVec 32 := Scalar.extui v6
  let c0_i32 : BitVec 32 := 0#32
  let v8 : BitVec 1 := Scalar.cmpi .ne v7 c0_i32
  v8

def k0_cond2 (v1 : BitVec 32) (v3 : BitVec 32) : BitVec 1 :=
  let v9 : BitVec 1 := Scalar.cmpi .sgt v3 v1
  let v10 : BitVec 32 := Scalar.extui v9
  let c0_i32_0 : BitVec 32 := 0#32
  let v11 : BitVec 1 := Scalar.cmpi .ne v10 c0_i32_0
  v11

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal6.lean ====
abbrev S288 : Shape := ⟨1, ![288]⟩
abbrev S65536x1024 : Shape := ⟨2, ![65536, 1024]⟩
abbrev S32x1024x512 : Shape := ⟨3, ![32, 1024, 512]⟩
abbrev S32x512x1024 : Shape := ⟨3, ![32, 512, 1024]⟩
abbrev S65536 : Shape := ⟨1, ![65536]⟩
abbrev S1x65536 : Shape := ⟨2, ![1, 65536]⟩
abbrev S288x1 : Shape := ⟨2, ![288, 1]⟩
abbrev S_ : Shape := ⟨0, ![]⟩
abbrev S288x65536 : Shape := ⟨2, ![288, 65536]⟩
abbrev S32 : Shape := ⟨1, ![32]⟩
abbrev S32x1 : Shape := ⟨2, ![32, 1]⟩
abbrev S1x288 : Shape := ⟨2, ![1, 288]⟩
abbrev S32x288 : Shape := ⟨2, ![32, 288]⟩
abbrev S32x65536 : Shape := ⟨2, ![32, 65536]⟩
abbrev S32x512x65536 : Shape := ⟨3, ![32, 512, 65536]⟩
abbrev S32x65536x512 : Shape := ⟨3, ![32, 65536, 512]⟩
abbrev S32x65536x1 : Shape := ⟨3, ![32, 65536, 1]⟩
abbrev S32x65536x1024 : Shape := ⟨3, ![32, 65536, 1024]⟩

abbrev nBuf : Space → Nat
  | .hbm => 57
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S288, .i32⟩
  | .hbm, ⟨4, _⟩ => ⟨S288, .i32⟩
  | .hbm, ⟨5, _⟩ => ⟨S65536x1024, .f32⟩
  | .hbm, ⟨6, _⟩ => ⟨S32x1024x512, .bf16⟩
  | .hbm, ⟨7, _⟩ => ⟨S32x1024x512, .bf16⟩
  | .hbm, ⟨8, _⟩ => ⟨S32x512x1024, .bf16⟩
  | .hbm, ⟨9, _⟩ => ⟨S65536, .i32⟩
  | .hbm, ⟨10, _⟩ => ⟨S1x65536, .i32⟩
  | .hbm, ⟨11, _⟩ => ⟨S288x1, .i32⟩
  | .hbm, ⟨12, _⟩ => ⟨S_, .i32⟩
  | .hbm, ⟨13, _⟩ => ⟨S288x1, .i32⟩
  | .hbm, ⟨14, _⟩ => ⟨S288x1, .i32⟩
  | .hbm, ⟨15, _⟩ => ⟨S288x65536, .i32⟩
  | .hbm, ⟨16, _⟩ => ⟨S288x65536, .i32⟩
  | .hbm, ⟨17, _⟩ => ⟨S288x65536, .i32⟩
  | .hbm, ⟨18, _⟩ => ⟨S288x1, .i32⟩
  | .hbm, ⟨19, _⟩ => ⟨S288x65536, .i32⟩
  | .hbm, ⟨20, _⟩ => ⟨S288x65536, .i1⟩
  | .hbm, ⟨21, _⟩ => ⟨S288x1, .i32⟩
  | .hbm, ⟨22, _⟩ => ⟨S288x65536, .i32⟩
  | .hbm, ⟨23, _⟩ => ⟨S288x65536, .i1⟩
  | .hbm, ⟨24, _⟩ => ⟨S288x65536, .i1⟩
  | .hbm, ⟨25, _⟩ => ⟨S288x65536, .f32⟩
  | .hbm, ⟨26, _⟩ => ⟨S32, .i32⟩
  | .hbm, ⟨27, _⟩ => ⟨S32x1, .i32⟩
  | .hbm, ⟨28, _⟩ => ⟨S1x288, .i32⟩
  | .hbm, ⟨29, _⟩ => ⟨S32x288, .i32⟩
  | .hbm, ⟨30, _⟩ => ⟨S32x288, .i32⟩
  | .hbm, ⟨31, _⟩ => ⟨S32x288, .i1⟩
  | .hbm, ⟨32, _⟩ => ⟨S32x288, .f32⟩
  | .hbm, ⟨33, _⟩ => ⟨S32x65536, .f32⟩
  | .hbm, ⟨34, _⟩ => ⟨S32x1024x512, .f32⟩
  | .hbm, ⟨35, _⟩ => ⟨S32x1024x512, .f32⟩
  | .hbm, ⟨36, _⟩ => ⟨S32x512x1024, .f32⟩
  | .hbm, ⟨37, _⟩ => ⟨S32x512x65536, .f32⟩
  | .hbm, ⟨38, _⟩ => ⟨S32x65536x512, .f32⟩
  | .hbm, ⟨39, _⟩ => ⟨S32x65536x512, .f32⟩
  | .hbm, ⟨40, _⟩ => ⟨S32x65536x512, .f32⟩
  | .hbm, ⟨41, _⟩ => ⟨S_, .f32⟩
  | .hbm, ⟨42, _⟩ => ⟨S32x65536x512, .f32⟩
  | .hbm, ⟨43, _⟩ => ⟨S32x65536x512, .f32⟩
  | .hbm, ⟨44, _⟩ => ⟨S_, .f32⟩
  | .hbm, ⟨45, _⟩ => ⟨S32x65536x512, .f32⟩
  | .hbm, ⟨46, _⟩ => ⟨S32x65536x512, .f32⟩
  | .hbm, ⟨47, _⟩ => ⟨S32x65536x512, .f32⟩
  | .hbm, ⟨48, _⟩ => ⟨S32x512x65536, .f32⟩
  | .hbm, ⟨49, _⟩ => ⟨S32x65536x512, .f32⟩
  | .hbm, ⟨50, _⟩ => ⟨S32x65536x512, .f32⟩
  | .hbm, ⟨51, _⟩ => ⟨S32x65536x1, .f32⟩
  | .hbm, ⟨52, _⟩ => ⟨S32x65536x1024, .f32⟩
  | .hbm, ⟨53, _⟩ => ⟨S32x65536x1024, .f32⟩
  | .hbm, ⟨54, _⟩ => ⟨S32x65536x1024, .f32⟩
  | .hbm, ⟨55, _⟩ => ⟨S_, .f32⟩
  | .hbm, ⟨56, _⟩ => ⟨S65536x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proof.Hoare.lean ====
/- The body of the selection kernel as a program over nine memory references: the assertion that each is owned whole, the triples of
   its loads, stores, checks and loops. -/
module

public import proofs.«01_k».proof.Defs
public import proofs.«01_k».proof.Proof.Gen.Kernel
public import Idealize.ShloMosaic.Lib.VecWindow
public import Idealize.ShloMosaic.Lib.Scf
public import Idealize.ShloMosaic.Lib.LoopRemainder
public import Idealize.ShloMosaic.Adequacy
public import Idealize.ShloMosaic.Lib.Pipeline.Frame

@[expose] public section

noncomputable section

namespace Cert.Proof.Kernel

open Cert.Kernel
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [BitOps F]

/-- No variants are used. -/
abbrev 𝒱₀ : Variants := Variants.none

local notation "𝕄" => MT nD τ sig Unit (Elt F) ℕ (UR sig nD τ) ℕ

/-- The memory references that a grid step works on. -/
structure Args where
  a2 : Memref sig .tc .smem S544 .i32
  a3 : Memref sig .tc .smem S544 .i32
  a4 : Memref sig .tc .vmem S512x256 .bf16
  a5 : Memref sig .tc .vmem S8x256 .f32
  a6 : Memref sig .tc .vmem S1024x64 .bf16
  a7 : Memref sig .tc .vmem S1x16384x256 .i8
  a8 : Memref sig .tc .vmem S16384x256 .i16
  a9 : Memref sig .tc .vmem S16384x256 .i16
  a10 : Memref sig .tc .vmem S256x256 .i32

/-- What they hold. -/
structure St (F : FTy → Type) [BitOps F] where
  qs : S544.Idx → Elt F .i32
  ks : S544.Idx → Elt F .i32
  iqt : S512x256.Idx → Elt F .bf16
  wit : S8x256.Idx → Elt F .f32
  ki : S1024x64.Idx → Elt F .bf16
  out : S1x16384x256.Idx → Elt F .i8
  hi : S16384x256.Idx → Elt F .i16
  lo : S16384x256.Idx → Elt F .i16
  gm : S256x256.Idx → Elt F .i32

/-- Core `c` owns the nine references and reads `s` through them. -/
def stP (c : Dev nD) (A : Args) (s : St F) : sProp 𝕄 :=
  iprop(owns (c : Thread nD τ) A.a2 fullShare.right s.qs ∗ owns (c : Thread nD τ) A.a3 fullShare.right s.ks ∗ owns (c : Thread nD τ) A.a4 fullShare s.iqt
    ∗ owns (c : Thread nD τ) A.a5 fullShare s.wit ∗ owns (c : Thread nD τ) A.a6 fullShare s.ki ∗ owns (c : Thread nD τ) A.a7 fullShare s.out
    ∗ owns (c : Thread nD τ) A.a8 fullShare s.hi ∗ owns (c : Thread nD τ) A.a9 fullShare s.lo ∗ owns (c : Thread nD τ) A.a10 fullShare s.gm)

variable (c : Dev nD) (A : Args)

/-- The weakest precondition of a piece of the body. -/
abbrev wpB {α : Type} (p : Prog (TpuEff nD τ sig (Elt F) Λ₀ .tc) α) (Q : α → sProp 𝕄) : sProp 𝕄 :=
  wp frame (wpE (defs₀ (F := F)) 𝒱₀ (c : Thread nD τ) none) Set.univ p Q

/-- From the contents `s` the program ends at a value and contents of which `Q` holds. -/
def Hoare {α : Type} (s : St F) (p : Prog (TpuEff nD τ sig (Elt F) Λ₀ .tc) α) (Q : α → St F → Prop) : Prop :=
  stP c A s ⊢ wpB c p fun r => iprop(∃ s', ⌜Q r s'⌝ ∗ stP c A s')

variable {c A}

namespace Hoare

/-- A weaker post. -/
theorem mono {α : Type} {s : St F} {p : Prog (TpuEff nD τ sig (Elt F) Λ₀ .tc) α} {Q R : α → St F → Prop}
    (h : Hoare c A s p Q) (hQ : ∀ r s', Q r s' → R r s') : Hoare c A s p R := by
  unfold Hoare at *
  refine h.trans (wp_mono _ _ _ fun r => ?_)
  iintro ⟨%s', %hs, H⟩
  iexists s'
  isplitr
  · ipureintro; exact hQ _ _ hs
  · iexact H

/-- A returned value. -/
theorem ret {α : Type} {s : St F} {x : α} {Q : α → St F → Prop} (h : Q x s) : Hoare c A s (pure x) Q := by
  unfold Hoare wpB
  rw [show (pure x : Prog (TpuEff nD τ sig (Elt F) Λ₀ .tc) α) = Prog.ret x from rfl, wp_ret]
  iintro H
  imodintro
  iexists s
  isplitr
  · ipureintro; exact h
  · iexact H

/-- Two programs in sequence. -/
theorem bind {α β : Type} {s : St F} {p : Prog (TpuEff nD τ sig (Elt F) Λ₀ .tc) α} {k : α → Prog (TpuEff nD τ sig (Elt F) Λ₀ .tc) β}
    {Q : α → St F → Prop} {R : β → St F → Prop} (h : Hoare c A s p Q) (hk : ∀ r s', Q r s' → Hoare c A s' (k r) R) :
    Hoare c A s (p >>= k) R := by
  unfold Hoare wpB at *
  rw [wp_bind]
  refine h.trans (wp_mono _ _ _ fun r => ?_)
  iintro ⟨%s', %hs, H⟩
  iapply (hk r s' hs)
  iexact H

/-- A check whose condition holds. -/
theorem assume {s : St F} {P : Prop} {d : Decidable P} (h : P) :
    Hoare c A s (Prog.lift (.assume P d)) (fun _ s' => s' = s) := by
  unfold Hoare wpB
  show _ ⊢ wp frame (wpE (defs₀ (F := F)) 𝒱₀ (c : Thread nD τ) none) Set.univ (.op (.assume P d) fun x => .ret x) _
  rw [wp_assume_of 𝒱₀ (c : Thread nD τ) none Set.univ h, wp_ret]
  iintro H
  imodintro
  iexists s
  isplitr
  · ipureintro; rfl
  · iexact H

/-- A load through an owned memory reference. -/
theorem load_of {s : St F} {q : PosShare TreeShare} {cs : CoreSpace} {sh : Shape} {e : EltTy} {m : Memref sig .tc cs sh e} {X : sh.Idx → Elt F e}
    (hs : stP c A s ⊢ iprop(owns (c : Thread nD τ) m q X ∗ (owns (c : Thread nD τ) m q X -∗ stP c A s)))
    {r : LoadRect sh} {hl : m.view.LoadsAt r} :
    Hoare c A s (Prog.lift (.load m r hl)) (fun v s' => s' = s ∧ v = fun y => X (r.idx y)) := by
  unfold Hoare wpB
  show _ ⊢ wp frame (wpE (defs₀ (F := F)) 𝒱₀ (c : Thread nD τ) none) Set.univ (.op (.load m r hl) fun x => .ret x) _
  refine hs.trans ?_
  unfold owns
  iintro ⟨⟨%f, %hf, Hf⟩, Hk⟩
  iapply (wp_load 𝒱₀ (c : Thread nD τ) none Set.univ (S := m.view.set) (q := q) (f := f) (View.setOn_subset_set m.view _)) $$ Hf
  iintro Hf
  rw [wp_ret]
  imodintro
  iexists s
  isplitr
  · ipureintro
    exact ⟨rfl, funext fun y => congrFun hf _⟩
  · iapply Hk
    iexists f
    isplitr
    · ipureintro; exact hf
    · iexact Hf

/-- A store through an owned memory reference. -/
theorem store_of {s : St F} {cs : CoreSpace} {sh : Shape} {e : EltTy} {m : Memref sig .tc cs sh e} {X : sh.Idx → Elt F e}
    {upd : (sh.Idx → Elt F e) → St F}
    (hs : stP c A s ⊢ iprop(owns (c : Thread nD τ) m fullShare X ∗ (∀ Y, owns (c : Thread nD τ) m fullShare Y -∗ stP c A (upd Y))))
    {off size : Fin sh.rank → ℕ} {inb : ∀ a, off a + size a ≤ sh.size a} {w : (Rect.unit (s := sh) off size inb).shape.Idx → Elt F e}
    {hx : (m.access (Rect.unit off size inb)).Stores Finset.univ} {hm} :
    Hoare c A s (Prog.lift (.store m (Rect.unit off size inb) w Finset.univ hx hm))
      (fun _ s' => s' = upd (VecWindow.put X off size w)) := by
  unfold Hoare wpB
  show _ ⊢ wp frame (wpE (defs₀ (F := F)) 𝒱₀ (c : Thread nD τ) none) Set.univ (.op (.store m (Rect.unit off size inb) w Finset.univ hx hm) fun x => .ret x) _
  refine hs.trans ?_
  unfold owns
  iintro ⟨⟨%f, %hf, Hf⟩, Hk⟩
  have hS : (m.access (Rect.unit off size inb)).setOn Finset.univ ⊆ m.view.set := by
    rw [View.setOn_univ]; exact View.set_slice_subset m.view _
  iapply (wp_store (defs := defs₀ (F := F)) (Q := fun r => iprop(∃ s', ⌜s' = upd (VecWindow.put X off size w)⌝ ∗ stP c A s')) (k := fun x => .ret x) (w := w) (hx := hx) (hm := hm) 𝒱₀ (c : Thread nD τ) none Set.univ (S := m.view.set) (f := f) hS) $$ Hf
  iintro Hf
  rw [wp_ret]
  imodintro
  iexists (upd (VecWindow.put X off size w))
  isplitr
  · ipureintro
    rfl
  · iapply Hk
    iexists _
    isplitr
    · ipureintro
      have := View.read_writes_cons_put m.view f inb w [] rfl
      rw [View.writes_nil, hf] at this
      exact this
    · iexact Hf

/-- A counted loop, by an invariant. -/
theorem loop {σ : Type} {w : ℕ} {lb ub st : BitVec w} {hok : Scf.OK lb ub st} {init : σ}
    {body : Fin (Scf.trips lb ub st) → σ → Prog (TpuEff nD τ sig (Elt F) Λ₀ .tc) σ} {s : St F} (I : ℕ → σ → St F → Prop)
    (h0 : I 0 init s)
    (hb : ∀ (k : Fin (Scf.trips lb ub st)) acc s, I k.val acc s → Hoare c A s (body k acc) (fun r s' => I (k.val + 1) r s')) :
    Hoare c A s (Scf.for lb ub st hok init body) (fun r s' => I (Scf.trips lb ub st) r s') := by
  unfold Hoare wpB at *
  have H := Scf.wp_for frame (wpE (defs₀ (F := F)) 𝒱₀ (c : Thread nD τ) none) Set.univ lb ub st hok init body
    (fun k acc => iprop(∃ s', ⌜I k acc s'⌝ ∗ stP c A s')) (fun k acc => by
      iintro ⟨%s', %hs, H⟩
      iapply (hb k acc s' hs)
      iexact H) (Q := fun r => iprop(∃ s', ⌜I (Scf.trips lb ub st) r s'⌝ ∗ stP c A s'))
  refine BIBase.Entails.trans ?_ H
  iintro H
  isplitl [H]
  · iexists s
    isplitr
    · ipureintro; exact h0
    · iexact H
  · iintro %acc H
    iexact H

/-- A load of `qs`. -/
theorem load_qs {s : St F} {r : LoadRect _} {hl : A.a2.view.LoadsAt r} :
    Hoare c A s (Prog.lift (.load A.a2 r hl)) (fun v s' => s' = s ∧ v = fun y => s.qs (r.idx y)) := load_of (m := A.a2) (X := s.qs) (by
  unfold stP
  iintro ⟨H0, H1, H2, H3, H4, H5, H6, H7, H8⟩
  isplitl [H0]
  · iexact H0
  · iintro H
    iframe)

/-- A load of `ks`. -/
theorem load_ks {s : St F} {r : LoadRect _} {hl : A.a3.view.LoadsAt r} :
    Hoare c A s (Prog.lift (.load A.a3 r hl)) (fun v s' => s' = s ∧ v = fun y => s.ks (r.idx y)) := load_of (m := A.a3) (X := s.ks) (by
  unfold stP
  iintro ⟨H0, H1, H2, H3, H4, H5, H6, H7, H8⟩
  isplitl [H1]
  · iexact H1
  · iintro H
    iframe)

/-- A load of `iqt`. -/
theorem load_iqt {s : St F} {r : LoadRect _} {hl : A.a4.view.LoadsAt r} :
    Hoare c A s (Prog.lift (.load A.a4 r hl)) (fun v s' => s' = s ∧ v = fun y => s.iqt (r.idx y)) := load_of (m := A.a4) (X := s.iqt) (by
  unfold stP
  iintro ⟨H0, H1, H2, H3, H4, H5, H6, H7, H8⟩
  isplitl [H2]
  · iexact H2
  · iintro H
    iframe)

/-- A load of `wit`. -/
theorem load_wit {s : St F} {r : LoadRect _} {hl : A.a5.view.LoadsAt r} :
    Hoare c A s (Prog.lift (.load A.a5 r hl)) (fun v s' => s' = s ∧ v = fun y => s.wit (r.idx y)) := load_of (m := A.a5) (X := s.wit) (by
  unfold stP
  iintro ⟨H0, H1, H2, H3, H4, H5, H6, H7, H8⟩
  isplitl [H3]
  · iexact H3
  · iintro H
    iframe)

/-- A load of `ki`. -/
theorem load_ki {s : St F} {r : LoadRect _} {hl : A.a6.view.LoadsAt r} :
    Hoare c A s (Prog.lift (.load A.a6 r hl)) (fun v s' => s' = s ∧ v = fun y => s.ki (r.idx y)) := load_of (m := A.a6) (X := s.ki) (by
  unfold stP
  iintro ⟨H0, H1, H2, H3, H4, H5, H6, H7, H8⟩
  isplitl [H4]
  · iexact H4
  · iintro H
    iframe)

/-- A load of `out`. -/
theorem load_out {s : St F} {r : LoadRect _} {hl : A.a7.view.LoadsAt r} :
    Hoare c A s (Prog.lift (.load A.a7 r hl)) (fun v s' => s' = s ∧ v = fun y => s.out (r.idx y)) := load_of (m := A.a7) (X := s.out) (by
  unfold stP
  iintro ⟨H0, H1, H2, H3, H4, H5, H6, H7, H8⟩
  isplitl [H5]
  · iexact H5
  · iintro H
    iframe)

/-- A load of `hi`. -/
theorem load_hi {s : St F} {r : LoadRect _} {hl : A.a8.view.LoadsAt r} :
    Hoare c A s (Prog.lift (.load A.a8 r hl)) (fun v s' => s' = s ∧ v = fun y => s.hi (r.idx y)) := load_of (m := A.a8) (X := s.hi) (by
  unfold stP
  iintro ⟨H0, H1, H2, H3, H4, H5, H6, H7, H8⟩
  isplitl [H6]
  · iexact H6
  · iintro H
    iframe)

/-- A load of `lo`. -/
theorem load_lo {s : St F} {r : LoadRect _} {hl : A.a9.view.LoadsAt r} :
    Hoare c A s (Prog.lift (.load A.a9 r hl)) (fun v s' => s' = s ∧ v = fun y => s.lo (r.idx y)) := load_of (m := A.a9) (X := s.lo) (by
  unfold stP
  iintro ⟨H0, H1, H2, H3, H4, H5, H6, H7, H8⟩
  isplitl [H7]
  · iexact H7
  · iintro H
    iframe)

/-- A load of `gm`. -/
theorem load_gm {s : St F} {r : LoadRect _} {hl : A.a10.view.LoadsAt r} :
    Hoare c A s (Prog.lift (.load A.a10 r hl)) (fun v s' => s' = s ∧ v = fun y => s.gm (r.idx y)) := load_of (m := A.a10) (X := s.gm) (by
  unfold stP
  iintro ⟨H0, H1, H2, H3, H4, H5, H6, H7, H8⟩
  isplitl [H8]
  · iexact H8
  · iintro H
    iframe)

/-- A store to `out`. -/
theorem store_out {s : St F} {off size : Fin _ → ℕ} {inb : ∀ a, off a + size a ≤ _} {w : (Rect.unit off size inb).shape.Idx → Elt F _}
    {hx : (A.a7.access (Rect.unit off size inb)).Stores Finset.univ} {hm} :
    Hoare c A s (Prog.lift (.store A.a7 (Rect.unit off size inb) w Finset.univ hx hm))
      (fun _ s' => s' = { s with out := VecWindow.put s.out off size w }) := store_of (m := A.a7) (X := s.out) (upd := fun Y => { s with out := Y }) (by
  unfold stP
  iintro ⟨H0, H1, H2, H3, H4, H5, H6, H7, H8⟩
  isplitl [H5]
  · iexact H5
  · iintro %Y H
    iframe)

/-- A store to `hi`. -/
theorem store_hi {s : St F} {off size : Fin _ → ℕ} {inb : ∀ a, off a + size a ≤ _} {w : (Rect.unit off size inb).shape.Idx → Elt F _}
    {hx : (A.a8.access (Rect.unit off size inb)).Stores Finset.univ} {hm} :
    Hoare c A s (Prog.lift (.store A.a8 (Rect.unit off size inb) w Finset.univ hx hm))
      (fun _ s' => s' = { s with hi := VecWindow.put s.hi off size w }) := store_of (m := A.a8) (X := s.hi) (upd := fun Y => { s with hi := Y }) (by
  unfold stP
  iintro ⟨H0, H1, H2, H3, H4, H5, H6, H7, H8⟩
  isplitl [H6]
  · iexact H6
  · iintro %Y H
    iframe)

/-- A store to `lo`. -/
theorem store_lo {s : St F} {off size : Fin _ → ℕ} {inb : ∀ a, off a + size a ≤ _} {w : (Rect.unit off size inb).shape.Idx → Elt F _}
    {hx : (A.a9.access (Rect.unit off size inb)).Stores Finset.univ} {hm} :
    Hoare c A s (Prog.lift (.store A.a9 (Rect.unit off size inb) w Finset.univ hx hm))
      (fun _ s' => s' = { s with lo := VecWindow.put s.lo off size w }) := store_of (m := A.a9) (X := s.lo) (upd := fun Y => { s with lo := Y }) (by
  unfold stP
  iintro ⟨H0, H1, H2, H3, H4, H5, H6, H7, H8⟩
  isplitl [H7]
  · iexact H7
  · iintro %Y H
    iframe)

/-- A store to `gm`. -/
theorem store_gm {s : St F} {off size : Fin _ → ℕ} {inb : ∀ a, off a + size a ≤ _} {w : (Rect.unit off size inb).shape.Idx → Elt F _}
    {hx : (A.a10.access (Rect.unit off size inb)).Stores Finset.univ} {hm} :
    Hoare c A s (Prog.lift (.store A.a10 (Rect.unit off size inb) w Finset.univ hx hm))
      (fun _ s' => s' = { s with gm := VecWindow.put s.gm off size w }) := store_of (m := A.a10) (X := s.gm) (upd := fun Y => { s with gm := Y }) (by
  unfold stP
  iintro ⟨H0, H1, H2, H3, H4, H5, H6, H7, H8⟩
  isplitl [H8]
  · iexact H8
  · iintro %Y H
    iframe)

end Hoare

end Cert.Proof.Kernel

end
-- ==== Proof.Checks.lean ====
/- The words that the kernel checks at run time: its loops' bounds and its accesses' offsets at the table words of a grid step. -/
module

public import proofs.«01_k».proof.Defs
public import proofs.«01_k».proof.Proof.Gen.Kernel
public import Idealize.ShloMosaic.Lib.LoopRemainder

@[expose] public section

namespace Cert.Proof.Kernel

open Cert.Kernel
open Idealize.ShloMosaic

/-- The key blocks that query block `q` sees. -/
def nblk (q : ℕ) : ℕ := q / 4 + 1

/-- The main loops over the key blocks run from 0 to their number. -/
theorem t1_loop_eq : ∀ q : Fin 64, k0_t1_loop (BitVec.ofNat 32 q) = ⟨0#32, BitVec.ofNat 32 (nblk q), 1#32⟩ := by
  have h : ∀ q : Fin 64, (k0_t1_loop (BitVec.ofNat 32 q)).ub = BitVec.ofNat 32 (nblk q) := by decide +kernel
  intro q; rw [← h q]

/-- The remainder loops are empty. -/
theorem t2_loop_eq : ∀ q : Fin 64, k0_t2_loop (BitVec.ofNat 32 q) = ⟨BitVec.ofNat 32 (nblk q), BitVec.ofNat 32 (nblk q), 1#32⟩ := by
  have h : ∀ q : Fin 64, (k0_t2_loop (BitVec.ofNat 32 q)).ub = BitVec.ofNat 32 (nblk q)
    ∧ (k0_t2_loop (BitVec.ofNat 32 q)).lb = BitVec.ofNat 32 (nblk q) := by decide +kernel
  intro q; obtain ⟨h1, h2⟩ := h q; rw [← h2]
  exact congrArg (fun u => (⟨(k0_t2_loop (BitVec.ofNat 32 q)).lb, u, 1#32⟩ : Scf.Loop 32)) (h1.trans h2.symm)

/-- The clearing loop runs over the other blocks. -/
theorem t34_loop_eq : ∀ q : Fin 64, k0_t34_loop (BitVec.ofNat 32 q) = ⟨BitVec.ofNat 32 (nblk q), 16#32, 1#32⟩ := by
  have h : ∀ q : Fin 64, (k0_t34_loop (BitVec.ofNat 32 q)).ub = 16#32
    ∧ (k0_t34_loop (BitVec.ofNat 32 q)).lb = BitVec.ofNat 32 (nblk q) := by decide +kernel
  intro q; obtain ⟨h1, h2⟩ := h q; rw [← h2, ← h1]

/-- Its remainder is empty. -/
theorem t35_loop_eq : ∀ q : Fin 64, k0_t35_loop (BitVec.ofNat 32 q) = ⟨16#32, 16#32, 1#32⟩ := by
  have h : ∀ q : Fin 64, (k0_t35_loop (BitVec.ofNat 32 q)).ub = 16#32 ∧ (k0_t35_loop (BitVec.ofNat 32 q)).lb = 16#32 := by decide +kernel
  intro q; obtain ⟨h1, h2⟩ := h q
  exact congrArg₂ (fun l u => (⟨l, u, 1#32⟩ : Scf.Loop 32)) h2 h1

/-- A loop over `n` blocks makes `n` trips. -/
theorem trips_blocks : ∀ n : Fin 17, Scf.trips 0#32 (BitVec.ofNat 32 n) 1#32 = n := by decide +kernel
/-- The clearing loop makes the rest of sixteen. -/
theorem trips_clear : ∀ n : Fin 17, Scf.trips (BitVec.ofNat 32 n) 16#32 1#32 = 16 - n := by decide +kernel
/-- Both have a meaning. -/
theorem ok_blocks : ∀ n : Fin 17, Scf.OK 0#32 (BitVec.ofNat 32 n) 1#32 ∧ Scf.OK (BitVec.ofNat 32 n) 16#32 1#32
    ∧ Scf.OK (BitVec.ofNat 32 n) (BitVec.ofNat 32 n) 1#32 := by decide +kernel

/-- The first row of block `k`. -/
theorem row_word : ∀ k : Fin 16, (Scalar.indexCast (Scalar.muli (Scf.iv 0#32 1#32 k) 1024#32)).toNat = 1024 * k := by decide +kernel
/-- The same, counted from block `n`. -/
theorem row_word_from : ∀ (n : Fin 17) (k : Fin 16), n.val + k.val < 16 →
    (Scalar.indexCast (Scalar.muli (Scf.iv (BitVec.ofNat 32 n) 1#32 k) 1024#32)).toNat = 1024 * (n + k) := by decide +kernel

theorem nblk_le (q : Fin 64) : nblk q ≤ 16 := by unfold nblk; omega
theorem nblk_pos (q : ℕ) : 1 ≤ nblk q := by unfold nblk; omega

theorem t1_trips (q : Fin 64) : (k0_t1_loop (BitVec.ofNat 32 q)).trips = nblk q := by
  have h := t1_loop_eq q
  have := nblk_le q
  exact (congrArg Scf.Loop.trips h).trans (trips_blocks ⟨nblk q, by omega⟩)

theorem t34_trips (q : Fin 64) : (k0_t34_loop (BitVec.ofNat 32 q)).trips = 16 - nblk q := by
  have h := t34_loop_eq q
  have := nblk_le q
  exact (congrArg Scf.Loop.trips h).trans (trips_clear ⟨nblk q, by omega⟩)

theorem t2_trips (q : Fin 64) : (k0_t2_loop (BitVec.ofNat 32 q)).trips = 0 :=
  (congrArg Scf.Loop.trips (t2_loop_eq q)).trans (Scf.trips_self _)

theorem t35_trips (q : Fin 64) : (k0_t35_loop (BitVec.ofNat 32 q)).trips = 0 :=
  (congrArg Scf.Loop.trips (t35_loop_eq q)).trans (Scf.trips_self _)

theorem t1_ok (q : Fin 64) : (k0_t1_loop (BitVec.ofNat 32 q)).OK := by
  have := nblk_le q
  have h := (ok_blocks ⟨nblk q, by omega⟩).1
  show Scf.OK _ _ _
  have e := t1_loop_eq q
  exact (congrArg Scf.Loop.OK e).mpr h

theorem t2_ok (q : Fin 64) : (k0_t2_loop (BitVec.ofNat 32 q)).OK := by
  have := nblk_le q
  have h := (ok_blocks ⟨nblk q, by omega⟩).2.2
  exact (congrArg Scf.Loop.OK (t2_loop_eq q)).mpr h

theorem t34_ok (q : Fin 64) : (k0_t34_loop (BitVec.ofNat 32 q)).OK := by
  have := nblk_le q
  have h := (ok_blocks ⟨nblk q, by omega⟩).2.1
  exact (congrArg Scf.Loop.OK (t34_loop_eq q)).mpr h

theorem t35_ok (q : Fin 64) : (k0_t35_loop (BitVec.ofNat 32 q)).OK :=
  (congrArg Scf.Loop.OK (t35_loop_eq q)).mpr (ok_blocks 16).2.2

/-- A word of a loop that makes as many trips as `w` says, at most `m`. -/
abbrev minLoop (w m : BitVec 32) : Scf.Loop 32 :=
  ⟨0#32, Scalar.addi 0#32 (Scalar.muli (Scalar.divsi (Scalar.subi (Scalar.minsi w m) 0#32) 1#32) 1#32), 1#32⟩

theorem minLoop_ub (w m : BitVec 32) : (minLoop w m).ub = Scalar.minsi w m := by
  show Scalar.addi 0#32 (Scalar.muli (Scalar.divsi (Scalar.subi (Scalar.minsi w m) 0#32) 1#32) 1#32) = _
  rw [Scalar.muli_divsi_one]
  simp [Scalar.addi, Scalar.subi, IntOp.addi, IntOp.subi]

theorem minsi_toInt (w m : BitVec 32) : (Scalar.minsi w m).toInt = min w.toInt m.toInt := by
  simp only [Scalar.minsi, IntOp.minsi, BitVec.slt]
  split <;> rename_i h <;> simp only [decide_eq_true_eq] at h <;> omega

theorem toInt_one : (1#32 : BitVec 32).toInt = 1 := by decide
theorem toInt_zero : (0#32 : BitVec 32).toInt = 0 := by decide

/-- The number of its trips. -/
theorem minLoop_trips (w m : BitVec 32) : (minLoop w m).trips = (min w.toInt m.toInt).toNat := by
  show Scf.trips 0#32 (minLoop w m).ub 1#32 = _
  rw [minLoop_ub, Scf.trips, minsi_toInt, toInt_one, toInt_zero]; omega

/-- It has a meaning. -/
theorem minLoop_ok (w m : BitVec 32) (hm : m.toInt ≤ 16) : (minLoop w m).OK := by
  show Scf.OK 0#32 (minLoop w m).ub 1#32
  have h : Scf.trips 0#32 (minLoop w m).ub 1#32 = _ := minLoop_trips w m
  unfold Scf.OK
  rw [h, toInt_one, toInt_zero]
  refine ⟨by decide, ?_⟩
  have : (2 : Int) ^ (32 - 1) = 2147483648 := by decide
  omega

/-- Its remainder has a meaning and makes no trip. -/
theorem minRem_ok (x : BitVec 32) : Scf.Loop.OK (⟨Scalar.addi 0#32 (Scalar.muli (Scalar.divsi x 1#32) 1#32), Scalar.addi 0#32 x, 1#32⟩ : Scf.Loop 32) :=
  Scf.rem_ok 0#32 x

section trips
variable (q : Fin 64)

/-- A trip of a loop over the blocks is one of sixteen. -/
theorem t1_lt (t : Fin (k0_t1_loop (BitVec.ofNat 32 q)).trips) : t.val < 16 := by
  have := t.isLt; have h := t1_trips q; have := nblk_le q; omega

/-- No trip of an empty loop. -/
theorem t2_elim {P : Prop} (t : Fin (k0_t2_loop (BitVec.ofNat 32 q)).trips) : P := by
  have := t.isLt; have h := t2_trips q; omega

theorem t35_elim {P : Prop} (t : Fin (k0_t35_loop (BitVec.ofNat 32 q)).trips) : P := by
  have := t.isLt; have h := t35_trips q; omega

/-- The multiple that block `t` starts at. -/
theorem mult_eq (t : Fin (k0_t1_loop (BitVec.ofNat 32 q)).trips) : (k0_mult9 (BitVec.ofNat 32 q) t).toNat = 1024 * t.val :=
  row_word ⟨t.val, t1_lt q t⟩

/-- The offsets of block `t`. -/
theorem off_eq (t : Fin (k0_t1_loop (BitVec.ofNat 32 q)).trips) : k0_off3 (BitVec.ofNat 32 q) t = ![1024 * t.val, 0] :=
  congrArg (fun n => ![n, 0]) (row_word ⟨t.val, t1_lt q t⟩)

/-- The offsets of block `t` of the mask. -/
theorem off26_eq (t : Fin (k0_t1_loop (BitVec.ofNat 32 q)).trips) : k0_off26 (BitVec.ofNat 32 q) t = ![0, 1024 * t.val, 0] :=
  congrArg (fun n => ![0, n, 0]) (row_word ⟨t.val, t1_lt q t⟩)

theorem t34_lt (t : Fin (k0_t34_loop (BitVec.ofNat 32 q)).trips) : nblk q + t.val < 16 := by
  have := t.isLt; have h := t34_trips q; have := nblk_le q; omega

theorem mult43_eq (t : Fin (k0_t34_loop (BitVec.ofNat 32 q)).trips) : (k0_mult43 (BitVec.ofNat 32 q) t).toNat = 1024 * (nblk q + t.val) := by
  have hl := congrArg Scf.Loop.lb (t34_loop_eq q)
  have hn := nblk_le q
  have ht := t34_lt q t
  have h := row_word_from ⟨nblk q, by omega⟩ ⟨t.val, by omega⟩ ht
  show (Scalar.indexCast (Scalar.muli (Scf.iv (k0_t34_loop (BitVec.ofNat 32 q)).lb 1#32 t) 1024#32)).toNat = _
  rw [hl]; exact h

theorem off29_eq (t : Fin (k0_t34_loop (BitVec.ofNat 32 q)).trips) : k0_off29 (BitVec.ofNat 32 q) t = ![0, 1024 * (nblk q + t.val), 0] :=
  congrArg (fun n => ![0, n, 0]) (mult43_eq q t)

end trips

/-- Rows of a block lie in the scratch. -/
theorem inb2 {off : Fin 2 → ℕ} {k : ℕ} (h : off = ![1024 * k, 0]) (hk : k < 16) : ∀ a, off a + S1024x256.size a ≤ S16384x256.size a := by
  subst h; intro a; fin_cases a
  · show 1024 * k + 1024 ≤ 16384; omega
  · show 0 + 256 ≤ 256; omega

/-- Rows of a block lie in the mask. -/
theorem inb3 {off : Fin 3 → ℕ} {k : ℕ} (h : off = ![0, 1024 * k, 0]) (hk : k < 16) : ∀ a, off a + S1x1024x256.size a ≤ S1x16384x256.size a := by
  subst h; intro a; fin_cases a
  · show 0 + 1 ≤ 1; omega
  · show 1024 * k + 1024 ≤ 16384; omega
  · show 0 + 256 ≤ 256; omega

/-- A block is whole packed rows of the scratch. -/
theorem packed2 {off : Fin 2 → ℕ} {k : ℕ} (h : off = ![1024 * k, 0]) (hinb : ∀ a, off a + S1024x256.size a ≤ S16384x256.size a) :
    (Rect.unit (s := S16384x256) off S1024x256.size hinb).PackedRows (EltTy.packing .i16) := by
  subst h; right
  refine ⟨by decide, rfl, Or.inl ⟨?_, ?_⟩⟩
  · show 2 ∣ 1024 * k; omega
  · show 2 ∣ 1024; decide

/-- A block is whole packed rows of the mask. -/
theorem packed3 {off : Fin 3 → ℕ} {k : ℕ} (h : off = ![0, 1024 * k, 0]) (hinb : ∀ a, off a + S1x1024x256.size a ≤ S1x16384x256.size a) :
    (Rect.unit (s := S1x16384x256) off S1x1024x256.size hinb).PackedRows (EltTy.packing .i8) := by
  subst h; right
  refine ⟨by decide, rfl, Or.inl ⟨?_, ?_⟩⟩
  · show 4 ∣ 1024 * k; omega
  · show 4 ∣ 1024; decide

/-- The offsets of chunk `r` of the step's own block. -/
theorem off2_eq : ∀ (k : Fin 16) (r : Fin 8), k0_off2 (BitVec.ofNat 32 k) (BitVec.ofNat 32 (128 * r.val)) = ![1024 * k.val + 128 * r.val, 0] := by
  have h : ∀ (k : Fin 16) (r : Fin 8), (k0_off2 (BitVec.ofNat 32 k) (BitVec.ofNat 32 (128 * r.val))) 0 = 1024 * k.val + 128 * r.val := by decide +kernel
  intro k r; rw [← h k r]; rfl

theorem inbChunk {off : Fin 2 → ℕ} {k r : ℕ} (h : off = ![1024 * k + 128 * r, 0]) (hk : k < 16) (hr : r < 8) : ∀ a, off a + S128x256.size a ≤ S16384x256.size a := by
  subst h; intro a; fin_cases a
  · show 1024 * k + 128 * r + 128 ≤ 16384; omega
  · show 0 + 256 ≤ 256; omega

theorem packedChunk {off : Fin 2 → ℕ} {k r : ℕ} (h : off = ![1024 * k + 128 * r, 0]) (hinb : ∀ a, off a + S128x256.size a ≤ S16384x256.size a) :
    (Rect.unit (s := S16384x256) off S128x256.size hinb).PackedRows (EltTy.packing .i16) := by
  subst h; right
  refine ⟨by decide, rfl, Or.inl ⟨?_, ?_⟩⟩
  · show 2 ∣ 1024 * k + 128 * r; omega
  · show 2 ∣ 128; decide

theorem mults_dvd : ∀ k : Fin 16, 128 ∣ (k0_mult1 (BitVec.ofNat 32 k)).toNat ∧ 128 ∣ (k0_mult2 (BitVec.ofNat 32 k)).toNat
    ∧ 128 ∣ (k0_mult3 (BitVec.ofNat 32 k)).toNat ∧ 128 ∣ (k0_mult4 (BitVec.ofNat 32 k)).toNat ∧ 128 ∣ (k0_mult5 (BitVec.ofNat 32 k)).toNat
    ∧ 128 ∣ (k0_mult6 (BitVec.ofNat 32 k)).toNat ∧ 128 ∣ (k0_mult7 (BitVec.ofNat 32 k)).toNat ∧ 128 ∣ (k0_mult8 (BitVec.ofNat 32 k)).toNat := by
  decide +kernel

/-- The last key block of a query block is where the kernel selects. -/
theorem cond2_iff : ∀ (q : Fin 64) (k : Fin 16), k0_cond2 (BitVec.ofNat 32 q) (BitVec.ofNat 32 k) = 1#1 ↔ k.val = q.val / 4 := by decide +kernel

section checks
variable (q : Fin 64) (k : Fin 16)

theorem chk1 : k0_chk1 (BitVec.ofNat 32 q) (BitVec.ofNat 32 k) := by
  have hm := mults_dvd k
  have dA : ∀ t : Fin (k0_t1_loop (BitVec.ofNat 32 q)).trips, 1024 ∣ (k0_mult9 (BitVec.ofNat 32 q) t).toNat := fun t => ⟨_, mult_eq q t⟩
  have iA : ∀ (t : Fin (k0_t1_loop (BitVec.ofNat 32 q)).trips) a, k0_off3 (BitVec.ofNat 32 q) t a + S1024x256.size a ≤ S16384x256.size a :=
    fun t => inb2 (off_eq q t) (t1_lt q t)
  refine ⟨⟨hm.1, fun r => inbChunk (off2_eq k r) k.isLt r.isLt, fun r _ => packedChunk (off2_eq k r) _, hm.2.1, hm.2.2.1, hm.2.2.2.1, hm.2.2.2.2.1,
    hm.2.2.2.2.2.1, hm.2.2.2.2.2.2.1, hm.2.2.2.2.2.2.2, fun _ => t1_ok q, fun t _ => dA t, fun t _ => iA t, fun _ => t2_ok q, fun t _ => t2_elim q t,
    fun t _ => t2_elim q t, fun _ => t1_ok q, fun t _ => dA t, fun t _ => iA t, fun t _ => dA t, fun t _ => dA t,
    fun t _ => inb3 (off26_eq q t) (t1_lt q t), fun t _ _ => packed3 (off26_eq q t) _, fun _ => t2_ok q, fun t _ => t2_elim q t, fun t _ => t2_elim q t,
    fun t _ => t2_elim q t, fun t _ => t2_elim q t, fun t _ => t2_elim q t, fun t _ _ => t2_elim q t, fun _ => t34_ok q, fun t _ => ⟨_, mult43_eq q t⟩⟩,
    fun t _ => inb3 (off29_eq q t) (t34_lt q t), fun t _ _ => packed3 (off29_eq q t) _, fun _ => t35_ok q, fun t _ => t35_elim q t,
    fun t _ => t35_elim q t, fun t _ _ => t35_elim q t⟩

/-- What the loop of a search needs, with its remainder. -/
theorem search_ok (w m : BitVec 32) (hm : m.toInt ≤ 16) : (minLoop w m).OK
    ∧ Scf.Loop.OK (⟨Scalar.addi 0#32 (Scalar.muli (Scalar.divsi (Scalar.subi (Scalar.minsi w m) 0#32) 1#32) 1#32), Scalar.addi 0#32 (Scalar.subi (Scalar.minsi w m) 0#32), 1#32⟩ : Scf.Loop 32) :=
  ⟨minLoop_ok w m hm, minRem_ok _⟩

theorem dvdA (t : Fin (k0_t1_loop (BitVec.ofNat 32 q)).trips) : 1024 ∣ (k0_mult9 (BitVec.ofNat 32 q) t).toNat := ⟨_, mult_eq q t⟩
theorem inbA (t : Fin (k0_t1_loop (BitVec.ofNat 32 q)).trips) : ∀ a, k0_off3 (BitVec.ofNat 32 q) t a + S1024x256.size a ≤ S16384x256.size a :=
  inb2 (off_eq q t) (t1_lt q t)

theorem chk2 (w : BitVec 32) : k0_chk2 (BitVec.ofNat 32 q) (BitVec.ofNat 32 k) w :=
  have h := search_ok w 16#32 (by decide)
  ⟨fun _ => h.1, fun _ _ => t1_ok q, fun _ t _ => dvdA q t, fun _ t _ => inbA q t, fun _ _ => t2_ok q, fun _ t _ => t2_elim q t, fun _ t _ => t2_elim q t,
    fun _ => h.2, fun _ _ => t1_ok q, fun _ t _ => dvdA q t, fun _ t _ => inbA q t, fun _ _ => t2_ok q, fun _ t _ => t2_elim q t, fun _ t _ => t2_elim q t⟩

theorem chk3 (w : BitVec 32) : k0_chk3 (BitVec.ofNat 32 q) (BitVec.ofNat 32 k) w :=
  ⟨fun _ _ => t1_ok q, fun t _ _ => dvdA q t, fun t _ _ => inbA q t, fun t _ _ => dvdA q t, fun t _ _ => dvdA q t, fun t _ _ _ => packed2 (off_eq q t) _,
    fun _ _ => t2_ok q, fun t _ _ => t2_elim q t, fun t _ _ => t2_elim q t, fun t _ _ => t2_elim q t, fun t _ _ => t2_elim q t,
    fun t _ _ _ => t2_elim q t⟩

theorem chk4 (w u : BitVec 32) : k0_chk4 (BitVec.ofNat 32 q) (BitVec.ofNat 32 k) w u :=
  have h := search_ok u 12#32 (by decide)
  ⟨fun _ _ => h.1, fun _ _ _ => t1_ok q, fun _ t _ _ => dvdA q t, fun _ t _ _ => inbA q t, fun _ _ _ => t2_ok q, fun _ t _ _ => t2_elim q t, fun _ t _ _ => t2_elim q t,
    fun _ _ => h.2, fun _ _ _ => t1_ok q, fun _ t _ _ => dvdA q t, fun _ t _ _ => inbA q t, fun _ _ _ => t2_ok q, fun _ t _ _ => t2_elim q t, fun _ t _ _ => t2_elim q t⟩

theorem chk5 (w u : BitVec 32) : k0_chk5 (BitVec.ofNat 32 q) (BitVec.ofNat 32 k) w u :=
  have h := search_ok u 2#32 (by decide)
  ⟨fun _ _ => h.1, fun _ _ _ => t1_ok q, fun _ t _ _ => dvdA q t, fun _ t _ _ => inbA q t, fun _ _ _ => t2_ok q, fun _ t _ _ => t2_elim q t, fun _ t _ _ => t2_elim q t,
    fun _ _ => h.2, fun _ _ _ => t1_ok q, fun _ t _ _ => dvdA q t, fun _ t _ _ => inbA q t, fun _ _ _ => t2_ok q, fun _ t _ _ => t2_elim q t, fun _ t _ _ => t2_elim q t⟩

theorem chk6 (w u : BitVec 32) : k0_chk6 (BitVec.ofNat 32 q) (BitVec.ofNat 32 k) w u :=
  have h := search_ok u 2#32 (by decide)
  ⟨fun _ _ => h.1, fun _ _ _ => t1_ok q, fun _ t _ _ => dvdA q t, fun _ t _ _ => inbA q t, fun _ _ _ => t2_ok q, fun _ t _ _ => t2_elim q t, fun _ t _ _ => t2_elim q t,
    fun _ _ => h.2, fun _ _ _ => t1_ok q, fun _ t _ _ => dvdA q t, fun _ t _ _ => inbA q t, fun _ _ _ => t2_ok q, fun _ t _ _ => t2_elim q t, fun _ t _ _ => t2_elim q t⟩

theorem chk7 (w : BitVec 32) : k0_chk7 (BitVec.ofNat 32 q) (BitVec.ofNat 32 k) w :=
  ⟨fun _ _ => t1_ok q, fun t _ _ => dvdA q t, fun t _ _ => inbA q t, fun t _ _ => dvdA q t, fun _ _ => t2_ok q, fun t _ _ => t2_elim q t,
    fun t _ _ => t2_elim q t, fun t _ _ => t2_elim q t⟩
end checks

end Cert.Proof.Kernel
-- ==== Proof.Count.lean ====
/- The counting loops of the selection kernel: each leaves the scratch alone and returns slab sums of a table of ones and zeros. -/
module

public import proofs.«01_k».proof.Proof.Hoare
public import proofs.«01_k».proof.Proof.Gen.Kernel.Skeleton
public import proofs.«01_k».proof.Proof.Checks

@[expose] public section

noncomputable section

namespace Cert.Proof.Kernel

open Cert.Kernel Cert.Kernel.Gen
open Idealize.ShloMosaic Idealize.ShloMosaic.TcCoe

/-- Row `r` of the scratch and the mask; a row that is out of range is taken modulo their number. -/
abbrev row (n : ℕ) : Fin 16384 := ⟨n % 16384, Nat.mod_lt _ (by decide)⟩

/-- Block `k` of the key rows of a table. -/
def blk {α : Type} (X : S16384x256.Idx → α) (k : ℕ) : S1024x256.Idx → α :=
  fun y => X (Fin.cons (row (1024 * k + (y 0).val)) (Fin.cons (⟨(y 1).val, (y 1).isLt⟩ : Fin 256) finZeroElim))

/-- A load of a block reads the block. -/
theorem load_blk {α : Type} (X : S16384x256.Idx → α) {off : Fin 2 → ℕ} {k : ℕ} (h : off = ![1024 * k, 0])
    (inb : ∀ a, off a + S1024x256.size a ≤ S16384x256.size a) :
    (fun y => X ((Rect.unit (s := S16384x256) off S1024x256.size inb).toLoadRect.idx y)) = blk X k := by
  subst h
  funext y
  refine congrArg X (funext fun a => Fin.ext ?_)
  have h0 := inb 0
  have hy : (y 0).val < 1024 := (y 0).isLt
  have h0' : 1024 * k + 1024 ≤ 16384 := h0
  fin_cases a
  · show 1024 * k + 1 * (y 0).val = (1024 * k + (y 0).val) % 16384
    rw [Nat.mod_eq_of_lt (by omega), one_mul]
  · show 0 + 1 * (y 1).val = (y 1).val
    omega

theorem slab_lt (j : Fin 32) (y : S32x256.Idx) : ∀ a : Fin 2, (![32 * j.val, 0] : Fin 2 → ℕ) a + (y a).val < S1024x256.size a := by
  have h0 : (y 0).val < 32 := (y 0).isLt
  have h1 : (y 1).val < 256 := (y 1).isLt
  intro a; fin_cases a
  · show 32 * j.val + (y 0).val < 1024; omega
  · show 0 + (y 1).val < 256; omega

/-- The sum of the 32 slabs of 32 rows of a block's table. -/
def slabSum (P : IVec S1024x256 16) : IVec S32x256 16 :=
  fun y => ∑ j : Fin 32, P (fun a => ⟨(![32 * j.val, 0] : Fin 2 → ℕ) a + (y a).val, slab_lt j y a⟩)

/-- The slab sums of the first `n` blocks' tables. -/
def slabs (P : ℕ → IVec S1024x256 16) : ℕ → IVec S32x256 16
  | 0 => fun _ => 0#16
  | n + 1 => fun y => slabs P n y + slabSum (P n) y

/-- The ones and zeros of a threshold. -/
def geTab (X : S16384x256.Idx → BitVec 16) (thr : IVec S1x256 16) (k : ℕ) : IVec S1024x256 16 :=
  k0_pay2 (F := Bits) thr 1#16 0#16 (blk X k)

/-- A trip adds the slab sum of its block. -/
theorem pay127_eq (acc : IVec S32x256 16) (thr : IVec S1x256 16) (v : Vec Bits S1024x256 .i16) :
    k0_pay127 acc (k0_pay2 (F := Bits) thr 1#16 0#16 v) (k0_pay3 (F := Bits) thr 1#16 0#16 v) (k0_pay4 (F := Bits) thr 1#16 0#16 v)
      = fun y => acc y + slabSum (k0_pay2 (F := Bits) thr 1#16 0#16 v) y := by
  funext y
  unfold slabSum
  generalize hP : k0_pay2 (F := Bits) thr 1#16 0#16 v = P
  simp only [Fin.sum_univ_castSucc, Fin.sum_univ_zero, zero_add]
  subst hP
  rfl

/-- A program of the tie cut's trip adds the slab sum of its block too. -/
theorem pay197_eq (acc : IVec S32x256 16) (v1 : BitVec 32) (v953 v967 : IVec S1x256 16) (v979 : IVec S1024x256 16) (v1006 : IVec S1x256 32)
    (t : Fin (k0_t30_loop v1).trips) (x y : Vec Bits S1024x256 .i16) :
    k0_pay197 acc (k0_pay118 (F := Bits) v1 v953 v967 v979 1#16 0#16 v1006 0#32 1#32 t x y) (k0_pay119 (F := Bits) v1 v953 v967 v979 1#16 0#16 v1006 0#32 1#32 t x y)
      = fun z => acc z + slabSum (k0_pay118 (F := Bits) v1 v953 v967 v979 1#16 0#16 v1006 0#32 1#32 t x y) z := by
  funext z
  unfold slabSum
  generalize hP : k0_pay118 (F := Bits) v1 v953 v967 v979 1#16 0#16 v1006 0#32 1#32 t x y = P
  simp only [Fin.sum_univ_castSucc, Fin.sum_univ_zero, zero_add]
  subst hP
  rfl

/-- Reassociation of three programs in sequence. -/
theorem Hoare.assoc {c : Dev nD} {A : Args} {α β γ : Type} {s : St Bits} {p : Idealize.SL.Sem.Prog (TpuEff nD τ sig (Elt Bits) Λ₀ .tc) α}
    {k : α → Idealize.SL.Sem.Prog (TpuEff nD τ sig (Elt Bits) Λ₀ .tc) β} {l : β → Idealize.SL.Sem.Prog (TpuEff nD τ sig (Elt Bits) Λ₀ .tc) γ} {R : γ → St Bits → Prop}
    (h : Hoare c A s (p >>= fun x => k x >>= l) R) : Hoare c A s ((p >>= k) >>= l) R := by
  rw [bind_assoc]; exact h

/-- A loop of no trips returns what it is given. -/
theorem Hoare.none {c : Dev nD} {A : Args} {σ : Type} {lb ub st : BitVec 32} {hok : Scf.OK lb ub st} {init : σ}
    {body : Fin (Scf.trips lb ub st) → σ → Idealize.SL.Sem.Prog (TpuEff nD τ sig (Elt Bits) Λ₀ .tc) σ} {s : St Bits} (h : Scf.trips lb ub st = 0) :
    Hoare c A s (Scf.for lb ub st hok init body) (fun r s' => s' = s ∧ r = init) :=
  (Hoare.loop (I := fun _ r s' => s' = s ∧ r = init) ⟨rfl, rfl⟩ (fun k => by have := k.isLt; omega)).mono fun _ _ h => h

/-- A loop whose trip adds the slab sum of its block's table returns the slab sums. -/
theorem Hoare.slabs {c : Dev nD} {A : Args} {lb ub st : BitVec 32} {hok : Scf.OK lb ub st} {init : IVec S32x256 16}
    {body : Fin (Scf.trips lb ub st) → IVec S32x256 16 → Idealize.SL.Sem.Prog (TpuEff nD τ sig (Elt Bits) Λ₀ .tc) (IVec S32x256 16)} {s : St Bits} (P : ℕ → IVec S1024x256 16)
    {n : ℕ} (hn : Scf.trips lb ub st = n) (h0 : init = fun _ => 0#16)
    (hb : ∀ k acc, Hoare c A s (body k acc) (fun r s' => s' = s ∧ r = fun y => acc y + slabSum (P k.val) y)) :
    Hoare c A s (Scf.for lb ub st hok init body) (fun r s' => s' = s ∧ r = slabs P n) := by
  refine (Hoare.loop (I := fun k r s' => s' = s ∧ r = Kernel.slabs P k) ⟨rfl, h0⟩ ?_).mono ?_
  · rintro k acc _ ⟨rfl, rfl⟩
    exact (hb k _).mono fun r s' h => h
  · rintro r s' ⟨rfl, rfl⟩
    exact ⟨rfl, by rw [hn]⟩

/-- A loop that leaves the contents alone iterates its trip's function. -/
theorem Hoare.iter {c : Dev nD} {A : Args} {σ : Type} {lb ub st : BitVec 32} {hok : Scf.OK lb ub st} {init : σ}
    {body : Fin (Scf.trips lb ub st) → σ → Idealize.SL.Sem.Prog (TpuEff nD τ sig (Elt Bits) Λ₀ .tc) σ} {s : St Bits} (g : σ → σ) {n : ℕ} (hn : Scf.trips lb ub st = n)
    (hb : ∀ k acc, Hoare c A s (body k acc) (fun r s' => s' = s ∧ r = g acc)) :
    Hoare c A s (Scf.for lb ub st hok init body) (fun r s' => s' = s ∧ r = g^[n] init) := by
  refine (Hoare.loop (I := fun k r s' => s' = s ∧ r = g^[k] init) ⟨rfl, rfl⟩ ?_).mono ?_
  · rintro k acc _ ⟨rfl, rfl⟩
    exact (hb k _).mono fun r s' h => ⟨h.1, by rw [h.2, Function.iterate_succ_apply']⟩
  · rintro r s' ⟨rfl, rfl⟩
    exact ⟨rfl, by rw [hn]⟩

/-- A trip, with its load. -/
theorem trip_eq (X : S16384x256.Idx → BitVec 16) (thr : IVec S1x256 16) (acc : IVec S32x256 16) {off : Fin 2 → ℕ} {k : ℕ} (h : off = ![1024 * k, 0])
    (inb : ∀ a, off a + S1024x256.size a ≤ S16384x256.size a) :
    k0_pay127 acc (k0_pay2 (F := Bits) thr 1#16 0#16 fun y => X ((Rect.unit (s := S16384x256) off S1024x256.size inb).toLoadRect.idx y))
      (k0_pay3 (F := Bits) thr 1#16 0#16 fun y => X ((Rect.unit (s := S16384x256) off S1024x256.size inb).toLoadRect.idx y))
      (k0_pay4 (F := Bits) thr 1#16 0#16 fun y => X ((Rect.unit (s := S16384x256) off S1024x256.size inb).toLoadRect.idx y))
      = fun y => acc y + slabSum (geTab X thr k) y := by
  exact (pay127_eq acc thr _).trans (by rw [geTab, ← load_blk X h inb]; rfl)

/-- The running values of a search: the bounds and the counts at them. -/
abbrev V4 : Type := IVec S1x256 32 × IVec S1x256 32 × IVec S1x256 32 × IVec S1x256 32

/-- One halving of a search over the first `n` blocks of `X`. -/
def stepV (X : S16384x256.Idx → BitVec 16) (n : ℕ) (target : IVec S1x256 32) (a : V4) : V4 :=
  (k0_pay72 target a.1 a.2.1 a.2.2.1 (slabs (geTab X (k0_pay65 a.1 a.2.2.1)) n),
   k0_pay73 target a.1 a.2.1 a.2.2.1 (slabs (geTab X (k0_pay65 a.1 a.2.2.1)) n),
   k0_pay74 target a.1 a.2.1 a.2.2.1 (slabs (geTab X (k0_pay65 a.1 a.2.2.1)) n),
   k0_pay75 target a.1 a.2.1 a.2.2.1 a.2.2.2 (slabs (geTab X (k0_pay65 a.1 a.2.2.1)) n))

/-- The ones and zeros of the tied keys before the columns' positions. -/
def tieTab (v953 v967 : IVec S1x256 16) (v1006 : IVec S1x256 32) (hi lo : S16384x256.Idx → BitVec 16) (q : Fin 64) (k : ℕ) : IVec S1024x256 16 :=
  if h : k < (k0_t30_loop (BitVec.ofNat 32 q)).trips then
    k0_pay118 (F := Bits) (BitVec.ofNat 32 q) v953 v967 k0_pay192 1#16 0#16 v1006 0#32 1#32 ⟨k, h⟩ (blk hi k) (blk lo k)
  else fun _ => 0#16

/-- One halving of the tie cut. -/
def stepJ (v950_1 v950_3 : IVec S1x256 32) (v952 : IVec S1x256 1) (v953 : IVec S1x256 16) (v964_0 v964_1 v964_2 v965 : IVec S1x256 32)
    (hi lo : S16384x256.Idx → BitVec 16) (q : Fin 64) (a : IVec S1x256 32 × IVec S1x256 32) : IVec S1x256 32 × IVec S1x256 32 :=
  (k0_pay200 v950_1 v950_3 v952 v964_1 v964_2 a.1 a.2 (slabs (tieTab v953 (k0_pay190 v952 v964_0 v965) (k0_pay195 a.1 a.2) hi lo q) (nblk q)),
   k0_pay201 v950_1 v950_3 v952 v964_1 v964_2 a.1 a.2 (slabs (tieTab v953 (k0_pay190 v952 v964_0 v965) (k0_pay195 a.1 a.2) hi lo q) (nblk q)))

section loops
variable {c : Dev nD} {A : Args} (i : grid0.Coords) (h2 : A.a2.IsWhole) (h3 : A.a3.IsWhole) (h4 : A.a4.IsWhole) (h5 : A.a5.IsWhole)
    (h6 : A.a6.IsWhole) (h7 : A.a7.IsWhole) (h8 : A.a8.IsWhole) (h9 : A.a9.IsWhole) (h10 : A.a10.IsWhole) (q : Fin 64) (v3 : BitVec 32)

/-- The first counting loop. -/
theorem count_t1 {hok} (hw1 v23 hc v894) (s : St Bits) :
    Hoare c A s (Scf.Loop.for (k0_t1_loop (BitVec.ofNat 32 q)) hok k0_pay126
        (k0_t1_body (F := Bits) i A.a2 h2 A.a3 h3 A.a4 h4 A.a5 h5 A.a6 h6 A.a7 h7 A.a8 h8 A.a9 h9 A.a10 h10 (BitVec.ofNat 32 q) v3 hw1 v23 hc v894))
      (fun r s' => s' = s ∧ r = slabs (geTab s.hi (k0_pay125 (F := Bits) v894)) (nblk q)) := by
  refine Hoare.slabs _ (t1_trips q) rfl ?_
  intro k acc
  unfold k0_t1_body
  rw [k0_part1_eq_skeleton]
  refine Hoare.assoc (Hoare.bind Hoare.load_hi ?_)
  rintro _ s ⟨rfl, rfl⟩
  refine Hoare.ret ⟨rfl, ?_⟩
  exact trip_eq s.hi _ acc (off_eq q k) _

/-- A search loop iterates the halving. -/
theorem search_t3 {init : V4} (hc v892 v893 v900 v906 v918 v928 v942 hw2) {hok} (s : St Bits) :
    Hoare c A s (Scf.Loop.for (k0_t3_loop v942) hok init
        (k0_t3_body (F := Bits) i A.a2 h2 A.a3 h3 A.a4 h4 A.a5 h5 A.a6 h6 A.a7 h7 A.a8 h8 A.a9 h9 A.a10 h10 (BitVec.ofNat 32 q) v3 hc v892 v893 v900 v906 v918 v928 v942 hw2))
      (fun r s' => s' = s ∧ r = (stepV s.hi (nblk q) (broadcast S1x256 256#32))^[(k0_t3_loop v942).trips] init) := by
  refine Hoare.iter _ rfl ?_
  rintro k ⟨a, b, d, e⟩
  unfold k0_t3_body
  refine Hoare.bind (Hoare.slabs (geTab s.hi (k0_pay65 a d)) (t1_trips q) rfl ?_) ?_
  · intro k acc
    unfold k0_t4_body
    rw [k0_part3_eq_skeleton]
    refine Hoare.assoc (Hoare.bind Hoare.load_hi ?_)
    rintro _ s ⟨rfl, rfl⟩
    refine Hoare.ret ⟨rfl, ?_⟩
    exact trip_eq s.hi _ acc (off_eq q k) _
  · rintro _ s ⟨rfl, rfl⟩
    refine Hoare.bind (Hoare.none (t2_trips q)) ?_
    rintro _ s ⟨rfl, rfl⟩
    exact Hoare.ret ⟨rfl, rfl⟩

/-- A search loop iterates the halving. -/
theorem search_t11 {init : V4} (hc v892 v893 v960 hc3 v1009 v1010 v1011 v1012 v1035 hw4 cz v1037) {hok} (s : St Bits) :
    Hoare c A s (Scf.Loop.for (k0_t11_loop v1035) hok init
        (k0_t11_body (F := Bits) i A.a2 h2 A.a3 h3 A.a4 h4 A.a5 h5 A.a6 h6 A.a7 h7 A.a8 h8 A.a9 h9 A.a10 h10 (BitVec.ofNat 32 q) v3 hc v892 v893 v960 1#16 0#16 hc3 v1009 v1010 v1011 v1012 v1035 hw4 cz v1037))
      (fun r s' => s' = s ∧ r = (stepV s.lo (nblk q) v1009)^[(k0_t11_loop v1035).trips] init) := by
  refine Hoare.iter _ rfl ?_
  rintro k ⟨a, b, d, e⟩
  unfold k0_t11_body
  refine Hoare.bind (Hoare.slabs (geTab s.lo (k0_pay65 a d)) (t1_trips q) rfl ?_) ?_
  · intro k acc
    unfold k0_t12_body
    rw [k0_part7_eq_skeleton]
    refine Hoare.assoc (Hoare.bind Hoare.load_lo ?_)
    rintro _ s ⟨rfl, rfl⟩
    refine Hoare.ret ⟨rfl, ?_⟩
    exact trip_eq s.lo _ acc (off_eq q k) _
  · rintro _ s ⟨rfl, rfl⟩
    refine Hoare.bind (Hoare.none (t2_trips q)) ?_
    rintro _ s ⟨rfl, rfl⟩
    exact Hoare.ret ⟨rfl, rfl⟩

/-- A search loop iterates the halving. -/
theorem search_t17 {init : V4} (hc v892 v893 v960 hc3 v1009 v1010 v1011 v1012 v1035 hw4 cz v1037 v1066 hw5) {hok} (s : St Bits) :
    Hoare c A s (Scf.Loop.for (k0_t17_loop v1066) hok init
        (k0_t17_body (F := Bits) i A.a2 h2 A.a3 h3 A.a4 h4 A.a5 h5 A.a6 h6 A.a7 h7 A.a8 h8 A.a9 h9 A.a10 h10 (BitVec.ofNat 32 q) v3 hc v892 v893 v960 1#16 0#16 hc3 v1009 v1010 v1011 v1012 v1035 hw4 cz v1037 v1066 hw5))
      (fun r s' => s' = s ∧ r = (stepV s.lo (nblk q) v1009)^[(k0_t17_loop v1066).trips] init) := by
  refine Hoare.iter _ rfl ?_
  rintro k ⟨a, b, d, e⟩
  unfold k0_t17_body
  refine Hoare.bind (Hoare.slabs (geTab s.lo (k0_pay65 a d)) (t1_trips q) rfl ?_) ?_
  · intro k acc
    unfold k0_t18_body
    rw [k0_part11_eq_skeleton]
    refine Hoare.assoc (Hoare.bind Hoare.load_lo ?_)
    rintro _ s ⟨rfl, rfl⟩
    refine Hoare.ret ⟨rfl, ?_⟩
    exact trip_eq s.lo _ acc (off_eq q k) _
  · rintro _ s ⟨rfl, rfl⟩
    refine Hoare.bind (Hoare.none (t2_trips q)) ?_
    rintro _ s ⟨rfl, rfl⟩
    exact Hoare.ret ⟨rfl, rfl⟩

/-- A search loop iterates the halving. -/
theorem search_t23 {init : V4} (hc v892 v893 v900 v906 v918 v928 v960 hc3 v1009 v1097 hw6) {hok} (s : St Bits) :
    Hoare c A s (Scf.Loop.for (k0_t23_loop v1097) hok init
        (k0_t23_body (F := Bits) i A.a2 h2 A.a3 h3 A.a4 h4 A.a5 h5 A.a6 h6 A.a7 h7 A.a8 h8 A.a9 h9 A.a10 h10 (BitVec.ofNat 32 q) v3 hc v892 v893 v900 v906 v918 v928 v960 hc3 v1009 v1097 hw6))
      (fun r s' => s' = s ∧ r = (stepV s.lo (nblk q) v1009)^[(k0_t23_loop v1097).trips] init) := by
  refine Hoare.iter _ rfl ?_
  rintro k ⟨a, b, d, e⟩
  unfold k0_t23_body
  refine Hoare.bind (Hoare.slabs (geTab s.lo (k0_pay65 a d)) (t1_trips q) rfl ?_) ?_
  · intro k acc
    unfold k0_t24_body
    rw [k0_part15_eq_skeleton]
    refine Hoare.assoc (Hoare.bind Hoare.load_lo ?_)
    rintro _ s ⟨rfl, rfl⟩
    refine Hoare.ret ⟨rfl, ?_⟩
    exact trip_eq s.lo _ acc (off_eq q k) _
  · rintro _ s ⟨rfl, rfl⟩
    refine Hoare.bind (Hoare.none (t2_trips q)) ?_
    rintro _ s ⟨rfl, rfl⟩
    exact Hoare.ret ⟨rfl, rfl⟩

/-- The tie cut's loop iterates its halving. -/
theorem cut_t29 {hok} {init} (hw1 hc v892 v893 v950_1 v950_3 v952 v953 v964_0 v964_1 v964_2 v965 v986 hw7 hc4) (s : St Bits) :
    Hoare c A s (Scf.Loop.for k0_t29_loop hok init
        (k0_t29_body (F := Bits) i A.a2 h2 A.a3 h3 A.a4 h4 A.a5 h5 A.a6 h6 A.a7 h7 A.a8 h8 A.a9 h9 A.a10 h10 (BitVec.ofNat 32 q) v3 hw1 hc v892 v893 v950_1 v950_3 v952 v953 v964_0 v964_1 v964_2 v965 v986 hw7 hc4))
      (fun r s' => s' = s ∧ r = (stepJ v950_1 v950_3 v952 v953 v964_0 v964_1 v964_2 v965 s.hi s.lo q)^[15] init) := by
  refine Hoare.iter _ (by decide) ?_
  rintro k ⟨a, b⟩
  unfold k0_t29_body
  refine Hoare.bind (Hoare.slabs (tieTab v953 (k0_pay190 v952 v964_0 v965) (k0_pay195 a b) s.hi s.lo q) (t1_trips q) rfl ?_) ?_
  · intro k acc
    unfold k0_t30_body
    rw [k0_part21_eq_skeleton]
    refine Hoare.assoc (Hoare.bind Hoare.load_hi ?_)
    rintro _ s ⟨rfl, rfl⟩
    refine Hoare.assoc (Hoare.bind Hoare.load_lo ?_)
    rintro _ s ⟨rfl, rfl⟩
    refine Hoare.ret ⟨rfl, ?_⟩
    rw [tieTab, dif_pos k.isLt, ← load_blk s.hi (off_eq q k) (inbA q k), ← load_blk s.lo (off_eq q k) (inbA q k)]
    exact pay197_eq _ _ _ _ _ _ _ _ _
  · rintro _ s ⟨rfl, rfl⟩
    refine Hoare.bind (Hoare.none (t2_trips q)) ?_
    rintro _ s ⟨rfl, rfl⟩
    exact Hoare.ret ⟨rfl, rfl⟩

end loops

end Cert.Proof.Kernel

end
-- ==== Proof.Select.lean ====
/- The selecting half of a grid step: from the scratch of a query block to its mask, as one function of the scratch. -/
module

public import proofs.«01_k».proof.Proof.Count

@[expose] public section

set_option maxRecDepth 65536

noncomputable section

namespace Cert.Proof.Kernel

open Cert.Kernel Cert.Kernel.Gen
open Idealize.ShloMosaic Idealize.ShloMosaic.TcCoe

/-- A row and a column of a block. -/
abbrev at2 {n : ℕ} (a : Fin n) (b : Fin 256) : (⟨2, ![n, 256]⟩ : Shape).Idx := Fin.cons a (Fin.cons b finZeroElim)

/-- The first `n` blocks of `X` replaced by `P`'s. -/
def mixRows {α : Type} (P : ℕ → S1024x256.Idx → α) (X : S16384x256.Idx → α) (n : ℕ) : S16384x256.Idx → α :=
  fun y => if (y 0).val < 1024 * n then P ((y 0).val / 1024) (at2 (⟨(y 0).val % 1024, Nat.mod_lt _ (by decide)⟩ : Fin 1024) (⟨(y 1).val, (y 1).isLt⟩ : Fin 256)) else X y

/-- The same for the mask. -/
def mixMask {α : Type} (P : ℕ → S1x1024x256.Idx → α) (X : S1x16384x256.Idx → α) (n : ℕ) : S1x16384x256.Idx → α :=
  fun y => if (y 1).val < 1024 * n then
    P ((y 1).val / 1024) (Fin.cons (⟨0, Nat.one_pos⟩ : Fin 1) (at2 (⟨(y 1).val % 1024, Nat.mod_lt _ (by decide)⟩ : Fin 1024) (⟨(y 2).val, (y 2).isLt⟩ : Fin 256))) else X y

theorem mixRows_zero {α : Type} (P : ℕ → S1024x256.Idx → α) (X : S16384x256.Idx → α) : mixRows P X 0 = X :=
  funext fun y => if_neg (by omega)

theorem mixMask_zero {α : Type} (P : ℕ → S1x1024x256.Idx → α) (X : S1x16384x256.Idx → α) : mixMask P X 0 = X :=
  funext fun y => if_neg (by omega)

/-- The next block is put. -/
theorem put_mixRows {α : Type} (P : ℕ → S1024x256.Idx → α) (X : S16384x256.Idx → α) {off : Fin 2 → ℕ} {k : ℕ} (h : off = ![1024 * k, 0])
    {w : S1024x256.Idx → α} (hw : w = P k) : VecWindow.put (mixRows P X k) off S1024x256.size w = mixRows P X (k + 1) := by
  subst h; subst hw
  funext y
  have h0 : (y 0).val < 16384 := (y 0).isLt
  have h1 : (y 1).val < 256 := (y 1).isLt
  unfold VecWindow.put mixRows
  by_cases hy : 1024 * k ≤ (y 0).val ∧ (y 0).val < 1024 * k + 1024
  · rw [dif_pos (by
      intro a; fin_cases a
      · exact hy
      · exact ⟨Nat.zero_le _, by show (y 1).val < 0 + 256; omega⟩), if_pos (by omega)]
    have e : (y 0).val / 1024 = k := by omega
    rw [e]
    refine congrArg (P k) (funext fun a => Fin.ext ?_)
    fin_cases a
    · show (y 0).val - 1024 * k = (y 0).val % 1024; omega
    · show (y 1).val - 0 = (y 1).val; omega
  · rw [dif_neg (by
      intro h; exact hy (h 0))]
    by_cases h' : (y 0).val < 1024 * k
    · rw [if_pos h', if_pos (by omega)]
    · rw [if_neg h', if_neg (by omega)]

/-- The next block of the mask is put. -/
theorem put_mixMask {α : Type} (P : ℕ → S1x1024x256.Idx → α) (X : S1x16384x256.Idx → α) {off : Fin 3 → ℕ} {k : ℕ} (h : off = ![0, 1024 * k, 0])
    {w : S1x1024x256.Idx → α} (hw : w = P k) : VecWindow.put (mixMask P X k) off S1x1024x256.size w = mixMask P X (k + 1) := by
  subst h; subst hw
  funext y
  have hz : (y 0).val < 1 := (y 0).isLt
  have h0 : (y 1).val < 16384 := (y 1).isLt
  have h1 : (y 2).val < 256 := (y 2).isLt
  unfold VecWindow.put mixMask
  by_cases hy : 1024 * k ≤ (y 1).val ∧ (y 1).val < 1024 * k + 1024
  · rw [dif_pos (by
      intro a; fin_cases a
      · exact ⟨Nat.zero_le _, by show (y 0).val < 0 + 1; omega⟩
      · exact hy
      · exact ⟨Nat.zero_le _, by show (y 2).val < 0 + 256; omega⟩), if_pos (by omega)]
    have e : (y 1).val / 1024 = k := by omega
    rw [e]
    refine congrArg (P k) (funext fun a => Fin.ext ?_)
    fin_cases a
    · show (y 0).val - 0 = 0; omega
    · show (y 1).val - 1024 * k = (y 1).val % 1024; omega
    · show (y 2).val - 0 = (y 2).val; omega
  · rw [dif_neg (by
      intro h; exact hy (h 1))]
    by_cases h' : (y 1).val < 1024 * k
    · rw [if_pos h', if_pos (by omega)]
    · rw [if_neg h', if_neg (by omega)]

/-- A block that is not yet replaced. -/
theorem blk_mixRows {α : Type} (P : ℕ → S1024x256.Idx → α) (X : S16384x256.Idx → α) {k : ℕ} (hk : k < 16) : blk (mixRows P X k) k = blk X k := by
  funext y
  have h0 : (y 0).val < 1024 := (y 0).isLt
  refine if_neg ?_
  show ¬ (1024 * k + (y 0).val) % 16384 < 1024 * k
  rw [Nat.mod_eq_of_lt (by omega)]; omega

/-- The low halves, with those of other high halves than `v953` at the least word. -/
def lowTab (v953 : IVec S1x256 16) (hi lo : S16384x256.Idx → BitVec 16) (k : ℕ) : S1024x256.Idx → BitVec 16 :=
  k0_pay56 (F := Bits) v953 (blk hi k) (blk lo k)

/-- A block of the mask. -/
def outTab (q : Fin 64) (v952 : IVec S1x256 1) (v953 : IVec S1x256 16) (v964_0 v965 v990 : IVec S1x256 32) (hi lo : S16384x256.Idx → BitVec 16) (k : ℕ) :
    S1x1024x256.Idx → BitVec 8 :=
  if h : k < (k0_t32_loop (BitVec.ofNat 32 q)).trips then
    k0_pay203 (F := Bits) (BitVec.ofNat 32 q) v952 v953 v964_0 v965 v990 ⟨k, h⟩ (blk hi k) (blk lo k)
  else k0_pay205

/-- The number of halvings that a word of a search asks for. -/
def trips3 (a b d : IVec S1x256 32) : ℕ := (k0_t3_loop (extractAt ![0, 0, 0] (k0_pay131 a b d) inpos_S1x1x1_p0_0_0)).trips

/-- A choice. -/
theorem Hoare.cases {c : Dev nD} {A : Args} {α : Type} {s : St Bits} {P : Prop} [Decidable P] {p : P → Idealize.SL.Sem.Prog (TpuEff nD τ sig (Elt Bits) Λ₀ .tc) α}
    {p' : ¬ P → Idealize.SL.Sem.Prog (TpuEff nD τ sig (Elt Bits) Λ₀ .tc) α} {R : α → St Bits → Prop}
    (hp : ∀ h : P, Hoare c A s (p h) R) (hn : ∀ h : ¬ P, Hoare c A s (p' h) R) : Hoare c A s (if h : P then p h else p' h) R := by
  by_cases h : P
  · rw [dif_pos h]; exact hp h
  · rw [dif_neg h]; exact hn h

section parts
variable {c : Dev nD} {A : Args} (i : grid0.Coords) (h2 : A.a2.IsWhole) (h3 : A.a3.IsWhole) (h4 : A.a4.IsWhole) (h5 : A.a5.IsWhole)
    (h6 : A.a6.IsWhole) (h7 : A.a7.IsWhole) (h8 : A.a8.IsWhole) (h9 : A.a9.IsWhole) (h10 : A.a10.IsWhole) (q : Fin 64) (v3 : Fin 16)

/-- The counts that the search starts from. -/
def cnt0 (hi : S16384x256.Idx → BitVec 16) (gm : S256x256.Idx → BitVec 32) (q : Fin 64) : IVec S32x256 16 := slabs (geTab hi (k0_pay125 (F := Bits) gm)) (nblk q)

theorem load_gm_all (gm : S256x256.Idx → BitVec 32) {inb} : (fun y => gm ((Rect.unit (s := S256x256) ![0, 0] S256x256.size inb).toLoadRect.idx y)) = gm := by
  funext y
  refine congrArg gm (funext fun a => Fin.ext ?_)
  fin_cases a
  · show 0 + 1 * (y 0).val = (y 0).val; omega
  · show 0 + 1 * (y 1).val = (y 1).val; omega

/-- The start of the search. -/
theorem part23 (hw1 v23 hc) (s : St Bits) :
    Hoare c A s (k0_part23 (F := Bits) i A.a2 h2 A.a3 h3 A.a4 h4 A.a5 h5 A.a6 h6 A.a7 h7 A.a8 h8 A.a9 h9 A.a10 h10 (BitVec.ofNat 32 q) (BitVec.ofNat 32 v3) hw1 v23 hc)
      (fun r s' => s' = s ∧ r = ⟨Scalar.addi v23 1#32, k0_pay122, k0_pay123 (F := Bits) s.gm, k0_pay124 (F := Bits) s.gm, k0_pay129 (cnt0 s.hi s.gm q), k0_pay130 (F := Bits) s.gm (cnt0 s.hi s.gm q)⟩) := by
  rw [k0_part23_eq_skeleton]
  refine Hoare.bind Hoare.load_gm ?_
  rintro _ s ⟨rfl, rfl⟩
  rw [load_gm_all]
  refine Hoare.bind (count_t1 i h2 h3 h4 h5 h6 h7 h8 h9 h10 q _ hw1 v23 hc _ s) ?_
  rintro _ s ⟨rfl, rfl⟩
  refine Hoare.bind (Hoare.none (t2_trips q)) ?_
  rintro _ s ⟨rfl, rfl⟩
  exact Hoare.ret ⟨rfl, rfl⟩

/-- The low halves are made ready for their search. -/
theorem part19 (hc v892 v950_1 v950_3 v952 v953 v960 hw3 hc3) (s : St Bits) :
    Hoare c A s (k0_part19 (F := Bits) i A.a2 h2 A.a3 h3 A.a4 h4 A.a5 h5 A.a6 h6 A.a7 h7 A.a8 h8 A.a9 h9 A.a10 h10 (BitVec.ofNat 32 q) (BitVec.ofNat 32 v3) hc v892 v950_1 v950_3 v952 v953 v960 hw3 hc3)
      (fun r s' => s' = { s with lo := mixRows (lowTab v953 s.hi s.lo) s.lo (nblk q) } ∧
        r = ⟨k0_pay58 v950_3 v952, k0_pay59, k0_pay60 v950_1 v950_3, k0_pay61, _, chk4 q v3 _ (extractAt ![0, 0, 0] (k0_pay62 v950_1 v950_3 v952) inpos_S1x1x1_p0_0_0), 0#32,
          Scalar.subi (Scalar.minsi (extractAt ![0, 0, 0] (k0_pay62 v950_1 v950_3 v952) inpos_S1x1x1_p0_0_0) 12#32) 0#32⟩) := by
  rw [k0_part19_eq_skeleton]
  refine Hoare.bind ((Hoare.loop (I := fun k _ s' => s' = { s with lo := mixRows (lowTab v953 s.hi s.lo) s.lo k }) (by rw [mixRows_zero]) ?_).mono (R := fun _ s' => s' = { s with lo := mixRows (lowTab v953 s.hi s.lo) s.lo (nblk q) }) ?_) ?_
  · rintro k ⟨⟩ _ rfl
    unfold k0_t9_body
    refine Hoare.bind Hoare.load_hi ?_
    rintro _ _ ⟨rfl, rfl⟩
    refine Hoare.bind Hoare.load_lo ?_
    rintro _ _ ⟨rfl, rfl⟩
    refine Hoare.bind Hoare.load_lo ?_
    rintro _ _ ⟨rfl, rfl⟩
    refine Hoare.bind Hoare.store_lo ?_
    rintro _ _ rfl
    refine Hoare.ret ?_
    refine congrArg (fun X => { s with lo := X }) (put_mixRows (lowTab v953 s.hi s.lo) s.lo (off_eq q k) ?_)
    have e1 := load_blk s.hi (off_eq q k) (inbA q k)
    have e2 := (load_blk (mixRows (lowTab v953 s.hi s.lo) s.lo k.val) (off_eq q k) (inbA q k)).trans (blk_mixRows _ _ (t1_lt q k))
    exact congrArg₂ (k0_pay56 (F := Bits) v953) e1 e2
  · rintro r s' h
    have := t1_trips q
    rw [h, show Scf.trips _ _ _ = nblk q from this]
  · rintro _ _ rfl
    refine Hoare.bind (Hoare.none (t2_trips q)) ?_
    rintro _ _ ⟨rfl, rfl⟩
    refine Hoare.bind (Hoare.assume (chk4 q v3 _ _)) ?_
    rintro _ _ rfl
    exact Hoare.ret ⟨rfl, rfl⟩

/-- The word of a further search. -/
abbrev word2 (target : IVec S1x256 32) (a : V4) : BitVec 32 := extractAt ![0, 0, 0] (k0_pay89 target a.1 a.2.1 a.2.2.1) inpos_S1x1x1_p0_0_0

/-- The first two searches of the low halves. -/
def low2 (lo : S16384x256.Idx → BitVec 16) (n : ℕ) (target : IVec S1x256 32) (w : BitVec 32) (a : V4) : V4 :=
  (stepV lo n target)^[(k0_t17_loop (word2 target ((stepV lo n target)^[(k0_t11_loop w).trips] a))).trips] ((stepV lo n target)^[(k0_t11_loop w).trips] a)

/-- What those two searches return. -/
def out20 (target : IVec S1x256 32) (a : V4) :
    Σ' (_ : IVec S1x256 32) (_ : IVec S1x256 32) (_ : IVec S1x256 32) (_ : IVec S1x256 32) (_ : IVec S1x256 1), IVec S1x256 1 :=
  ⟨a.1, a.2.1, a.2.2.1, a.2.2.2, k0_pay116 target a.2.1, k0_pay117 a.1 a.2.2.1⟩

theorem part20 (hc v892 v893 v960 hc3 v1009 v1010 v1011 v1012 v1035 hw4 cz v1037) (s : St Bits) :
    Hoare c A s (k0_part20 (F := Bits) i A.a2 h2 A.a3 h3 A.a4 h4 A.a5 h5 A.a6 h6 A.a7 h7 A.a8 h8 A.a9 h9 A.a10 h10 (BitVec.ofNat 32 q) (BitVec.ofNat 32 v3) hc v892 v893 v960 1#16 0#16 hc3 v1009 v1010 v1011 v1012 v1035 hw4 cz v1037)
      (fun r s' => s' = s ∧ ∃ a : V4, r = out20 v1009 a ∧ a = low2 s.lo (nblk q) v1009 v1035 (v1010, v1011, v1012, v893)) := by
  rw [k0_part20_eq_skeleton]
  refine Hoare.bind (search_t11 i h2 h3 h4 h5 h6 h7 h8 h9 h10 q _ hc v892 v893 v960 hc3 v1009 v1010 v1011 v1012 v1035 hw4 cz v1037 s) ?_
  rintro ⟨a0, a1, a2, a3⟩ s ⟨rfl, ha⟩
  refine Hoare.bind (Hoare.none (Scf.rem_trips 0#32 _)) ?_
  rintro _ s ⟨rfl, rfl⟩
  refine Hoare.bind (Hoare.assume (chk5 q v3 _ _)) ?_
  rintro _ s rfl
  refine Hoare.bind (search_t17 i h2 h3 h4 h5 h6 h7 h8 h9 h10 q _ hc v892 v893 v960 hc3 v1009 v1010 v1011 v1012 v1035 hw4 cz v1037 _ _ s) ?_
  rintro ⟨b0, b1, b2, b3⟩ s ⟨rfl, hb⟩
  refine Hoare.bind (Hoare.none (Scf.rem_trips 0#32 _)) ?_
  rintro _ s ⟨rfl, rfl⟩
  refine Hoare.ret ⟨rfl, (b0, b1, b2, b3), rfl, ?_⟩
  rw [low2, ← ha, ← hb]

/-- The word of the last search. -/
abbrev word3 (target : IVec S1x256 32) (a : V4) : BitVec 32 :=
  extractAt ![0, 0, 0] (k0_pay161 a.1 a.2.2.1 (k0_pay116 target a.2.1) (k0_pay117 a.1 a.2.2.1)) inpos_S1x1x1_p0_0_0

/-- The searches of the low halves. -/
def low3 (lo : S16384x256.Idx → BitVec 16) (n : ℕ) (target : IVec S1x256 32) (w : BitVec 32) (a : V4) : V4 :=
  (stepV lo n target)^[(k0_t23_loop (word3 target (low2 lo n target w a))).trips] (low2 lo n target w a)

/-- What the search of the high halves ends at. -/
def hiEnd (hi : S16384x256.Idx → BitVec 16) (q : Fin 64) (v893 v900 v906 v918 v928 : IVec S1x256 32) : V4 :=
  (stepV hi (nblk q) (broadcast S1x256 256#32))^[(k0_t3_loop (extractAt ![0, 0, 0] (k0_pay131 v900 v906 v928) inpos_S1x1x1_p0_0_0)).trips] (v900, v918, v906, v893)

/-- Whether some column has to look at the low halves. -/
abbrev splitWord (a : V4) : BitVec 32 := extractAt ![0, 0, 0] (k0_pay160 a.2.1) inpos_S1x1x1_p0_0_0

/-- The low halves after the searches. -/
def loEnd (hi lo : S16384x256.Idx → BitVec 16) (q : Fin 64) (a : V4) : S16384x256.Idx → BitVec 16 :=
  if k0_cond3 (splitWord a) = 1#1 then mixRows (lowTab (k0_pay159 a.1) hi lo) lo (nblk q) else lo

/-- What the searches of the low halves end at. -/
def lowEnd (lo : S16384x256.Idx → BitVec 16) (q : Fin 64) (v893 : IVec S1x256 32) (a : V4) : IVec S1x256 32 × IVec S1x256 32 × IVec S1x256 32 :=
  if k0_cond3 (splitWord a) = 1#1 then
    (fun b : V4 => (b.1, b.2.1, b.2.2.2)) (low3 lo (nblk q) (k0_pay58 a.2.2.2 (k0_pay158 a.2.1))
      (extractAt ![0, 0, 0] (k0_pay62 a.2.1 a.2.2.2 (k0_pay158 a.2.1)) inpos_S1x1x1_p0_0_0) (k0_pay59, k0_pay60 a.2.1 a.2.2.2, k0_pay61, v893))
  else (k0_pay188, v893, v893)

theorem lowEnd_pos (lo : S16384x256.Idx → BitVec 16) (q : Fin 64) (v893 : IVec S1x256 32) (a : V4) (h : k0_cond3 (splitWord a) = 1#1) : lowEnd lo q v893 a =
    (fun b : V4 => (b.1, b.2.1, b.2.2.2)) (low3 lo (nblk q) (k0_pay58 a.2.2.2 (k0_pay158 a.2.1))
      (extractAt ![0, 0, 0] (k0_pay62 a.2.1 a.2.2.2 (k0_pay158 a.2.1)) inpos_S1x1x1_p0_0_0) (k0_pay59, k0_pay60 a.2.1 a.2.2.2, k0_pay61, v893)) := if_pos h

theorem lowEnd_neg (lo : S16384x256.Idx → BitVec 16) (q : Fin 64) (v893 : IVec S1x256 32) (a : V4) (h : ¬ k0_cond3 (splitWord a) = 1#1) :
    lowEnd lo q v893 a = (k0_pay188, v893, v893) := if_neg h

theorem loEnd_pos (hi lo : S16384x256.Idx → BitVec 16) (q : Fin 64) (a : V4) (h : k0_cond3 (splitWord a) = 1#1) :
    loEnd hi lo q a = mixRows (lowTab (k0_pay159 a.1) hi lo) lo (nblk q) := if_pos h

theorem loEnd_neg (hi lo : S16384x256.Idx → BitVec 16) (q : Fin 64) (a : V4) (h : ¬ k0_cond3 (splitWord a) = 1#1) : loEnd hi lo q a = lo := if_neg h

/-- What the searches return. -/
def out24 (a : V4) (l : IVec S1x256 32 × IVec S1x256 32 × IVec S1x256 32) :
    Σ' (_ : IVec S1x256 32) (_ : IVec S1x256 32) (_ : IVec S1x256 1) (_ : IVec S1x256 16) (_ : IVec S1x256 32) (_ : IVec S1x256 32) (_ : IVec S1x256 32), IVec S1x256 32 :=
  ⟨a.2.1, a.2.2.2, k0_pay158 a.2.1, k0_pay159 a.1, l.1, l.2.1, l.2.2, k0_pay189⟩

/-- Where the ties are cut. -/
def cutEnd (hi lo : S16384x256.Idx → BitVec 16) (q : Fin 64) (v893 v950_1 v950_3 : IVec S1x256 32) (v952 : IVec S1x256 1) (v953 : IVec S1x256 16) (v964_0 v964_1 v964_2 v965 : IVec S1x256 32) : IVec S1x256 32 :=
  if k0_cond4 (extractAt ![0, 0, 0] (k0_pay193 v950_1 v950_3 v952 v964_1) inpos_S1x1x1_p0_0_0) = 1#1 then
    ((stepJ v950_1 v950_3 v952 v953 v964_0 v964_1 v964_2 v965 hi lo q)^[15] (v893, k0_pay194)).1
  else k0_pay202

theorem cutEnd_pos (hi lo : S16384x256.Idx → BitVec 16) (q : Fin 64) (v893 v950_1 v950_3 : IVec S1x256 32) (v952 : IVec S1x256 1) (v953 : IVec S1x256 16) (v964_0 v964_1 v964_2 v965 : IVec S1x256 32)
    (h : k0_cond4 (extractAt ![0, 0, 0] (k0_pay193 v950_1 v950_3 v952 v964_1) inpos_S1x1x1_p0_0_0) = 1#1) : cutEnd hi lo q v893 v950_1 v950_3 v952 v953 v964_0 v964_1 v964_2 v965 = ((stepJ v950_1 v950_3 v952 v953 v964_0 v964_1 v964_2 v965 hi lo q)^[15] (v893, k0_pay194)).1 := if_pos h

theorem cutEnd_neg (hi lo : S16384x256.Idx → BitVec 16) (q : Fin 64) (v893 v950_1 v950_3 : IVec S1x256 32) (v952 : IVec S1x256 1) (v953 : IVec S1x256 16) (v964_0 v964_1 v964_2 v965 : IVec S1x256 32)
    (h : ¬ k0_cond4 (extractAt ![0, 0, 0] (k0_pay193 v950_1 v950_3 v952 v964_1) inpos_S1x1x1_p0_0_0) = 1#1) : cutEnd hi lo q v893 v950_1 v950_3 v952 v953 v964_0 v964_1 v964_2 v965 = k0_pay202 := if_neg h

/-- The mask: the blocks of keys, and zeros after them. -/
def maskEnd (hi lo : S16384x256.Idx → BitVec 16) (q : Fin 64) (v952 : IVec S1x256 1) (v953 : IVec S1x256 16) (v964_0 v965 v990 : IVec S1x256 32) : S1x16384x256.Idx → BitVec 8 :=
  fun y => if (y 1).val < 1024 * nblk q then
    outTab q v952 v953 v964_0 v965 v990 hi lo ((y 1).val / 1024) (Fin.cons (⟨0, Nat.one_pos⟩ : Fin 1) (at2 (⟨(y 1).val % 1024, Nat.mod_lt _ (by decide)⟩ : Fin 1024) (⟨(y 2).val, (y 2).isLt⟩ : Fin 256))) else 0#8

/-- The blocks after the keys are cleared. -/
theorem mixMask_clear (P : ℕ → S1x1024x256.Idx → BitVec 8) (X : S1x16384x256.Idx → BitVec 8) (n : ℕ) :
    mixMask (fun k => if k < n then P k else k0_pay205) X 16 = fun y => if (y 1).val < 1024 * n then
      P ((y 1).val / 1024) (Fin.cons (⟨0, Nat.one_pos⟩ : Fin 1) (at2 (⟨(y 1).val % 1024, Nat.mod_lt _ (by decide)⟩ : Fin 1024) (⟨(y 2).val, (y 2).isLt⟩ : Fin 256))) else 0#8 := by
  funext y
  have h0 : (y 1).val < 16384 := (y 1).isLt
  unfold mixMask
  rw [if_pos (by omega)]
  by_cases h : (y 1).val < 1024 * n
  · rw [if_pos h]
    have e : (if (y 1).val / 1024 < n then P ((y 1).val / 1024) else k0_pay205) = P ((y 1).val / 1024) := if_pos (by omega)
    exact congrFun e _
  · rw [if_neg h]
    have e : (if (y 1).val / 1024 < n then P ((y 1).val / 1024) else k0_pay205) = k0_pay205 := if_neg (by omega)
    exact congrFun e _

/-- The mask is written, and what follows it cleared. -/
theorem writes (hw1 hc v892 v893 v950_1 v950_3 v952 v953 v964_0 v964_1 v964_2 v965 v990) (s : St Bits) :
    Hoare c A s (do
      Scf.Loop.for (k0_t32_loop (BitVec.ofNat 32 q)) (k0_t32_ok (BitVec.ofNat 32 q) (BitVec.ofNat 32 v3) hw1 hc) ⟨⟩ (k0_t32_body (F := Bits) i A.a2 h2 A.a3 h3 A.a4 h4 A.a5 h5 A.a6 h6 A.a7 h7 A.a8 h8 A.a9 h9 A.a10 h10 (BitVec.ofNat 32 q) (BitVec.ofNat 32 v3) hw1 hc v892 v893 v950_1 v950_3 v952 v953 v964_0 v964_1 v964_2 v965 v990)
      Scf.Loop.for (k0_t33_loop (BitVec.ofNat 32 q)) (k0_t33_ok (BitVec.ofNat 32 q) (BitVec.ofNat 32 v3) hw1 hc) ⟨⟩ (k0_t33_body (F := Bits) i A.a2 h2 A.a3 h3 A.a4 h4 A.a5 h5 A.a6 h6 A.a7 h7 A.a8 h8 A.a9 h9 A.a10 h10 (BitVec.ofNat 32 q) (BitVec.ofNat 32 v3) hw1 hc v892 v893 v950_1 v950_3 v952 v953 v964_0 v964_1 v964_2 v965 v990)
      Scf.Loop.for (k0_t34_loop (BitVec.ofNat 32 q)) (k0_t34_ok (BitVec.ofNat 32 q) (BitVec.ofNat 32 v3) hw1 hc) ⟨⟩ (k0_t34_body (F := Bits) i A.a2 h2 A.a3 h3 A.a4 h4 A.a5 h5 A.a6 h6 A.a7 h7 A.a8 h8 A.a9 h9 A.a10 h10 (BitVec.ofNat 32 q) (BitVec.ofNat 32 v3) hw1 hc v892 v893 v950_1 v950_3 v952 v953 v964_0 v964_1 v964_2 v965)
      pure (Scalar.addi v892 (Scalar.muli (Scalar.divsi (Scalar.subi 16#32 v892) 1#32) 1#32)))
      (fun _ s' => s' = { s with out := maskEnd s.hi s.lo q v952 v953 v964_0 v965 v990 }) := by
  set P := fun k => if k < nblk q then outTab q v952 v953 v964_0 v965 v990 s.hi s.lo k else k0_pay205 with hP
  refine Hoare.bind ((Hoare.loop (I := fun k _ s' => s' = { s with out := mixMask P s.out k }) (by rw [mixMask_zero]) ?_).mono (R := fun _ s' => s' = { s with out := mixMask P s.out (nblk q) }) ?_) ?_
  · rintro k ⟨⟩ _ rfl
    unfold k0_t32_body
    refine Hoare.bind Hoare.load_hi ?_
    rintro _ _ ⟨rfl, rfl⟩
    refine Hoare.bind Hoare.load_lo ?_
    rintro _ _ ⟨rfl, rfl⟩
    refine Hoare.bind Hoare.load_out ?_
    rintro _ _ ⟨rfl, rfl⟩
    refine Hoare.bind Hoare.store_out ?_
    rintro _ _ rfl
    refine Hoare.ret ?_
    refine congrArg (fun X => { s with out := X }) (put_mixMask P s.out (off26_eq q k) ?_)
    have e1 := load_blk s.hi (off_eq q k) (inbA q k)
    have e2 := load_blk s.lo (off_eq q k) (inbA q k)
    have hk : k.val < nblk q := lt_of_lt_of_eq k.isLt (t1_trips q)
    rw [hP]
    beta_reduce
    rw [if_pos hk, outTab, dif_pos k.isLt]
    exact congrArg₂ (k0_pay203 (F := Bits) (BitVec.ofNat 32 q) v952 v953 v964_0 v965 v990 k) e1 e2
  · rintro r s' h
    have := t1_trips q
    rw [h, show Scf.trips _ _ _ = nblk q from this]
  · rintro _ _ rfl
    refine Hoare.bind (Hoare.none (t2_trips q)) ?_
    rintro _ _ ⟨rfl, rfl⟩
    refine Hoare.bind ((Hoare.loop (I := fun k _ s' => s' = { s with out := mixMask P s.out (nblk q + k) }) rfl ?_).mono (R := fun _ s' => s' = { s with out := mixMask P s.out 16 }) ?_) ?_
    · rintro k ⟨⟩ _ rfl
      unfold k0_t34_body
      refine Hoare.bind Hoare.load_out ?_
      rintro _ _ ⟨rfl, rfl⟩
      refine Hoare.bind Hoare.store_out ?_
      rintro _ _ rfl
      refine Hoare.ret ?_
      refine congrArg (fun X => { s with out := X }) (put_mixMask P s.out (off29_eq q k) ?_)
      rw [hP]
      exact (if_neg (by omega)).symm
    · rintro r s' h
      have := t34_trips q
      have := nblk_le q
      rw [h, show Scf.trips _ _ _ = 16 - nblk q from t34_trips q, show nblk q + (16 - nblk q) = 16 by omega]
    · rintro _ _ rfl
      exact Hoare.ret (congrArg (fun X => { s with out := X }) (mixMask_clear _ _ _))

end parts

end Cert.Proof.Kernel

end
-- ==== Proof.Mask.lean ====
/- The selecting half of a grid step, put together from its loops. -/
module

public import proofs.«01_k».proof.Proof.Select

@[expose] public section

set_option maxRecDepth 65536

noncomputable section

namespace Cert.Proof.Kernel

open Cert.Kernel Cert.Kernel.Gen
open Idealize.ShloMosaic Idealize.ShloMosaic.TcCoe

section parts
variable {c : Dev nD} {A : Args} (i : grid0.Coords) (h2 : A.a2.IsWhole) (h3 : A.a3.IsWhole) (h4 : A.a4.IsWhole) (h5 : A.a5.IsWhole)
    (h6 : A.a6.IsWhole) (h7 : A.a7.IsWhole) (h8 : A.a8.IsWhole) (h9 : A.a9.IsWhole) (h10 : A.a10.IsWhole) (q : Fin 64) (v3 : Fin 16)

/-- The searches. -/
theorem part24 (hc v892 v893 v900 v906 v918 v928) (s : St Bits) :
    Hoare c A s (k0_part24 (F := Bits) i A.a2 h2 A.a3 h3 A.a4 h4 A.a5 h5 A.a6 h6 A.a7 h7 A.a8 h8 A.a9 h9 A.a10 h10 (BitVec.ofNat 32 q) (BitVec.ofNat 32 v3) hc v892 v893 v900 v906 v918 v928)
      (fun r s' => s' = { s with lo := loEnd s.hi s.lo q (hiEnd s.hi q v893 v900 v906 v918 v928) } ∧
        r = out24
          (hiEnd s.hi q v893 v900 v906 v918 v928)
          (lowEnd (loEnd s.hi s.lo q (hiEnd s.hi q v893 v900 v906 v918 v928)) q v893 (hiEnd s.hi q v893 v900 v906 v918 v928))) := by
  rw [k0_part24_eq_skeleton]
  refine Hoare.bind (Hoare.assume (chk2 q v3 _)) ?_
  rintro _ s rfl
  refine Hoare.bind (search_t3 i h2 h3 h4 h5 h6 h7 h8 h9 h10 q _ hc v892 v893 v900 v906 v918 v928 _ _ s) ?_
  rintro ⟨a0, a1, a2, a3⟩ s ⟨rfl, ha⟩
  refine Hoare.bind (Hoare.none (Scf.rem_trips 0#32 _)) ?_
  rintro _ s ⟨rfl, rfl⟩
  refine Hoare.bind (Hoare.assume (chk3 q v3 _)) ?_
  rintro _ s rfl
  rw [show hiEnd s.hi q v893 v900 v906 v918 v928 = (a0, a1, a2, a3) from ha.symm]
  dsimp only
  refine Hoare.cases ?_ ?_ <;> intro h
  · rw [loEnd_pos s.hi s.lo q (a0, a1, a2, a3) h]
    rw [lowEnd_pos _ q v893 (a0, a1, a2, a3) h]
    refine Hoare.bind (part19 i h2 h3 h4 h5 h6 h7 h8 h9 h10 q v3 _ _ _ _ _ _ _ _ _ s) ?_
    rintro _ _ ⟨rfl, rfl⟩
    dsimp only
    refine Hoare.bind (part20 i h2 h3 h4 h5 h6 h7 h8 h9 h10 q v3 _ _ _ _ _ _ _ _ _ _ _ _ _ _) ?_
    rintro _ _ ⟨rfl, ⟨b0, b1, b2, b3⟩, rfl, hb⟩
    dsimp only [out20]
    refine Hoare.bind (Hoare.assume (chk6 q v3 _ _)) ?_
    rintro _ _ rfl
    refine Hoare.bind (search_t23 i h2 h3 h4 h5 h6 h7 h8 h9 h10 q _ hc v892 v893 v900 v906 v918 v928 _ _ _ _ _ _) ?_
    rintro ⟨c0, c1, c2, c3⟩ _ ⟨rfl, he⟩
    dsimp only
    refine Hoare.bind (Hoare.none (Scf.rem_trips 0#32 _)) ?_
    rintro _ _ ⟨rfl, rfl⟩
    refine Hoare.ret ⟨rfl, ?_⟩
    rw [low3, ← hb, ← he]
    rfl
  · rw [loEnd_neg s.hi s.lo q (a0, a1, a2, a3) h, lowEnd_neg s.lo q v893 (a0, a1, a2, a3) h]
    exact Hoare.ret ⟨rfl, rfl⟩

/-- The cut, and the mask. -/
theorem part25 (hw1 hc v892 v893 v950_1 v950_3 v952 v953 v964_0 v964_1 v964_2 v965) (s : St Bits) :
    Hoare c A s (k0_part25 (F := Bits) i A.a2 h2 A.a3 h3 A.a4 h4 A.a5 h5 A.a6 h6 A.a7 h7 A.a8 h8 A.a9 h9 A.a10 h10 (BitVec.ofNat 32 q) (BitVec.ofNat 32 v3) hw1 hc v892 v893 v950_1 v950_3 v952 v953 v964_0 v964_1 v964_2 v965)
      (fun _ s' => s' = { s with out := maskEnd s.hi s.lo q v952 v953 v964_0 v965 (cutEnd s.hi s.lo q v893 v950_1 v950_3 v952 v953 v964_0 v964_1 v964_2 v965) }) := by
  rw [k0_part25_eq_skeleton]
  refine Hoare.bind (Hoare.assume (chk7 q v3 _)) ?_
  rintro _ s rfl
  dsimp only
  refine Hoare.cases ?_ ?_ <;> intro h
  · rw [cutEnd_pos _ _ _ _ _ _ _ _ _ _ _ _ h]
    refine Hoare.bind (cut_t29 i h2 h3 h4 h5 h6 h7 h8 h9 h10 q _ hw1 hc v892 v893 v950_1 v950_3 v952 v953 v964_0 v964_1 v964_2 v965 _ _ _ s) ?_
    rintro ⟨b0, b1⟩ _ ⟨rfl, hb⟩
    rw [← hb]
    exact writes i h2 h3 h4 h5 h6 h7 h8 h9 h10 q v3 hw1 hc v892 v893 v950_1 v950_3 v952 v953 v964_0 v964_1 v964_2 v965 b0 _
  · rw [cutEnd_neg _ _ _ _ _ _ _ _ _ _ _ _ h]
    exact writes i h2 h3 h4 h5 h6 h7 h8 h9 h10 q v3 hw1 hc v892 v893 v950_1 v950_3 v952 v953 v964_0 v964_1 v964_2 v965 k0_pay202 _

end parts

end Cert.Proof.Kernel

end
-- ==== Proof.Score.lean ====
/- The scoring half of a grid step: the sort keys of a block of keys for a block of queries, and where they are put. -/
module

public import proofs.«01_k».proof.Proof.Mask

@[expose] public section

set_option maxRecDepth 65536

noncomputable section

namespace Cert.Proof.Kernel

open Cert.Kernel Cert.Kernel.Gen
open Idealize.ShloMosaic Idealize.ShloMosaic.TcCoe

theorem inbQ (h : Fin 8) : ∀ a, (![64 * h.val, 0] : Fin 2 → ℕ) a + S64x256.size a ≤ S512x256.size a := by
  intro a; fin_cases a
  · show 64 * h.val + 64 ≤ 512; omega
  · show 0 + 256 ≤ 256; omega

theorem inbW (h : Fin 8) : ∀ a, (![h.val, 0] : Fin 2 → ℕ) a + S1x256.size a ≤ S8x256.size a := by
  intro a; fin_cases a
  · show h.val + 1 ≤ 8; omega
  · show 0 + 256 ≤ 256; omega

theorem inbK (r : Fin 8) : ∀ a, (![128 * r.val, 0] : Fin 2 → ℕ) a + S128x64.size a ≤ S1024x64.size a := by
  intro a; fin_cases a
  · show 128 * r.val + 128 ≤ 1024; omega
  · show 0 + 64 ≤ 64; omega

/-- The rows of a head of the queries. -/
def headQ (iqt : S512x256.Idx → Elt Bits .bf16) (h : Fin 8) : S64x256.Idx → Elt Bits .bf16 :=
  fun y => iqt ((Rect.unit (s := S512x256) ![64 * h.val, 0] S64x256.size (inbQ h)).toLoadRect.idx y)

/-- The weights of a head. -/
def headW (wit : S8x256.Idx → Elt Bits .f32) (h : Fin 8) : S1x256.Idx → Elt Bits .f32 :=
  fun y => wit ((Rect.unit (s := S8x256) ![h.val, 0] S1x256.size (inbW h)).toLoadRect.idx y)

/-- The keys of a chunk. -/
def chunkK (ki : S1024x64.Idx → Elt Bits .bf16) (r : Fin 8) : S128x64.Idx → Elt Bits .bf16 :=
  fun y => ki ((Rect.unit (s := S1024x64) ![128 * r.val, 0] S128x64.size (inbK r)).toLoadRect.idx y)

/-- A head's share of the scores. -/
def headTerm (kc : S128x64.Idx → Elt Bits .bf16) (x : S64x256.Idx → Elt Bits .bf16) (w : S1x256.Idx → Elt Bits .f32) : FVec Bits S128x256 .f32 :=
  mulf (maximumf (matmul (F := Bits) dot_S128x64_S64x256_S128x256_1_0_0_1_n_n none kc x (constant S128x256 .f32 0x00000000#32)) (broadcast S128x256 (Scalar.ofBits .f32 0x00000000#32)))
    (broadcastTo S128x256 w broadcasts_S1x256_S128x256)

/-- The scores of a chunk of keys. -/
def tileScore (kc : S128x64.Idx → Elt Bits .bf16) (x : Fin 8 → S64x256.Idx → Elt Bits .bf16) (w : Fin 8 → S1x256.Idx → Elt Bits .f32) : FVec Bits S128x256 .f32 :=
  addf (addf (addf (addf (addf (addf (addf (addf (broadcast S128x256 (Scalar.ofBits .f32 0x00000000#32)) (headTerm kc (x 0) (w 0))) (headTerm kc (x 1) (w 1)))
    (headTerm kc (x 2) (w 2))) (headTerm kc (x 3) (w 3))) (headTerm kc (x 4) (w 4))) (headTerm kc (x 5) (w 5))) (headTerm kc (x 6) (w 6))) (headTerm kc (x 7) (w 7))

/-- The sort keys of a chunk. -/
def keyChunk (v1 v3 : BitVec 32) (iqt : S512x256.Idx → Elt Bits .bf16) (wit : S8x256.Idx → Elt Bits .f32) (ki : S1024x64.Idx → Elt Bits .bf16) (r : Fin 8) : IVec S128x256 32 :=
  let b : IVec S128x256 32 := bitcastToInt (tileScore (chunkK ki r) (headQ iqt) (headW wit))
  select (cmpi .sle (shrui (addi (broadcast S128x256 (Scalar.addi (Scalar.muli v3 1024#32) (BitVec.ofNat 32 (128 * r.val)))) (iota .tc S128x256 32 [0] iota_S128x256_d0_w32)) (broadcast S128x256 6#32)) (k0_pay207 (F := Bits) v1))
    (subi (xori b (andi (shrsi b (broadcast S128x256 31#32)) (broadcast S128x256 2147483647#32))) (shrsi b (broadcast S128x256 31#32)))
    (broadcast S128x256 2147483648#32)

theorem inbG (r : Fin 8) : ∀ a, (![128 * (r.val % 2), 0] : Fin 2 → ℕ) a + S128x256.size a ≤ S256x256.size a := by
  intro a; fin_cases a
  · show 128 * (r.val % 2) + 128 ≤ 256; omega
  · show 0 + 256 ≤ 256; omega

/-- A chunk's keys are put. -/
def putChunk (v1 v3 : BitVec 32) (r : Fin 8) (s : St Bits) : St Bits :=
  { s with
    hi := VecWindow.put s.hi (k0_off2 v3 (BitVec.ofNat 32 (128 * r.val))) S128x256.size (k0_pay282 (keyChunk v1 v3 s.iqt s.wit s.ki r))
    lo := VecWindow.put s.lo (k0_off2 v3 (BitVec.ofNat 32 (128 * r.val))) S128x256.size (k0_pay283 (keyChunk v1 v3 s.iqt s.wit s.ki r))
    gm := VecWindow.put s.gm ![128 * (r.val % 2), 0] S128x256.size
      (k0_pay284 (F := Bits) (keyChunk v1 v3 s.iqt s.wit s.ki r) fun y => s.gm ((Rect.unit (s := S256x256) ![128 * (r.val % 2), 0] S128x256.size (inbG r)).toLoadRect.idx y)) }

/-- The running maxima start afresh at the first block. -/
def start (k : ℕ) (s : St Bits) : St Bits := if k = 0 then { s with gm := k0_pay206 } else s

/-- The value followed by the rest. -/
theorem Hoare.pure_bind {c : Dev nD} {A : Args} {α β : Type} {s : St Bits} {x : α}
    {k : α → Idealize.SL.Sem.Prog (TpuEff nD τ sig (Elt Bits) Λ₀ .tc) β} {R : β → St Bits → Prop}
    (h : Hoare c A s (k x) R) : Hoare c A s (pure x >>= k) R := h

/-- A load of one word of the table of query blocks. -/
theorem Hoare.word_qs {c : Dev nD} {A : Args} {s : St Bits} {r : Rect S544} {h1 : r.shape.numel = 1} {h2} :
    Hoare c A s (smemLoad A.a2 r h1 h2) (fun v s' => s' = s ∧ v = s.qs (r.toLoadRect.idx (Shape.Idx.first (h1.symm ▸ Nat.one_pos)))) := by
  have h := Hoare.bind (c := c) (A := A) (s := s) (Hoare.load_qs (r := r.toLoadRect) (hl := View.loadsAt_rect (View.loads_smem_one h2 h1)))
    (k := fun f => .ret (f (Shape.Idx.first (h1.symm ▸ Nat.one_pos))))
    (R := fun v s' => s' = s ∧ v = s.qs (r.toLoadRect.idx (Shape.Idx.first (h1.symm ▸ Nat.one_pos))))
    (by rintro _ s ⟨rfl, rfl⟩; exact Hoare.ret ⟨rfl, rfl⟩)
  exact h

/-- A load of one word of the table of key blocks. -/
theorem Hoare.word_ks {c : Dev nD} {A : Args} {s : St Bits} {r : Rect S544} {h1 : r.shape.numel = 1} {h2} :
    Hoare c A s (smemLoad A.a3 r h1 h2) (fun v s' => s' = s ∧ v = s.ks (r.toLoadRect.idx (Shape.Idx.first (h1.symm ▸ Nat.one_pos)))) := by
  have h := Hoare.bind (c := c) (A := A) (s := s) (Hoare.load_ks (r := r.toLoadRect) (hl := View.loadsAt_rect (View.loads_smem_one h2 h1)))
    (k := fun f => .ret (f (Shape.Idx.first (h1.symm ▸ Nat.one_pos))))
    (R := fun v s' => s' = s ∧ v = s.ks (r.toLoadRect.idx (Shape.Idx.first (h1.symm ▸ Nat.one_pos))))
    (by rintro _ s ⟨rfl, rfl⟩; exact Hoare.ret ⟨rfl, rfl⟩)
  exact h

/-- The state by another name. -/
theorem Hoare.state {c : Dev nD} {A : Args} {α : Type} {s s' : St Bits} (e : s = s')
    {p : Idealize.SL.Sem.Prog (TpuEff nD τ sig (Elt Bits) Λ₀ .tc) α} {R : α → St Bits → Prop} (h : Hoare c A s' p R) : Hoare c A s p R := e ▸ h

/-- A choice. -/
theorem Hoare.ite {c : Dev nD} {A : Args} {α : Type} {s : St Bits} {P : Prop} [Decidable P] {p p' : Idealize.SL.Sem.Prog (TpuEff nD τ sig (Elt Bits) Λ₀ .tc) α} {R : α → St Bits → Prop}
    (hp : P → Hoare c A s p R) (hn : ¬ P → Hoare c A s p' R) : Hoare c A s (if P then p else p') R := by
  by_cases h : P
  · rw [if_pos h]; exact hp h
  · rw [if_neg h]; exact hn h

section parts
variable {c : Dev nD} {A : Args} (i : grid0.Coords) (h2 : A.a2.IsWhole) (h3 : A.a3.IsWhole) (h4 : A.a4.IsWhole) (h5 : A.a5.IsWhole)
    (h6 : A.a6.IsWhole) (h7 : A.a7.IsWhole) (h8 : A.a8.IsWhole) (h9 : A.a9.IsWhole) (h10 : A.a10.IsWhole) (q : Fin 64) (v3 : Fin 16)

/-- What the first part gives. -/
def out26 (w1 w3 b : BitVec 32) (hw : k0_chk1 w1 w3) (iqt : S512x256.Idx → Elt Bits .bf16) (ki : S1024x64.Idx → Elt Bits .bf16) :
    Σ' (v1 : Elt Bits .i32) (v3 : Elt Bits .i32) (_ : k0_chk1 v1 v3) (_ : BitVec 32) (_ : IVec S128x256 32) (_ : Vec Bits S128x64 .bf16) (_ : FVec Bits S128x256 .f32) (_ : Vec Bits S64x256 .bf16), FVec Bits S128x256 .f32 :=
  ⟨w1, w3, hw, b, k0_pay207 (F := Bits) w1, chunkK ki 0, k0_pay208 (F := Bits), headQ iqt 0, constant (F := Bits) S128x256 .f32 0x00000000#32⟩

theorem first_iff : ∀ k : Fin 16, Scalar.cmpi .ne (Scalar.extui (Scalar.cmpi .eq (BitVec.ofNat 32 k) 0#32) : BitVec 32) 0#32 = 1#1 ↔ k.val = 0 := by decide

theorem put_gm_all (gm w : S256x256.Idx → BitVec 32) : VecWindow.put gm ![0, 0] S256x256.size w = w := by
  funext y
  have e0 : (y 0).val < 256 := (y 0).isLt
  have e1 : (y 1).val < 256 := (y 1).isLt
  unfold VecWindow.put
  rw [dif_pos (by
    intro a; fin_cases a
    · exact ⟨Nat.zero_le _, by show (y 0).val < 0 + 256; omega⟩
    · exact ⟨Nat.zero_le _, by show (y 1).val < 0 + 256; omega⟩)]
  refine congrArg w (funext fun a => Fin.ext ?_)
  fin_cases a
  · exact Nat.sub_zero _
  · exact Nat.sub_zero _

/-- A point of the tables. -/
def point (i : grid0.Coords) : S544.Idx := (Rect.unit (s := S544) (k0_off1 i) S1.size (k0_off1_inb i)).toLoadRect.idx (Shape.Idx.first (numel1_S1.symm ▸ Nat.one_pos))

/-- The blocks are read off the tables, and the running maxima start afresh at a first block. -/
theorem part26 (s : St Bits) (hq : s.qs (point i) = BitVec.ofNat 32 q) (hk : s.ks (point i) = BitVec.ofNat 32 v3) :
    Hoare c A s (k0_part26 (F := Bits) i A.a2 h2 A.a3 h3 A.a4 h4 A.a5 h5 A.a6 h6 A.a7 h7 A.a8 h8 A.a9 h9 A.a10 h10)
      (fun r s' => s' = start v3 s ∧ ∃ b, r = out26 (BitVec.ofNat 32 q) (BitVec.ofNat 32 v3) b (chk1 q v3) s.iqt s.ki) := by
  rw [k0_part26_eq_skeleton]
  refine Hoare.bind Hoare.word_qs ?_
  rintro w1 s ⟨rfl, h⟩
  obtain rfl : w1 = BitVec.ofNat 32 q := h.trans hq
  refine Hoare.bind Hoare.word_ks ?_
  rintro w3 s ⟨rfl, h⟩
  obtain rfl : w3 = BitVec.ofNat 32 v3 := h.trans hk
  refine Hoare.bind (Hoare.assume (chk1 q v3)) ?_
  rintro _ s rfl
  dsimp only
  refine Hoare.ite ?_ ?_ <;> intro h
  · rw [first_iff] at h
    rw [start, if_pos h]
    refine Hoare.bind Hoare.load_gm ?_
    rintro _ s ⟨rfl, rfl⟩
    refine Hoare.bind Hoare.store_gm ?_
    rintro _ _ rfl
    rw [put_gm_all]
    refine Hoare.bind Hoare.load_ki ?_
    rintro _ _ ⟨rfl, rfl⟩
    refine Hoare.bind Hoare.load_iqt ?_
    rintro _ _ ⟨rfl, rfl⟩
    exact Hoare.ret ⟨rfl, _, rfl⟩
  · rw [first_iff] at h
    rw [start, if_neg h]
    refine Hoare.bind Hoare.load_ki ?_
    rintro _ _ ⟨rfl, rfl⟩
    refine Hoare.bind Hoare.load_iqt ?_
    rintro _ _ ⟨rfl, rfl⟩
    exact Hoare.ret ⟨rfl, _, rfl⟩

end parts

end Cert.Proof.Kernel

end
-- ==== Proof.Walk.lean ====
/- The scoring half of a grid step, put together from its chunks. -/
module

public import proofs.«01_k».proof.Proof.Score

@[expose] public section

set_option maxRecDepth 65536

noncomputable section

namespace Cert.Proof.Kernel

open Cert.Kernel Cert.Kernel.Gen
open Idealize.ShloMosaic Idealize.ShloMosaic.TcCoe

section parts
variable {c : Dev nD} {A : Args} (i : grid0.Coords) (h2 : A.a2.IsWhole) (h3 : A.a3.IsWhole) (h4 : A.a4.IsWhole) (h5 : A.a5.IsWhole)
    (h6 : A.a6.IsWhole) (h7 : A.a7.IsWhole) (h8 : A.a8.IsWhole) (h9 : A.a9.IsWhole) (h10 : A.a10.IsWhole) (q : Fin 64) (v3 : Fin 16)

/-- A block's keys are put. -/
def scored (v1 v3 : BitVec 32) (s : St Bits) : St Bits :=
  putChunk v1 v3 7 (putChunk v1 v3 6 (putChunk v1 v3 5 (putChunk v1 v3 4 (putChunk v1 v3 3 (putChunk v1 v3 2 (putChunk v1 v3 1 (putChunk v1 v3 0 s)))))))

set_option maxHeartbeats 4000000 in
/-- The scoring half puts a block's keys. -/
theorem part50 (s : St Bits) (hq : s.qs (point i) = BitVec.ofNat 32 q) (hk : s.ks (point i) = BitVec.ofNat 32 v3) :
    Hoare c A s (k0_part50 (F := Bits) i A.a2 h2 A.a3 h3 A.a4 h4 A.a5 h5 A.a6 h6 A.a7 h7 A.a8 h8 A.a9 h9 A.a10 h10)
      (fun r s' => s' = scored (BitVec.ofNat 32 q) (BitVec.ofNat 32 v3) (start v3 s) ∧ ∃ b d, r = ⟨BitVec.ofNat 32 q, BitVec.ofNat 32 v3, chk1 q v3, b, d⟩) := by
  rw [k0_part50_eq_skeleton]
  refine Hoare.bind (part26 i h2 h3 h4 h5 h6 h7 h8 h9 h10 q v3 s hq hk) ?_
  rintro _ _ ⟨rfl, b, rfl⟩
  have e1 : (start v3 s).iqt = s.iqt := by unfold start; split <;> rfl
  have e2 : (start v3 s).ki = s.ki := by unfold start; split <;> rfl
  rw [← e1, ← e2]
  unfold scored
  generalize start v3 s = s
  dsimp only [out26]
  rw [k0_part27_eq_skeleton]
  iterate 4 (refine Hoare.assoc (Hoare.bind Hoare.load_wit ?_); rintro _ s ⟨rfl, rfl⟩; refine Hoare.assoc (Hoare.bind Hoare.load_iqt ?_); rintro _ s ⟨rfl, rfl⟩)
  refine Hoare.pure_bind ?_
  dsimp only
  rw [k0_part28_eq_skeleton]
  iterate 3 (refine Hoare.assoc (Hoare.bind Hoare.load_wit ?_); rintro _ s ⟨rfl, rfl⟩; refine Hoare.assoc (Hoare.bind Hoare.load_iqt ?_); rintro _ s ⟨rfl, rfl⟩)
  refine Hoare.assoc (Hoare.bind Hoare.load_wit ?_); rintro _ s ⟨rfl, rfl⟩
  refine Hoare.pure_bind ?_
  dsimp only
  rw [k0_part29_eq_skeleton]
  refine Hoare.assoc (Hoare.bind Hoare.load_hi ?_); rintro _ s ⟨rfl, rfl⟩
  refine Hoare.assoc (Hoare.bind Hoare.store_hi ?_); rintro _ _ rfl
  refine Hoare.assoc (Hoare.bind Hoare.load_lo ?_); rintro _ s ⟨rfl, rfl⟩
  refine Hoare.assoc (Hoare.bind Hoare.store_lo ?_); rintro _ _ rfl
  refine Hoare.assoc (Hoare.bind Hoare.load_gm ?_); rintro _ s ⟨rfl, rfl⟩
  refine Hoare.assoc (Hoare.bind Hoare.load_gm ?_); rintro _ s ⟨rfl, rfl⟩
  refine Hoare.assoc (Hoare.bind Hoare.store_gm ?_); rintro _ _ rfl
  refine Hoare.state (s' := putChunk (BitVec.ofNat 32 q) (BitVec.ofNat 32 v3) 0 s) rfl ?_
  generalize putChunk (BitVec.ofNat 32 q) (BitVec.ofNat 32 v3) 0 s = s
  refine Hoare.assoc (Hoare.bind Hoare.load_ki ?_); rintro _ s ⟨rfl, rfl⟩
  refine Hoare.assoc (Hoare.bind Hoare.load_iqt ?_); rintro _ s ⟨rfl, rfl⟩
  refine Hoare.pure_bind ?_
  dsimp only
  rw [k0_part30_eq_skeleton]
  iterate 4 (refine Hoare.assoc (Hoare.bind Hoare.load_wit ?_); rintro _ s ⟨rfl, rfl⟩; refine Hoare.assoc (Hoare.bind Hoare.load_iqt ?_); rintro _ s ⟨rfl, rfl⟩)
  refine Hoare.pure_bind ?_
  dsimp only
  rw [k0_part31_eq_skeleton]
  iterate 3 (refine Hoare.assoc (Hoare.bind Hoare.load_wit ?_); rintro _ s ⟨rfl, rfl⟩; refine Hoare.assoc (Hoare.bind Hoare.load_iqt ?_); rintro _ s ⟨rfl, rfl⟩)
  refine Hoare.assoc (Hoare.bind Hoare.load_wit ?_); rintro _ s ⟨rfl, rfl⟩
  refine Hoare.pure_bind ?_
  dsimp only
  rw [k0_part32_eq_skeleton]
  refine Hoare.assoc (Hoare.bind Hoare.load_hi ?_); rintro _ s ⟨rfl, rfl⟩
  refine Hoare.assoc (Hoare.bind Hoare.store_hi ?_); rintro _ _ rfl
  refine Hoare.assoc (Hoare.bind Hoare.load_lo ?_); rintro _ s ⟨rfl, rfl⟩
  refine Hoare.assoc (Hoare.bind Hoare.store_lo ?_); rintro _ _ rfl
  refine Hoare.assoc (Hoare.bind Hoare.load_gm ?_); rintro _ s ⟨rfl, rfl⟩
  refine Hoare.assoc (Hoare.bind Hoare.load_gm ?_); rintro _ s ⟨rfl, rfl⟩
  refine Hoare.assoc (Hoare.bind Hoare.store_gm ?_); rintro _ _ rfl
  refine Hoare.state (s' := putChunk (BitVec.ofNat 32 q) (BitVec.ofNat 32 v3) 1 s) rfl ?_
  generalize putChunk (BitVec.ofNat 32 q) (BitVec.ofNat 32 v3) 1 s = s
  refine Hoare.assoc (Hoare.bind Hoare.load_ki ?_); rintro _ s ⟨rfl, rfl⟩
  refine Hoare.assoc (Hoare.bind Hoare.load_iqt ?_); rintro _ s ⟨rfl, rfl⟩
  refine Hoare.pure_bind ?_
  dsimp only
  rw [k0_part33_eq_skeleton]
  iterate 4 (refine Hoare.assoc (Hoare.bind Hoare.load_wit ?_); rintro _ s ⟨rfl, rfl⟩; refine Hoare.assoc (Hoare.bind Hoare.load_iqt ?_); rintro _ s ⟨rfl, rfl⟩)
  refine Hoare.assoc (Hoare.bind Hoare.load_wit ?_); rintro _ s ⟨rfl, rfl⟩
  refine Hoare.pure_bind ?_
  dsimp only
  rw [k0_part34_eq_skeleton]
  iterate 3 (refine Hoare.assoc (Hoare.bind Hoare.load_iqt ?_); rintro _ s ⟨rfl, rfl⟩; refine Hoare.assoc (Hoare.bind Hoare.load_wit ?_); rintro _ s ⟨rfl, rfl⟩)
  refine Hoare.pure_bind ?_
  dsimp only
  rw [k0_part35_eq_skeleton]
  refine Hoare.assoc (Hoare.bind Hoare.load_hi ?_); rintro _ s ⟨rfl, rfl⟩
  refine Hoare.assoc (Hoare.bind Hoare.store_hi ?_); rintro _ _ rfl
  refine Hoare.assoc (Hoare.bind Hoare.load_lo ?_); rintro _ s ⟨rfl, rfl⟩
  refine Hoare.assoc (Hoare.bind Hoare.store_lo ?_); rintro _ _ rfl
  refine Hoare.assoc (Hoare.bind Hoare.load_gm ?_); rintro _ s ⟨rfl, rfl⟩
  refine Hoare.assoc (Hoare.bind Hoare.load_gm ?_); rintro _ s ⟨rfl, rfl⟩
  refine Hoare.assoc (Hoare.bind Hoare.store_gm ?_); rintro _ _ rfl
  refine Hoare.state (s' := putChunk (BitVec.ofNat 32 q) (BitVec.ofNat 32 v3) 2 s) rfl ?_
  generalize putChunk (BitVec.ofNat 32 q) (BitVec.ofNat 32 v3) 2 s = s
  refine Hoare.assoc (Hoare.bind Hoare.load_ki ?_); rintro _ s ⟨rfl, rfl⟩
  refine Hoare.assoc (Hoare.bind Hoare.load_iqt ?_); rintro _ s ⟨rfl, rfl⟩
  refine Hoare.pure_bind ?_
  dsimp only
  rw [k0_part36_eq_skeleton]
  iterate 4 (refine Hoare.assoc (Hoare.bind Hoare.load_wit ?_); rintro _ s ⟨rfl, rfl⟩; refine Hoare.assoc (Hoare.bind Hoare.load_iqt ?_); rintro _ s ⟨rfl, rfl⟩)
  refine Hoare.assoc (Hoare.bind Hoare.load_wit ?_); rintro _ s ⟨rfl, rfl⟩
  refine Hoare.pure_bind ?_
  dsimp only
  rw [k0_part37_eq_skeleton]
  iterate 3 (refine Hoare.assoc (Hoare.bind Hoare.load_iqt ?_); rintro _ s ⟨rfl, rfl⟩; refine Hoare.assoc (Hoare.bind Hoare.load_wit ?_); rintro _ s ⟨rfl, rfl⟩)
  refine Hoare.pure_bind ?_
  dsimp only
  rw [k0_part38_eq_skeleton]
  refine Hoare.assoc (Hoare.bind Hoare.load_hi ?_); rintro _ s ⟨rfl, rfl⟩
  refine Hoare.assoc (Hoare.bind Hoare.store_hi ?_); rintro _ _ rfl
  refine Hoare.assoc (Hoare.bind Hoare.load_lo ?_); rintro _ s ⟨rfl, rfl⟩
  refine Hoare.assoc (Hoare.bind Hoare.store_lo ?_); rintro _ _ rfl
  refine Hoare.assoc (Hoare.bind Hoare.load_gm ?_); rintro _ s ⟨rfl, rfl⟩
  refine Hoare.assoc (Hoare.bind Hoare.load_gm ?_); rintro _ s ⟨rfl, rfl⟩
  refine Hoare.assoc (Hoare.bind Hoare.store_gm ?_); rintro _ _ rfl
  refine Hoare.state (s' := putChunk (BitVec.ofNat 32 q) (BitVec.ofNat 32 v3) 3 s) rfl ?_
  generalize putChunk (BitVec.ofNat 32 q) (BitVec.ofNat 32 v3) 3 s = s
  refine Hoare.assoc (Hoare.bind Hoare.load_ki ?_); rintro _ s ⟨rfl, rfl⟩
  refine Hoare.assoc (Hoare.bind Hoare.load_iqt ?_); rintro _ s ⟨rfl, rfl⟩
  refine Hoare.assoc (Hoare.bind Hoare.load_wit ?_); rintro _ s ⟨rfl, rfl⟩
  refine Hoare.pure_bind ?_
  dsimp only
  rw [k0_part39_eq_skeleton]
  iterate 4 (refine Hoare.assoc (Hoare.bind Hoare.load_iqt ?_); rintro _ s ⟨rfl, rfl⟩; refine Hoare.assoc (Hoare.bind Hoare.load_wit ?_); rintro _ s ⟨rfl, rfl⟩)
  refine Hoare.pure_bind ?_
  dsimp only
  rw [k0_part40_eq_skeleton]
  iterate 3 (refine Hoare.assoc (Hoare.bind Hoare.load_iqt ?_); rintro _ s ⟨rfl, rfl⟩; refine Hoare.assoc (Hoare.bind Hoare.load_wit ?_); rintro _ s ⟨rfl, rfl⟩)
  refine Hoare.pure_bind ?_
  dsimp only
  rw [k0_part41_eq_skeleton]
  refine Hoare.assoc (Hoare.bind Hoare.load_hi ?_); rintro _ s ⟨rfl, rfl⟩
  refine Hoare.assoc (Hoare.bind Hoare.store_hi ?_); rintro _ _ rfl
  refine Hoare.assoc (Hoare.bind Hoare.load_lo ?_); rintro _ s ⟨rfl, rfl⟩
  refine Hoare.assoc (Hoare.bind Hoare.store_lo ?_); rintro _ _ rfl
  refine Hoare.assoc (Hoare.bind Hoare.load_gm ?_); rintro _ s ⟨rfl, rfl⟩
  refine Hoare.assoc (Hoare.bind Hoare.load_gm ?_); rintro _ s ⟨rfl, rfl⟩
  refine Hoare.assoc (Hoare.bind Hoare.store_gm ?_); rintro _ _ rfl
  refine Hoare.state (s' := putChunk (BitVec.ofNat 32 q) (BitVec.ofNat 32 v3) 4 s) rfl ?_
  generalize putChunk (BitVec.ofNat 32 q) (BitVec.ofNat 32 v3) 4 s = s
  refine Hoare.assoc (Hoare.bind Hoare.load_ki ?_); rintro _ s ⟨rfl, rfl⟩
  refine Hoare.assoc (Hoare.bind Hoare.load_iqt ?_); rintro _ s ⟨rfl, rfl⟩
  refine Hoare.assoc (Hoare.bind Hoare.load_wit ?_); rintro _ s ⟨rfl, rfl⟩
  refine Hoare.pure_bind ?_
  dsimp only
  rw [k0_part42_eq_skeleton]
  iterate 4 (refine Hoare.assoc (Hoare.bind Hoare.load_iqt ?_); rintro _ s ⟨rfl, rfl⟩; refine Hoare.assoc (Hoare.bind Hoare.load_wit ?_); rintro _ s ⟨rfl, rfl⟩)
  refine Hoare.assoc (Hoare.bind Hoare.load_iqt ?_); rintro _ s ⟨rfl, rfl⟩
  refine Hoare.pure_bind ?_
  dsimp only
  rw [k0_part43_eq_skeleton]
  iterate 2 (refine Hoare.assoc (Hoare.bind Hoare.load_wit ?_); rintro _ s ⟨rfl, rfl⟩; refine Hoare.assoc (Hoare.bind Hoare.load_iqt ?_); rintro _ s ⟨rfl, rfl⟩)
  refine Hoare.assoc (Hoare.bind Hoare.load_wit ?_); rintro _ s ⟨rfl, rfl⟩
  refine Hoare.pure_bind ?_
  dsimp only
  rw [k0_part44_eq_skeleton]
  refine Hoare.assoc (Hoare.bind Hoare.load_hi ?_); rintro _ s ⟨rfl, rfl⟩
  refine Hoare.assoc (Hoare.bind Hoare.store_hi ?_); rintro _ _ rfl
  refine Hoare.assoc (Hoare.bind Hoare.load_lo ?_); rintro _ s ⟨rfl, rfl⟩
  refine Hoare.assoc (Hoare.bind Hoare.store_lo ?_); rintro _ _ rfl
  refine Hoare.assoc (Hoare.bind Hoare.load_gm ?_); rintro _ s ⟨rfl, rfl⟩
  refine Hoare.assoc (Hoare.bind Hoare.load_gm ?_); rintro _ s ⟨rfl, rfl⟩
  refine Hoare.assoc (Hoare.bind Hoare.store_gm ?_); rintro _ _ rfl
  refine Hoare.state (s' := putChunk (BitVec.ofNat 32 q) (BitVec.ofNat 32 v3) 5 s) rfl ?_
  generalize putChunk (BitVec.ofNat 32 q) (BitVec.ofNat 32 v3) 5 s = s
  refine Hoare.assoc (Hoare.bind Hoare.load_ki ?_); rintro _ s ⟨rfl, rfl⟩
  refine Hoare.assoc (Hoare.bind Hoare.load_iqt ?_); rintro _ s ⟨rfl, rfl⟩
  refine Hoare.assoc (Hoare.bind Hoare.load_wit ?_); rintro _ s ⟨rfl, rfl⟩
  refine Hoare.pure_bind ?_
  dsimp only
  rw [k0_part45_eq_skeleton]
  iterate 4 (refine Hoare.assoc (Hoare.bind Hoare.load_iqt ?_); rintro _ s ⟨rfl, rfl⟩; refine Hoare.assoc (Hoare.bind Hoare.load_wit ?_); rintro _ s ⟨rfl, rfl⟩)
  refine Hoare.assoc (Hoare.bind Hoare.load_iqt ?_); rintro _ s ⟨rfl, rfl⟩
  refine Hoare.pure_bind ?_
  dsimp only
  rw [k0_part46_eq_skeleton]
  iterate 2 (refine Hoare.assoc (Hoare.bind Hoare.load_wit ?_); rintro _ s ⟨rfl, rfl⟩; refine Hoare.assoc (Hoare.bind Hoare.load_iqt ?_); rintro _ s ⟨rfl, rfl⟩)
  refine Hoare.assoc (Hoare.bind Hoare.load_wit ?_); rintro _ s ⟨rfl, rfl⟩
  refine Hoare.pure_bind ?_
  dsimp only
  rw [k0_part47_eq_skeleton]
  refine Hoare.assoc (Hoare.bind Hoare.load_hi ?_); rintro _ s ⟨rfl, rfl⟩
  refine Hoare.assoc (Hoare.bind Hoare.store_hi ?_); rintro _ _ rfl
  refine Hoare.assoc (Hoare.bind Hoare.load_lo ?_); rintro _ s ⟨rfl, rfl⟩
  refine Hoare.assoc (Hoare.bind Hoare.store_lo ?_); rintro _ _ rfl
  refine Hoare.assoc (Hoare.bind Hoare.load_gm ?_); rintro _ s ⟨rfl, rfl⟩
  refine Hoare.assoc (Hoare.bind Hoare.load_gm ?_); rintro _ s ⟨rfl, rfl⟩
  refine Hoare.assoc (Hoare.bind Hoare.store_gm ?_); rintro _ _ rfl
  refine Hoare.state (s' := putChunk (BitVec.ofNat 32 q) (BitVec.ofNat 32 v3) 6 s) rfl ?_
  generalize putChunk (BitVec.ofNat 32 q) (BitVec.ofNat 32 v3) 6 s = s
  refine Hoare.assoc (Hoare.bind Hoare.load_ki ?_); rintro _ s ⟨rfl, rfl⟩
  refine Hoare.assoc (Hoare.bind Hoare.load_iqt ?_); rintro _ s ⟨rfl, rfl⟩
  refine Hoare.assoc (Hoare.bind Hoare.load_wit ?_); rintro _ s ⟨rfl, rfl⟩
  refine Hoare.assoc (Hoare.bind Hoare.load_iqt ?_); rintro _ s ⟨rfl, rfl⟩
  refine Hoare.pure_bind ?_
  dsimp only
  rw [k0_part48_eq_skeleton]
  iterate 4 (refine Hoare.assoc (Hoare.bind Hoare.load_wit ?_); rintro _ s ⟨rfl, rfl⟩; refine Hoare.assoc (Hoare.bind Hoare.load_iqt ?_); rintro _ s ⟨rfl, rfl⟩)
  refine Hoare.pure_bind ?_
  dsimp only
  rw [k0_part49_eq_skeleton]
  iterate 2 (refine Hoare.assoc (Hoare.bind Hoare.load_wit ?_); rintro _ s ⟨rfl, rfl⟩; refine Hoare.assoc (Hoare.bind Hoare.load_iqt ?_); rintro _ s ⟨rfl, rfl⟩)
  refine Hoare.assoc (Hoare.bind Hoare.load_wit ?_); rintro _ s ⟨rfl, rfl⟩
  refine Hoare.pure_bind ?_
  dsimp only
  refine Hoare.bind Hoare.load_hi ?_; rintro _ s ⟨rfl, rfl⟩
  refine Hoare.bind Hoare.store_hi ?_; rintro _ _ rfl
  refine Hoare.bind Hoare.load_lo ?_; rintro _ s ⟨rfl, rfl⟩
  refine Hoare.bind Hoare.store_lo ?_; rintro _ _ rfl
  refine Hoare.bind Hoare.load_gm ?_; rintro _ s ⟨rfl, rfl⟩
  refine Hoare.bind Hoare.load_gm ?_; rintro _ s ⟨rfl, rfl⟩
  refine Hoare.bind Hoare.store_gm ?_; rintro _ _ rfl
  exact Hoare.ret ⟨rfl, _, _, rfl⟩

end parts

end Cert.Proof.Kernel

end
-- ==== Proof.Step.lean ====
/- A grid step: the keys of a block are put, and after the last block of a query block its mask is written. -/
module

public import proofs.«01_k».proof.Proof.Walk

@[expose] public section

set_option maxRecDepth 65536

noncomputable section

namespace Cert.Proof.Kernel

open Cert.Kernel Cert.Kernel.Gen
open Idealize.ShloMosaic Idealize.ShloMosaic.TcCoe

/-- What the search of the high halves ends at. -/
def hiOut (s : St Bits) (q : Fin 64) : V4 :=
  hiEnd s.hi q k0_pay122 (k0_pay123 (F := Bits) s.gm) (k0_pay124 (F := Bits) s.gm) (k0_pay129 (cnt0 s.hi s.gm q)) (k0_pay130 (F := Bits) s.gm (cnt0 s.hi s.gm q))

/-- The low halves as the second search reads them. -/
def loOut (s : St Bits) (q : Fin 64) : S16384x256.Idx → BitVec 16 := loEnd s.hi s.lo q (hiOut s q)

/-- What the search of the low halves ends at. -/
def lowOut (s : St Bits) (q : Fin 64) : IVec S1x256 32 × IVec S1x256 32 × IVec S1x256 32 := lowEnd (loOut s q) q k0_pay122 (hiOut s q)

/-- The cut among the ties. -/
def cutOut (s : St Bits) (q : Fin 64) : IVec S1x256 32 :=
  cutEnd s.hi (loOut s q) q k0_pay122 (hiOut s q).2.1 (hiOut s q).2.2.2 (k0_pay158 (hiOut s q).2.1) (k0_pay159 (hiOut s q).1) (lowOut s q).1 (lowOut s q).2.1 (lowOut s q).2.2 k0_pay189

/-- The mask of a query block from its scratch. -/
def maskOut (s : St Bits) (q : Fin 64) : S1x16384x256.Idx → BitVec 8 :=
  maskEnd s.hi (loOut s q) q (k0_pay158 (hiOut s q).2.1) (k0_pay159 (hiOut s q).1) (lowOut s q).1 k0_pay189 (cutOut s q)

/-- A step. -/
def step (q : Fin 64) (k : Fin 16) (s : St Bits) : St Bits :=
  if k.val = q.val / 4 then
    { scored (BitVec.ofNat 32 q) (BitVec.ofNat 32 k) (start k s) with
      lo := loOut (scored (BitVec.ofNat 32 q) (BitVec.ofNat 32 k) (start k s)) q
      out := maskOut (scored (BitVec.ofNat 32 q) (BitVec.ofNat 32 k) (start k s)) q }
  else scored (BitVec.ofNat 32 q) (BitVec.ofNat 32 k) (start k s)

section parts
variable {c : Dev nD} {A : Args} (i : grid0.Coords) (h2 : A.a2.IsWhole) (h3 : A.a3.IsWhole) (h4 : A.a4.IsWhole) (h5 : A.a5.IsWhole)
    (h6 : A.a6.IsWhole) (h7 : A.a7.IsWhole) (h8 : A.a8.IsWhole) (h9 : A.a9.IsWhole) (h10 : A.a10.IsWhole) (q : Fin 64) (v3 : Fin 16)

/-- The body of a grid point makes the step of its query block and key block. -/
theorem body (s : St Bits) (hq : s.qs (point i) = BitVec.ofNat 32 q) (hk : s.ks (point i) = BitVec.ofNat 32 v3) :
    Hoare c A s (cc0_dsa_select (F := Bits) i A.a2 h2 A.a3 h3 A.a4 h4 A.a5 h5 A.a6 h6 A.a7 h7 A.a8 h8 A.a9 h9 A.a10 h10)
      (fun _ s' => s' = step q v3 s) := by
  rw [cc0_dsa_select_eq_skeleton]
  refine Hoare.bind (part50 i h2 h3 h4 h5 h6 h7 h8 h9 h10 q v3 s hq hk) ?_
  rintro _ _ ⟨rfl, b, d, rfl⟩
  unfold step
  generalize scored (BitVec.ofNat 32 q) (BitVec.ofNat 32 v3) (start v3 s) = s
  dsimp only
  refine Hoare.cases ?_ ?_ <;> intro h
  · have h' := (cond2_iff q v3).mp h
    rw [if_pos h']
    refine Hoare.bind (part23 i h2 h3 h4 h5 h6 h7 h8 h9 h10 q v3 _ _ h s) ?_
    rintro _ s ⟨rfl, rfl⟩
    dsimp only
    refine Hoare.bind (part24 i h2 h3 h4 h5 h6 h7 h8 h9 h10 q v3 h _ _ _ _ _ _ s) ?_
    rintro r _ ⟨rfl, hr⟩
    have e : maskOut s q = maskEnd s.hi (loOut s q) q (k0_pay158 (hiOut s q).2.1) (k0_pay159 (hiOut s q).1) (lowOut s q).1 k0_pay189
      (cutEnd s.hi (loOut s q) q k0_pay122 (hiOut s q).2.1 (hiOut s q).2.2.2 (k0_pay158 (hiOut s q).2.1) (k0_pay159 (hiOut s q).1) (lowOut s q).1 (lowOut s q).2.1 (lowOut s q).2.2 k0_pay189) := by
      rw [maskOut, cutOut]
    rw [e]
    clear e
    unfold lowOut loOut hiOut
    generalize hiEnd s.hi q k0_pay122 (k0_pay123 (F := Bits) s.gm) (k0_pay124 (F := Bits) s.gm) (k0_pay129 (cnt0 s.hi s.gm q)) (k0_pay130 (F := Bits) s.gm (cnt0 s.hi s.gm q)) = a at hr ⊢
    generalize loEnd s.hi s.lo q a = l at hr ⊢
    generalize lowEnd l q k0_pay122 a = w at hr ⊢
    subst hr
    dsimp only [out24]
    refine Hoare.bind (part25 i h2 h3 h4 h5 h6 h7 h8 h9 h10 q v3 _ h _ _ _ _ _ _ _ _ _ _ _) ?_
    rintro _ s' hs
    rw [← hs]
    clear hs
    refine Hoare.bind (Q := fun _ s'' => s'' = s') ((Hoare.none (c := c) (A := A) (s := s') (t35_trips q)).mono fun _ _ h => h.1) ?_
    rintro _ _ rfl
    exact Hoare.ret rfl
  · have h' := fun e => h ((cond2_iff q v3).mpr e)
    rw [if_neg h']
    exact Hoare.ret rfl

end parts

end Cert.Proof.Kernel

end
-- ==== Proof.Tables.lean ====
/- The tables of query blocks and key blocks, and that every window's block lies in its array. -/
module

public import proofs.«01_k».proof.Proof.Step

@[expose] public section

set_option maxRecDepth 65536

noncomputable section

namespace Cert.Proof.Kernel

open Cert.Kernel Cert.Kernel.Gen
open Idealize.ShloMosaic Idealize.ShloMosaic.TcCoe

theorem lit_lt : ∀ n : Fin 544, (lit0 n).toNat < 64 ∧ (lit1 n).toNat < 16 ∧ (lit1 n).toNat ≤ (lit0 n).toNat / 4 := by decide +kernel

/-- The query block of a step. -/
def qAt (n : Fin 544) : Fin 64 := ⟨(lit0 n).toNat, (lit_lt n).1⟩

/-- The key block of a step. -/
def kAt (n : Fin 544) : Fin 16 := ⟨(lit1 n).toNat, (lit_lt n).2.1⟩

theorem BitVec.ofNat_toNat_self' (x : BitVec 32) : BitVec.ofNat 32 x.toNat = x := by simp

theorem lit0_eq (n : Fin 544) : lit0 n = BitVec.ofNat 32 (qAt n) := (BitVec.ofNat_toNat_self' _).symm
theorem lit1_eq (n : Fin 544) : lit1 n = BitVec.ofNat 32 (kAt n) := (BitVec.ofNat_toNat_self' _).symm

/-- What the tables hold. -/
def tabs : pre0.Contents (Elt Bits) := fun
  | 0 => fun i => lit0 (S544.rowMajor i)
  | 1 => fun i => lit1 (S544.rowMajor i)
  | ⟨_ + 2, h⟩ => absurd h (Nat.not_lt.2 (Nat.le_add_left _ _))

/-- A step's number within its batch. -/
def stepNo (i : grid0.Coords) : Fin 544 := ⟨(i 1).val, (i 1).isLt⟩

theorem off1_eq (i : grid0.Coords) : k0_off1 i 0 = (i 1).val := by
  have h : (i 1).val < 544 := (i 1).isLt
  show (BitVec.ofNat 32 (i 1).val).toNat = _
  rw [BitVec.toNat_ofNat]
  omega

theorem row_point (i : grid0.Coords) : S544.rowMajor (point i) = stepNo i := by
  refine Fin.ext ?_
  rw [Shape.rowMajor_val_one]
  have h : (k0_off1 i 0) = (i 1).val := off1_eq i
  show k0_off1 i 0 + 1 * 0 = (i 1).val
  omega

theorem at0 (i : grid0.Coords) : tabs 0 (point i) = BitVec.ofNat 32 (qAt (stepNo i)) := by
  show lit0 (S544.rowMajor (point i)) = _
  rw [row_point, lit0_eq]

theorem at1 (i : grid0.Coords) : tabs 1 (point i) = BitVec.ofNat 32 (kAt (stepNo i)) := by
  show lit1 (S544.rowMajor (point i)) = _
  rw [row_point, lit1_eq]

theorem mul_add (b : Fin 2) : (∀ q : Fin 64, (Scalar.addi (Scalar.muli (BitVec.ofNat 32 b) 64#32) (BitVec.ofNat 32 q) : BitVec 32).toNat = 64 * b.val + q.val)
    ∧ ∀ k : Fin 16, (Scalar.addi (Scalar.muli (BitVec.ofNat 32 b) 16#32) (BitVec.ofNat 32 k) : BitVec 32).toNat = 16 * b.val + k.val := by
  revert b; decide

/-- The batch of a step. -/
def batch (i : grid0.Coords) : Fin 2 := ⟨(i 0).val, (i 0).isLt⟩

theorem tr0 (i : grid0.Coords) : cc0_transform_0 k0_off1_inb numel1_S1 tabs i = ![0, 64 * (batch i).val + (qAt (stepNo i)).val] := by
  have h := (mul_add (batch i)).1 (qAt (stepNo i))
  rw [← at0] at h
  exact congrArg (fun x => ![0, x]) h

theorem tr1 (i : grid0.Coords) : cc0_transform_1 k0_off1_inb numel1_S1 tabs i = ![0, 64 * (batch i).val + (qAt (stepNo i)).val] := by
  have h := (mul_add (batch i)).1 (qAt (stepNo i))
  rw [← at0] at h
  exact congrArg (fun x => ![0, x]) h

theorem tr2 (i : grid0.Coords) : cc0_transform_2 k0_off1_inb numel1_S1 tabs i = ![16 * (batch i).val + (kAt (stepNo i)).val, 0] := by
  have h := (mul_add (batch i)).2 (kAt (stepNo i))
  rw [← at1] at h
  exact congrArg (fun x => ![x, 0]) h

theorem tr3 (i : grid0.Coords) : cc0_transform_3 k0_off1_inb numel1_S1 tabs i = ![(batch i).val, 0, (qAt (stepNo i)).val] := by
  have h : (tabs 0 (point i) : BitVec 32).toNat = (qAt (stepNo i)).val := by
    rw [at0, BitVec.toNat_ofNat]; have := (qAt (stepNo i)).isLt; omega
  have h' : (BitVec.ofNat 32 (i 0).val).toNat = (batch i).val := by
    have h : (i 0).val < 2 := (i 0).isLt
    rw [BitVec.toNat_ofNat]; show _ = (i 0).val; omega
  exact congrArg₂ (fun x y => ![x, 0, y]) h' h

/-- Every block lies in its array, and is whole words of it. -/
theorem tabs_ok : ok0 (F := Bits) tabs := by
  refine ⟨fun i => ?_, fun i => ?_, fun i => ?_, fun i => ?_⟩
  · have hb := (batch i).isLt
    have hq := (qAt (stepNo i)).isLt
    refine ⟨?_, Or.inr (Or.inr ⟨by decide, rfl, ?_, rfl⟩)⟩
    · rw [tr0]; intro a; fin_cases a
      · show (0 + 1) * 512 ≤ 512; omega
      · show (64 * (batch i).val + (qAt (stepNo i)).val + 1) * 256 ≤ 32768; omega
    · show cc0_transform_0 k0_off1_inb numel1_S1 tabs i 0 * 512 = 0
      rw [tr0]; rfl
  · have hb := (batch i).isLt
    have hq := (qAt (stepNo i)).isLt
    refine ⟨?_, Or.inl rfl⟩
    rw [tr1]; intro a; fin_cases a
    · show (0 + 1) * 8 ≤ 8; omega
    · show (64 * (batch i).val + (qAt (stepNo i)).val + 1) * 256 ≤ 32768; omega
  · have hb := (batch i).isLt
    have hq := (kAt (stepNo i)).isLt
    refine ⟨?_, Or.inr (Or.inl (Or.inr ⟨by decide, rfl, Or.inl ⟨?_, ?_⟩⟩))⟩
    · rw [tr2]; intro a; fin_cases a
      · show (16 * (batch i).val + (kAt (stepNo i)).val + 1) * 1024 ≤ 32768; omega
      · show (0 + 1) * 64 ≤ 64; omega
    · show 2 ∣ cc0_transform_2 k0_off1_inb numel1_S1 tabs i 0 * 1024
      exact ⟨cc0_transform_2 k0_off1_inb numel1_S1 tabs i 0 * 512, by omega⟩
    · show 2 ∣ 1024; decide
  · have hb := (batch i).isLt
    have hq := (qAt (stepNo i)).isLt
    refine ⟨?_, Or.inr (Or.inr ⟨by decide, rfl, ?_, rfl⟩)⟩
    · rw [tr3]; intro a; fin_cases a
      · show ((batch i).val + 1) * 1 ≤ 2; omega
      · show (0 + 1) * 16384 ≤ 16384; omega
      · show ((qAt (stepNo i)).val + 1) * 256 ≤ 16384; omega
    · show cc0_transform_3 k0_off1_inb numel1_S1 tabs i 1 * 16384 = 0
      rw [tr3]; rfl

end Cert.Proof.Kernel

end
-- ==== Proof.Launch.lean ====
/- The grid: what the body keeps from step to step, its obligation at a step, and the run. -/
module

public import proofs.«01_k».proof.Proof.Tables
public import proofs.«01_k».proof.Proof.Gen.Kernel.Launch
public import Idealize.ShloMosaic.Lib.Pipeline.Frame
public import Idealize.ShloMosaic.Lib.Pipeline.FrameBody
public import Idealize.ShloMosaic.Lib.Pipeline.DatRel
public import Idealize.ShloMosaic.Lib.Pipeline.ArrRel

@[expose] public section

set_option maxRecDepth 65536

noncomputable section

namespace Cert.Proof.Kernel

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The tables, admitted. -/
abbrev tabAdm : (pcfg0 (F := Bits)).Adm := ⟨tabs, tabs_ok⟩

abbrev adm : (p : Fin 1) → (pcfgs (F := Bits) p).Adm := fun _ => tabAdm

/-- The call's configuration at its tables. -/
abbrev cfgS : Pipeline.Cfg sig Λ₀ := Pipeline.pin (pcfgs (F := Bits)) adm 0

/-- The scratch between the steps. -/
abbrev Scratch (α : Sort*) : Sort _ := (S16384x256.Idx → BitVec 16) → (S16384x256.Idx → BitVec 16) → (S256x256.Idx → BitVec 32) → α

section run
variable (V : (c : Dev nD) → (b : Ref sig .tc) → Buf (Elt Bits) ((c.tc : Thread nD τ).loc b)) (I : Dev nD → ℕ → Scratch Prop)

/-- The two tables as the body reads them. -/
abbrev tab0 : S544.Idx → Elt Bits .i32 := tabs 0
abbrev tab1 : S544.Idx → Elt Bits .i32 := tabs 1

/-- What the body keeps. -/
def phi (c : Dev nD) (n : ℕ) : sProp 𝕄 :=
  iprop(∃ hi lo gm, ⌜I c n hi lo gm⌝ ∗ owns (c : Thread nD τ) (Memref.whole cc0_scratch0) fullShare hi ∗ owns (c : Thread nD τ) (Memref.whole cc0_scratch1) fullShare lo
    ∗ owns (c : Thread nD τ) (Memref.whole cc0_scratch2) fullShare gm ∗ owns (c : Thread nD τ) (Memref.whole main_c) fullShare.right tab0
    ∗ owns (c : Thread nD τ) (Memref.whole main_c_0) fullShare.right tab1 ∗ (∃ r, prngReg c r))

/-- The proof data. -/
def dat (c : Dev nD) : Dat τ (Elt Bits) Unit ℕ (UR sig nD τ) ℕ cfgS c where
  A w := V c (arrRef cfgS.spec w)
  after w t := (cfgS.win w).fill (cfgS.grid.coords t) (fun _ => Classical.arbitrary _) (((cfgS.win w).blk t).view.read (Elt Bits) (V c (arrRef cfgS.spec w)))
  Φ t := phi I c t.val
  q _ := fullShare
  owed _ := 0

/-- The output window is the one held to a relation. -/
abbrev marked : Fin 4 → Bool := fun | 3 => true | _ => false

/-- What the output window is held to. -/
def outRel (O : Dev nD → ℕ → (S1x16384x256.Idx → BitVec 8) → Prop) (c : Dev nD) : (w : Fin 4) → Fin cfgS.N → ((cfgS.win w).block.Idx → Elt Bits (cfgS.win w).elt) → Prop :=
  fun | 3 => fun t X => O c t.val X | _ => fun _ _ => True

/-- A step's blocks of the three inputs. -/
def inQ (c : Dev nD) (t : Fin cfgS.N) : S512x256.Idx → Elt Bits .bf16 := (dat V I c).after 0 t
def inW (c : Dev nD) (t : Fin cfgS.N) : S8x256.Idx → Elt Bits .f32 := (dat V I c).after 1 t
def inK (c : Dev nD) (t : Fin cfgS.N) : S1024x64.Idx → Elt Bits .bf16 := (dat V I c).after 2 t

/-- One step keeps what is to be kept, and leaves in the output window what is asked of it. -/
def Keeps (O : Dev nD → ℕ → (S1x16384x256.Idx → BitVec 8) → Prop) : Prop :=
  ∀ (c : Dev nD) (t : Fin cfgS.N) (s : St Bits), s.qs = tab0 → s.ks = tab1 → s.iqt = inQ V I c t → s.wit = inW V I c t → s.ki = inK V I c t →
    I c t.val s.hi s.lo s.gm →
    (I c (t.val + 1) (step (qAt (stepNo (grid0.coords t))) (kAt (stepNo (grid0.coords t))) s).hi
      (step (qAt (stepNo (grid0.coords t))) (kAt (stepNo (grid0.coords t))) s).lo (step (qAt (stepNo (grid0.coords t))) (kAt (stepNo (grid0.coords t))) s).gm
    ∧ O c t.val (step (qAt (stepNo (grid0.coords t))) (kAt (stepNo (grid0.coords t))) s).out)

theorem step_keeps (q : Fin 64) (k : Fin 16) (s : St Bits) : (step q k s).qs = s.qs ∧ (step q k s).ks = s.ks ∧ (step q k s).iqt = s.iqt ∧ (step q k s).wit = s.wit ∧ (step q k s).ki = s.ki := by
  have h : ∀ (v1 v3 : BitVec 32) (r : Fin 8) (s : St Bits), (putChunk v1 v3 r s).qs = s.qs ∧ (putChunk v1 v3 r s).ks = s.ks ∧ (putChunk v1 v3 r s).iqt = s.iqt ∧ (putChunk v1 v3 r s).wit = s.wit ∧ (putChunk v1 v3 r s).ki = s.ki :=
    fun _ _ _ _ => ⟨rfl, rfl, rfl, rfl, rfl⟩
  have h0 : (start k s).qs = s.qs ∧ (start k s).ks = s.ks ∧ (start k s).iqt = s.iqt ∧ (start k s).wit = s.wit ∧ (start k s).ki = s.ki := by
    unfold start; split <;> exact ⟨rfl, rfl, rfl, rfl, rfl⟩
  have h1 : (scored (BitVec.ofNat 32 q) (BitVec.ofNat 32 k) (start k s)).qs = s.qs ∧ (scored (BitVec.ofNat 32 q) (BitVec.ofNat 32 k) (start k s)).ks = s.ks
      ∧ (scored (BitVec.ofNat 32 q) (BitVec.ofNat 32 k) (start k s)).iqt = s.iqt ∧ (scored (BitVec.ofNat 32 q) (BitVec.ofNat 32 k) (start k s)).wit = s.wit
      ∧ (scored (BitVec.ofNat 32 q) (BitVec.ofNat 32 k) (start k s)).ki = s.ki := by
    unfold scored
    simp only [h]
    exact h0
  unfold step
  split
  · exact h1
  · exact h1

variable (O : Dev nD → ℕ → (S1x16384x256.Idx → BitVec 8) → Prop)

/-- The references of a step. -/
def argsAt (t : Fin cfgS.N) : Args where
  a2 := Memref.whole main_c
  a3 := Memref.whole main_c_0
  a4 := (spec0 0).stage (cfgS.slots t 0)
  a5 := (spec0 1).stage (cfgS.slots t 1)
  a6 := (spec0 2).stage (cfgS.slots t 2)
  a7 := (spec0 3).stage (cfgS.slots t 3)
  a8 := Memref.whole cc0_scratch0
  a9 := Memref.whole cc0_scratch1
  a10 := Memref.whole cc0_scratch2

/-- The inputs stay in place. -/
theorem before_eq (c : Dev nD) (t : Fin cfgS.N) : (∀ d, (dat V I c).before 0 t d = inQ V I c t) ∧ (∀ d, (dat V I c).before 1 t d = inW V I c t) ∧ (∀ d, (dat V I c).before 2 t d = inK V I c t) :=
  ⟨fun d => (dat V I c).before_in_eq_fetched 0 rfl (fun _ => rfl) (fun _ _ _ => rfl) (fun _ => rfl) t d,
   fun d => (dat V I c).before_in_eq_fetched 1 rfl (fun _ => rfl) (fun _ _ _ => rfl) (fun _ => rfl) t d,
   fun d => (dat V I c).before_in_eq_fetched 2 rfl (fun _ => rfl) (fun _ _ _ => rfl) (fun _ => rfl) t d⟩

/-- The tables as the launch hands them over. -/
theorem tables_owned (c : Dev nD) : (ΦT pre0 tabs c : sProp 𝕄) ⊢ iprop(owns (c : Thread nD τ) (Memref.whole main_c) fullShare.right tab0 ∗ owns (c : Thread nD τ) (Memref.whole main_c_0) fullShare.right tab1) := by
  unfold ΦT prefHeld
  rw [bigSep_univ_eq_bigSepL [(0 : Fin 2), (1 : Fin 2)] (by decide) (by decide)]
  refine BI.sep_mono ?_ ?_
  · exact (BI.equiv_iff.mpr (owns_whole (c : Thread nD τ) main_c fullShare.right tab0)).2
  · exact (BI.equiv_iff.mpr (owns_whole (c : Thread nD τ) main_c_0 fullShare.right tab1)).2

/-- What a step leaves is what the next one is handed. -/
theorem post (c : Dev nD) (t : Fin cfgS.N) (out : S1x16384x256.Idx → BitVec 8) (hi lo : S16384x256.Idx → BitVec 16) (gm : S256x256.Idx → BitVec 32) (_ : PUnit)
    (hI : I c (t.val + 1) hi lo gm) (hO : O c t.val out) :
    iprop((∃ s', ⌜s' = (⟨tab0, tab1, inQ V I c t, inW V I c t, inK V I c t, out, hi, lo, gm⟩ : St Bits)⌝ ∗ stP c (argsAt t) s') ∗ ((dat V I c).owesAt () t.castSucc ∗ (∃ r, prngReg c r)))
    ⊢ iprop(phi I c (t.val + 1) ∗ (dat V I c).owesAt () t.succ
      ∗ owns (c : Thread nD τ) (argsAt t).a4 fullShare (inQ V I c t) ∗ owns (c : Thread nD τ) (argsAt t).a5 fullShare (inW V I c t)
      ∗ owns (c : Thread nD τ) (argsAt t).a6 fullShare (inK V I c t) ∗ (∃ X, ⌜O c t.val X⌝ ∗ owns (c : Thread nD τ) (argsAt t).a7 fullShare X) : sProp 𝕄) := by
  unfold phi stP
  iintro ⟨⟨%s', %hs, H⟩, Hw, Hr⟩
  subst hs
  icases H with ⟨Hq, Hk, H0, H1, H2, H3, Hh, Hl, Hg⟩
  isplitl [Hq Hk Hh Hl Hg Hr]
  · iexists hi; iexists lo; iexists gm
    isplitr
    · ipureintro; exact hI
    isplitl [Hh]
    · iexact Hh
    isplitl [Hl]
    · iexact Hl
    isplitl [Hg]
    · iexact Hg
    isplitl [Hq]
    · iexact Hq
    isplitl [Hk]
    · iexact Hk
    · iexact Hr
  isplitl [Hw]
  · iexact Hw
  isplitl [H0]
  · iexact H0
  isplitl [H1]
  · iexact H1
  isplitl [H2]
  · iexact H2
  iexists out
  isplitr
  · ipureintro; exact hO
  · iexact H3

/-- The body's obligation at every step. -/
theorem obligation (hK : Keeps V I O) (c : Dev nD) : BodyObligationRel (dat V I c) (defs₀ (F := Bits)) 𝒱₀ () Set.univ marked (outRel O c) := fun t => by
  rw [bigSep_W0, bigSep_W0]
  obtain ⟨b0, b1, b2⟩ := before_eq V I c t
  simp only [marked, b0, b1, b2]
  show iprop(phi I c t.val ∗ (dat V I c).owesAt () t.castSucc
      ∗ (∃ _, owns (c : Thread nD τ) (argsAt t).a4 fullShare (inQ V I c t)) ∗ (∃ _, owns (c : Thread nD τ) (argsAt t).a5 fullShare (inW V I c t))
      ∗ (∃ _, owns (c : Thread nD τ) (argsAt t).a6 fullShare (inK V I c t)) ∗ (∃ Y, ⌜_⌝ ∗ owns (c : Thread nD τ) (argsAt t).a7 fullShare Y))
    ⊢ wpB c (cc0_dsa_select (F := Bits) (grid0.coords t) (argsAt t).a2 (Memref.isWhole_whole _) (argsAt t).a3 (Memref.isWhole_whole _) (argsAt t).a4 (hstage0_0 ((cfgS.slots t 0).cast nbuf0_0)) (argsAt t).a5 (hstage0_1 ((cfgS.slots t 1).cast nbuf0_1))
    (argsAt t).a6 (hstage0_2 ((cfgS.slots t 2).cast nbuf0_2)) (argsAt t).a7 (hstage0_3 ((cfgS.slots t 3).cast nbuf0_3)) (argsAt t).a8 (Memref.isWhole_whole _) (argsAt t).a9 (Memref.isWhole_whole _) (argsAt t).a10 (Memref.isWhole_whole _)) fun _ =>
      iprop(phi I c (t.val + 1) ∗ (dat V I c).owesAt () t.succ
      ∗ owns (c : Thread nD τ) (argsAt t).a4 fullShare (inQ V I c t) ∗ owns (c : Thread nD τ) (argsAt t).a5 fullShare (inW V I c t)
      ∗ owns (c : Thread nD τ) (argsAt t).a6 fullShare (inK V I c t) ∗ (∃ X, ⌜O c t.val X⌝ ∗ owns (c : Thread nD τ) (argsAt t).a7 fullShare X))
  unfold phi
  iintro ⟨⟨%hi, %lo, %gm, %hI, Hh, Hl, Hg, Hq, Hk, Hr⟩, Hw, ⟨%_, H0⟩, ⟨%_, H1⟩, ⟨%_, H2⟩, ⟨%Y, -, H3⟩⟩
  have hb := body (c := c) (A := argsAt t) (grid0.coords t) (Memref.isWhole_whole _) (Memref.isWhole_whole _) (hstage0_0 ((cfgS.slots t 0).cast nbuf0_0)) (hstage0_1 ((cfgS.slots t 1).cast nbuf0_1))
    (hstage0_2 ((cfgS.slots t 2).cast nbuf0_2)) (hstage0_3 ((cfgS.slots t 3).cast nbuf0_3)) (Memref.isWhole_whole _) (Memref.isWhole_whole _) (Memref.isWhole_whole _)
    (qAt (stepNo (grid0.coords t))) (kAt (stepNo (grid0.coords t))) ⟨tab0, tab1, inQ V I c t, inW V I c t, inK V I c t, Y, hi, lo, gm⟩ (at0 _) (at1 _)
  have hk := hK c t ⟨tab0, tab1, inQ V I c t, inW V I c t, inK V I c t, Y, hi, lo, gm⟩ rfl rfl rfl rfl rfl hI
  have he := step_keeps (qAt (stepNo (grid0.coords t))) (kAt (stepNo (grid0.coords t))) ⟨tab0, tab1, inQ V I c t, inW V I c t, inK V I c t, Y, hi, lo, gm⟩
  revert hb hk he
  generalize step (qAt (stepNo (grid0.coords t))) (kAt (stepNo (grid0.coords t))) ⟨tab0, tab1, inQ V I c t, inW V I c t, inK V I c t, Y, hi, lo, gm⟩ = s
  obtain ⟨qs, ks, iqt, wit, ki, out, hi', lo', gm'⟩ := s
  dsimp only
  rintro hb hk ⟨rfl, rfl, rfl, rfl, rfl⟩
  unfold Hoare at hb
  have hpost := fun r => (post V I O c t _ _ _ _ r hk.1 hk.2)
  iapply ((sep_mono_left hb).trans ((wp_frame_r _ _ _ (R := iprop((dat V I c).owesAt () t.castSucc ∗ (∃ r, prngReg c r)))).trans (wp_mono _ _ _ hpost)))
  unfold stP
  isplitr [Hw Hr]
  · isplitl [Hq]
    · iexact Hq
    isplitl [Hk]
    · iexact Hk
    isplitl [H0]
    · iexact H0
    isplitl [H1]
    · iexact H1
    isplitl [H2]
    · iexact H2
    isplitl [H3]
    · iexact H3
    isplitl [Hh]
    · iexact Hh
    isplitl [Hl]
    · iexact Hl
    · iexact Hg
  · isplitl [Hw]
    · iexact Hw
    · iexact Hr

theorem entails_of_eq {P Q : sProp 𝕄} (h : P = Q) : P ⊢ Q := by rw [h]

/-- What the launch hands over is what the first step is handed, where anything will do there. -/
theorem enter (h : ∀ c hi lo gm, I c 0 hi lo gm) (c : Dev nD) : iprop(ΦA spec0 c ∗ ΦT pre0 tabs c) ⊢ (phi I c 0 : sProp 𝕄) := by
  refine (sep_mono_right (tables_owned c)).trans ?_
  unfold ΦA phi
  rw [scopedRest0_eq]
  iintro ⟨⟨⟨⟨%hi, Hh⟩, ⟨%lo, Hl⟩, ⟨%gm, Hg⟩⟩, Hr⟩, Hq, Hk⟩
  iexists hi; iexists lo; iexists gm
  isplitr
  · ipureintro; exact h c hi lo gm
  isplitl [Hh]
  · iapply entails_of_eq (owns_whole (Val := Elt Bits) (c : Thread nD τ) cc0_scratch0 fullShare hi).symm; iexact Hh
  isplitl [Hl]
  · iapply entails_of_eq (owns_whole (Val := Elt Bits) (c : Thread nD τ) cc0_scratch1 fullShare lo).symm; iexact Hl
  isplitl [Hg]
  · iapply entails_of_eq (owns_whole (Val := Elt Bits) (c : Thread nD τ) cc0_scratch2 fullShare gm).symm; iexact Hg
  isplitl [Hq]
  · iexact Hq
  isplitl [Hk]
  · iexact Hk
  · iexact Hr

/-- What the last step leaves is what the launch takes back. -/
theorem leave (c : Dev nD) (n : ℕ) : (phi I c n : sProp 𝕄) ⊢ ΦA spec0 c := by
  unfold ΦA phi
  rw [scopedRest0_eq]
  iintro ⟨%hi, %lo, %gm, -, Hh, Hl, Hg, -, -, Hr⟩
  isplitr [Hr]
  · isplitl [Hh]
    · iexists hi; iapply entails_of_eq (owns_whole (Val := Elt Bits) (c : Thread nD τ) cc0_scratch0 fullShare hi); iexact Hh
    isplitl [Hl]
    · iexists lo; iapply entails_of_eq (owns_whole (Val := Elt Bits) (c : Thread nD τ) cc0_scratch1 fullShare lo); iexact Hl
    · iexists gm; iapply entails_of_eq (owns_whole (Val := Elt Bits) (c : Thread nD τ) cc0_scratch2 fullShare gm); iexact Hg
  · iexact Hr

end run

/-- What the region finds in the arrays. -/
def entry (m : (ℓ : Loc nD τ sig) → Buf (Elt Bits) ℓ) (c : Dev nD) (b : Ref sig .tc) : Buf (Elt Bits) ((c.tc : Thread nD τ).loc b) :=
  StableHlo.after (hostOps0 (F := Bits)) (fun b => m (c, b)) b

/-- The run of the call. -/
theorem run (m : (ℓ : Loc nD τ sig) → Buf (Elt Bits) ℓ) (g : Dev nD → PrngReg) (I : Dev nD → ℕ → Scratch Prop) (O : Dev nD → ℕ → (S1x16384x256.Idx → BitVec 8) → Prop)
    (hI : ∀ c hi lo gm, I c 0 hi lo gm) (hK : Keeps (entry m) I O) :
    θ_run (defs (F := Bits)) (onTc (τ := τ) (main (F := Bits))) ⟨m, fun _ => 0, g⟩ (fun r => RDat.FramePost cfgS (fun c => (dat (entry m) I c).toRRel marked (outRel O c)) (entry m) r ∧ r.2.sem = fun _ => 0) :=
  RDat.θ_run_frameP_track (pcfgs (F := Bits)) adm 0 launch0 (defs₀ (F := Bits)) 𝒱₀ (fun c => (dat (entry m) I c).toRRel marked (outRel O c)) m g (main (F := Bits))
    (fun c => (obligation (entry m) I O hK c).toRRel) (fun c w => by fin_cases w <;> rfl) (fun _ _ => rfl) (entry m)
    (hmainP_prefix (pcfgs (F := Bits)) 0 (defs₀ (F := Bits)) 𝒱₀ m (main (F := Bits)) (hostOps0 (F := Bits)) hostOps0_sub ⟨rfl, rfl⟩ main_chain)
    (fun _ _ => rfl) (fun c k => by fin_cases k <;> rfl) (enter I hI) (fun c => leave I c _) _ (fun _ h => h)

/-- The call ends with its arguments as they were and every counter at zero. -/
theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun _ h => ⟨fun c => ⟨h.1.arr_in c 0 rfl, h.1.arr_in c 1 rfl, h.1.arr_in c 2 rfl⟩, h.2⟩)
    (run m g (fun _ _ _ _ _ => True) (fun _ _ _ => True) (fun _ _ _ _ => trivial) (fun _ _ _ _ _ _ _ _ _ => ⟨trivial, trivial⟩))

end Cert.Proof.Kernel

end
-- ==== Proof.Merge.lean ====
/-
  The branch merge: two gated products are added, projected and put on the residual stream, and the sum is normalised.
  Here both the pipelined kernel and the plain reference are read at an element, and the kernel's two arrays after the run
  are shown to be the reference's two results.
-/
module

public import proofs.«01_k».proof.Defs
public import proofs.«01_k».proof.Proof.Gen.Kernel2.Frame
public import proofs.«01_k».proof.Proof.Gen.KernelIdeal2.Value
public import proofs.«01_k».proof.Proof.Gen.ReferenceIdeal2.Run
public import Idealize.ShloMosaic.Lib.Pointwise
public import Idealize.ShloMosaic.Lib.Pipeline.ValueKit
public import Idealize.ShloMosaic.Lib.Quiescent

@[expose] public section

noncomputable section

namespace Cert.Proof.Merge

open Idealize.ShloMosaic Idealize.ShloMosaic.TcCoe Idealize.SL.Sem
open scoped BigOperators

/-- The shape of the row arrays. -/
abbrev Rows : Shape := ⟨2, ![32768, 1024]⟩
/-- The shape of the main projection's array. -/
abbrev Wide : Shape := ⟨2, ![32768, 5120]⟩
/-- The shape of a square weight. -/
abbrev Sq : Shape := ⟨2, ![1024, 1024]⟩
/-- The shape of the norm's weights. -/
abbrev Row : Shape := ⟨2, ![1, 1024]⟩

/-- The logistic gate. -/
def gate (z : EReal) : EReal := Ideal.div 1 (1 + Ideal.exp (-z))

/-- The residual stream after the merge, at a row and a column: the input plus the projection of the two gated products. -/
def x1At (og od : Rows.Idx → EReal) (zm : Wide.Idx → EReal) (x2 : Rows.Idx → EReal) (pa pb wo : Sq.Idx → EReal)
    (r : Fin 32768) (l : Fin 1024) : EReal :=
  x2 (ix2 r l) + ∑ j : Fin 1024,
    (gate (zm (ix2 r ⟨3072 + j.val, by omega⟩)) * ∑ k : Fin 1024, og (ix2 r k) * pa (ix2 k j)
      + gate (zm (ix2 r ⟨4096 + j.val, by omega⟩)) * ∑ k : Fin 1024, od (ix2 r k) * pb (ix2 k j)) * wo (ix2 j l)

/-- A row divided by its root mean square and scaled, at a column. -/
def normAt (x : Fin 1024 → EReal) (g2 : Row.Idx → EReal) (l : Fin 1024) : EReal :=
  x l * Ideal.rsqrt (Ideal.div (∑ k : Fin 1024, x k * x k) (Ideal.ofBits .f32 0x44800000#32) + Ideal.ofBits .f32 0x358637BD#32)
    * g2 (ix2 0 l)

/-- An index of a two-axis array by its two coordinates. -/
theorem eta {a b : ℕ} (i : (⟨2, ![a, b]⟩ : Shape).Idx) : i = ix2 (i 0) (i 1) :=
  funext fun x => match x with | ⟨0, _⟩ => rfl | ⟨1, _⟩ => rfl

section Kernel

open Cert.KernelIdeal2 Cert.KernelIdeal2.Gen

/-- The kernel's first result of a block of rows is the merged residual stream of the rows it was cut from. -/
theorem pay_apply (og od : Rows.Idx → EReal) (zm : Wide.Idx → EReal) (x2 : Rows.Idx → EReal) (pa pb wo : Sq.Idx → EReal)
    (P0 P2 P4 P5 : Vec Ideal S512x1024 .bf16) (P6 : Vec Ideal S512x1024 .f32) (r : Fin 512) (R : Fin 32768) (l : Fin 1024)
    (h0 : ∀ k, P0 (ix2 r k) = og (ix2 R k)) (h2 : ∀ k, P2 (ix2 r k) = od (ix2 R k))
    (h4 : ∀ k : Fin 1024, P4 (ix2 r k) = zm (ix2 R ⟨3072 + k.val, by omega⟩))
    (h5 : ∀ k : Fin 1024, P5 (ix2 r k) = zm (ix2 R ⟨4096 + k.val, by omega⟩))
    (h6 : ∀ k, P6 (ix2 r k) = x2 (ix2 R k)) :
    k0_pay2 (F := Ideal) P0 pa P2 pb P4 P5 P6 wo (ix2 r l) = x1At og od zm x2 pa pb wo R l := by
  pointwise [k0_pay2]
  simp only [h0, h2, h4, h5, h6, zero_sub]
  rfl

/-- The kernel's second result is the normalised first. -/
theorem pay3_apply (X : FVec Ideal S512x1024 .f32) (g2 : Vec Ideal S1x1024 .f32) (r : Fin 512) (l : Fin 1024) :
    k0_pay3 X g2 (ix2 r l) = normAt (fun k => X (ix2 r k)) g2 l := by
  pointwise [k0_pay3]
  rfl

variable (m : (ℓ : Loc nD τ sig) → Buf (Elt Ideal) ℓ)

/-- The first result, as a function of the launch contents of the arguments. -/
def x1 (c : Dev nD) : Buf (Elt Ideal) ((c : Thread nD τ).loc main_v0_0) := fun i =>
  x1At (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The second result, as a function of the launch contents of the arguments. -/
def h2 (c : Dev nD) : Buf (Elt Ideal) ((c : Thread nD τ).loc main_v0_1) := fun i =>
  normAt (fun k => x1 m c (ix2 (i 0) k)) (m ((c : Thread nD τ).loc main_arg7)) (i 1)

/-- Where the blocks of the row windows start. -/
theorem idx_rows (t : Fin cfg0.N) : win0_0.index t = ![t.val, 0] ∧ win0_1.index t = ![t.val, 0] ∧ win0_2.index t = ![t.val, 3]
    ∧ win0_3.index t = ![t.val, 4] ∧ win0_4.index t = ![t.val, 0] ∧ win0_11.index t = ![t.val, 0] ∧ win0_12.index t = ![t.val, 0] :=
  (by decide +kernel : ∀ t : Fin grid0.N, win0_0.index t = ![t.val, 0] ∧ win0_1.index t = ![t.val, 0] ∧ win0_2.index t = ![t.val, 3]
    ∧ win0_3.index t = ![t.val, 4] ∧ win0_4.index t = ![t.val, 0] ∧ win0_11.index t = ![t.val, 0] ∧ win0_12.index t = ![t.val, 0]) t

/-- The weights' windows hold the whole arrays. -/
theorem idx_whole (t : Fin cfg0.N) : win0_5.index t = ![0, 0] ∧ win0_6.index t = ![0, 0] ∧ win0_7.index t = ![0, 0]
    ∧ win0_8.index t = ![0, 0] :=
  (by decide +kernel : ∀ t : Fin grid0.N, win0_5.index t = ![0, 0] ∧ win0_6.index t = ![0, 0] ∧ win0_7.index t = ![0, 0]
    ∧ win0_8.index t = ![0, 0]) t

/-- The array row that a point's block holds at a local row. -/
def row (t : Fin cfg0.N) (r : Fin 512) : Fin 32768 :=
  ⟨t.val * 512 + r.val, by have h : t.val < 64 := t.isLt; omega⟩

/-- The row as a number. -/
theorem row_val (t : Fin cfg0.N) (r : Fin 512) : (row t r).val = t.val * 512 + r.val := rfl

/-- A point's block of the first branch's rows, read in the array. -/
theorem iblk0 (c : Dev nD) (t : Fin cfg0.N) (r : Fin 512) (k : Fin 1024) :
    iblk m c 0 t (ix2 r k) = m ((c : Thread nD τ).loc main_arg0) (ix2 (row t r) k) := by
  blk_simp [iblk]
  rw [V_main_arg0]
  exact congrArg _ (by blk_ext [(idx_rows t).1, row_val])

/-- A point's block of the second branch's rows, read in the array. -/
theorem iblk1 (c : Dev nD) (t : Fin cfg0.N) (r : Fin 512) (k : Fin 1024) :
    iblk m c 1 t (ix2 r k) = m ((c : Thread nD τ).loc main_arg1) (ix2 (row t r) k) := by
  blk_simp [iblk]
  rw [V_main_arg1]
  exact congrArg _ (by blk_ext [(idx_rows t).2.1, row_val])

/-- A point's block of the first branch's gates, read in the array. -/
theorem iblk2 (c : Dev nD) (t : Fin cfg0.N) (r : Fin 512) (k : Fin 1024) :
    iblk m c 2 t (ix2 r k) = m ((c : Thread nD τ).loc main_arg2) (ix2 (row t r) ⟨3072 + k.val, by omega⟩) := by
  blk_simp [iblk]
  rw [V_main_arg2]
  exact congrArg _ (by blk_ext [(idx_rows t).2.2.1, row_val])

/-- A point's block of the second branch's gates, read in the array. -/
theorem iblk3 (c : Dev nD) (t : Fin cfg0.N) (r : Fin 512) (k : Fin 1024) :
    iblk m c 3 t (ix2 r k) = m ((c : Thread nD τ).loc main_arg2) (ix2 (row t r) ⟨4096 + k.val, by omega⟩) := by
  blk_simp [iblk]
  rw [V_main_arg2]
  exact congrArg _ (by blk_ext [(idx_rows t).2.2.2.1, row_val])

/-- A point's block of the residual stream, read in the array. -/
theorem iblk4 (c : Dev nD) (t : Fin cfg0.N) (r : Fin 512) (k : Fin 1024) :
    iblk m c 4 t (ix2 r k) = m ((c : Thread nD τ).loc main_arg3) (ix2 (row t r) k) := by
  blk_simp [iblk]
  rw [V_main_arg3]
  exact congrArg _ (by blk_ext [(idx_rows t).2.2.2.2.1, row_val])

/-- The windows of the three square weights and of the norm's weights hold the whole arrays at every point. -/
theorem iblk_whole (c : Dev nD) (t : Fin cfg0.N) : iblk m c 5 t = m ((c : Thread nD τ).loc main_arg4)
    ∧ iblk m c 6 t = m ((c : Thread nD τ).loc main_arg5) ∧ iblk m c 7 t = m ((c : Thread nD τ).loc main_arg6)
    ∧ iblk m c 8 t = m ((c : Thread nD τ).loc main_arg7) := by
  refine ⟨?_, ?_, ?_, ?_⟩
  · funext j
    blk_simp [iblk]
    rw [V_main_arg4]
    exact congrArg _ (by blk_ext [(idx_whole t).1])
  · funext j
    blk_simp [iblk]
    rw [V_main_arg5]
    exact congrArg _ (by blk_ext [(idx_whole t).2.1])
  · funext j
    blk_simp [iblk]
    rw [V_main_arg6]
    exact congrArg _ (by blk_ext [(idx_whole t).2.2.1])
  · funext j
    blk_simp [iblk]
    rw [V_main_arg7]
    exact congrArg _ (by blk_ext [(idx_whole t).2.2.2])

/-- The start of a whole block. -/
theorem hz : (![0, 0] : Fin 2 → Nat) = fun _ => 0 := funext fun a => match a with | ⟨0, _⟩ => rfl | ⟨1, _⟩ => rfl

/-- What a point computes for the first result, at a local row and a column. -/
theorem pay16_apply (c : Dev nD) (t : Fin cfg0.N) (r : Fin 512) (l : Fin 1024) :
    k0_pay16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r l) = x1 m c (ix2 (row t r) l) := by
  unfold k0_pay16
  simp only [View.ld_unit_zero (S := S512x1024) hz, View.ld_unit_zero (S := S1024x1024) hz]
  rw [(iblk_whole m c t).1, (iblk_whole m c t).2.1, (iblk_whole m c t).2.2.1]
  exact pay_apply _ _ _ _ _ _ _ _ _ _ _ _ r (row t r) l (iblk0 m c t r) (iblk1 m c t r) (iblk2 m c t r) (iblk3 m c t r)
    (iblk4 m c t r)

/-- What a point computes for the second result, at a local row and a column. -/
theorem pay3_row (c : Dev nD) (t : Fin cfg0.N) (r : Fin 512) (l : Fin 1024) :
    k0_pay3 (k0_pay16 (iblk m c 0 t) (iblk m c 1 t) (iblk m c 2 t) (iblk m c 3 t) (iblk m c 4 t) (iblk m c 5 t) (iblk m c 6 t)
      (iblk m c 7 t) (iblk m c 8 t) (iblk m c 9 t) (iblk m c 10 t)) (iblk m c 8 t) (ix2 r l) = h2 m c (ix2 (row t r) l) := by
  rw [pay3_apply]
  simp only [pay16_apply]
  rw [(iblk_whole m c t).2.2.2]
  rfl

/-- The first result array after the run. -/
theorem final11 (c : Dev nD) : (dats m 0 c).arrAt 11 cfg0.N = x1 m c := by
  refine (dats m 0 c).arrAt_eq_of_covers 11 _ (by decide +kernel) fun t hf y => ?_
  blk_simp
  rw [after0_11]
  frame_out
  refine (congrArg _ (eta (a := 512) (b := 1024) y)).trans ((pay16_apply m c t _ _).trans (congrArg (x1 m c) ?_))
  blk_ext [(idx_rows t).2.2.2.2.2.1]
  rfl

/-- The second result array after the run. -/
theorem final12 (c : Dev nD) : (dats m 0 c).arrAt 12 cfg0.N = h2 m c := by
  refine (dats m 0 c).arrAt_eq_of_covers 12 _ (by decide +kernel) fun t hf y => ?_
  blk_simp
  rw [after0_12]
  frame_out
  refine (congrArg _ (eta (a := 512) (b := 1024) y)).trans ((pay3_row m c t _ _).trans (congrArg (h2 m c) ?_))
  blk_ext [(idx_rows t).2.2.2.2.2.2]
  rfl

end Kernel

section Reference

open Cert.ReferenceIdeal2 Cert.ReferenceIdeal2.Gen

variable (m : (ℓ : Loc nD τ sig) → Buf (Elt Ideal) ℓ)

/-- The reference's first result at an element. -/
theorem ref_x1 (og od : FVec Ideal S32768x1024 .bf16) (zm : FVec Ideal S32768x5120 .bf16) (x2 : FVec Ideal S32768x1024 .f32)
    (pa pb wo : FVec Ideal S1024x1024 .bf16) (r : Fin 32768) (l : Fin 1024) :
    addf x2 (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 3072] zm slices_S32768x5120_S32768x1024_0_3072) bitsLt_bf16_f32))))) (Host.dotGeneral dot_S32768x1024_S1024x1024_S32768x1024_1_0_0_1_n_n none og pa)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 4096] zm slices_S32768x5120_S32768x1024_0_4096) bitsLt_bf16_f32))))) (Host.dotGeneral dot_S32768x1024_S1024x1024_S32768x1024_1_0_0_1_n_n none od pb))) (extf .f32 wo bitsLt_bf16_f32)) (ix2 r l)
      = x1At og od zm x2 pa pb wo r l := by
  pointwise
  rfl

/-- The reference's second result at an element. -/
theorem ref_h2 (c : Dev nD) (r : Fin 32768) (l : Fin 1024) : Cert.ReferenceIdeal2.Value.res_main_v35 m c (ix2 r l)
    = normAt (fun k => x1At (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r k) (m ((c : Thread nD τ).loc main_arg7)) l := by
  pointwise [Cert.ReferenceIdeal2.Value.res_main_v35]
  rfl

end Reference

/-- The merge's two programs compute the same two results at the ideal instance. -/
theorem algebraic : Cert.algebraic_KernelIdeal2_ReferenceIdeal2 := by
  intro m g m' g' _ hagree
  refine ⟨x1 m, h2 m, (θ_run _ _ _).mono (fun r h c => ?_) (Cert.KernelIdeal2.Value.run_blocks m g),
    (θ_run _ _ _).mono (fun r h c => ?_) (Cert.ReferenceIdeal2.Value.run m' g')⟩
  · obtain ⟨e11, e12, _, rest⟩ := h c
    exact ⟨e11.trans (final11 m c), e12.trans (final12 m c), rest⟩
  · obtain ⟨e1, e2, rest⟩ := h c
    obtain ⟨a0, a1, a2, a3, a4, a5, a6, a7, _, _⟩ := hagree c
    refine ⟨e1.trans (funext fun i => (congrArg _ (eta i)).trans ((ref_x1 _ _ _ _ _ _ _ _ _).trans ?_)), e2.trans (funext fun i => (congrArg _ (eta i)).trans ((ref_h2 m' c _ _).trans ?_)), rest⟩
    · rw [a0, a1, a2, a3, a4, a5, a6]
      rfl
    · rw [a0, a1, a2, a3, a4, a5, a6, a7]
      rfl

/-- The reference's run leaves the arguments and the counters. -/
theorem frame_ref : Cert.quiescent_ReferenceIdeal2 := fun m g _ =>
  (θ_run _ _ _).mono (fun r h => ⟨fun c => (h c).2.2, sem_eq_zero_of_no_sems (by decide) r.2⟩)
    (Cert.ReferenceIdeal2.Value.run m g)

end Cert.Proof.Merge
end
-- ==== Proof.Project.lean ====
/-
  The layer's main input projection: the normalised rows times the columns of the input weights, block of rows by block of
  columns. The pipelined product's array after the run is shown to be the plain product.
-/
module

public import proofs.«01_k».proof.Defs
public import proofs.«01_k».proof.Proof.Gen.Kernel3.Frame
public import proofs.«01_k».proof.Proof.Gen.KernelIdeal3.Value
public import proofs.«01_k».proof.Proof.Gen.ReferenceIdeal3.Run
public import proofs.«01_k».proof.Proof.Merge

@[expose] public section

noncomputable section

namespace Cert.Proof.Project

open Idealize.ShloMosaic Idealize.ShloMosaic.TcCoe Idealize.SL.Sem
open Cert.Proof.Merge (eta)
open scoped BigOperators

/-- The product of a row and a column. -/
def dotAt {n w : ℕ} (h : (⟨2, ![n, 1024]⟩ : Shape).Idx → EReal) (p : (⟨2, ![1024, w]⟩ : Shape).Idx → EReal) (r : Fin n) (l : Fin w) :
    EReal := ∑ k : Fin 1024, h (ix2 r k) * p (ix2 k l)

section Kernel

open Cert.KernelIdeal3 Cert.KernelIdeal3.Gen

/-- What a point computes is the product of its rows and its columns. -/
theorem pay_apply (H : Vec Ideal S1024x1024 .bf16) (Q : Vec Ideal S1024x2560 .bf16) (r : Fin 1024) (l : Fin 2560) :
    k0_pay1 (F := Ideal) H Q (ix2 r l) = dotAt H Q r l := by
  pointwise [k0_pay1]
  rfl

variable (m : (ℓ : Loc nD τ sig) → Buf (Elt Ideal) ℓ)

/-- The projection, as a function of the launch contents of the arguments. -/
def z (c : Dev nD) : Buf (Elt Ideal) ((c : Thread nD τ).loc main_v0) := fun i =>
  dotAt (m ((c : Thread nD τ).loc main_arg0)) (m ((c : Thread nD τ).loc main_arg1)) (i 0) (i 1)

/-- Where the blocks start: two points share a block of rows, one for each half of the columns. -/
theorem idx (t : Fin cfg0.N) : win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2]) t

/-- The array row that a point's block holds at a local row. -/
def row (t : Fin cfg0.N) (r : Fin 1024) : Fin 32768 :=
  ⟨t.val / 2 * 1024 + r.val, by have h : t.val < 64 := t.isLt; omega⟩

/-- The array column that a point's block holds at a local column. -/
def col (t : Fin cfg0.N) (l : Fin 2560) : Fin 5120 := ⟨t.val % 2 * 2560 + l.val, by omega⟩

/-- The row as a number. -/
theorem row_val (t : Fin cfg0.N) (r : Fin 1024) : (row t r).val = t.val / 2 * 1024 + r.val := rfl

/-- The column as a number. -/
theorem col_val (t : Fin cfg0.N) (l : Fin 2560) : (col t l).val = t.val % 2 * 2560 + l.val := rfl

/-- A point's block of rows, read in the array. -/
theorem iblk0 (c : Dev nD) (t : Fin cfg0.N) (r k : Fin 1024) :
    iblk m c 0 t (ix2 r k) = m ((c : Thread nD τ).loc main_arg0) (ix2 (row t r) k) := by
  blk_simp [iblk]
  rw [V_main_arg0]
  exact congrArg _ (by blk_ext [(idx t).1, row_val])

/-- A point's block of columns, read in the array. -/
theorem iblk1 (c : Dev nD) (t : Fin cfg0.N) (k : Fin 1024) (l : Fin 2560) :
    iblk m c 1 t (ix2 k l) = m ((c : Thread nD τ).loc main_arg1) (ix2 k (col t l)) := by
  blk_simp [iblk]
  rw [V_main_arg1]
  exact congrArg _ (by blk_ext [(idx t).2.1, col_val])

/-- What a point writes, at a local row and a local column. -/
theorem pay_row (c : Dev nD) (t : Fin cfg0.N) (r : Fin 1024) (l : Fin 2560) :
    k0_pay1 (iblk m c 0 t) (iblk m c 1 t) (ix2 r l) = z m c (ix2 (row t r) (col t l)) := by
  rw [pay_apply]
  simp only [dotAt, iblk0, iblk1]
  rfl

/-- The array after the run. -/
theorem final (c : Dev nD) : (dats m 0 c).arrAt 2 cfg0.N = z m c := by
  refine (dats m 0 c).arrAt_eq_of_covers 2 _ (by decide +kernel) fun t hf y => ?_
  blk_simp
  rw [after0_2]
  frame_out
  refine (congrArg _ (eta (a := 1024) (b := 2560) y)).trans ((pay_row m c t _ _).trans (congrArg (z m c) ?_))
  blk_ext [(idx t).2.2]
  · rfl
  · rfl

end Kernel

section Reference

open Cert.ReferenceIdeal3 Cert.ReferenceIdeal3.Gen

/-- The reference's result at an element. -/
theorem ref_z (h : FVec Ideal S32768x1024 .bf16) (w : FVec Ideal S1024x5120 .bf16) (r : Fin 32768) (l : Fin 5120) :
    truncf .bf16 (Host.dotGeneral dot_S32768x1024_S1024x5120_S32768x5120_1_0_0_1_n_n none h w) bitsLt_bf16_f32 (ix2 r l)
      = dotAt h w r l := by
  pointwise
  rfl

end Reference

/-- The projection's two programs compute the same array at the ideal instance. -/
theorem algebraic : Cert.algebraic_KernelIdeal3_ReferenceIdeal3 := by
  intro m g m' g' _ hagree
  refine ⟨z m, (θ_run _ _ _).mono (fun r h c => ?_) (Cert.KernelIdeal3.Value.run_blocks m g),
    (θ_run _ _ _).mono (fun r h c => ?_) (Cert.ReferenceIdeal3.Value.run m' g')⟩
  · obtain ⟨e, rest⟩ := h c
    exact ⟨e.trans (final m c), rest⟩
  · obtain ⟨e, rest⟩ := h c
    obtain ⟨a0, a1⟩ := hagree c
    refine ⟨e.trans (funext fun i => (congrArg _ (eta i)).trans ((ref_z _ _ _ _).trans ?_)), rest⟩
    rw [a0, a1]
    rfl

/-- The reference's run leaves the arguments and the counters. -/
theorem frame_ref : Cert.quiescent_ReferenceIdeal3 := fun m g _ =>
  (θ_run _ _ _).mono (fun r h => ⟨fun c => (h c).2, sem_eq_zero_of_no_sems (by decide) r.2⟩)
    (Cert.ReferenceIdeal3.Value.run m g)

end Cert.Proof.Project
end
-- ==== Proof.Heads.lean ====
/-
  The attention's query and key projection: the normalised rows times the columns of the two weights, each head of 128 columns
  then divided by its root mean square and scaled. The kernel stores a block's eight heads one by one. Its array after the run
  is shown to be the plain reference's.
-/
module

public import proofs.«01_k».proof.Defs
public import proofs.«01_k».proof.Proof.Gen.Kernel4.Frame
public import proofs.«01_k».proof.Proof.Gen.KernelIdeal4.Value
public import proofs.«01_k».proof.Proof.Gen.ReferenceIdeal4.Run
public import proofs.«01_k».proof.Proof.Project

@[expose] public section

noncomputable section

namespace Cert.Proof.Heads

open Idealize.ShloMosaic Idealize.ShloMosaic.TcCoe Idealize.SL.Sem
open Cert.Proof.Merge (eta)
open Cert.Proof.Project (dotAt)
open scoped BigOperators

/-- A column's head, at one of its 128 columns. -/
def headCol {w : ℕ} (hw : 128 ∣ w) (l : Fin w) (k : Fin 128) : Fin w :=
  ⟨l.val / 128 * 128 + k.val, by have h1 := l.isLt; have h2 := k.isLt; omega⟩

/-- A row whose every head of 128 columns is divided by its root mean square and scaled, at a column. -/
def headsAt {w : ℕ} (hw : 128 ∣ w) (z g : Fin w → EReal) (l : Fin w) : EReal :=
  z l * Ideal.rsqrt (Ideal.div (∑ k : Fin 128, z (headCol hw l k) * z (headCol hw l k)) (Ideal.ofBits .f32 0x43000000#32)
    + Ideal.ofBits .f32 0x358637BD#32) * g l

section Kernel

open Cert.KernelIdeal4 Cert.KernelIdeal4.Gen

/-- What is stored of one head: its columns divided by their root mean square and scaled. -/
def tile (V : FVec Ideal S1024x128 .f32) (g : Vec Ideal S1x128 .f32) : FVec Ideal S1024x128 .bf16 := k0_pay1 V (mulf V V) g

/-- One head's stored value, at a row and a column of the head. -/
theorem tile_apply (V : FVec Ideal S1024x128 .f32) (g : Vec Ideal S1x128 .f32) (r : Fin 1024) (d : Fin 128) :
    tile V g (ix2 r d) = V (ix2 r d) * Ideal.rsqrt (Ideal.div (∑ k : Fin 128, V (ix2 r k) * V (ix2 r k))
      (Ideal.ofBits .f32 0x43000000#32) + Ideal.ofBits .f32 0x358637BD#32) * g (ix2 0 d) := by
  pointwise [tile, k0_pay1]

/-- The product that a point computes before it is cut into heads. -/
theorem prod_apply (H W : Vec Ideal S1024x1024 .bf16) (r l : Fin 1024) : k0_pay2 (F := Ideal) H W (ix2 r l) = dotAt H W r l := by
  pointwise [k0_pay2]
  rfl

/-- A whole block with its eight heads normalised. -/
def block (Z : FVec Ideal S1024x1024 .f32) (g : Vec Ideal S1x1024 .f32) : Vec Ideal S1024x1024 .bf16 := fun y =>
  headsAt (by decide : 128 ∣ 1024) (fun k => Z (ix2 (y 0) k)) (fun k => g (ix2 0 k)) (y 1)

/-- Each stored head is a rectangle of the block. -/
theorem piece (Z : FVec Ideal S1024x1024 .f32) (g : Vec Ideal S1x1024 .f32) (o : ℕ) (ho : 128 ∣ o)
    (hs : S1024x1024.Slices ![0, o] S1024x128) (hb : ∀ a, (![0, o] : Fin 2 → Nat) a + S1x128.size a ≤ S1x1024.size a)
    (hc : ∀ a, (![0, o] : Fin 2 → Nat) a + S1024x128.size a ≤ S1024x1024.size a) (x : S1024x128.Idx) :
    tile (extractStridedSlice S1024x128 ![0, o] Z hs) (View.ld g (Rect.unit (s := S1x1024) ![0, o] S1x128.size hb)) x
      = block Z g ((Rect.unit (s := S1024x1024) ![0, o] S1024x128.size hc).emb x) := by
  obtain ⟨r, d, rfl⟩ : ∃ (r : Fin 1024) (d : Fin 128), x = ix2 r d := ⟨x 0, x 1, eta (a := 1024) (b := 128) x⟩
  have ho1 : o + 128 ≤ 1024 := hc 1
  have hcol : ∀ k : Fin 128, extractStridedSlice S1024x128 ![0, o] Z hs (ix2 r k) = Z (ix2 r ⟨o + k.val, by omega⟩) :=
    fun k => extractStridedSlice_apply _ _ _ _ _ fun a => match a with
      | ⟨0, _⟩ => (Nat.zero_add _).symm
      | ⟨1, _⟩ => rfl
  have he : (Rect.unit (s := S1024x1024) ![0, o] S1024x128.size hc).emb (ix2 r d) = ix2 r ⟨o + d.val, by omega⟩ :=
    funext fun a => match a with
      | ⟨0, _⟩ => Fin.ext (by simp [Rect.emb, Rect.unit, ix2])
      | ⟨1, _⟩ => Fin.ext (by simp [Rect.emb, Rect.unit, ix2])
  have hk : ∀ k : Fin 128, headCol (by decide : 128 ∣ 1024) (⟨o + d.val, by omega⟩ : Fin 1024) k = ⟨o + k.val, by omega⟩ := fun k =>
    Fin.ext (by simp only [headCol]; omega)
  have hg : View.ld g (Rect.unit (s := S1x1024) ![0, o] S1x128.size hb) (ix2 0 d) = g (ix2 0 ⟨o + d.val, by omega⟩) :=
    congrArg g (funext fun a => match a with
      | ⟨0, _⟩ => Fin.ext (by simp [Rect.unit, ix2])
      | ⟨1, _⟩ => Fin.ext (by simp [Rect.unit, ix2]))
  rw [he]
  refine (tile_apply _ _ r d).trans ?_
  show _ = headsAt (by decide : 128 ∣ 1024) (fun k => Z (ix2 r k)) (fun k => g (ix2 0 k)) ⟨o + d.val, by omega⟩
  simp only [headsAt, hk, hcol, hg]

/-- What the eight stores leave is the whole block. -/
theorem out_eq (H W : Vec Ideal S1024x1024 .bf16) (g : Vec Ideal S1x1024 .f32) :
    out0_3 (F := Ideal) H W g = block (k0_pay2 H W) g := by
  have hz : (![0, 0] : Fin 2 → Nat) = fun _ => 0 := Cert.Proof.Merge.hz
  funext y
  unfold_out out0_3
  simp only [View.ld_unit_zero (S := S1024x1024) hz]
  refine View.canon_apply_of_pieces (block (k0_pay2 H W) g) _ (fun p hp x => ?_) y (cover0_3 _ _ _ _ _ _ _ _ y)
  simp only [List.mem_cons, List.not_mem_nil, or_false] at hp
  rcases hp with rfl | rfl | rfl | rfl | rfl | rfl | rfl | rfl
  · exact piece _ g 896 (by decide) slices_S1024x1024_o0_896_S1024x128 inb_S1x1024_S1x128_0_896 inb_S1024x1024_S1024x128_0_896 x
  · exact piece _ g 768 (by decide) slices_S1024x1024_o0_768_S1024x128 inb_S1x1024_S1x128_0_768 inb_S1024x1024_S1024x128_0_768 x
  · exact piece _ g 640 (by decide) slices_S1024x1024_o0_640_S1024x128 inb_S1x1024_S1x128_0_640 inb_S1024x1024_S1024x128_0_640 x
  · exact piece _ g 512 (by decide) slices_S1024x1024_o0_512_S1024x128 inb_S1x1024_S1x128_0_512 inb_S1024x1024_S1024x128_0_512 x
  · exact piece _ g 384 (by decide) slices_S1024x1024_o0_384_S1024x128 inb_S1x1024_S1x128_0_384 inb_S1024x1024_S1024x128_0_384 x
  · exact piece _ g 256 (by decide) slices_S1024x1024_o0_256_S1024x128 inb_S1x1024_S1x128_0_256 inb_S1024x1024_S1024x128_0_256 x
  · exact piece _ g 128 (by decide) slices_S1024x1024_o0_128_S1024x128 inb_S1x1024_S1x128_0_128 inb_S1024x1024_S1024x128_0_128 x
  · exact piece _ g 0 (by decide) slices_S1024x1024_o0_0_S1024x128 inb_S1x1024_S1x128_0_0 inb_S1024x1024_S1024x128_0_0 x

variable (m : (ℓ : Loc nD τ sig) → Buf (Elt Ideal) ℓ)

/-- The normalised queries and keys, as a function of the launch contents of the arguments. -/
def qk (c : Dev nD) : Buf (Elt Ideal) ((c : Thread nD τ).loc main_v0) := fun i =>
  headsAt (by decide : 128 ∣ 2048) (fun k => dotAt (m ((c : Thread nD τ).loc main_arg0)) (m ((c : Thread nD τ).loc main_arg1)) (i 0) k)
    (fun k => m ((c : Thread nD τ).loc main_arg2) (ix2 0 k)) (i 1)

/-- Where the blocks start: two points share a block of rows, the first for the queries, the second for the keys. -/
theorem idx (t : Fin cfg0.N) : win0_0.index t = ![t.val / 2, 0] ∧ win0_1.index t = ![0, t.val % 2]
    ∧ win0_2.index t = ![0, t.val % 2] ∧ win0_3.index t = ![t.val / 2, t.val % 2] :=
  (by decide +kernel : ∀ t : Fin grid0.N, win0_0.index t = ![t.val / 2, 0] ∧ win0_1.index t = ![0, t.val % 2]
    ∧ win0_2.index t = ![0, t.val % 2] ∧ win0_3.index t = ![t.val / 2, t.val % 2]) t

/-- The array row that a point's block holds at a local row. -/
def row (t : Fin cfg0.N) (r : Fin 1024) : Fin 32768 :=
  ⟨t.val / 2 * 1024 + r.val, by have h : t.val < 64 := t.isLt; omega⟩

/-- The array column that a point's block holds at a local column. -/
def col (t : Fin cfg0.N) (l : Fin 1024) : Fin 2048 := ⟨t.val % 2 * 1024 + l.val, by omega⟩

/-- The row as a number. -/
theorem row_val (t : Fin cfg0.N) (r : Fin 1024) : (row t r).val = t.val / 2 * 1024 + r.val := rfl

/-- The column as a number. -/
theorem col_val (t : Fin cfg0.N) (l : Fin 1024) : (col t l).val = t.val % 2 * 1024 + l.val := rfl

/-- A block of columns holds whole heads. -/
theorem col_head (t : Fin cfg0.N) (l : Fin 1024) (k : Fin 128) :
    col t (headCol (by decide : 128 ∣ 1024) l k) = headCol (by decide : 128 ∣ 2048) (col t l) k :=
  Fin.ext (by simp only [col, headCol]; omega)

/-- A point's block of rows, read in the array. -/
theorem iblk0 (c : Dev nD) (t : Fin cfg0.N) (r k : Fin 1024) :
    iblk m c 0 t (ix2 r k) = m ((c : Thread nD τ).loc main_arg0) (ix2 (row t r) k) := by
  blk_simp [iblk]
  rw [V_main_arg0]
  exact congrArg _ (by blk_ext [(idx t).1, row_val])

/-- A point's block of columns, read in the array. -/
theorem iblk1 (c : Dev nD) (t : Fin cfg0.N) (k : Fin 1024) (l : Fin 1024) :
    iblk m c 1 t (ix2 k l) = m ((c : Thread nD τ).loc main_arg1) (ix2 k (col t l)) := by
  blk_simp [iblk]
  rw [V_main_arg1]
  exact congrArg _ (by blk_ext [(idx t).2.1, col_val])

/-- A point's scales, read in the array. -/
theorem iblk2 (c : Dev nD) (t : Fin cfg0.N) (l : Fin 1024) :
    iblk m c 2 t (ix2 0 l) = m ((c : Thread nD τ).loc main_arg2) (ix2 0 (col t l)) := by
  blk_simp [iblk]
  rw [V_main_arg2]
  exact congrArg _ (by blk_ext [(idx t).2.2.1, col_val])

/-- What a point writes, at a local row and a local column. -/
theorem out_row (c : Dev nD) (t : Fin cfg0.N) (r l : Fin 1024) :
    block (k0_pay2 (iblk m c 0 t) (iblk m c 1 t)) (iblk m c 2 t) (ix2 r l) = qk m c (ix2 (row t r) (col t l)) := by
  show headsAt _ (fun k => k0_pay2 (iblk m c 0 t) (iblk m c 1 t) (ix2 r k)) (fun k => iblk m c 2 t (ix2 0 k)) l
    = headsAt _ (fun k => dotAt _ _ (row t r) k) _ (col t l)
  simp only [prod_apply, dotAt, headsAt, iblk0, iblk1, iblk2, col_head]

/-- The array after the run. -/
theorem final (c : Dev nD) : (dats m 0 c).arrAt 3 cfg0.N = qk m c := by
  refine (dats m 0 c).arrAt_eq_of_covers 3 _ (by decide +kernel) fun t hf y => ?_
  blk_simp
  rw [after0_3, out_eq]
  refine (congrArg _ (eta (a := 1024) (b := 1024) y)).trans ((out_row m c t _ _).trans (congrArg (qk m c) ?_))
  blk_ext [(idx t).2.2.2]
  · rfl
  · rfl

end Kernel

section Reference

open Cert.ReferenceIdeal4 Cert.ReferenceIdeal4.Gen

/-- The reference's result at an element. -/
theorem ref_qk (h : FVec Ideal S32768x1024 .bf16) (w : FVec Ideal S1024x2048 .bf16) (g : FVec Ideal S1x2048 .f32) (r : Fin 32768) (l : Fin 2048) :
    truncf .bf16 (mulf (shapeCast _ (mulf (shapeCast _ (Host.dotGeneral dot_S32768x1024_S1024x2048_S32768x2048_1_0_0_1_n_n none h w) shapeCasts_S32768x2048_S32768x16x128) (broadcastInDim S32768x16x128 ![0, 1, 2] bcast_S32768x16x1_S32768x16x128_0_1_2 (Host.rsqrt (addf (Host.divf (broadcastInDim S32768x16x1 ![0, 1] bcast_S32768x16_S32768x16x1_0_1 (Host.reduceAdd (mulf (shapeCast _ (Host.dotGeneral dot_S32768x1024_S1024x2048_S32768x2048_1_0_0_1_n_n none h w) shapeCasts_S32768x2048_S32768x16x128) (shapeCast _ (Host.dotGeneral dot_S32768x1024_S1024x2048_S32768x2048_1_0_0_1_n_n none h w) shapeCasts_S32768x2048_S32768x16x128)) (constant S_ .f32 0x00000000#32) reducesTo_S32768x16x128_S32768x16_d2 h_S_)) (broadcastInDim S32768x16x1 ![] bcast_S_S32768x16x1 (constant S_ .f32 0x43000000#32))) (broadcastInDim S32768x16x1 ![] bcast_S_S32768x16x1 (constant S_ .f32 0x358637BD#32)))))) shapeCasts_S32768x16x128_S32768x2048) (broadcastInDim S32768x2048 ![0, 1] bcast_S1x2048_S32768x2048_0_1 g)) bitsLt_bf16_f32 (ix2 r l)
      = headsAt (by decide : 128 ∣ 2048) (fun k => dotAt h w r k) (fun k => g (ix2 0 k)) l := by
  pointwise
  rfl

end Reference

/-- The projection's two programs compute the same array at the ideal instance. -/
theorem algebraic : Cert.algebraic_KernelIdeal4_ReferenceIdeal4 := by
  intro m g m' g' _ hagree
  refine ⟨qk m, (θ_run _ _ _).mono (fun r h c => ?_) (Cert.KernelIdeal4.Value.run_blocks m g),
    (θ_run _ _ _).mono (fun r h c => ?_) (Cert.ReferenceIdeal4.Value.run m' g')⟩
  · obtain ⟨e, rest⟩ := h c
    exact ⟨e.trans (final m c), rest⟩
  · obtain ⟨e, rest⟩ := h c
    obtain ⟨a0, a1, a2⟩ := hagree c
    refine ⟨e.trans (funext fun i => (congrArg _ (eta i)).trans ((ref_qk _ _ _ _ _).trans ?_)), rest⟩
    rw [a0, a1, a2]
    rfl

/-- The reference's run leaves the arguments and the counters. -/
theorem frame_ref : Cert.quiescent_ReferenceIdeal4 := fun m g _ =>
  (θ_run _ _ _).mono (fun r h => ⟨fun c => (h c).2, sem_eq_zero_of_no_sems (by decide) r.2⟩)
    (Cert.ReferenceIdeal4.Value.run m g)

end Cert.Proof.Heads
end
-- ==== Proof.Experts.lean ====
/- The experts' body: what one step leaves in the tile of the result that it is handed. -/
module

public import proofs.«01_k».proof.Proof.Gen.KernelIdeal6.Launch
public import proofs.«01_k».proof.Proof.Gen.KernelIdeal6.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.VecWindow
public import Idealize.ShloMosaic.Lib.Pointwise
public import Idealize.ShloMosaic.Lib.Scf
public import Idealize.ShloMosaic.Lib.Writes
public import Idealize.ShloMosaic.Lib.Ring
public import Idealize.ShloMosaic.Lib.Exec
public import Idealize.ShloMosaic.Lib.Tactic
public import Idealize.ShloMosaic.Adequacy

@[expose] public section

set_option maxRecDepth 65536

noncomputable section

namespace Cert.Proof.KernelIdeal6

open Cert.KernelIdeal6 Cert.KernelIdeal6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- The place of a step's words in the tables. -/
def pt (i : grid0.Coords) : S288.Idx := ix1 (⟨(i 0).val, (i 0).isLt⟩ : Fin 288)

theorem off1_eq (i : grid0.Coords) : k0_off1 i 0 = (i 0).val := by
  have h : (i 0).val < 288 := (i 0).isLt
  show (BitVec.ofNat 32 (i 0).val).toNat = _
  rw [BitVec.toNat_ofNat]
  omega

/-- What one step leaves in the tile: the tile before it, or zeros where the step is its tile's first, with the expert's rows added
where the step has rows. -/
def stepOut (lo hi first : Elt F .i32) (x : Vec F S256x1024 .f32) (g u : Vec F S1x1024x512 .bf16) (d : Vec F S1x512x1024 .bf16) (old : Vec F S256x1024 .f32) :
    Vec F S256x1024 .f32 :=
  if k0_cond2 lo hi = 1#1 then k0_pay2 lo hi x g u d (if k0_cond1 first = 1#1 then k0_pay1 else old)
  else if k0_cond1 first = 1#1 then k0_pay1 else old

abbrev tm0 : Memref sig .tc .smem S288 .i32 := Memref.whole main_arg0
abbrev tm1 : Memref sig .tc .smem S288 .i32 := Memref.whole main_arg1
abbrev tm2 : Memref sig .tc .smem S288 .i32 := Memref.whole main_arg2
abbrev tm3 : Memref sig .tc .smem S288 .i32 := Memref.whole main_arg3
abbrev tm4 : Memref sig .tc .smem S288 .i32 := Memref.whole main_arg4

theorem pt_idx (i : grid0.Coords) (x : (Rect.unit (s := S288) (k0_off1 i) S1.size (k0_off1_inb i)).toLoadRect.shape.Idx) :
    (Rect.unit (s := S288) (k0_off1 i) S1.size (k0_off1_inb i)).toLoadRect.idx x = pt i := by
  funext a
  refine Fin.ext ?_
  have ha : a = 0 := Subsingleton.elim _ _
  subst ha
  have hx : (x 0).val < 1 := (x 0).isLt
  show k0_off1 i 0 + 1 * (x 0).val = (i 0).val
  rw [off1_eq]; omega

/-- The memory references a step works on, besides the tables, and what the inputs hold. -/
structure Args (F : FTy → Type) where
  a6 : Memref sig .tc .vmem S256x1024 .f32
  a7 : Memref sig .tc .vmem S1x1024x512 .bf16
  a8 : Memref sig .tc .vmem S1x1024x512 .bf16
  a9 : Memref sig .tc .vmem S1x512x1024 .bf16
  a10 : Memref sig .tc .vmem S256x1024 .f32
  lo : S288.Idx → Elt F .i32
  hi : S288.Idx → Elt F .i32
  first : S288.Idx → Elt F .i32
  x : S256x1024.Idx → Elt F .f32
  g : S1x1024x512.Idx → Elt F .bf16
  u : S1x1024x512.Idx → Elt F .bf16
  d : S1x512x1024.Idx → Elt F .bf16

variable (c : Dev nD) (A : Args F)

/-- Core `c` owns the references, and the tile of the result holds `X`. -/
def stP (X : S256x1024.Idx → Elt F .f32) : sProp 𝕄 :=
  iprop(owns (c : Thread nD τ) tm2 fullShare.right A.lo ∗ owns (c : Thread nD τ) tm3 fullShare.right A.hi ∗ owns (c : Thread nD τ) tm4 fullShare.right A.first
    ∗ owns (c : Thread nD τ) A.a6 fullShare A.x ∗ owns (c : Thread nD τ) A.a7 fullShare A.g ∗ owns (c : Thread nD τ) A.a8 fullShare A.u
    ∗ owns (c : Thread nD τ) A.a9 fullShare A.d ∗ owns (c : Thread nD τ) A.a10 fullShare X)

/-- From the tile `X` the program ends at a value and a tile of which `Q` holds. -/
def Hoare {α : Type} (X : S256x1024.Idx → Elt F .f32) (p : Prog (TpuEff nD τ sig (Elt F) Λ₀ .tc) α) (Q : α → (S256x1024.Idx → Elt F .f32) → Prop) : Prop :=
  stP c A X ⊢ wp frame (wpE (defs₀ (F := F)) Variants.none (c : Thread nD τ) none) Set.univ p fun r => iprop(∃ Y, ⌜Q r Y⌝ ∗ stP c A Y)

variable {c A} {X : S256x1024.Idx → Elt F .f32}

/-- A returned value. -/
theorem Hoare.ret {α : Type} {x : α} {Q : α → (S256x1024.Idx → Elt F .f32) → Prop} (h : Q x X) : Hoare c A X (pure x) Q := by
  unfold Hoare
  rw [show (pure x : Prog (TpuEff nD τ sig (Elt F) Λ₀ .tc) α) = Prog.ret x from rfl, wp_ret]
  iintro H
  imodintro
  iexists X
  isplitr
  · ipureintro; exact h
  · iexact H

/-- Two programs in sequence. -/
theorem Hoare.bind {α β : Type} {p : Prog (TpuEff nD τ sig (Elt F) Λ₀ .tc) α} {k : α → Prog (TpuEff nD τ sig (Elt F) Λ₀ .tc) β}
    {Q : α → (S256x1024.Idx → Elt F .f32) → Prop} {R : β → (S256x1024.Idx → Elt F .f32) → Prop} (h : Hoare c A X p Q) (hk : ∀ r Y, Q r Y → Hoare c A Y (k r) R) :
    Hoare c A X (p >>= k) R := by
  unfold Hoare at *
  rw [wp_bind]
  refine h.trans (wp_mono _ _ _ fun r => ?_)
  iintro ⟨%s', %hs, H⟩
  iapply (hk r s' hs)
  iexact H

/-- A load through an owned memory reference. -/
theorem Hoare.load_of {q : PosShare TreeShare} {cs : CoreSpace} {sh : Shape} {e : EltTy} {m : Memref sig .tc cs sh e} {Z : sh.Idx → Elt F e}
    (hs : stP c A X ⊢ iprop(owns (c : Thread nD τ) m q Z ∗ (owns (c : Thread nD τ) m q Z -∗ stP c A X)))
    {r : LoadRect sh} {hl : m.view.LoadsAt r} {α : Type} {k : (r.shape.Idx → Elt F e) → α} :
    Hoare c A X (.op (.load m r hl) fun f => .ret (k f)) (fun v Y => Y = X ∧ v = k fun y => Z (r.idx y)) := by
  unfold Hoare
  refine hs.trans ?_
  unfold owns
  iintro ⟨⟨%f, %hf, Hf⟩, Hk⟩
  iapply (wp_load Variants.none (c : Thread nD τ) none Set.univ (S := m.view.set) (q := q) (f := f) (View.setOn_subset_set m.view _)) $$ Hf
  iintro Hf
  rw [wp_ret]
  imodintro
  iexists X
  isplitr
  · ipureintro
    exact ⟨rfl, congrArg k (funext fun y => congrFun hf _)⟩
  · iapply Hk
    iexists f
    isplitr
    · ipureintro; exact hf
    · iexact Hf

/-- A weaker end. -/
theorem Hoare.imp {α : Type} {p : Prog (TpuEff nD τ sig (Elt F) Λ₀ .tc) α} {Q R : α → (S256x1024.Idx → Elt F .f32) → Prop}
    (h : Hoare c A X p Q) (hQ : ∀ r Y, Q r Y → R r Y) : Hoare c A X p R := by
  unfold Hoare at *
  refine h.trans (wp_mono _ _ _ fun r => ?_)
  iintro ⟨%s', %hs, H⟩
  iexists s'
  isplitr
  · ipureintro; exact hQ _ _ hs
  · iexact H

/-- A load through the whole of a block reads the block. -/
theorem whole_idx {sh : Shape} {α : Type} {off : Fin sh.rank → ℕ} (h : off = fun _ => 0) (inb : ∀ a, off a + sh.size a ≤ sh.size a) (Z : sh.Idx → α) :
    (fun y => Z ((Rect.unit off sh.size inb).toLoadRect.idx y)) = Z := by
  subst h
  funext y
  refine congrArg Z (funext fun a => Fin.ext ?_)
  show 0 + 1 * (y a).val = (y a).val
  omega

theorem zero2 : (![0, 0] : Fin 2 → ℕ) = fun _ => 0 := by funext a; fin_cases a <;> rfl
theorem zero3 : (![0, 0, 0] : Fin 3 → ℕ) = fun _ => 0 := by funext a; fin_cases a <;> rfl

/-- A load of the tile of the result. -/
theorem Hoare.load10 {hl} :
    Hoare c A X (Prog.lift (.load A.a10 (Rect.unit (s := S256x1024) ![0, 0] S256x1024.size inb_S256x1024_S256x1024_0_0).toLoadRect hl)) (fun v Y => Y = X ∧ v = X) := by
  have h := Hoare.load_of (c := c) (A := A) (X := X) (q := fullShare) (m := A.a10) (Z := X) (by
    unfold stP
    iintro ⟨H0, H1, H2, H3, H4, H5, H6, H7⟩
    isplitl [H7]
    · iexact H7
    · iintro H
      iframe) (r := (Rect.unit (s := S256x1024) ![0, 0] S256x1024.size inb_S256x1024_S256x1024_0_0).toLoadRect) (hl := hl) (k := id)
  exact h.imp fun _ _ e => ⟨e.1, e.2.trans (whole_idx zero2 _ X)⟩

/-- A load of the rows. -/
theorem Hoare.load6 {hl} :
    Hoare c A X (Prog.lift (.load A.a6 (Rect.unit (s := S256x1024) ![0, 0] S256x1024.size inb_S256x1024_S256x1024_0_0).toLoadRect hl)) (fun v Y => Y = X ∧ v = A.x) := by
  have h := Hoare.load_of (c := c) (A := A) (X := X) (q := fullShare) (m := A.a6) (Z := A.x) (by
    unfold stP
    iintro ⟨H0, H1, H2, H3, H4, H5, H6, H7⟩
    isplitl [H3]
    · iexact H3
    · iintro H
      iframe) (r := (Rect.unit (s := S256x1024) ![0, 0] S256x1024.size inb_S256x1024_S256x1024_0_0).toLoadRect) (hl := hl) (k := id)
  exact h.imp fun _ _ e => ⟨e.1, e.2.trans (whole_idx zero2 _ _)⟩

/-- A load of the gate weights. -/
theorem Hoare.load7 {hl} :
    Hoare c A X (Prog.lift (.load A.a7 (Rect.unit (s := S1x1024x512) ![0, 0, 0] S1x1024x512.size inb_S1x1024x512_S1x1024x512_0_0_0).toLoadRect hl)) (fun v Y => Y = X ∧ v = A.g) := by
  have h := Hoare.load_of (c := c) (A := A) (X := X) (q := fullShare) (m := A.a7) (Z := A.g) (by
    unfold stP
    iintro ⟨H0, H1, H2, H3, H4, H5, H6, H7⟩
    isplitl [H4]
    · iexact H4
    · iintro H
      iframe) (r := (Rect.unit (s := S1x1024x512) ![0, 0, 0] S1x1024x512.size inb_S1x1024x512_S1x1024x512_0_0_0).toLoadRect) (hl := hl) (k := id)
  exact h.imp fun _ _ e => ⟨e.1, e.2.trans (whole_idx zero3 _ _)⟩

/-- A load of the up weights. -/
theorem Hoare.load8 {hl} :
    Hoare c A X (Prog.lift (.load A.a8 (Rect.unit (s := S1x1024x512) ![0, 0, 0] S1x1024x512.size inb_S1x1024x512_S1x1024x512_0_0_0).toLoadRect hl)) (fun v Y => Y = X ∧ v = A.u) := by
  have h := Hoare.load_of (c := c) (A := A) (X := X) (q := fullShare) (m := A.a8) (Z := A.u) (by
    unfold stP
    iintro ⟨H0, H1, H2, H3, H4, H5, H6, H7⟩
    isplitl [H5]
    · iexact H5
    · iintro H
      iframe) (r := (Rect.unit (s := S1x1024x512) ![0, 0, 0] S1x1024x512.size inb_S1x1024x512_S1x1024x512_0_0_0).toLoadRect) (hl := hl) (k := id)
  exact h.imp fun _ _ e => ⟨e.1, e.2.trans (whole_idx zero3 _ _)⟩

/-- A load of the down weights. -/
theorem Hoare.load9 {hl} :
    Hoare c A X (Prog.lift (.load A.a9 (Rect.unit (s := S1x512x1024) ![0, 0, 0] S1x512x1024.size inb_S1x512x1024_S1x512x1024_0_0_0).toLoadRect hl)) (fun v Y => Y = X ∧ v = A.d) := by
  have h := Hoare.load_of (c := c) (A := A) (X := X) (q := fullShare) (m := A.a9) (Z := A.d) (by
    unfold stP
    iintro ⟨H0, H1, H2, H3, H4, H5, H6, H7⟩
    isplitl [H6]
    · iexact H6
    · iintro H
      iframe) (r := (Rect.unit (s := S1x512x1024) ![0, 0, 0] S1x512x1024.size inb_S1x512x1024_S1x512x1024_0_0_0).toLoadRect) (hl := hl) (k := id)
  exact h.imp fun _ _ e => ⟨e.1, e.2.trans (whole_idx zero3 _ _)⟩

/-- A load of the first row of a step. -/
theorem Hoare.word2 (i : grid0.Coords) {hp} :
    Hoare c A X (smemLoad tm2 (Rect.unit (s := S288) (k0_off1 i) S1.size (k0_off1_inb i)) numel1_S1 hp) (fun v Y => Y = X ∧ v = A.lo (pt i)) := by
  unfold smemLoad smemLoadElt
  exact (Hoare.load_of (m := tm2) (q := fullShare.right) (Z := A.lo) (by
    unfold stP
    iintro ⟨H0, H1, H2, H3, H4, H5, H6, H7⟩
    isplitl [H0]
    · iexact H0
    · iintro H
      iframe) (k := fun f => f _)).imp fun _ _ e => ⟨e.1, e.2.trans (congrArg A.lo (pt_idx i _))⟩

/-- A load of the end of the rows of a step. -/
theorem Hoare.word3 (i : grid0.Coords) {hp} :
    Hoare c A X (smemLoad tm3 (Rect.unit (s := S288) (k0_off1 i) S1.size (k0_off1_inb i)) numel1_S1 hp) (fun v Y => Y = X ∧ v = A.hi (pt i)) := by
  unfold smemLoad smemLoadElt
  exact (Hoare.load_of (m := tm3) (q := fullShare.right) (Z := A.hi) (by
    unfold stP
    iintro ⟨H0, H1, H2, H3, H4, H5, H6, H7⟩
    isplitl [H1]
    · iexact H1
    · iintro H
      iframe) (k := fun f => f _)).imp fun _ _ e => ⟨e.1, e.2.trans (congrArg A.hi (pt_idx i _))⟩

/-- A load of whether a step is its tile's first. -/
theorem Hoare.word4 (i : grid0.Coords) {hp} :
    Hoare c A X (smemLoad tm4 (Rect.unit (s := S288) (k0_off1 i) S1.size (k0_off1_inb i)) numel1_S1 hp) (fun v Y => Y = X ∧ v = A.first (pt i)) := by
  unfold smemLoad smemLoadElt
  exact (Hoare.load_of (m := tm4) (q := fullShare.right) (Z := A.first) (by
    unfold stP
    iintro ⟨H0, H1, H2, H3, H4, H5, H6, H7⟩
    isplitl [H2]
    · iexact H2
    · iintro H
      iframe) (k := fun f => f _)).imp fun _ _ e => ⟨e.1, e.2.trans (congrArg A.first (pt_idx i _))⟩

/-- A store of the whole tile of the result. -/
theorem Hoare.store10 {w : (Rect.unit (s := S256x1024) ![0, 0] S256x1024.size inb_S256x1024_S256x1024_0_0).shape.Idx → Elt F .f32} {hx hm} :
    Hoare c A X (Prog.lift (.store A.a10 (Rect.unit (s := S256x1024) ![0, 0] S256x1024.size inb_S256x1024_S256x1024_0_0) w Finset.univ hx hm)) (fun _ Y => Y = w) := by
  unfold Hoare
  show _ ⊢ wp frame (wpE (defs₀ (F := F)) Variants.none (c : Thread nD τ) none) Set.univ (.op (.store A.a10 (Rect.unit (s := S256x1024) ![0, 0] S256x1024.size inb_S256x1024_S256x1024_0_0) w Finset.univ hx hm) fun x => .ret x) _
  unfold stP
  iintro ⟨H0, H1, H2, H3, H4, H5, H6, H7⟩
  unfold owns
  icases H7 with ⟨%f, %hf, Hf⟩
  have hS : (A.a10.access (Rect.unit (s := S256x1024) ![0, 0] S256x1024.size inb_S256x1024_S256x1024_0_0)).setOn Finset.univ ⊆ A.a10.view.set := by
    rw [View.setOn_univ]; exact View.set_slice_subset A.a10.view _
  iapply (wp_store (defs := defs₀ (F := F)) (k := fun x => .ret x) (w := w) (hx := hx) (hm := hm) Variants.none (c : Thread nD τ) none Set.univ (S := A.a10.view.set) (f := f) hS) $$ Hf
  iintro Hf
  rw [wp_ret]
  imodintro
  iexists w
  isplitr
  · ipureintro
    rfl
  · iframe
    iexists _
    isplitr; swap
    · iexact Hf
    · ipureintro
      exact View.read_writes_full A.a10.view f inb_S256x1024_S256x1024_0_0 w []

/-- What a step's body leaves in the tile. -/
theorem body (i : grid0.Coords) (h2 : tm2.IsWhole) (h0 h1 h3 h4) (h6 : A.a6.IsWhole) (h7 : A.a7.IsWhole) (h8 : A.a8.IsWhole) (h9 : A.a9.IsWhole) (h10 : A.a10.IsWhole) :
    Hoare c A X (cc0_experts (F := F) i tm0 h0 tm1 h1 tm2 h2 tm3 h3 tm4 h4 A.a6 h6 A.a7 h7 A.a8 h8 A.a9 h9 A.a10 h10)
      (fun _ Y => Y = stepOut (A.lo (pt i)) (A.hi (pt i)) (A.first (pt i)) A.x A.g A.u A.d X) := by
  rw [cc0_experts_eq_skeleton]; unfold cc0_experts_skel stepOut
  refine Hoare.bind (Hoare.word2 i) ?_
  rintro _ _ ⟨rfl, rfl⟩
  refine Hoare.bind (Hoare.word3 i) ?_
  rintro _ _ ⟨rfl, rfl⟩
  refine Hoare.bind (Hoare.word4 i) ?_
  rintro _ Y ⟨rfl, rfl⟩
  have tail : ∀ (Z : S256x1024.Idx → Elt F .f32), Hoare c A Z
      (if k0_h2 : k0_cond2 (A.lo (pt i)) (A.hi (pt i)) = 1#1 then do
        let v12 : Vec F S256x1024 .f32 ← Prog.lift (.load A.a6 (Rect.unit (s := S256x1024) ![0, 0] S256x1024.size inb_S256x1024_S256x1024_0_0).toLoadRect (View.loadsAt_vmem h_S256x1024))
        let v14 : Vec F S1x1024x512 .bf16 ← Prog.lift (.load A.a7 (Rect.unit (s := S1x1024x512) ![0, 0, 0] S1x1024x512.size inb_S1x1024x512_S1x1024x512_0_0_0).toLoadRect (View.loadsAt_vmem h_S1x1024x512))
        let v17 : Vec F S1x1024x512 .bf16 ← Prog.lift (.load A.a8 (Rect.unit (s := S1x1024x512) ![0, 0, 0] S1x1024x512.size inb_S1x1024x512_S1x1024x512_0_0_0).toLoadRect (View.loadsAt_vmem h_S1x1024x512))
        let v27 : Vec F S1x512x1024 .bf16 ← Prog.lift (.load A.a9 (Rect.unit (s := S1x512x1024) ![0, 0, 0] S1x512x1024.size inb_S1x512x1024_S1x512x1024_0_0_0).toLoadRect (View.loadsAt_vmem h_S1x512x1024))
        let v32 : Vec F S256x1024 .f32 ← Prog.lift (.load A.a10 (Rect.unit (s := S256x1024) ![0, 0] S256x1024.size inb_S256x1024_S256x1024_0_0).toLoadRect (View.loadsAt_vmem h_S256x1024))
        let _ : Vec F S256x1024 .f32 ← Prog.lift (.load A.a10 (Rect.unit (s := S256x1024) ![0, 0] S256x1024.size inb_S256x1024_S256x1024_0_0).toLoadRect (View.loadsAt_vmem h_S256x1024))
        Prog.lift (.store A.a10 (Rect.unit (s := S256x1024) ![0, 0] S256x1024.size inb_S256x1024_S256x1024_0_0) (k0_pay2 (A.lo (pt i)) (A.hi (pt i)) v12 v14 v17 v27 v32) Finset.univ (View.stores_vmem_bits_univ h_S256x1024 rfl) (.inl rfl))
        pure ⟨⟩
      else pure ⟨⟩)
      (fun (_ : PUnit) W => W = if k0_cond2 (A.lo (pt i)) (A.hi (pt i)) = 1#1 then k0_pay2 (A.lo (pt i)) (A.hi (pt i)) A.x A.g A.u A.d Z else Z) := by
    intro Z
    by_cases h : k0_cond2 (A.lo (pt i)) (A.hi (pt i)) = 1#1
    · rw [dif_pos h, if_pos h]
      refine Hoare.bind Hoare.load6 ?_
      rintro _ _ ⟨rfl, rfl⟩
      refine Hoare.bind Hoare.load7 ?_
      rintro _ _ ⟨rfl, rfl⟩
      refine Hoare.bind Hoare.load8 ?_
      rintro _ _ ⟨rfl, rfl⟩
      refine Hoare.bind Hoare.load9 ?_
      rintro _ _ ⟨rfl, rfl⟩
      refine Hoare.bind Hoare.load10 ?_
      rintro _ _ ⟨rfl, rfl⟩
      refine Hoare.bind Hoare.load10 ?_
      rintro _ _ ⟨rfl, rfl⟩
      refine Hoare.bind Hoare.store10 ?_
      rintro _ _ rfl
      exact Hoare.ret rfl
    · rw [dif_neg h, if_neg h]
      exact Hoare.ret rfl
  by_cases h : k0_cond1 (A.first (pt i)) = 1#1
  · rw [dif_pos h, if_pos h]
    refine Hoare.bind Hoare.load10 ?_
    rintro _ _ ⟨rfl, rfl⟩
    refine Hoare.bind Hoare.store10 ?_
    rintro _ _ rfl
    exact tail _
  · rw [dif_neg h, if_neg h]
    exact tail _

end Cert.Proof.KernelIdeal6

end
-- ==== Proof.ExpertsRun.lean ====
/- The experts' grid: the tables that the claim asks for, what every step leaves, and the run. -/
module

public import proofs.«01_k».proof.Proof.Experts

@[expose] public section

set_option maxRecDepth 65536

noncomputable section

namespace Cert.Proof.KernelIdeal6

open Cert.KernelIdeal6 Cert.KernelIdeal6.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What is asked of the tables: every word in its range, the tiles in order from the first to the last without a gap, and the mark of a
tile's first step where the tile changes. -/
structure Planned (tile exp lo hi first : Fin 288 → BitVec 32) : Prop where
  tile_lt : ∀ n, (tile n).toNat < 256
  exp_lt : ∀ n, (exp n).toNat < 32
  lo_pos : ∀ n, 0 ≤ (lo n).toInt
  hi_le : ∀ n, (hi n).toInt ≤ 256
  start : (tile 0).toNat = 0 ∧ first 0 = 1#32
  step : ∀ (n : ℕ) (h : n + 1 < 288), (tile ⟨n + 1, h⟩ = tile ⟨n, by omega⟩ ∧ first ⟨n + 1, h⟩ = 0#32)
    ∨ ((tile ⟨n + 1, h⟩).toNat = (tile ⟨n, by omega⟩).toNat + 1 ∧ first ⟨n + 1, h⟩ = 1#32)
  last : (tile 287).toNat = 255

section tables
variable (T : pre0.Contents (Elt F))

/-- The tables' words at a step. -/
def tile (n : Fin 288) : BitVec 32 := T 0 (ix1 n)
def expert (n : Fin 288) : BitVec 32 := T 1 (ix1 n)
def lo (n : Fin 288) : BitVec 32 := T 2 (ix1 n)
def hi (n : Fin 288) : BitVec 32 := T 3 (ix1 n)
def first (n : Fin 288) : BitVec 32 := T 4 (ix1 n)

/-- The tables are as asked. -/
abbrev Good : Prop := Planned (tile T) (expert T) (lo T) (hi T) (first T)

/-- A step's number. -/
def num (i : grid0.Coords) : Fin 288 := ⟨(i 0).val, (i 0).isLt⟩

theorem tr0 (i : grid0.Coords) : cc0_transform_0 k0_off1_inb numel1_S1 T i = ![(tile T (num i)).toNat, 0] :=
  congrArg (fun x => ![BitVec.toNat x, 0]) (congrArg (T 0) (pt_idx i _))
theorem tr1 (i : grid0.Coords) : cc0_transform_1 k0_off1_inb numel1_S1 T i = ![(expert T (num i)).toNat, 0, 0] :=
  congrArg (fun x => ![BitVec.toNat x, 0, 0]) (congrArg (T 1) (pt_idx i _))
theorem tr2 (i : grid0.Coords) : cc0_transform_2 k0_off1_inb numel1_S1 T i = ![(expert T (num i)).toNat, 0, 0] :=
  congrArg (fun x => ![BitVec.toNat x, 0, 0]) (congrArg (T 1) (pt_idx i _))
theorem tr3 (i : grid0.Coords) : cc0_transform_3 k0_off1_inb numel1_S1 T i = ![(expert T (num i)).toNat, 0, 0] :=
  congrArg (fun x => ![BitVec.toNat x, 0, 0]) (congrArg (T 1) (pt_idx i _))
theorem tr4 (i : grid0.Coords) : cc0_transform_4 k0_off1_inb numel1_S1 T i = ![(tile T (num i)).toNat, 0] :=
  congrArg (fun x => ![BitVec.toNat x, 0]) (congrArg (T 0) (pt_idx i _))

/-- Every block lies in its array, and is whole words of it. -/
theorem tabs_ok (hT : Good T) : ok0 (F := F) T := by
  have rows : ∀ i : grid0.Coords, ∀ a, ((![(tile T (num i)).toNat, 0] : Fin 2 → ℕ) a + 1) * S256x1024.size a ≤ S65536x1024.size a := by
    intro i a
    have h := hT.tile_lt (num i)
    fin_cases a
    · show ((tile T (num i)).toNat + 1) * 256 ≤ 65536; omega
    · show (0 + 1) * 1024 ≤ 1024; omega
  have up : ∀ i : grid0.Coords, ∀ a, ((![(expert T (num i)).toNat, 0, 0] : Fin 3 → ℕ) a + 1) * S1x1024x512.size a ≤ S32x1024x512.size a := by
    intro i a
    have h := hT.exp_lt (num i)
    fin_cases a
    · show ((expert T (num i)).toNat + 1) * 1 ≤ 32; omega
    · show (0 + 1) * 1024 ≤ 1024; omega
    · show (0 + 1) * 512 ≤ 512; omega
  have down : ∀ i : grid0.Coords, ∀ a, ((![(expert T (num i)).toNat, 0, 0] : Fin 3 → ℕ) a + 1) * S1x512x1024.size a ≤ S32x512x1024.size a := by
    intro i a
    have h := hT.exp_lt (num i)
    fin_cases a
    · show ((expert T (num i)).toNat + 1) * 1 ≤ 32; omega
    · show (0 + 1) * 512 ≤ 512; omega
    · show (0 + 1) * 1024 ≤ 1024; omega
  refine ⟨fun i => ⟨?_, Or.inl rfl⟩, fun i => ⟨?_, ?_⟩, fun i => ⟨?_, ?_⟩, fun i => ⟨?_, ?_⟩, fun i => ⟨?_, Or.inl rfl⟩⟩
  · rw [tr0]; exact rows i
  · rw [tr1]; exact up i
  · refine Or.inr (Or.inr ⟨by decide, rfl, ?_, rfl⟩)
    show cc0_transform_1 k0_off1_inb numel1_S1 T i (1 : Fin 3) * _ = 0
    rw [tr1]; exact Nat.zero_mul _
  · rw [tr2]; exact up i
  · refine Or.inr (Or.inr ⟨by decide, rfl, ?_, rfl⟩)
    show cc0_transform_2 k0_off1_inb numel1_S1 T i (1 : Fin 3) * _ = 0
    rw [tr2]; exact Nat.zero_mul _
  · rw [tr3]; exact down i
  · refine Or.inr (Or.inr ⟨by decide, rfl, ?_, rfl⟩)
    show cc0_transform_3 k0_off1_inb numel1_S1 T i (1 : Fin 3) * _ = 0
    rw [tr3]; exact Nat.zero_mul _
  · rw [tr4]; exact rows i

end tables

section run
variable (T : pre0.Contents (Elt F)) (hT : Good T) (V : (c : Dev nD) → (b : Ref sig .tc) → Buf (Elt F) ((c.tc : Thread nD τ).loc b))

abbrev adm : (p : Fin 1) → (pcfgs (F := F) p).Adm := fun _ => ⟨T, tabs_ok T hT⟩

/-- The call's configuration at its tables. -/
abbrev cfgE : Pipeline.Cfg sig Λ₀ := Pipeline.pin (pcfgs (F := F)) (adm T hT) 0

/-- A step's place in the grid. -/
abbrev crd (t : Fin (cfgE T hT).N) : grid0.Coords := (cfgE T hT).grid.coords t

/-- The blocks of a step. -/
def iblk (c : Dev nD) (w : Fin (cfgE T hT).W) (t : Fin (cfgE T hT).N) : (((cfgE T hT).win w).xblock (crd T hT t)).Idx → Elt F ((cfgE T hT).win w).elt :=
  (((cfgE T hT).win w).blk t).view.read (Elt F) (V c (arrRef (cfgE T hT).spec w))

/-- One step on the tile it is handed. -/
def stepAt (c : Dev nD) (t : Fin (cfgE T hT).N) (old : S256x1024.Idx → Elt F .f32) : S256x1024.Idx → Elt F .f32 :=
  stepOut (T 2 (pt (crd T hT t))) (T 3 (pt (crd T hT t))) (T 4 (pt (crd T hT t))) (iblk T hT V c 0 t) (iblk T hT V c 1 t) (iblk T hT V c 2 t) (iblk T hT V c 3 t) old

/-- What the tile's buffer holds after every step. -/
def traj (c : Dev nD) : (n : ℕ) → n < (cfgE T hT).N → (S256x1024.Idx → Elt F .f32)
  | 0, h => stepAt T hT V c ⟨0, h⟩ k0_pay1
  | n + 1, h => stepAt T hT V c ⟨n + 1, h⟩ (traj c n (by omega))

/-- What the body keeps: its shares of the tables. -/
def phi (c : Dev nD) : sProp 𝕄 :=
  iprop(owns (c : Thread nD τ) tm0 fullShare.right (T 0) ∗ owns (c : Thread nD τ) tm1 fullShare.right (T 1) ∗ owns (c : Thread nD τ) tm2 fullShare.right (T 2)
    ∗ owns (c : Thread nD τ) tm3 fullShare.right (T 3) ∗ owns (c : Thread nD τ) tm4 fullShare.right (T 4) ∗ (∃ r, prngReg c r))

/-- The proof data. -/
def dat (c : Dev nD) : Dat τ (Elt F) Unit ℕ (UR sig nD τ) ℕ (cfgE T hT) c where
  A w := V c (arrRef (cfgE T hT).spec w)
  after w t := match w with
    | ⟨0, _⟩ => iblk T hT V c (0 : Fin 5) t
    | ⟨1, _⟩ => iblk T hT V c (1 : Fin 5) t
    | ⟨2, _⟩ => iblk T hT V c (2 : Fin 5) t
    | ⟨3, _⟩ => iblk T hT V c (3 : Fin 5) t
    | ⟨4, _⟩ => traj T hT V c t.val t.isLt
  Φ _ := phi T c
  q _ := fullShare
  owed _ := 0

theorem before0 (c : Dev nD) (t : Fin (cfgE T hT).N) (d) : (dat T hT V c).before (0 : Fin 5) t d = iblk T hT V c (0 : Fin 5) t :=
  ((dat T hT V c).before_in_eq_fetched (0 : Fin 5) rfl (fun _ => rfl) (fun _ _ _ => rfl) (fun _ => rfl) t d).trans rfl
theorem before1 (c : Dev nD) (t : Fin (cfgE T hT).N) (d) : (dat T hT V c).before (1 : Fin 5) t d = iblk T hT V c (1 : Fin 5) t :=
  ((dat T hT V c).before_in_eq_fetched (1 : Fin 5) rfl (fun _ => rfl) (fun _ _ _ => rfl) (fun _ => rfl) t d).trans rfl
theorem before2 (c : Dev nD) (t : Fin (cfgE T hT).N) (d) : (dat T hT V c).before (2 : Fin 5) t d = iblk T hT V c (2 : Fin 5) t :=
  ((dat T hT V c).before_in_eq_fetched (2 : Fin 5) rfl (fun _ => rfl) (fun _ _ _ => rfl) (fun _ => rfl) t d).trans rfl
theorem before3 (c : Dev nD) (t : Fin (cfgE T hT).N) (d) : (dat T hT V c).before (3 : Fin 5) t d = iblk T hT V c (3 : Fin 5) t :=
  ((dat T hT V c).before_in_eq_fetched (3 : Fin 5) rfl (fun _ => rfl) (fun _ _ _ => rfl) (fun _ => rfl) t d).trans rfl

theorem coords_num : ∀ t : Fin grid0.N, (num (grid0.coords t)).val = t.val := by decide +kernel

theorem crd_num (t : Fin (cfgE T hT).N) : num (crd T hT t) = t := Fin.ext (coords_num t)

theorem cond1_iff (x : BitVec 32) : k0_cond1 x = 1#1 ↔ x = 1#32 := by
  unfold k0_cond1 Scalar.cmpi Scalar.extui
  by_cases h : x = 1#32
  · subst h; exact ⟨fun _ => rfl, fun _ => by decide⟩
  · refine ⟨fun h' => absurd h' ?_, fun h' => absurd h' h⟩
    have e : IntOp.cmpi CmpIPredicate.eq x 1#32 = 0#1 := by
      unfold IntOp.cmpi
      show BitVec.ofBool (x == 1#32) = 0#1
      rw [beq_eq_false_iff_ne.mpr h]; rfl
    show ¬IntOp.cmpi CmpIPredicate.ne (BitVec.setWidth 32 (IntOp.cmpi CmpIPredicate.eq x 1#32)) 0#32 = 1#1
    rw [e]; decide

theorem idle_eq (t : Fin (cfgE T hT).N) (h : (cfgE T hT).idle (4 : Fin 5) (crd T hT t) = true) :
    ¬k0_cond1 (T 4 (pt (crd T hT t))) = 1#1 ∧ ¬k0_cond2 (T 2 (pt (crd T hT t))) (T 3 (pt (crd T hT t))) = 1#1 := by
  have h' : (!(k0_cond1 (T.atD 4 (k0_off1 (crd T hT t))) == 1#1) && !(k0_cond2 (T.atD 2 (k0_off1 (crd T hT t))) (T.atD 3 (k0_off1 (crd T hT t))) == 1#1)) = true := h
  have e : ∀ a : Fin S288.rank, k0_off1 (crd T hT t) a + 1 ≤ S288.size a := fun a => by
    obtain rfl : a = (0 : Fin 1) := Subsingleton.elim (α := Fin 1) _ _
    rw [off1_eq]; exact (crd T hT t 0).isLt
  have p : (fun a => ⟨k0_off1 (crd T hT t) a, e a⟩ : S288.Idx) = pt (crd T hT t) := by
    funext a
    obtain rfl : a = (0 : Fin 1) := Subsingleton.elim (α := Fin 1) _ _
    exact Fin.ext (off1_eq (crd T hT t))
  have a4 : T.atD 4 (k0_off1 (crd T hT t)) = T 4 (pt (crd T hT t)) := (dif_pos e).trans (congrArg (T 4) p)
  have a2 : T.atD 2 (k0_off1 (crd T hT t)) = T 2 (pt (crd T hT t)) := (dif_pos e).trans (congrArg (T 2) p)
  have a3 : T.atD 3 (k0_off1 (crd T hT t)) = T 3 (pt (crd T hT t)) := (dif_pos e).trans (congrArg (T 3) p)
  rw [a4, a2, a3] at h'
  simpa using h'

theorem stepAt_idle (c : Dev nD) (t : Fin (cfgE T hT).N) (old) (h : (cfgE T hT).idle (4 : Fin 5) (crd T hT t) = true) : stepAt T hT V c t old = old := by
  obtain ⟨h1, h2⟩ := idle_eq T hT t h
  unfold stepAt stepOut
  rw [if_neg h2, if_neg h1]

theorem first_eq (t : Fin (cfgE T hT).N) : T 4 (pt (crd T hT t)) = first T t := congrArg (first T) (crd_num T hT t)

theorem stepAt_first (c : Dev nD) (t : Fin (cfgE T hT).N) (h : first T t = 1#32) (old old') : stepAt T hT V c t old = stepAt T hT V c t old' := by
  have h1 : k0_cond1 (T 4 (pt (crd T hT t))) = 1#1 := (cond1_iff _).2 ((first_eq T hT t).trans h)
  unfold stepAt stepOut
  rw [if_pos h1, if_pos h1]

/-- A tile is written back where the next step's tile is another one, and after the last step. -/
theorem flush_iff (t : Fin (cfgE T hT).N) : ((cfgE T hT).win (4 : Fin 5)).flush t = true ↔ (t.val = 287 ∨ ∃ h : t.val + 1 < 288, tile T ⟨t.val + 1, h⟩ ≠ tile T t) := by
  have ix : ∀ s : Fin (cfgE T hT).N, ((cfgE T hT).win (4 : Fin 5)).indexMap (crd T hT s) = ![(tile T s).toNat, 0] := fun s => (tr4 T (crd T hT s)).trans (by rw [crd_num])
  rw [Window.flush_eq_flushOf]
  unfold Window.flushOf
  have ho : ((cfgE T hT).win (4 : Fin 5)).isOut = true := rfl
  have hN : (cfgE T hT).grid.N = 288 := N_0
  have hN' : (cfgE T hT).N = 288 := N_0
  rw [ho, Bool.true_and, Bool.or_eq_true, decide_eq_true_eq, decide_eq_true_eq]
  refine or_congr (by omega) ⟨fun ⟨h, hne⟩ => ⟨by omega, fun he => hne ?_⟩, fun ⟨h, hne⟩ => ⟨by omega, fun he => hne ?_⟩⟩
  · refine (ix ⟨t.val + 1, h⟩).trans (Eq.trans ?_ (ix t).symm)
    exact congrArg (fun x => ![BitVec.toNat x, 0]) he
  · have := (ix ⟨t.val + 1, by omega⟩).symm.trans (he.trans (ix t))
    exact BitVec.eq_of_toNat_eq (congrFun this 0)

/-- A step after the first of its tile is handed what the step before it left. -/
theorem fresh_first : ∀ (n : ℕ) (h : n < (cfgE T hT).N), first T ⟨n, h⟩ ≠ 1#32 → (cfgE T hT).fresh (4 : Fin 5) n = false
  | 0, _, hn => absurd hT.start.2 hn
  | n + 1, h, hn => by
    have same : tile T ⟨n + 1, h⟩ = tile T ⟨n, Nat.lt_of_succ_lt h⟩ := by
      rcases hT.step n h with h1 | h1
      · exact h1.1
      · exact absurd h1.2 hn
    rw [Cfg.fresh_succ _ _ n (Nat.lt_of_succ_lt h), Bool.or_eq_false_iff]
    constructor
    · rw [Bool.eq_false_iff]
      intro hf
      rcases (flush_iff T hT ⟨n, Nat.lt_of_succ_lt h⟩).1 hf with h1 | ⟨_, h1⟩
      · have h2 : n + 1 < 288 := h
        have h3 : n = 287 := h1
        omega
      · exact h1 same
    · by_cases h1 : first T ⟨n, Nat.lt_of_succ_lt h⟩ = 1#32
      · rw [Bool.and_eq_false_iff]; left
        rw [Bool.eq_false_iff]
        intro hi
        exact (idle_eq T hT ⟨n, Nat.lt_of_succ_lt h⟩ hi).1 ((cond1_iff _).2 ((first_eq T hT ⟨n, Nat.lt_of_succ_lt h⟩).trans h1))
      · rw [fresh_first n (Nat.lt_of_succ_lt h) h1, Bool.and_false]

/-- What a step leaves is its step on whatever it may be handed. -/
theorem traj_eq (c : Dev nD) : ∀ (t : Fin (cfgE T hT).N) (d), traj T hT V c t.val t.isLt = stepAt T hT V c t ((dat T hT V c).before (4 : Fin 5) t d)
  | ⟨0, h⟩, d => stepAt_first T hT V c ⟨0, h⟩ hT.start.2 _ _
  | ⟨n + 1, h⟩, d => by
    by_cases h1 : first T ⟨n + 1, h⟩ = 1#32
    · exact stepAt_first T hT V c ⟨n + 1, h⟩ h1 _ _
    · have hb := (dat T hT V c).before_out_traj (4 : Fin 5) rfl (fun _ _ => rfl) (fun t ht hi _ => by
        obtain ⟨tv, htv⟩ := t
        cases tv with
        | zero => exact absurd rfl ht
        | succ k => exact stepAt_idle T hT V c ⟨k + 1, htv⟩ _ hi) (n + 1) ⟨n + 1, h⟩ rfl d
      rw [fresh_first T hT (n + 1) h h1] at hb
      exact congrArg (stepAt T hT V c ⟨n + 1, h⟩) hb.symm

theorem leaves (c : Dev nD) (t : Fin (cfgE T hT).N) (d) (he : (cfgE T hT).idle (4 : Fin 5) (crd T hT t) = true → (dat T hT V c).after (4 : Fin 5) t = (dat T hT V c).before (4 : Fin 5) t d) :
    (owns (c : Thread nD τ) (spec0_4.stage ((cfgE T hT).slots t (4 : Fin 5))) fullShare ((dat T hT V c).after (4 : Fin 5) t) : sProp 𝕄)
    ⊢ match (cfgE T hT).idle (4 : Fin 5) (crd T hT t) with
      | true =>
        match ((cfgE T hT).win (4 : Fin 5)).flush t with
        | false => iprop(∃ d, owns (c : Thread nD τ) (((cfgE T hT).win (4 : Fin 5)).stage ((cfgE T hT).slots t (4 : Fin 5))) fullShare ((dat T hT V c).before (4 : Fin 5) t d))
        | true => owns (c : Thread nD τ) (((cfgE T hT).win (4 : Fin 5)).stage ((cfgE T hT).slots t (4 : Fin 5))) fullShare ((dat T hT V c).after (4 : Fin 5) t)
      | false => owns (c : Thread nD τ) (((cfgE T hT).win (4 : Fin 5)).stage ((cfgE T hT).slots t (4 : Fin 5))) fullShare ((dat T hT V c).after (4 : Fin 5) t) := by
  cases hi : (cfgE T hT).idle (4 : Fin 5) (crd T hT t)
  · exact (by iintro H; iexact H)
  · cases hf : ((cfgE T hT).win (4 : Fin 5)).flush t
    · dsimp only
      rw [he hi]
      iintro H
      iexists d
      iexact H
    · exact (by iintro H; iexact H)

/-- The references and the inputs of a step. -/
def argsAt (c : Dev nD) (t : Fin (cfgE T hT).N) : Args F where
  a6 := spec0_0.stage ((cfgE T hT).slots t (0 : Fin 5))
  a7 := spec0_1.stage ((cfgE T hT).slots t (1 : Fin 5))
  a8 := spec0_2.stage ((cfgE T hT).slots t (2 : Fin 5))
  a9 := spec0_3.stage ((cfgE T hT).slots t (3 : Fin 5))
  a10 := spec0_4.stage ((cfgE T hT).slots t (4 : Fin 5))
  lo := T 2
  hi := T 3
  first := T 4
  x := iblk T hT V c (0 : Fin 5) t
  g := iblk T hT V c (1 : Fin 5) t
  u := iblk T hT V c (2 : Fin 5) t
  d := iblk T hT V c (3 : Fin 5) t

/-- The body's obligation at every step. -/
theorem obligation (c : Dev nD) : BodyObligation (dat T hT V c) (defs₀ (F := F)) Variants.none () Set.univ := fun t => by
  rw [bigSep_W0, bigSep_W0]
  simp only [before0, before1, before2, before3]
  show iprop(phi T c ∗ (dat T hT V c).owesAt () t.castSucc
      ∗ (∃ _, owns (c : Thread nD τ) (argsAt T hT V c t).a6 fullShare (iblk T hT V c (0 : Fin 5) t)) ∗ (∃ _, owns (c : Thread nD τ) (argsAt T hT V c t).a7 fullShare (iblk T hT V c (1 : Fin 5) t))
      ∗ (∃ _, owns (c : Thread nD τ) (argsAt T hT V c t).a8 fullShare (iblk T hT V c (2 : Fin 5) t)) ∗ (∃ _, owns (c : Thread nD τ) (argsAt T hT V c t).a9 fullShare (iblk T hT V c (3 : Fin 5) t))
      ∗ (∃ d, owns (c : Thread nD τ) (argsAt T hT V c t).a10 fullShare ((dat T hT V c).before (4 : Fin 5) t d)))
    ⊢ wp frame (wpE (defs₀ (F := F)) Variants.none (c : Thread nD τ) none) Set.univ (cc0_experts (F := F) (crd T hT t) tm0 (Memref.isWhole_whole _) tm1 (Memref.isWhole_whole _) tm2 (Memref.isWhole_whole _) tm3 (Memref.isWhole_whole _) tm4 (Memref.isWhole_whole _)
        (argsAt T hT V c t).a6 (hstage0_0 (((cfgE T hT).slots t (0 : Fin 5)).cast nbuf0_0)) (argsAt T hT V c t).a7 (hstage0_1 (((cfgE T hT).slots t (1 : Fin 5)).cast nbuf0_1))
        (argsAt T hT V c t).a8 (hstage0_2 (((cfgE T hT).slots t (2 : Fin 5)).cast nbuf0_2)) (argsAt T hT V c t).a9 (hstage0_3 (((cfgE T hT).slots t (3 : Fin 5)).cast nbuf0_3))
        (argsAt T hT V c t).a10 (hstage0_4 (((cfgE T hT).slots t (4 : Fin 5)).cast nbuf0_4))) fun _ =>
      iprop(phi T c ∗ (dat T hT V c).owesAt () t.succ
      ∗ owns (c : Thread nD τ) (argsAt T hT V c t).a6 fullShare (iblk T hT V c (0 : Fin 5) t) ∗ owns (c : Thread nD τ) (argsAt T hT V c t).a7 fullShare (iblk T hT V c (1 : Fin 5) t)
      ∗ owns (c : Thread nD τ) (argsAt T hT V c t).a8 fullShare (iblk T hT V c (2 : Fin 5) t) ∗ owns (c : Thread nD τ) (argsAt T hT V c t).a9 fullShare (iblk T hT V c (3 : Fin 5) t)
      ∗ match (cfgE T hT).idle (4 : Fin 5) (crd T hT t) with
      | true =>
        match ((cfgE T hT).win (4 : Fin 5)).flush t with
        | false => iprop(∃ d, owns (c : Thread nD τ) (((cfgE T hT).win (4 : Fin 5)).stage ((cfgE T hT).slots t (4 : Fin 5))) fullShare ((dat T hT V c).before (4 : Fin 5) t d))
        | true => owns (c : Thread nD τ) (((cfgE T hT).win (4 : Fin 5)).stage ((cfgE T hT).slots t (4 : Fin 5))) fullShare ((dat T hT V c).after (4 : Fin 5) t)
      | false => owns (c : Thread nD τ) (((cfgE T hT).win (4 : Fin 5)).stage ((cfgE T hT).slots t (4 : Fin 5))) fullShare ((dat T hT V c).after (4 : Fin 5) t))
  unfold phi
  iintro ⟨⟨HT0, HT1, HT2, HT3, HT4, Hr⟩, Hw, ⟨%_, H0⟩, ⟨%_, H1⟩, ⟨%_, H2⟩, ⟨%_, H3⟩, ⟨%d, H4⟩⟩
  have hb := body (c := c) (A := argsAt T hT V c t) (X := (dat T hT V c).before (4 : Fin 5) t d) (crd T hT t) (Memref.isWhole_whole _) (Memref.isWhole_whole _) (Memref.isWhole_whole _) (Memref.isWhole_whole _) (Memref.isWhole_whole _)
    (hstage0_0 (((cfgE T hT).slots t (0 : Fin 5)).cast nbuf0_0)) (hstage0_1 (((cfgE T hT).slots t (1 : Fin 5)).cast nbuf0_1)) (hstage0_2 (((cfgE T hT).slots t (2 : Fin 5)).cast nbuf0_2))
    (hstage0_3 (((cfgE T hT).slots t (3 : Fin 5)).cast nbuf0_3)) (hstage0_4 (((cfgE T hT).slots t (4 : Fin 5)).cast nbuf0_4))
  have hl := leaves T hT V c t d (fun h => (traj_eq T hT V c t d).trans (stepAt_idle T hT V c t _ h))
  have he : (dat T hT V c).after (4 : Fin 5) t = _ := traj_eq T hT V c t d
  unfold Hoare at hb
  iapply ((sep_mono_left hb).trans ((wp_frame_r _ _ _ (R := iprop((dat T hT V c).owesAt () t.castSucc ∗ (∃ r, prngReg c r)
    ∗ owns (c : Thread nD τ) tm0 fullShare.right (T 0) ∗ owns (c : Thread nD τ) tm1 fullShare.right (T 1)))).trans (wp_mono _ _ _ fun _ => by
      unfold stP
      iintro ⟨⟨%Y, %hY, HT2, HT3, HT4, H0, H1, H2, H3, H4⟩, Hw, Hr, HT0, HT1⟩
      isplitl [HT0 HT1 HT2 HT3 HT4 Hr]
      · isplitl [HT0]
        · iexact HT0
        isplitl [HT1]
        · iexact HT1
        isplitl [HT2]
        · iexact HT2
        isplitl [HT3]
        · iexact HT3
        isplitl [HT4]
        · iexact HT4
        · iexact Hr
      isplitl [Hw]
      · iexact Hw
      isplitl [H0]
      · iexact H0
      isplitl [H1]
      · iexact H1
      isplitl [H2]
      · iexact H2
      isplitl [H3]
      · iexact H3
      iapply hl
      rw [hY, he]
      iexact H4)))
  unfold stP
  isplitl [HT2 HT3 HT4 H0 H1 H2 H3 H4]
  · isplitl [HT2]
    · iexact HT2
    isplitl [HT3]
    · iexact HT3
    isplitl [HT4]
    · iexact HT4
    isplitl [H0]
    · iexact H0
    isplitl [H1]
    · iexact H1
    isplitl [H2]
    · iexact H2
    isplitl [H3]
    · iexact H3
    · iexact H4
  isplitl [Hw]
  · iexact Hw
  isplitl [Hr]
  · iexact Hr
  isplitl [HT0]
  · iexact HT0
  · iexact HT1

/-- The body's shares of the tables, each by its reference. -/
theorem tables6 (c : Dev nD) : (ΦT pre0 T c : sProp 𝕄) ⊢ iprop(owns (c : Thread nD τ) tm0 fullShare.right (T 0) ∗ owns (c : Thread nD τ) tm1 fullShare.right (T 1) ∗ owns (c : Thread nD τ) tm2 fullShare.right (T 2)
    ∗ owns (c : Thread nD τ) tm3 fullShare.right (T 3) ∗ owns (c : Thread nD τ) tm4 fullShare.right (T 4)) := by
  unfold ΦT prefHeld
  rw [bigSep_univ_eq_bigSepL [(0 : Fin 5), (1 : Fin 5), (2 : Fin 5), (3 : Fin 5), (4 : Fin 5)] (by decide) (by decide)]
  refine BI.sep_mono ?_ (BI.sep_mono ?_ (BI.sep_mono ?_ (BI.sep_mono ?_ ?_)))
  · exact (BI.equiv_iff.mpr (owns_whole (c : Thread nD τ) main_arg0 fullShare.right (T 0))).2
  · exact (BI.equiv_iff.mpr (owns_whole (c : Thread nD τ) main_arg1 fullShare.right (T 1))).2
  · exact (BI.equiv_iff.mpr (owns_whole (c : Thread nD τ) main_arg2 fullShare.right (T 2))).2
  · exact (BI.equiv_iff.mpr (owns_whole (c : Thread nD τ) main_arg3 fullShare.right (T 3))).2
  · exact (BI.equiv_iff.mpr (owns_whole (c : Thread nD τ) main_arg4 fullShare.right (T 4))).2

/-- What the launch hands over is what the first step is handed. -/
theorem enter (c : Dev nD) : iprop(ΦA spec0 c ∗ ΦT pre0 T c) ⊢ (phi T c : sProp 𝕄) := by
  refine (sep_mono_right (tables6 T c)).trans ?_
  unfold ΦA phi
  rw [scopedRest0_eq]
  iintro ⟨⟨-, Hr⟩, H0, H1, H2, H3, H4⟩
  isplitl [H0]
  · iexact H0
  isplitl [H1]
  · iexact H1
  isplitl [H2]
  · iexact H2
  isplitl [H3]
  · iexact H3
  isplitl [H4]
  · iexact H4
  · iexact Hr

/-- What the last step leaves is what the launch takes back. -/
theorem leave (c : Dev nD) : (phi T c : sProp 𝕄) ⊢ ΦA spec0 c := by
  unfold ΦA phi
  rw [scopedRest0_eq]
  iintro ⟨-, -, -, -, -, Hr⟩
  isplitr
  · iempintro
  · iexact Hr

end run

section launch
variable (m : (ℓ : Loc nD τ sig) → Buf (Elt F) ℓ) (g : Dev nD → PrngReg)

/-- What the region finds in the arrays, and in the tables. -/
abbrev entry (c : Dev nD) (b : Ref sig .tc) : Buf (Elt F) ((c.tc : Thread nD τ).loc b) := m ((c.tc : Thread nD τ).loc b)
abbrev tabs : pre0.Contents (Elt F) := fun k => m (((0 : Dev nD).tc : Thread nD τ).loc (pre0.ref k))

/-- The run of the call. -/
theorem run (hT : Good (tabs m)) :
    θ_run (defs (F := F)) (onTc (τ := τ) (main (F := F))) ⟨m, fun _ => 0, g⟩ (fun r => FramePost (Pipeline.pin (pcfgs (F := F)) (adm (tabs m) hT)) (fun _ c => dat (tabs m) hT (entry m) c) 0 (entry m) r ∧ r.2.sem = fun _ => 0) :=
  θ_run_frameP_track (pcfgs (F := F)) (adm (tabs m) hT) (fun _ c => dat (tabs m) hT (entry m) c) 0 launch0 (defs₀ (F := F)) Variants.none m g (main (F := F))
    (fun c => (obligation (tabs m) hT (entry m) c).loose) (fun c w => by fin_cases w <;> rfl) (fun _ _ => rfl) (entry m)
    (hmainP_region (pcfgs (F := F)) 0 (defs₀ (F := F)) Variants.none m (main (F := F)) (fun _ => rfl))
    (fun _ _ => rfl) (fun c k => by obtain rfl : c = 0 := Subsingleton.elim _ _; rfl) (enter (tabs m)) (leave (tabs m)) _ (fun _ h => h)

/-- The run leaves the arguments as they were. -/
theorem kept (hT : Good (tabs m)) (r : PUnit × MemSt nD τ sig (Elt F)) (h : FramePost (Pipeline.pin (pcfgs (F := F)) (adm (tabs m) hT)) (fun _ c => dat (tabs m) hT (entry m) c) 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨(h c).2 main_arg0 (mem_restRefs_of main_arg0 rfl (show ∀ w : Fin 5, (spec0 w).arr.view.ref ≠ main_arg0 by decide)), (h c).2 main_arg1 (mem_restRefs_of main_arg1 rfl (show ∀ w : Fin 5, (spec0 w).arr.view.ref ≠ main_arg1 by decide)), (h c).2 main_arg2 (mem_restRefs_of main_arg2 rfl (show ∀ w : Fin 5, (spec0 w).arr.view.ref ≠ main_arg2 by decide)), (h c).2 main_arg3 (mem_restRefs_of main_arg3 rfl (show ∀ w : Fin 5, (spec0 w).arr.view.ref ≠ main_arg3 by decide)), (h c).2 main_arg4 (mem_restRefs_of main_arg4 rfl (show ∀ w : Fin 5, (spec0 w).arr.view.ref ≠ main_arg4 by decide)),
      ((h c).1 (0 : Fin 5)).trans ((dat (tabs m) hT (entry m) c).arrAt_in (0 : Fin 5) rfl _), ((h c).1 (1 : Fin 5)).trans ((dat (tabs m) hT (entry m) c).arrAt_in (1 : Fin 5) rfl _),
      ((h c).1 (2 : Fin 5)).trans ((dat (tabs m) hT (entry m) c).arrAt_in (2 : Fin 5) rfl _), ((h c).1 (3 : Fin 5)).trans ((dat (tabs m) hT (entry m) c).arrAt_in (3 : Fin 5) rfl _)⟩

/-- The call ends with its arguments as they were and every counter at zero. -/
theorem frame6 (hT : Good (tabs m)) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨kept m hT r h.1, h.2⟩) (run m g hT)

end launch

end Cert.Proof.KernelIdeal6

end
-- ==== Proof.ExpertsValue.lean ====
/- The experts' value: what a tile holds when it is written back, and the result array after the run. -/
module

public import proofs.«01_k».proof.Proof.ExpertsRun
public import Idealize.ShloMosaic.Lib.Pipeline.ValueKit

@[expose] public section

set_option maxRecDepth 65536

noncomputable section

namespace Cert.Proof.KernelIdeal6

open Cert.KernelIdeal6 Cert.KernelIdeal6.Gen
open Idealize.ShloMosaic Idealize.ShloMosaic.TcCoe Idealize.ShloMosaic.Pipeline Idealize.SL.Sem
open scoped BigOperators

/-- The gate's nonlinearity. -/
def silu (z : EReal) : EReal := Ideal.div z (1 + Ideal.exp (-z))

/-- A row through an expert's column. -/
def lin (x : (⟨2, ![65536, 1024]⟩ : Shape).Idx → EReal) (w : (⟨3, ![32, 1024, 512]⟩ : Shape).Idx → EReal) (e : Fin 32) (R : Fin 65536) (f : Fin 512) : EReal :=
  ∑ k : Fin 1024, x (ix2 R k) * w (ix3 e k f)

/-- A row through an expert, at a column. -/
def ffn (x : (⟨2, ![65536, 1024]⟩ : Shape).Idx → EReal) (wg wu : (⟨3, ![32, 1024, 512]⟩ : Shape).Idx → EReal) (wd : (⟨3, ![32, 512, 1024]⟩ : Shape).Idx → EReal)
    (e : Fin 32) (R : Fin 65536) (l : Fin 1024) : EReal :=
  ∑ f : Fin 512, (silu (lin x wg e R f) * lin x wu e R f) * wd (ix3 e f l)

/-- A choice by a signed comparison. -/
theorem sel_sge (a b : BitVec 32) (x y : EReal) : Scalar.select (IntOp.cmpi CmpIPredicate.sge a b) x y = if b.toInt ≤ a.toInt then x else y := by
  have e : IntOp.cmpi CmpIPredicate.sge a b = BitVec.ofBool (decide (b.toInt ≤ a.toInt)) := rfl
  rw [e]
  by_cases h : b.toInt ≤ a.toInt <;> simp [Scalar.select, h]
theorem sel_slt (a b : BitVec 32) (x y : EReal) : Scalar.select (IntOp.cmpi CmpIPredicate.slt a b) x y = if a.toInt < b.toInt then x else y := by
  have e : IntOp.cmpi CmpIPredicate.slt a b = BitVec.ofBool (decide (a.toInt < b.toInt)) := rfl
  rw [e]
  by_cases h : a.toInt < b.toInt <;> simp [Scalar.select, h]

/-- A small number's word, read as a signed number. -/
theorem toInt_small (n : ℕ) (h : n < 65536) : (BitVec.ofNat 32 n).toInt = (n : ℤ) := by
  rw [BitVec.toInt_eq_toNat_cond, BitVec.toNat_ofNat]
  split <;> omega

/-- One step's sum, at a row and a column of its tile. -/
theorem pay2_apply (x : (⟨2, ![65536, 1024]⟩ : Shape).Idx → EReal) (wg wu : (⟨3, ![32, 1024, 512]⟩ : Shape).Idx → EReal) (wd : (⟨3, ![32, 512, 1024]⟩ : Shape).Idx → EReal)
    (lo hi : BitVec 32) (X : Vec Ideal S256x1024 .f32) (G U : Vec Ideal S1x1024x512 .bf16) (D : Vec Ideal S1x512x1024 .bf16) (acc : Vec Ideal S256x1024 .f32)
    (r : Fin 256) (R : Fin 65536) (e : Fin 32) (l : Fin 1024)
    (h0 : ∀ k, X (ix2 r k) = x (ix2 R k)) (hg : ∀ k f, G (ix3 0 k f) = wg (ix3 e k f)) (hu : ∀ k f, U (ix3 0 k f) = wu (ix3 e k f)) (hd : ∀ f l, D (ix3 0 f l) = wd (ix3 e f l)) :
    k0_pay2 (F := Ideal) lo hi X G U D acc (ix2 r l) = acc (ix2 r l) + if lo.toInt ≤ (r.val : ℤ) ∧ (r.val : ℤ) < hi.toInt then ffn x wg wu wd e R l else 0 := by
  pointwise [k0_pay2]
  simp only [h0, hg, hu, hd, zero_sub]
  rw [sel_sge, sel_slt, toInt_small r.val (by omega), ite_and]
  rfl

theorem pay1_apply (r : Fin 256) (l : Fin 1024) : k0_pay1 (F := Ideal) (ix2 r l) = 0 := by
  pointwise [k0_pay1]

/-- The condition of a step's product. -/
theorem cond2_iff (lo hi : BitVec 32) : k0_cond2 lo hi = 1#1 ↔ lo.toInt < hi.toInt := by
  have e : k0_cond2 lo hi = IntOp.cmpi CmpIPredicate.ne (BitVec.setWidth 32 (IntOp.cmpi CmpIPredicate.sgt hi lo)) 0#32 := rfl
  have e' : IntOp.cmpi CmpIPredicate.sgt hi lo = BitVec.ofBool (decide (lo.toInt < hi.toInt)) := rfl
  rw [e, e']
  by_cases h : lo.toInt < hi.toInt
  · simp only [h, decide_true, iff_true]; decide
  · simp only [h, decide_false, iff_false]; decide

section value
variable (T : pre0.Contents (Elt Ideal)) (hT : Good T) (V : (c : Dev nD) → (b : Ref sig .tc) → Buf (Elt Ideal) ((c.tc : Thread nD τ).loc b))

/-- The array row of a tile's row, and the expert, at a step. -/
def rowOf (t : Fin (cfgE T hT).N) (r : Fin 256) : Fin 65536 := ⟨(tile T t).toNat * 256 + r.val, by have := hT.tile_lt t; omega⟩
def expertOf (t : Fin 288) : Fin 32 := ⟨(expert T t).toNat, hT.exp_lt t⟩

theorem idx0 (t : Fin (cfgE T hT).N) : ((cfgE T hT).win (0 : Fin 5)).index t = ![(tile T t).toNat, 0] := (tr0 T (crd T hT t)).trans (by rw [crd_num])
theorem idx1 (t : Fin (cfgE T hT).N) : ((cfgE T hT).win (1 : Fin 5)).index t = ![(expert T t).toNat, 0, 0] := (tr1 T (crd T hT t)).trans (by rw [crd_num])
theorem idx2 (t : Fin (cfgE T hT).N) : ((cfgE T hT).win (2 : Fin 5)).index t = ![(expert T t).toNat, 0, 0] := (tr2 T (crd T hT t)).trans (by rw [crd_num])
theorem idx3 (t : Fin (cfgE T hT).N) : ((cfgE T hT).win (3 : Fin 5)).index t = ![(expert T t).toNat, 0, 0] := (tr3 T (crd T hT t)).trans (by rw [crd_num])
theorem idx4 (t : Fin (cfgE T hT).N) : ((cfgE T hT).win (4 : Fin 5)).index t = ![(tile T t).toNat, 0] := (tr4 T (crd T hT t)).trans (by rw [crd_num])

theorem iblk0 (c : Dev nD) (t : Fin (cfgE T hT).N) (r : Fin 256) (k : Fin 1024) : iblk T hT V c (0 : Fin 5) t (ix2 r k) = V c main_arg5 (ix2 (rowOf T hT t r) k) := by
  blk_simp [iblk]
  exact congrArg _ (by blk_ext [idx0 T hT t, rowOf])
theorem iblk1 (c : Dev nD) (t : Fin (cfgE T hT).N) (k : Fin 1024) (f : Fin 512) : iblk T hT V c (1 : Fin 5) t (ix3 0 k f) = V c main_arg6 (ix3 (expertOf T hT t) k f) := by
  blk_simp [iblk]
  exact congrArg _ (by blk_ext [idx1 T hT t, expertOf])
theorem iblk2 (c : Dev nD) (t : Fin (cfgE T hT).N) (k : Fin 1024) (f : Fin 512) : iblk T hT V c (2 : Fin 5) t (ix3 0 k f) = V c main_arg7 (ix3 (expertOf T hT t) k f) := by
  blk_simp [iblk]
  exact congrArg _ (by blk_ext [idx2 T hT t, expertOf])
theorem iblk3 (c : Dev nD) (t : Fin (cfgE T hT).N) (f : Fin 512) (l : Fin 1024) : iblk T hT V c (3 : Fin 5) t (ix3 0 f l) = V c main_arg8 (ix3 (expertOf T hT t) f l) := by
  blk_simp [iblk]
  exact congrArg _ (by blk_ext [idx3 T hT t, expertOf])

/-- A step takes an array row: its tile's rows from the first to before the last of its range. -/
def Taken (s : Fin 288) (R : Fin 65536) : Prop :=
  (lo T s).toInt ≤ (R.val : ℤ) - 256 * ((tile T s).toNat : ℤ) ∧ (R.val : ℤ) - 256 * ((tile T s).toNat : ℤ) < (hi T s).toInt

instance (s : Fin 288) (R : Fin 65536) : Decidable (Taken T s R) := by unfold Taken; infer_instance

/-- What a step adds to an array row, at a column. -/
def term (c : Dev nD) (s : Fin 288) (R : Fin 65536) (l : Fin 1024) : EReal :=
  if Taken T s R then ffn (V c main_arg5) (V c main_arg6) (V c main_arg7) (V c main_arg8) (expertOf T hT s) R l else 0

/-- A step is on the tile of every row that it takes. -/
theorem tile_of_taken (hT : Good T) (s : Fin 288) (R : Fin 65536) (h : Taken T s R) : (tile T s).toNat = R.val / 256 := by
  obtain ⟨h1, h2⟩ := h
  have h3 := hT.lo_pos s
  have h4 := hT.hi_le s
  omega

theorem old_eq (i : grid0.Coords) (t : Fin 288) (h : num i = t) : T 2 (pt i) = lo T t ∧ T 3 (pt i) = hi T t ∧ T 4 (pt i) = first T t := by
  subst h; exact ⟨rfl, rfl, rfl⟩

/-- One step at a row and a column: the tile before it, or zero at the tile's first, and what the step adds. -/
theorem stepAt_apply (c : Dev nD) (t : Fin (cfgE T hT).N) (old : S256x1024.Idx → Elt Ideal .f32) (r : Fin 256) (l : Fin 1024) :
    stepAt T hT V c t old (ix2 r l) = (if first T t = 1#32 then 0 else old (ix2 r l)) + term T hT V c t (rowOf T hT t r) l := by
  obtain ⟨e2, e3, e4⟩ := old_eq T (crd T hT t) t (crd_num T hT t)
  have hz : (if k0_cond1 (first T t) = 1#1 then k0_pay1 (F := Ideal) else old) (ix2 r l) = if first T t = 1#32 then 0 else old (ix2 r l) := by
    by_cases h : first T t = 1#32
    · rw [if_pos ((cond1_iff _).2 h), if_pos h]; exact pay1_apply r l
    · rw [if_neg (fun h' => h ((cond1_iff _).1 h')), if_neg h]
  have ht : Taken T t (rowOf T hT t r) ↔ (lo T t).toInt ≤ (r.val : ℤ) ∧ (r.val : ℤ) < (hi T t).toInt := by
    unfold Taken rowOf
    constructor <;> intro h <;> constructor <;> have := h.1 <;> have := h.2 <;> push_cast at * <;> omega
  unfold stepAt stepOut
  rw [e2, e3, e4]
  unfold term
  by_cases h2 : k0_cond2 (lo T t) (hi T t) = 1#1
  · rw [if_pos h2, pay2_apply (V c main_arg5) (V c main_arg6) (V c main_arg7) (V c main_arg8) _ _ _ _ _ _ _ r (rowOf T hT t r) (expertOf T hT t) l
      (iblk0 T hT V c t r) (iblk1 T hT V c t) (iblk2 T hT V c t) (iblk3 T hT V c t), hz]
    simp only [ht]
  · rw [if_neg h2, if_neg (fun h => h2 ((cond2_iff _ _).2 (lt_of_le_of_lt (ht.1 h).1 (ht.1 h).2))), add_zero, ← hz]

/-- The first step of a tile, and a later one. -/
theorem stepAt_one (c : Dev nD) (t : Fin (cfgE T hT).N) (old : S256x1024.Idx → Elt Ideal .f32) (r : Fin 256) (l : Fin 1024) (h : first T t = 1#32) :
    stepAt T hT V c t old (ix2 r l) = 0 + term T hT V c t (rowOf T hT t r) l := by
  rw [stepAt_apply, if_pos h]
theorem stepAt_more (c : Dev nD) (t : Fin (cfgE T hT).N) (old : S256x1024.Idx → Elt Ideal .f32) (r : Fin 256) (l : Fin 1024) (h : first T t = 0#32) :
    stepAt T hT V c t old (ix2 r l) = old (ix2 r l) + term T hT V c t (rowOf T hT t r) l := by
  rw [stepAt_apply, if_neg (by rw [h]; decide)]

/-- What the steps before a number add to a row, at a column. -/
def upto (c : Dev nD) (n : ℕ) (R : Fin 65536) (l : Fin 1024) : EReal :=
  ∑ s ∈ Finset.range n, if h : s < 288 then term T hT V c ⟨s, h⟩ R l else 0

theorem upto_succ (c : Dev nD) (n : ℕ) (h : n < 288) (R : Fin 65536) (l : Fin 1024) : upto T hT V c (n + 1) R l = upto T hT V c n R l + term T hT V c ⟨n, h⟩ R l := by
  unfold upto
  rw [Finset.sum_range_succ, dif_pos h]

/-- The tiles come in order. -/
theorem tile_mono (hT : Good T) (a : ℕ) : ∀ (b : ℕ) (hb : b < 288) (hab : a ≤ b), (tile T ⟨a, by omega⟩).toNat ≤ (tile T ⟨b, hb⟩).toNat
  | 0, hb, hab => by
    obtain rfl : a = 0 := by omega
    exact le_refl _
  | b + 1, hb, hab => by
    rcases Nat.lt_or_ge a (b + 1) with h | h
    · have h1 := tile_mono hT a b (by omega) (by omega)
      rcases hT.step b hb with h2 | h2
      · rw [h2.1]; exact h1
      · rw [h2.1]; omega
    · obtain rfl : a = b + 1 := by omega
      exact le_refl _

theorem term_zero (c : Dev nD) (s : Fin 288) (R : Fin 65536) (l : Fin 1024) (h : (tile T s).toNat ≠ R.val / 256) : term T hT V c s R l = 0 :=
  if_neg fun h' => h (tile_of_taken T hT s R h')

theorem rowOf_tile (t : Fin (cfgE T hT).N) (r : Fin 256) : (rowOf T hT t r).val / 256 = (tile T t).toNat := by
  show ((tile T t).toNat * 256 + r.val) / 256 = _
  omega

/-- What a tile holds after a step: what the steps up to it add to the tile's rows. -/
theorem traj_apply (c : Dev nD) : ∀ (n : ℕ) (h : n < (cfgE T hT).N) (r : Fin 256) (l : Fin 1024),
    traj T hT V c n h (ix2 r l) = upto T hT V c (n + 1) (rowOf T hT ⟨n, h⟩ r) l
  | 0, h, r, l => by
    refine ((stepAt_one T hT V c ⟨0, h⟩ _ r l hT.start.2).trans ?_).trans (upto_succ T hT V c 0 h _ l).symm
    unfold upto
    rw [Finset.range_zero, Finset.sum_empty]
    rfl
  | n + 1, h, r, l => by
    rcases hT.step n h with ⟨h1, h2⟩ | ⟨h1, h2⟩
    · have e : rowOf T hT ⟨n, Nat.lt_of_succ_lt h⟩ r = rowOf T hT ⟨n + 1, h⟩ r :=
        Fin.ext (congrArg (fun w : BitVec 32 => w.toNat * 256 + r.val) h1.symm)
      refine ((stepAt_more T hT V c ⟨n + 1, h⟩ _ r l h2).trans ?_).trans (upto_succ T hT V c (n + 1) h _ l).symm
      exact congrArg (fun z : EReal => z + term T hT V c ⟨n + 1, h⟩ (rowOf T hT ⟨n + 1, h⟩ r) l)
        ((traj_apply c n (Nat.lt_of_succ_lt h) r l).trans (congrArg (fun R => upto T hT V c (n + 1) R l) e))
    · refine ((stepAt_one T hT V c ⟨n + 1, h⟩ _ r l h2).trans ?_).trans (upto_succ T hT V c (n + 1) h _ l).symm
      refine congrArg (fun z : EReal => z + term T hT V c ⟨n + 1, h⟩ (rowOf T hT ⟨n + 1, h⟩ r) l) ?_
      refine (Finset.sum_eq_zero fun s hs => ?_).symm
      have hs' : s < n + 1 := Finset.mem_range.1 hs
      have hN : n + 1 < 288 := h
      rw [dif_pos (by omega)]
      refine term_zero T hT V c _ _ l ?_
      rw [rowOf_tile]
      have h3 := tile_mono T hT s n (by omega) (by omega)
      have h4 : (tile T ⟨n + 1, h⟩).toNat = (tile T ⟨n, Nat.lt_of_succ_lt h⟩).toNat + 1 := h1
      exact fun h5 => by have h6 := h5.trans h4; omega

/-- Where a tile is written back, every step has added to it what it adds. -/
theorem traj_flush (c : Dev nD) (t : Fin (cfgE T hT).N) (hf : ((cfgE T hT).win (4 : Fin 5)).flush t = true) (r : Fin 256) (l : Fin 1024) :
    traj T hT V c t.val t.isLt (ix2 r l) = ∑ s : Fin 288, term T hT V c s (rowOf T hT t r) l := by
  rw [traj_apply]
  have hall : ∑ s : Fin 288, term T hT V c s (rowOf T hT t r) l = upto T hT V c 288 (rowOf T hT t r) l := by
    unfold upto
    rw [Finset.sum_range]
    exact Finset.sum_congr rfl fun s _ => by rw [dif_pos s.isLt]
  rw [hall]
  have hN : t.val < 288 := t.isLt
  refine Finset.sum_subset (fun s hs => Finset.mem_range.2 (by have := Finset.mem_range.1 hs; omega)) fun s hs hs' => ?_
  have h1 : s < 288 := Finset.mem_range.1 hs
  have h2 : t.val + 1 ≤ s := not_lt.1 fun h => hs' (Finset.mem_range.2 h)
  rw [dif_pos h1]
  refine term_zero T hT V c _ _ l ?_
  rw [rowOf_tile]
  rcases (flush_iff T hT t).1 hf with h3 | ⟨h3, h4⟩
  · omega
  · have h5 := tile_mono T hT (t.val + 1) s h1 h2
    rcases hT.step t.val h3 with h6 | h6
    · exact absurd h6.1 h4
    · have h7 : (tile T ⟨t.val + 1, h3⟩).toNat = (tile T t).toNat + 1 := h6.1
      exact fun h8 => Nat.not_succ_le_self _ ((h7.symm.le.trans h5).trans h8.le)

/-- Every tile is written back. -/
theorem flushed (q : ℕ) (hq : q < 256) : ∃ t : Fin (cfgE T hT).N, ((cfgE T hT).win (4 : Fin 5)).flush t = true ∧ (tile T t).toNat = q := by
  by_contra hne
  have key : ∀ n (h : n < 288), (tile T ⟨n, h⟩).toNat ≤ q := by
    intro n
    induction n with
    | zero => intro h; have := hT.start.1; have e : tile T ⟨0, h⟩ = tile T 0 := rfl; rw [e]; omega
    | succ n ih =>
      intro h
      have h1 := ih (by omega)
      rcases hT.step n h with h2 | h2
      · rw [h2.1]; exact h1
      · rcases Nat.lt_or_ge (tile T ⟨n, by omega⟩).toNat q with h3 | h3
        · rw [h2.1]; exact h3
        · exact absurd ⟨⟨n, by show n < 288; omega⟩, (flush_iff T hT _).2 (Or.inr ⟨h, fun he => by
            have h4 : (tile T ⟨n + 1, h⟩).toNat = (tile T ⟨n, by omega⟩).toNat := congrArg BitVec.toNat he
            have h5 := h2.1
            omega⟩), le_antisymm h1 h3⟩ hne
  have h5 := key 287 (by omega)
  have h6 := hT.last
  have e : tile T ⟨287, by omega⟩ = tile T 287 := rfl
  rw [e] at h5
  exact hne ⟨⟨287, by show 287 < 288; omega⟩, (flush_iff T hT _).2 (Or.inl rfl), by show (tile T 287).toNat = q; omega⟩

/-- The result at a row and a column: what every step adds. -/
def resAt (c : Dev nD) (R : Fin 65536) (l : Fin 1024) : EReal := ∑ s : Fin 288, term T hT V c s R l

/-- The result array after the run. -/
def result (c : Dev nD) : Buf (Elt Ideal) ((c.tc : Thread nD τ).loc main_v0) := fun i => resAt T hT V c (i 0) (i 1)

/-- Where a step's block of the result lies. -/
theorem emb4 (t : Fin (cfgE T hT).N) (r : Fin 256) (l : Fin 1024) : ((((cfgE T hT).win (4 : Fin 5)).blk t).view.emb (ix2 r l) : S65536x1024.Idx) = ix2 (rowOf T hT t r) l := by
  blk_ext [idx4 T hT t, rowOf]

theorem emb4' (t : Fin (cfgE T hT).N) (z : S256x1024.Idx) : ((((cfgE T hT).win (4 : Fin 5)).blk t).view.emb z : S65536x1024.Idx) = ix2 (rowOf T hT t (z 0)) (z 1) :=
  (congrArg (fun z : S256x1024.Idx => ((((cfgE T hT).win (4 : Fin 5)).blk t).view.emb z : S65536x1024.Idx)) (eq_ix2 z)).trans (emb4 T hT t (z 0) (z 1))

/-- What a written-back tile holds is the result's block. -/
theorem written (c : Dev nD) (t : Fin (cfgE T hT).N) (hf : ((cfgE T hT).win (4 : Fin 5)).flush t = true) (z : S256x1024.Idx) :
    (traj T hT V c t.val t.isLt z : EReal) = (fun i : S65536x1024.Idx => resAt T hT V c (i 0) (i 1)) ((((cfgE T hT).win (4 : Fin 5)).blk t).view.emb z) := by
  rw [emb4']
  exact (congrArg _ (eq_ix2 z)).trans (traj_flush T hT V c t hf (z 0) (z 1))

/-- Every element of the result lies in a written-back tile. -/
theorem covered (i : S65536x1024.Idx) : ∃ t : Fin (cfgE T hT).N, ((cfgE T hT).win (4 : Fin 5)).flush t = true ∧ i ∈ (((cfgE T hT).win (4 : Fin 5)).blk t).view.set := by
  have h0 : (i 0).val < 65536 := (i 0).isLt
  obtain ⟨t, hf, ht⟩ := flushed T hT ((i 0).val / 256) (by omega)
  refine ⟨t, hf, ?_⟩
  have e : i = ((((cfgE T hT).win (4 : Fin 5)).blk t).view.emb (ix2 (⟨(i 0).val % 256, Nat.mod_lt _ (by omega)⟩ : Fin 256) (i 1) : S256x1024.Idx) : S65536x1024.Idx) := by
    refine ((eq_ix2 i).trans (congrArg (fun R : Fin 65536 => (ix2 R (i 1) : S65536x1024.Idx)) (Fin.ext ?_))).trans (emb4 T hT t _ _).symm
    show (i 0).val = (tile T t).toNat * 256 + (i 0).val % 256
    omega
  rw [e]
  exact View.emb_mem_set _ _

theorem final6 (c : Dev nD) : (dat T hT V c).arrAt (4 : Fin 5) (cfgE T hT).N = result T hT V c :=
  (dat T hT V c).arrAt_eq_of_emb (4 : Fin 5) _ (fun t hf y => written T hT V c t hf y) (fun i => covered T hT i)

end value

end Cert.Proof.KernelIdeal6
end
-- ==== Proof.ExpertsRef.lean ====
/- The experts' reference: its result at a row and a column. -/
module

public import proofs.«01_k».proof.Proof.Gen.ReferenceIdeal6.Run
public import proofs.«01_k».proof.Proof.ExpertsValue

@[expose] public section

set_option maxRecDepth 65536

noncomputable section

namespace Cert.Proof.Experts

open Cert.ReferenceIdeal6 Cert.ReferenceIdeal6.Gen
open Idealize.ShloMosaic Idealize.ShloMosaic.TcCoe Idealize.SL.Sem
open scoped BigOperators

/-- A flag as a number. -/
theorem flag (b : Bool) : FloatOps.uitofp (F := Ideal) .f32 (BitVec.ofBool b) = (if b = true then (1 : EReal) else 0) := by
  cases b
  · show (((0 : ℕ) : ℝ) : EReal) = _
    simp
  · show (((1 : ℕ) : ℝ) : EReal) = _
    simp

theorem exp_nonneg (z : EReal) : 0 ≤ Ideal.exp z := by
  induction z with
  | bot => exact le_refl _
  | top => exact le_top
  | coe r => exact EReal.coe_nonneg.2 (Real.exp_pos r).le

/-- A number times its logistic is the number over one plus the exponential. -/
theorem silu_eq (z : EReal) : z * Ideal.div 1 (1 + Ideal.exp (-z)) = KernelIdeal6.silu z := by
  have h : (1 : EReal) + Ideal.exp (-z) ≠ 0 := (lt_of_lt_of_le zero_lt_one (le_add_of_nonneg_right (exp_nonneg (-z)))).ne'
  unfold KernelIdeal6.silu Ideal.div
  rw [if_neg h, if_neg h, one_mul]

/-- A sum of numbers not below zero times a value is the sum of the products. -/
theorem sum_mul_nonneg {ι : Type} (S : Finset ι) (f : ι → EReal) (z : EReal) (hf : ∀ i, 0 ≤ f i) : (∑ i ∈ S, f i) * z = ∑ i ∈ S, f i * z := by
  classical
  induction S using Finset.induction_on with
  | empty => simp
  | insert a S ha ih =>
    rw [Finset.sum_insert ha, Finset.sum_insert ha, EReal.right_distrib_of_nonneg (hf a) (Finset.sum_nonneg fun i _ => hf i), ih]

/-- The gates' sum over the experts is the sum over the steps. -/
theorem gates (e : Fin 288 → Fin 32) (p : Fin 288 → Prop) [DecidablePred p] (f : Fin 32 → EReal) :
    ∑ x : Fin 32, (∑ s : Fin 288, (if x = e s then (1 : EReal) else 0) * (if p s then (1 : EReal) else 0)) * f x = ∑ s : Fin 288, if p s then f (e s) else 0 := by
  have h : ∀ x : Fin 32, (∑ s : Fin 288, (if x = e s then (1 : EReal) else 0) * (if p s then (1 : EReal) else 0)) * f x
      = ∑ s : Fin 288, if x = e s then (if p s then f x else 0) else 0 := fun x => by
    rw [sum_mul_nonneg _ _ _ fun s => by split <;> split <;> simp]
    refine Finset.sum_congr rfl fun s _ => ?_
    split <;> split <;> simp
  rw [Finset.sum_congr rfl fun x _ => h x, Finset.sum_comm]
  refine Finset.sum_congr rfl fun s _ => ?_
  rw [Finset.sum_ite_eq']
  simp

/-- A row's place in a tile, as a signed word. -/
theorem place (R : ℕ) (w : BitVec 32) (hR : R < 65536) (hw : w.toNat < 256) :
    (IntOp.subi (BitVec.ofNat 32 R) (IntOp.muli (256#32) w)).toInt = (R : ℤ) - 256 * (w.toNat : ℤ) := by
  have h1 : (IntOp.muli (256#32) w).toNat = 256 * w.toNat := by
    show (256#32 * w).toNat = _
    rw [BitVec.toNat_mul, BitVec.toNat_ofNat]
    omega
  show (BitVec.ofNat 32 R - IntOp.muli (256#32) w).toInt = _
  rw [BitVec.toInt_eq_toNat_cond, BitVec.toNat_sub, h1, BitVec.toNat_ofNat]
  split <;> omega

/-- A chosen expert's flag. -/
theorem chosen (x : Fin 32) (w : BitVec 32) (h : w.toNat < 32) : FloatOps.uitofp (F := Ideal) .f32 (IntOp.cmpi CmpIPredicate.eq (BitVec.ofNat 32 x.val) w) = if x = ⟨w.toNat, h⟩ then (1 : EReal) else 0 := by
  refine (flag (BitVec.ofNat 32 x.val == w)).trans ?_
  refine if_congr ?_ rfl rfl
  rw [beq_iff_eq]
  constructor
  · intro e
    refine Fin.ext ?_
    show x.val = w.toNat
    rw [← e, BitVec.toNat_ofNat]
    omega
  · intro e
    rw [e]
    exact BitVec.eq_of_toNat_eq (by rw [BitVec.toNat_ofNat]; show w.toNat % _ = _; omega)

/-- A taken row's flag. -/
theorem took (a lo hi : BitVec 32) : FloatOps.uitofp (F := Ideal) .f32 (IntOp.andi (IntOp.cmpi CmpIPredicate.sge a lo) (IntOp.cmpi CmpIPredicate.slt a hi))
    = if lo.toInt ≤ a.toInt ∧ a.toInt < hi.toInt then (1 : EReal) else 0 := by
  have e : IntOp.andi (IntOp.cmpi CmpIPredicate.sge a lo) (IntOp.cmpi CmpIPredicate.slt a hi) = BitVec.ofBool (decide (lo.toInt ≤ a.toInt) && decide (a.toInt < hi.toInt)) := by
    show BitVec.ofBool (decide (lo.toInt ≤ a.toInt)) &&& BitVec.ofBool (decide (a.toInt < hi.toInt)) = _
    cases decide (lo.toInt ≤ a.toInt) <;> cases decide (a.toInt < hi.toInt) <;> rfl
  rw [e, flag]
  simp

/-- The reference's result at an element: what every step adds. -/
theorem ref_apply (a0 a1 a2 a3 : IVec S288 32) (a5 : FVec Ideal S65536x1024 .f32) (a6 a7 : FVec Ideal S32x1024x512 .bf16) (a8 : FVec Ideal S32x512x1024 .bf16)
    (R : Fin 65536) (l : Fin 1024) (ht : ∀ s, (a0 (ix1 s)).toNat < 256) (he : ∀ s, (a1 (ix1 s)).toNat < 32) :
    (Host.reduceAdd (mulf (broadcastInDim S32x65536x1024 ![0, 1, 2] bcast_S32x65536x1_S32x65536x1024_0_1_2 (broadcastInDim S32x65536x1 ![0, 1] bcast_S32x65536_S32x65536x1_0_1 (Host.dotGeneral dot_S32x288_S288x65536_S32x65536_1_0_0_1_n_n none (uitofp .f32 (cmpi .eq (broadcastInDim S32x288 ![0, 1] bcast_S32x1_S32x288_0_1 (broadcastInDim S32x1 ![0] bcast_S32_S32x1_0 (iotaInDim S32 32 0))) (broadcastInDim S32x288 ![0, 1] bcast_S1x288_S32x288_0_1 (broadcastInDim S1x288 ![1] bcast_S288_S1x288_1 a1)))) (uitofp .f32 (andi (cmpi .sge (subi (broadcastInDim S288x65536 ![0, 1] bcast_S1x65536_S288x65536_0_1 (broadcastInDim S1x65536 ![1] bcast_S65536_S1x65536_1 (iotaInDim S65536 32 0))) (broadcastInDim S288x65536 ![0, 1] bcast_S288x1_S288x65536_0_1 (muli (broadcastInDim S288x1 ![] bcast_S_S288x1 (constantI S_ 32 256#32)) (broadcastInDim S288x1 ![0] bcast_S288_S288x1_0 a0)))) (broadcastInDim S288x65536 ![0, 1] bcast_S288x1_S288x65536_0_1 (broadcastInDim S288x1 ![0] bcast_S288_S288x1_0 a2))) (cmpi .slt (subi (broadcastInDim S288x65536 ![0, 1] bcast_S1x65536_S288x65536_0_1 (broadcastInDim S1x65536 ![1] bcast_S65536_S1x65536_1 (iotaInDim S65536 32 0))) (broadcastInDim S288x65536 ![0, 1] bcast_S288x1_S288x65536_0_1 (muli (broadcastInDim S288x1 ![] bcast_S_S288x1 (constantI S_ 32 256#32)) (broadcastInDim S288x1 ![0] bcast_S288_S288x1_0 a0)))) (broadcastInDim S288x65536 ![0, 1] bcast_S288x1_S288x65536_0_1 (broadcastInDim S288x1 ![0] bcast_S288_S288x1_0 a3)))))))) (Host.dotGeneral dot_S32x65536x512_S32x512x1024_S32x65536x1024_2_1_1_2_0_0 none (mulf (mulf (transpose S32x65536x512 [0, 2, 1] (Host.dotGeneral dot_S32x1024x512_S65536x1024_S32x512x65536_1_1_02_0_n_n none (extf .f32 a6 bitsLt_bf16_f32) a5) transposes_S32x512x65536_S32x65536x512_0_2_1) (Host.divf (broadcastInDim S32x65536x512 ![] bcast_S_S32x65536x512 (constant S_ .f32 0x3F800000#32)) (addf (broadcastInDim S32x65536x512 ![] bcast_S_S32x65536x512 (constant S_ .f32 0x3F800000#32)) (Host.exp (Host.negf (transpose S32x65536x512 [0, 2, 1] (Host.dotGeneral dot_S32x1024x512_S65536x1024_S32x512x65536_1_1_02_0_n_n none (extf .f32 a6 bitsLt_bf16_f32) a5) transposes_S32x512x65536_S32x65536x512_0_2_1)))))) (transpose S32x65536x512 [0, 2, 1] (Host.dotGeneral dot_S32x1024x512_S65536x1024_S32x512x65536_1_1_02_0_n_n none (extf .f32 a7 bitsLt_bf16_f32) a5) transposes_S32x512x65536_S32x65536x512_0_2_1)) (extf .f32 a8 bitsLt_bf16_f32))) (constant S_ .f32 0x00000000#32) reducesTo_S32x65536x1024_S65536x1024_d0 h_S_) (ix2 R l)
      = ∑ s : Fin 288, if (a2 (ix1 s)).toInt ≤ (R.val : ℤ) - 256 * ((a0 (ix1 s)).toNat : ℤ) ∧ (R.val : ℤ) - 256 * ((a0 (ix1 s)).toNat : ℤ) < (a3 (ix1 s)).toInt
        then KernelIdeal6.ffn a5 a6 a7 a8 ⟨(a1 (ix1 s)).toNat, he s⟩ R l else 0 := by
  pointwise
  have hc := fun (x : Fin 32) (s : Fin 288) => chosen x (a1 (ix1 s)) (he s)
  have hp := fun s : Fin 288 => place R.val (a0 (ix1 s)) R.isLt (ht s)
  simp only [hc, took, hp, silu_eq]
  refine Eq.trans (Finset.sum_congr rfl fun x _ => congrArg _ ?_) (gates (fun s => ⟨(a1 (ix1 s)).toNat, he s⟩) (fun s => (a2 (ix1 s)).toInt ≤ (R.val : ℤ) - 256 * ((a0 (ix1 s)).toNat : ℤ) ∧ (R.val : ℤ) - 256 * ((a0 (ix1 s)).toNat : ℤ) < (a3 (ix1 s)).toInt)
    (fun x => KernelIdeal6.ffn a5 a6 a7 a8 x R l))
  unfold KernelIdeal6.ffn KernelIdeal6.lin
  simp only [mul_comm (a5 _)]

end Cert.Proof.Experts
end
-- ==== Proof.ExpertsClaim.lean ====
/- The experts' claims: what the precondition says of the tables, the frames, and the value. -/
module

public import proofs.«01_k».proof.Defs
public import proofs.«01_k».proof.Proof.Gen.Kernel6
public import proofs.«01_k».proof.Proof.Gen.Pre_planned
public import proofs.«01_k».proof.Proof.ExpertsRef

@[expose] public section

set_option maxRecDepth 65536

noncomputable section

namespace Cert.Proof.Experts

open Idealize.ShloMosaic Idealize.ShloMosaic.TcCoe Idealize.SL.Sem

section plan
open Cert.Pre_planned

variable {F : FTy → Type} [FloatOps F]

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem ofBool_one (b : Bool) : BitVec.ofBool b = 1#1 ↔ b = true := by cases b <;> decide
theorem sge_one (x y : BitVec 32) : IntOp.cmpi .sge x y = 1#1 ↔ y.toInt ≤ x.toInt := (ofBool_one _).trans decide_eq_true_iff
theorem slt_one (x y : BitVec 32) : IntOp.cmpi .slt x y = 1#1 ↔ x.toInt < y.toInt := (ofBool_one _).trans decide_eq_true_iff
theorem sle_one (x y : BitVec 32) : IntOp.cmpi .sle x y = 1#1 ↔ x.toInt ≤ y.toInt := (ofBool_one _).trans decide_eq_true_iff
theorem eq_one (x y : BitVec 32) : IntOp.cmpi .eq x y = 1#1 ↔ x = y := (ofBool_one _).trans beq_iff_eq

/-- A word between zero and a bound, read as a signed number, is below the bound as an unsigned one. -/
theorem word_lt (x : BitVec 32) (k : ℕ) (h0 : (0 : ℤ) ≤ x.toInt) (h1 : x.toInt < (k : ℤ)) : x.toNat < k := by
  have := x.isLt
  rw [BitVec.toInt_eq_toNat_cond] at h0 h1
  split at h0 <;> split at h1 <;> omega

/-- The table before a step: minus one at the first, else the word of the step before. -/
abbrev prev (a : IVec S288 32) : IVec S288 32 :=
  concatenate S288 0 [⟨S1, broadcastInDim S1 ![] Facts.bcast_S_S1 (constantI S_ 32 4294967295#32)⟩,
    ⟨S287, extractStridedSlice S287 ![0] a Facts.slices_S288_S287_0⟩] Facts.concatenates_S1_S287_S288_d0

theorem prev_zero (a : IVec S288 32) : prev a (ix1 (0 : Fin 288)) = 4294967295#32 :=
  concatenate_pair_apply_left (t := S288) (s₁ := S1) (s₂ := S287) 0 _ _ _ (ix1 (0 : Fin 288)) rfl (ix1 (0 : Fin 1)) (fun b => by obtain rfl : b = 0 := Subsingleton.elim _ _; rfl)

theorem prev_succ (a : IVec S288 32) (n : ℕ) (h : n + 1 < 288) : prev a (ix1 (⟨n + 1, h⟩ : Fin 288)) = a (ix1 (⟨n, by omega⟩ : Fin 288)) := by
  refine (concatenate_pair_apply_right (t := S288) (s₁ := S1) (s₂ := S287) 0 _ _ _ (ix1 (⟨n + 1, h⟩ : Fin 288)) rfl rfl (ix1 (⟨n, by omega⟩ : Fin 287))
    (fun b hb => absurd (Subsingleton.elim _ _) hb) rfl).trans (congrArg a ?_)
  funext b
  obtain rfl : b = 0 := Subsingleton.elim _ _
  exact Fin.ext (Nat.zero_add n)

/-- What the precondition's three answers say of the tables. -/
theorem planned_of (a0 a1 a2 a3 a4 : IVec S288 32) (a5 : FVec F S65536x1024 .f32) (a6 a7 : FVec F S32x1024x512 .bf16) (a8 : FVec F S32x512x1024 .bf16)
    (h1 : (fn (F := F) a0 a1 a2 a3 a4 a5 a6 a7 a8).1 = fun _ => 1#1) (h2 : (fn (F := F) a0 a1 a2 a3 a4 a5 a6 a7 a8).2.1 = fun _ => 1#1)
    (h3 : (fn (F := F) a0 a1 a2 a3 a4 a5 a6 a7 a8).2.2 = fun _ => 1#1) :
    KernelIdeal6.Planned (fun n => a0 (ix1 n)) (fun n => a1 (ix1 n)) (fun n => a2 (ix1 n)) (fun n => a3 (ix1 n)) (fun n => a4 (ix1 n)) := by
  have p1 : ∀ n : Fin 288, _ := fun n => congrFun h1 (ix1 n)
  have p2 : ∀ n : Fin 288, IntOp.ori (IntOp.andi (IntOp.cmpi .eq (a0 (ix1 n)) (prev a0 (ix1 n))) (IntOp.cmpi .eq (a4 (ix1 n)) 0#32))
    (IntOp.andi (IntOp.cmpi .eq (a0 (ix1 n)) (prev a0 (ix1 n) + 1#32)) (IntOp.cmpi .eq (a4 (ix1 n)) 1#32)) = 1#1 := fun n => congrFun h2 (ix1 n)
  have p3 : IntOp.cmpi .eq (a0 (ix1 (287 : Fin 288))) 255#32 = 1#1 := by
    refine Eq.trans (congrArg (fun x => IntOp.cmpi .eq (a0 x) 255#32) ?_) (congrFun h3 (ix1 (0 : Fin 1)))
    funext b
    obtain rfl : b = 0 := Subsingleton.elim _ _
    rfl
  simp only [fn, fn_part1, constantI, broadcastInDim, cmpi, andi, andi_one, sge_one, slt_one, sle_one] at p1
  simp only [ori_one, andi_one, eq_one] at p2 p3
  have ht : ∀ n : Fin 288, (a0 (ix1 n)).toNat < 256 := fun n => word_lt _ 256 (p1 n).1.1.1.1.1 (p1 n).1.1.1.1.2
  refine ⟨ht, fun n => word_lt _ 32 (p1 n).1.1.1.2 (p1 n).1.1.2, fun n => (p1 n).1.2, fun n => (p1 n).2, ?_, fun n h => ?_, ?_⟩
  · have ht0 := ht 0
    rcases p2 0 with ⟨h, _⟩ | ⟨h, h'⟩
    · rw [h, prev_zero] at ht0
      exact absurd ht0 (by decide)
    · refine ⟨?_, h'⟩
      show (a0 (ix1 (0 : Fin 288))).toNat = 0
      rw [h, prev_zero]
      rfl
  · have hn := ht ⟨n, by omega⟩
    rcases p2 ⟨n + 1, h⟩ with ⟨h1, h1'⟩ | ⟨h1, h1'⟩
    · exact Or.inl ⟨h1.trans (prev_succ a0 n h), h1'⟩
    · refine Or.inr ⟨?_, h1'⟩
      show (a0 (ix1 (⟨n + 1, h⟩ : Fin 288))).toNat = (a0 (ix1 (⟨n, by omega⟩ : Fin 288))).toNat + 1
      rw [h1, prev_succ a0 n h, BitVec.toNat_add]
      exact Nat.mod_eq_of_lt (by show _ + 1 < 2 ^ 32; omega)
  · show (a0 (ix1 (287 : Fin 288))).toNat = 255
    rw [p3]
    rfl

end plan

section same
open Cert.Kernel6

/-- The body of the call at the machine's numbers is the one over any numbers, there. -/
theorem body_eq (i : grid0.Coords) (arg1 : Memref sig .tc .smem S288 .i32) (harg1 : arg1.IsWhole) (arg2 : Memref sig .tc .smem S288 .i32) (harg2 : arg2.IsWhole) (arg3 : Memref sig .tc .smem S288 .i32) (harg3 : arg3.IsWhole) (arg4 : Memref sig .tc .smem S288 .i32) (harg4 : arg4.IsWhole) (arg5 : Memref sig .tc .smem S288 .i32) (harg5 : arg5.IsWhole) (arg6 : Memref sig .tc .vmem S256x1024 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S256x1024 .f32) (harg10 : arg10.IsWhole) :
    Cert.Kernel6.cc0_experts (F := Bits) i arg1 harg1 arg2 harg2 arg3 harg3 arg4 harg4 arg5 harg5 arg6 harg6 arg7 harg7 arg8 harg8 arg9 harg9 arg10 harg10
      = Cert.KernelIdeal6.cc0_experts (F := Bits) i arg1 harg1 arg2 harg2 arg3 harg3 arg4 harg4 arg5 harg5 arg6 harg6 arg7 harg7 arg8 harg8 arg9 harg9 arg10 harg10 := rfl

theorem bodies_eq : Cert.Kernel6.defs₀ (F := Bits) = Cert.KernelIdeal6.defs₀ (F := Bits) := by
  unfold Cert.Kernel6.defs₀ Cert.KernelIdeal6.defs₀
  refine congrArg (Defs.onTc (nD := 1) (τ := Topo.v7x) (sig := Cert.Kernel6.sig)) ?_
  funext l a
  match l, a with
  | 0, (t, s) => exact body_eq _ _ _ _ _ _ _ _ _ _ _ _ _ _ _ _ _ _ _ _ _
  | ⟨_ + 1, h⟩, _ => exact absurd h (Nat.not_lt.2 (Nat.le_add_left _ _))

/-- The two printed programs have the same bodies. -/
theorem defs_eq : Cert.Kernel6.defs (F := Bits) = Cert.KernelIdeal6.defs (F := Bits) :=
  congrArg (Pipeline.defs (Cert.Kernel6.pcfgs (F := Bits))) bodies_eq

end same

/-- The call's run at the machine's numbers leaves its arguments and the counters. -/
theorem frame : Cert.quiescent_Kernel6 := by
  intro m g h
  rw [defs_eq]
  exact KernelIdeal6.frame6 (F := Bits) m g (planned_of _ _ _ _ _ _ _ _ _ (h 0).1 (h 0).2.1 (h 0).2.2)

/-- The call's run at the ideal numbers leaves its arguments and the counters. -/
theorem frame_ideal : Cert.quiescent_KernelIdeal6 := fun m g h =>
  KernelIdeal6.frame6 (F := Ideal) m g (planned_of _ _ _ _ _ _ _ _ _ (h 0).1 (h 0).2.1 (h 0).2.2)

/-- The reference's run leaves the arguments and the counters. -/
theorem frame_ref : Cert.quiescent_ReferenceIdeal6 := fun m g _ =>
  (θ_run _ _ _).mono (fun r h => ⟨fun c => (h c).2, sem_eq_zero_of_no_sems (by decide) r.2⟩)
    (Cert.ReferenceIdeal6.Value.run m g)

/-- The call's result is the plain reference's at the ideal numbers. -/
theorem algebraic : Cert.algebraic_KernelIdeal6_ReferenceIdeal6 := by
  intro m g m' g' hpre hagree
  have hT : KernelIdeal6.Good (KernelIdeal6.tabs m) := planned_of _ _ _ _ _ _ _ _ _ (hpre 0).1 (hpre 0).2.1 (hpre 0).2.2
  refine ⟨fun c => KernelIdeal6.result (KernelIdeal6.tabs m) hT (KernelIdeal6.entry m) c,
    (θ_run _ _ _).mono (fun r h c => ?_) (KernelIdeal6.run m g hT),
    (θ_run _ _ _).mono (fun r h c => ?_) (Cert.ReferenceIdeal6.Value.run m' g')⟩
  · exact ⟨((h.1 c).1 (4 : Fin 5)).trans (KernelIdeal6.final6 (KernelIdeal6.tabs m) hT (KernelIdeal6.entry m) c), KernelIdeal6.kept m hT r h.1 c⟩
  · obtain ⟨e1, rest⟩ := h c
    obtain ⟨b0, b1, b2, b3, b4, b5, b6, b7, b8⟩ := hagree c
    obtain rfl : c = 0 := Subsingleton.elim _ _
    refine ⟨e1.trans ?_, rest⟩
    rw [b0, b1, b2, b3, b5, b6, b7, b8]
    exact funext fun i => (congrArg _ (eq_ix2 i)).trans (ref_apply _ _ _ _ _ _ _ _ (i 0) (i 1) hT.tile_lt hT.exp_lt)

end Cert.Proof.Experts
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.Kernel2.Frame
public import proofs.«01_k».proof.Proof.Gen.KernelIdeal2.Value
public import proofs.«01_k».proof.Proof.Gen.ReferenceIdeal2.Run
public import proofs.«01_k».proof.Proof.Gen.Kernel3.Frame
public import proofs.«01_k».proof.Proof.Gen.KernelIdeal3.Value
public import proofs.«01_k».proof.Proof.Gen.ReferenceIdeal3.Run
public import proofs.«01_k».proof.Proof.Gen.Kernel4.Frame
public import proofs.«01_k».proof.Proof.Gen.KernelIdeal4.Value
public import proofs.«01_k».proof.Proof.Gen.ReferenceIdeal4.Run
public import Idealize.ShloMosaic.Adequacy
public import Idealize.ShloMosaic.Init
public import proofs.«01_k».proof.Proof.Launch
public import proofs.«01_k».proof.Proof.Merge
public import proofs.«01_k».proof.Proof.Project
public import proofs.«01_k».proof.Proof.Heads
public import proofs.«01_k».proof.Proof.Gen.ReferenceIdeal6.Run
public import proofs.«01_k».proof.Proof.ExpertsRun
public import proofs.«01_k».proof.Proof.ExpertsRef
public import proofs.«01_k».proof.Proof.ExpertsClaim
public import proofs.«01_k».proof.Proof.Gen.Kernel6
public import proofs.«01_k».proof.Proof.Gen.Pre_planned

@[expose] public section

noncomputable section

namespace Cert.Proof

/-- The selection call, the branch merge and the two projections each run to their end from any memory, and the experts' call from
    any memory whose tables are a plan; each leaves its arguments as they were, and every counter at zero; and the merge's, the
    projections' and the experts' results are the plain references' at the ideal instance. -/
theorem claim : Cert.Claim :=
  ⟨Cert.Kernel.Gen.facts, Cert.Kernel2.Gen.facts, Cert.KernelIdeal2.Gen.facts, Cert.ReferenceIdeal2.Gen.facts,
    Cert.Kernel3.Gen.facts, Cert.KernelIdeal3.Gen.facts, Cert.ReferenceIdeal3.Gen.facts,
    Cert.Kernel4.Gen.facts, Cert.KernelIdeal4.Gen.facts, Cert.ReferenceIdeal4.Gen.facts,
    Cert.Kernel6.Gen.facts, Cert.KernelIdeal6.Gen.facts, Cert.ReferenceIdeal6.Gen.facts, Cert.Pre_planned.Gen.facts,
    fun m g _ => Cert.Proof.Kernel.frame m g,
    fun m g _ => Cert.Kernel2.Gen.frame m g, fun m g _ => Cert.KernelIdeal2.Gen.frame m g, Cert.Proof.Merge.frame_ref,
    fun m g _ => Cert.Kernel3.Gen.frame m g, fun m g _ => Cert.KernelIdeal3.Gen.frame m g, Cert.Proof.Project.frame_ref,
    fun m g _ => Cert.Kernel4.Gen.frame m g, fun m g _ => Cert.KernelIdeal4.Gen.frame m g, Cert.Proof.Heads.frame_ref,
    Cert.Proof.Experts.frame, Cert.Proof.Experts.frame_ideal, Cert.Proof.Experts.frame_ref,
    trivial, Cert.Proof.Merge.algebraic, trivial, Cert.Proof.Project.algebraic, trivial, Cert.Proof.Heads.algebraic,
    trivial, Cert.Proof.Experts.algebraic⟩

end Cert.Proof

end
